-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_memory [hPre_finite_memory : Cert.Pre_finite_memory.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_memory.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_memory [hPre_finite_memory : Cert.Pre_finite_memory.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_memory.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_memory [hKernel6Ideal : Cert.Kernel6Ideal.Facts] [hPre_finite_memory : Cert.Pre_finite_memory.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_memory m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_memory [hReference6Ideal : Cert.Reference6Ideal.Facts] [hPre_finite_memory : Cert.Pre_finite_memory.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_memory m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)) (v5 : (c : Dev Cert.Kernel5Ideal.nD) → Buf (Elt Ideal) ((c.tc : Thread Cert.Kernel5Ideal.nD Cert.Kernel5Ideal.τ).loc Cert.Kernel5Ideal.main_v7_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_v7_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_v75) = v3 c
          ∧ r.2.mem ((c.tc : Thread Cert.Reference5Ideal.nD Cert.Reference5Ideal.τ).loc Cert.Reference5Ideal.main_v77) = v4 c
          ∧ r.2.mem ((c.tc : Thread Cert.Reference5Ideal.nD Cert.Reference5Ideal.τ).loc Cert.Reference5Ideal.main_v79) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v59) = v4 c
          ∧ r.2.mem ((c.tc : Thread Cert.Reference4Ideal.nD Cert.Reference4Ideal.τ).loc Cert.Reference4Ideal.main_v61) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel6_Kernel6Ideal : Prop :=
  True

def algebraic_Kernel6Ideal_Reference6Ideal_pre_finite_memory [hKernel6Ideal : Cert.Kernel6Ideal.Facts] [hReference6Ideal : Cert.Reference6Ideal.Facts] [hPre_finite_memory : Cert.Pre_finite_memory.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_memory m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)) (v5 : (c : Dev Cert.Kernel8Ideal.nD) → Buf (Elt Ideal) ((c.tc : Thread Cert.Kernel8Ideal.nD Cert.Kernel8Ideal.τ).loc Cert.Kernel8Ideal.main_v5_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_v5_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_v51) = v2 c
          ∧ r.2.mem ((c.tc : Thread Cert.Reference8Ideal.nD Cert.Reference8Ideal.τ).loc Cert.Reference8Ideal.main_v53) = v3 c
          ∧ r.2.mem ((c.tc : Thread Cert.Reference8Ideal.nD Cert.Reference8Ideal.τ).loc Cert.Reference8Ideal.main_v59) = v4 c
          ∧ r.2.mem ((c.tc : Thread Cert.Reference8Ideal.nD Cert.Reference8Ideal.τ).loc Cert.Reference8Ideal.main_v61) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)) (v5 : (c : Dev Cert.Kernel9Ideal.nD) → Buf (Elt Ideal) ((c.tc : Thread Cert.Kernel9Ideal.nD Cert.Kernel9Ideal.τ).loc Cert.Kernel9Ideal.main_v7_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_v7_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v69) = v0 c
          ∧ r.2.mem ((c.tc : Thread Cert.Reference9Ideal.nD Cert.Reference9Ideal.τ).loc Cert.Reference9Ideal.main_v71) = v1 c
          ∧ r.2.mem ((c.tc : Thread Cert.Reference9Ideal.nD Cert.Reference9Ideal.τ).loc Cert.Reference9Ideal.main_v77) = v2 c
          ∧ r.2.mem ((c.tc : Thread Cert.Reference9Ideal.nD Cert.Reference9Ideal.τ).loc Cert.Reference9Ideal.main_v79) = v3 c
          ∧ r.2.mem ((c.tc : Thread Cert.Reference9Ideal.nD Cert.Reference9Ideal.τ).loc Cert.Reference9Ideal.main_v85) = v4 c
          ∧ r.2.mem ((c.tc : Thread Cert.Reference9Ideal.nD Cert.Reference9Ideal.τ).loc Cert.Reference9Ideal.main_v87) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite_memory (hKernel6Ideal := hKernel6Ideal) (hPre_finite_memory := hPre_finite_memory)
    ∧ quiescent_Reference6Ideal (hReference6Ideal := hReference6Ideal)
    ∧ quiescent_Reference6Ideal_pre_finite_memory (hReference6Ideal := hReference6Ideal) (hPre_finite_memory := hPre_finite_memory)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite_memory (hKernel6Ideal := hKernel6Ideal) (hReference6Ideal := hReference6Ideal) (hPre_finite_memory := hPre_finite_memory)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_memory.lean ====
abbrev S2x16384x2048 : Shape := ⟨3, ![2, 16384, 2048]⟩
abbrev S2x16384x1024 : Shape := ⟨3, ![2, 16384, 1024]⟩
abbrev S2x16384x512 : Shape := ⟨3, ![2, 16384, 512]⟩
abbrev S2x256x512 : Shape := ⟨3, ![2, 256, 512]⟩
abbrev S1536x2048 : Shape := ⟨2, ![1536, 2048]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x16384x2048 .f32) (main_arg1 : FVec F S2x16384x1024 .f32) (main_arg2 : FVec F S2x16384x512 .f32) (main_arg3 : FVec F S2x256x512 .f32) (main_arg4 : FVec F S2x256x512 .f32) (main_arg5 : FVec F S1536x2048 .f32) : IVec S_ 1 :=
  let main_v0 : FVec F S2x16384x512 .f32 := Host.absf main_arg2
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x256x512 .f32 := Host.absf main_arg3
  let main_cst_0 : FVec F S_ .f32 := constant S_ .f32 0x7F800000#32
  let main_v5 : FVec F S2x256x512 .f32 := broadcastInDim S2x256x512 ![] bcast_S_S2x256x512 main_cst_0
  let main_v6 : IVec S2x256x512 1 := cmpf .olt main_v4 main_v5
  let main_c_1 : IVec S_ 1 := constantI S_ 1 1#1
  let main_v7 : IVec S_ 1 := (fun x v => Host.reduce IntOp.andi x v reducesTo_S2x256x512_S_d0_1_2 h_S_) main_v6 main_c_1
  let main_v8 : IVec S_ 1 := andi main_v3 main_v7
  main_v8
-- ==== Pre_finite_scores.lean ====
abbrev S2x16384x1024 : Shape := ⟨3, ![2, 16384, 1024]⟩
abbrev S8x257 : Shape := ⟨2, ![8, 257]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S2x16384x1024 .f32) (main_arg1 : FVec F S2x16384x1024 .f32) (main_arg2 : FVec F S2x16384x1024 .f32) (main_arg3 : FVec F S8x257 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : IVec S_ 1 := andi main_v3 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  main_v13
-- ==== Kernel.lean ====
abbrev S2x16384x1024 : Shape := ⟨3, ![2, 16384, 1024]⟩
abbrev S8x257 : Shape := ⟨2, ![8, 257]⟩
abbrev S_ : Shape := ⟨0, ![]⟩
abbrev S8x1 : Shape := ⟨2, ![8, 1]⟩
abbrev S8x639 : Shape := ⟨2, ![8, 639]⟩
abbrev S8x128 : Shape := ⟨2, ![8, 128]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256 : Shape := ⟨1, ![256]⟩
abbrev S768 : Shape := ⟨1, ![768]⟩
abbrev S1x768 : Shape := ⟨2, ![1, 768]⟩
abbrev S256x1 : Shape := ⟨2, ![256, 1]⟩
abbrev S256x768 : Shape := ⟨2, ![256, 768]⟩
abbrev S1x256x768 : Shape := ⟨3, ![1, 256, 768]⟩
abbrev S1x8x256x768 : Shape := ⟨4, ![1, 8, 256, 768]⟩
abbrev S3x8x256x768 : Shape := ⟨4, ![3, 8, 256, 768]⟩
abbrev S1x256x1024 : Shape := ⟨3, ![1, 256, 1024]⟩
abbrev S1x256x128 : Shape := ⟨3, ![1, 256, 128]⟩
abbrev S256x128 : Shape := ⟨2, ![256, 128]⟩
abbrev S768x128 : Shape := ⟨2, ![768, 128]⟩
abbrev S1x1x256x768 : Shape := ⟨4, ![1, 1, 256, 768]⟩

abbrev nBuf : Space → Nat
  | .hbm => 284
  | .vmem => 18
  | .smem => 0
  | _ => 0

abbrev hbmTy0_0 (i : Nat) : BufTy := match i % 128 with
  | 0 => ⟨S2x16384x1024, .f32⟩
  | 1 => ⟨S2x16384x1024, .f32⟩
  | 2 => ⟨S2x16384x1024, .f32⟩
  | 3 => ⟨S8x257, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S2x16384x1024, .f32⟩
  | 11 => ⟨S2x16384x1024, .f32⟩
  | 12 => ⟨S2x16384x1024, .bf16⟩
  | 13 => ⟨S2x16384x1024, .bf16⟩
  | 14 => ⟨S2x16384x1024, .bf16⟩
  | 15 => ⟨S8x1, .f32⟩
  | 16 => ⟨S8x639, .f32⟩
  | 17 => ⟨S8x257, .f32⟩
  | 18 => ⟨S8x1, .f32⟩
  | 19 => ⟨S8x128, .f32⟩
  | 20 => ⟨S8x1024, .f32⟩
  | 21 => ⟨S1x8x1x1024, .f32⟩
  | 22 => ⟨S1x8x256x1024, .f32⟩
  | 23 => ⟨S8x262144, .f32⟩
  | 24 => ⟨S8x261888, .f32⟩
  | 25 => ⟨S8x256x1023, .f32⟩
  | 26 => ⟨S8x256x768, .f32⟩
  | 27 => ⟨S256, .i32⟩
  | 28 => ⟨S_, .i32⟩
  | 29 => ⟨S256, .i32⟩
  | 30 => ⟨S256, .i32⟩
  | 31 => ⟨S768, .i32⟩
  | 32 => ⟨S_, .i32⟩
  | 33 => ⟨S768, .i32⟩
  | 34 => ⟨S768, .i32⟩
  | 35 => ⟨S_, .i32⟩
  | 36 => ⟨S_, .i32⟩
  | 37 => ⟨S256, .i32⟩
  | 38 => ⟨S256, .i32⟩
  | 39 => ⟨S256, .i32⟩
  | 40 => ⟨S_, .i32⟩
  | 41 => ⟨S256, .i32⟩
  | 42 => ⟨S256, .i1⟩
  | 43 => ⟨S256, .i32⟩
  | 44 => ⟨S256, .i32⟩
  | 45 => ⟨S_, .i32⟩
  | 46 => ⟨S256, .i32⟩
  | 47 => ⟨S256, .i1⟩
  | 48 => ⟨S256, .i1⟩
  | 49 => ⟨S_, .i32⟩
  | 50 => ⟨S256, .i32⟩
  | 51 => ⟨S256, .i32⟩
  | 52 => ⟨S256, .i32⟩
  | 53 => ⟨S_, .i32⟩
  | 54 => ⟨S_, .i32⟩
  | 55 => ⟨S768, .i32⟩
  | 56 => ⟨S768, .i32⟩
  | 57 => ⟨S768, .i32⟩
  | 58 => ⟨S_, .i32⟩
  | 59 => ⟨S768, .i32⟩
  | 60 => ⟨S768, .i1⟩
  | 61 => ⟨S768, .i32⟩
  | 62 => ⟨S768, .i32⟩
  | 63 => ⟨S_, .i32⟩
  | 64 => ⟨S768, .i32⟩
  | 65 => ⟨S768, .i1⟩
  | 66 => ⟨S768, .i1⟩
  | 67 => ⟨S_, .i32⟩
  | 68 => ⟨S768, .i32⟩
  | 69 => ⟨S768, .i32⟩
  | 70 => ⟨S768, .i32⟩
  | 71 => ⟨S1x768, .i32⟩
  | 72 => ⟨S_, .i32⟩
  | 73 => ⟨S1x768, .i32⟩
  | 74 => ⟨S1x768, .i1⟩
  | 75 => ⟨S1x768, .i32⟩
  | 76 => ⟨S256x1, .i32⟩
  | 77 => ⟨S256x768, .i32⟩
  | 78 => ⟨S256x768, .i32⟩
  | 79 => ⟨S256x768, .i1⟩
  | 80 => ⟨S256x768, .i1⟩
  | 81 => ⟨S256x768, .i1⟩
  | 82 => ⟨S1x768, .i32⟩
  | 83 => ⟨S256x1, .i32⟩
  | 84 => ⟨S_, .i32⟩
  | 85 => ⟨S256x1, .i32⟩
  | 86 => ⟨S256x1, .i32⟩
  | 87 => ⟨S256x768, .i32⟩
  | 88 => ⟨S256x768, .i32⟩
  | 89 => ⟨S256x768, .i1⟩
  | 90 => ⟨S256x768, .i1⟩
  | 91 => ⟨S1x256x768, .i1⟩
  | 92 => ⟨S_, .f32⟩
  | 93 => ⟨S_, .f32⟩
  | 94 => ⟨S_, .f32⟩
  | 95 => ⟨S_, .f32⟩
  | 96 => ⟨S8x256x768, .f32⟩
  | 97 => ⟨S8x256x768, .f32⟩
  | 98 => ⟨S_, .f32⟩
  | 99 => ⟨S_, .f32⟩
  | 100 => ⟨S8x256x768, .i1⟩
  | 101 => ⟨S8x256x768, .f32⟩
  | 102 => ⟨S8x256x768, .f32⟩
  | 103 => ⟨S8x1, .f32⟩
  | 104 => ⟨S8x639, .f32⟩
  | 105 => ⟨S8x257, .f32⟩
  | 106 => ⟨S8x1, .f32⟩
  | 107 => ⟨S8x128, .f32⟩
  | 108 => ⟨S8x1024, .f32⟩
  | 109 => ⟨S1x8x1x1024, .f32⟩
  | 110 => ⟨S1x8x256x1024, .f32⟩
  | 111 => ⟨S8x262144, .f32⟩
  | 112 => ⟨S8x261888, .f32⟩
  | 113 => ⟨S8x256x1023, .f32⟩
  | 114 => ⟨S8x256x768, .f32⟩
  | 115 => ⟨S256, .i32⟩
  | 116 => ⟨S_, .i32⟩
  | 117 => ⟨S256, .i32⟩
  | 118 => ⟨S256, .i32⟩
  | 119 => ⟨S768, .i32⟩
  | 120 => ⟨S_, .i32⟩
  | 121 => ⟨S768, .i32⟩
  | 122 => ⟨S768, .i32⟩
  | 123 => ⟨S_, .i32⟩
  | 124 => ⟨S_, .i32⟩
  | 125 => ⟨S256, .i32⟩
  | 126 => ⟨S256, .i32⟩
  | 127 => ⟨S256, .i32⟩
  | _ => ⟨S2x16384x1024, .f32⟩

abbrev hbmTy0_1 (i : Nat) : BufTy := match i % 128 with
  | 0 => ⟨S_, .i32⟩
  | 1 => ⟨S256, .i32⟩
  | 2 => ⟨S256, .i1⟩
  | 3 => ⟨S256, .i32⟩
  | 4 => ⟨S256, .i32⟩
  | 5 => ⟨S_, .i32⟩
  | 6 => ⟨S256, .i32⟩
  | 7 => ⟨S256, .i1⟩
  | 8 => ⟨S256, .i1⟩
  | 9 => ⟨S_, .i32⟩
  | 10 => ⟨S256, .i32⟩
  | 11 => ⟨S256, .i32⟩
  | 12 => ⟨S256, .i32⟩
  | 13 => ⟨S_, .i32⟩
  | 14 => ⟨S_, .i32⟩
  | 15 => ⟨S768, .i32⟩
  | 16 => ⟨S768, .i32⟩
  | 17 => ⟨S768, .i32⟩
  | 18 => ⟨S_, .i32⟩
  | 19 => ⟨S768, .i32⟩
  | 20 => ⟨S768, .i1⟩
  | 21 => ⟨S768, .i32⟩
  | 22 => ⟨S768, .i32⟩
  | 23 => ⟨S_, .i32⟩
  | 24 => ⟨S768, .i32⟩
  | 25 => ⟨S768, .i1⟩
  | 26 => ⟨S768, .i1⟩
  | 27 => ⟨S_, .i32⟩
  | 28 => ⟨S768, .i32⟩
  | 29 => ⟨S768, .i32⟩
  | 30 => ⟨S768, .i32⟩
  | 31 => ⟨S1x768, .i32⟩
  | 32 => ⟨S_, .i32⟩
  | 33 => ⟨S1x768, .i32⟩
  | 34 => ⟨S1x768, .i1⟩
  | 35 => ⟨S1x768, .i32⟩
  | 36 => ⟨S256x1, .i32⟩
  | 37 => ⟨S256x768, .i32⟩
  | 38 => ⟨S256x768, .i32⟩
  | 39 => ⟨S256x768, .i1⟩
  | 40 => ⟨S256x768, .i1⟩
  | 41 => ⟨S256x768, .i1⟩
  | 42 => ⟨S1x768, .i32⟩
  | 43 => ⟨S256x1, .i32⟩
  | 44 => ⟨S_, .i32⟩
  | 45 => ⟨S256x1, .i32⟩
  | 46 => ⟨S256x1, .i32⟩
  | 47 => ⟨S256x768, .i32⟩
  | 48 => ⟨S256x768, .i32⟩
  | 49 => ⟨S256x768, .i1⟩
  | 50 => ⟨S256x768, .i1⟩
  | 51 => ⟨S1x256x768, .i1⟩
  | 52 => ⟨S_, .f32⟩
  | 53 => ⟨S_, .f32⟩
  | 54 => ⟨S_, .f32⟩
  | 55 => ⟨S_, .f32⟩
  | 56 => ⟨S8x256x768, .f32⟩
  | 57 => ⟨S8x256x768, .f32⟩
  | 58 => ⟨S_, .f32⟩
  | 59 => ⟨S_, .f32⟩
  | 60 => ⟨S8x256x768, .i1⟩
  | 61 => ⟨S8x256x768, .f32⟩
  | 62 => ⟨S8x256x768, .f32⟩
  | 63 => ⟨S8x1, .f32⟩
  | 64 => ⟨S8x639, .f32⟩
  | 65 => ⟨S8x257, .f32⟩
  | 66 => ⟨S8x1, .f32⟩
  | 67 => ⟨S8x128, .f32⟩
  | 68 => ⟨S8x1024, .f32⟩
  | 69 => ⟨S1x8x1x1024, .f32⟩
  | 70 => ⟨S1x8x256x1024, .f32⟩
  | 71 => ⟨S8x262144, .f32⟩
  | 72 => ⟨S8x261888, .f32⟩
  | 73 => ⟨S8x256x1023, .f32⟩
  | 74 => ⟨S8x256x768, .f32⟩
  | 75 => ⟨S256, .i32⟩
  | 76 => ⟨S_, .i32⟩
  | 77 => ⟨S256, .i32⟩
  | 78 => ⟨S256, .i32⟩
  | 79 => ⟨S768, .i32⟩
  | 80 => ⟨S_, .i32⟩
  | 81 => ⟨S768, .i32⟩
  | 82 => ⟨S768, .i32⟩
  | 83 => ⟨S_, .i32⟩
  | 84 => ⟨S_, .i32⟩
  | 85 => ⟨S256, .i32⟩
  | 86 => ⟨S256, .i32⟩
  | 87 => ⟨S256, .i32⟩
  | 88 => ⟨S_, .i32⟩
  | 89 => ⟨S256, .i32⟩
  | 90 => ⟨S256, .i1⟩
  | 91 => ⟨S256, .i32⟩
  | 92 => ⟨S256, .i32⟩
  | 93 => ⟨S_, .i32⟩
  | 94 => ⟨S256, .i32⟩
  | 95 => ⟨S256, .i1⟩
  | 96 => ⟨S256, .i1⟩
  | 97 => ⟨S_, .i32⟩
  | 98 => ⟨S256, .i32⟩
  | 99 => ⟨S256, .i32⟩
  | 100 => ⟨S256, .i32⟩
  | 101 => ⟨S_, .i32⟩
  | 102 => ⟨S_, .i32⟩
  | 103 => ⟨S768, .i32⟩
  | 104 => ⟨S768, .i32⟩
  | 105 => ⟨S768, .i32⟩
  | 106 => ⟨S_, .i32⟩
  | 107 => ⟨S768, .i32⟩
  | 108 => ⟨S768, .i1⟩
  | 109 => ⟨S768, .i32⟩
  | 110 => ⟨S768, .i32⟩
  | 111 => ⟨S_, .i32⟩
  | 112 => ⟨S768, .i32⟩
  | 113 => ⟨S768, .i1⟩
  | 114 => ⟨S768, .i1⟩
  | 115 => ⟨S_, .i32⟩
  | 116 => ⟨S768, .i32⟩
  | 117 => ⟨S768, .i32⟩
  | 118 => ⟨S768, .i32⟩
  | 119 => ⟨S1x768, .i32⟩
  | 120 => ⟨S_, .i32⟩
  | 121 => ⟨S1x768, .i32⟩
  | 122 => ⟨S1x768, .i1⟩
  | 123 => ⟨S1x768, .i32⟩
  | 124 => ⟨S256x1, .i32⟩
  | 125 => ⟨S256x768, .i32⟩
  | 126 => ⟨S256x768, .i32⟩
  | 127 => ⟨S256x768, .i1⟩
  | _ => ⟨S2x16384x1024, .f32⟩

abbrev hbmTy0_2 (i : Nat) : BufTy := match i % 128 with
  | 0 => ⟨S256x768, .i1⟩
  | 1 => ⟨S256x768, .i1⟩
  | 2 => ⟨S1x768, .i32⟩
  | 3 => ⟨S256x1, .i32⟩
  | 4 => ⟨S_, .i32⟩
  | 5 => ⟨S256x1, .i32⟩
  | 6 => ⟨S256x1, .i32⟩
  | 7 => ⟨S256x768, .i32⟩
  | 8 => ⟨S256x768, .i32⟩
  | 9 => ⟨S256x768, .i1⟩
  | 10 => ⟨S256x768, .i1⟩
  | 11 => ⟨S1x256x768, .i1⟩
  | 12 => ⟨S_, .f32⟩
  | 13 => ⟨S_, .f32⟩
  | 14 => ⟨S_, .f32⟩
  | 15 => ⟨S_, .f32⟩
  | 16 => ⟨S8x256x768, .f32⟩
  | 17 => ⟨S8x256x768, .f32⟩
  | 18 => ⟨S_, .f32⟩
  | 19 => ⟨S_, .f32⟩
  | 20 => ⟨S8x256x768, .i1⟩
  | 21 => ⟨S8x256x768, .f32⟩
  | 22 => ⟨S8x256x768, .f32⟩
  | 23 => ⟨S1x8x256x768, .f32⟩
  | 24 => ⟨S1x8x256x768, .f32⟩
  | 25 => ⟨S1x8x256x768, .f32⟩
  | 26 => ⟨S3x8x256x768, .f32⟩
  | 27 => ⟨S2x16384x1024, .bf16⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x8x256x768, .f32⟩
  | .local _ .vmem, ⟨15, _⟩ => ⟨S1x8x256x768, .f32⟩
  | .local _ .vmem, ⟨16, _⟩ => ⟨S1x256x1024, .bf16⟩
  | .local _ .vmem, ⟨17, _⟩ => ⟨S1x256x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_c_4 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v27 : Ref sig .tc := ⟨.hbm, 70, rfl⟩
abbrev main_v28 : Ref sig .tc := ⟨.hbm, 71, rfl⟩
abbrev main_c_5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_6 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_7 : Ref sig .tc := ⟨.hbm, 92, rfl⟩
abbrev main_v47 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_9 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_10 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_11 : Ref sig .tc := ⟨.hbm, 120, rfl⟩
abbrev main_v68 : Ref sig .tc := ⟨.hbm, 121, rfl⟩
abbrev main_v69 : Ref sig .tc := ⟨.hbm, 122, rfl⟩
abbrev main_c_12 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_c : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_0 : Ref sig .tc := ⟨.hbm, 137, rfl⟩
abbrev main_call3_v12 : Ref sig .tc := ⟨.hbm, 138, rfl⟩
abbrev main_call3_v13 : Ref sig .tc := ⟨.hbm, 139, rfl⟩
abbrev main_v70 : Ref sig .tc := ⟨.hbm, 140, rfl⟩
abbrev main_c_13 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_c : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_c_0 : Ref sig .tc := ⟨.hbm, 155, rfl⟩
abbrev main_call4_v12 : Ref sig .tc := ⟨.hbm, 156, rfl⟩
abbrev main_call4_v13 : Ref sig .tc := ⟨.hbm, 157, rfl⟩
abbrev main_v71 : Ref sig .tc := ⟨.hbm, 158, rfl⟩
abbrev main_v72 : Ref sig .tc := ⟨.hbm, 159, rfl⟩
abbrev main_c_14 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_c_15 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_cst_16 : Ref sig .tc := ⟨.hbm, 180, rfl⟩
abbrev main_v91 : Ref sig .tc := ⟨.hbm, 181, rfl⟩
abbrev main_cst_17 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_cst_18 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_c_19 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_c_20 : Ref sig .tc := ⟨.hbm, 208, rfl⟩
abbrev main_v112 : Ref sig .tc := ⟨.hbm, 209, rfl⟩
abbrev main_v113 : Ref sig .tc := ⟨.hbm, 210, rfl⟩
abbrev main_c_21 : Ref sig .tc := ⟨.hbm, 211, rfl⟩
abbrev main_call6_v0 : Ref sig .tc := ⟨.hbm, 212, rfl⟩
abbrev main_call6_v1 : Ref sig .tc := ⟨.hbm, 213, rfl⟩
abbrev main_call6_v2 : Ref sig .tc := ⟨.hbm, 214, rfl⟩
abbrev main_call6_v3 : Ref sig .tc := ⟨.hbm, 215, rfl⟩
abbrev main_call6_v4 : Ref sig .tc := ⟨.hbm, 216, rfl⟩
abbrev main_call6_v5 : Ref sig .tc := ⟨.hbm, 217, rfl⟩
abbrev main_call6_v6 : Ref sig .tc := ⟨.hbm, 218, rfl⟩
abbrev main_call6_v7 : Ref sig .tc := ⟨.hbm, 219, rfl⟩
abbrev main_call6_v8 : Ref sig .tc := ⟨.hbm, 220, rfl⟩
abbrev main_call6_c : Ref sig .tc := ⟨.hbm, 221, rfl⟩
abbrev main_call6_v9 : Ref sig .tc := ⟨.hbm, 222, rfl⟩
abbrev main_call6_v10 : Ref sig .tc := ⟨.hbm, 223, rfl⟩
abbrev main_call6_v11 : Ref sig .tc := ⟨.hbm, 224, rfl⟩
abbrev main_call6_c_0 : Ref sig .tc := ⟨.hbm, 225, rfl⟩
abbrev main_call6_v12 : Ref sig .tc := ⟨.hbm, 226, rfl⟩
abbrev main_call6_v13 : Ref sig .tc := ⟨.hbm, 227, rfl⟩
abbrev main_v114 : Ref sig .tc := ⟨.hbm, 228, rfl⟩
abbrev main_c_22 : Ref sig .tc := ⟨.hbm, 229, rfl⟩
abbrev main_call7_v0 : Ref sig .tc := ⟨.hbm, 230, rfl⟩
abbrev main_call7_v1 : Ref sig .tc := ⟨.hbm, 231, rfl⟩
abbrev main_call7_v2 : Ref sig .tc := ⟨.hbm, 232, rfl⟩
abbrev main_call7_v3 : Ref sig .tc := ⟨.hbm, 233, rfl⟩
abbrev main_call7_v4 : Ref sig .tc := ⟨.hbm, 234, rfl⟩
abbrev main_call7_v5 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_c : Ref sig .tc := ⟨.hbm, 239, rfl⟩
abbrev main_call7_v9 : Ref sig .tc := ⟨.hbm, 240, rfl⟩
abbrev main_call7_v10 : Ref sig .tc := ⟨.hbm, 241, rfl⟩
abbrev main_call7_v11 : Ref sig .tc := ⟨.hbm, 242, rfl⟩
abbrev main_call7_c_0 : Ref sig .tc := ⟨.hbm, 243, rfl⟩
abbrev main_call7_v12 : Ref sig .tc := ⟨.hbm, 244, rfl⟩
abbrev main_call7_v13 : Ref sig .tc := ⟨.hbm, 245, rfl⟩
abbrev main_v115 : Ref sig .tc := ⟨.hbm, 246, rfl⟩
abbrev main_v116 : Ref sig .tc := ⟨.hbm, 247, rfl⟩
abbrev main_c_23 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_v122 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_c_24 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_cst_25 : Ref sig .tc := ⟨.hbm, 268, rfl⟩
abbrev main_v135 : Ref sig .tc := ⟨.hbm, 269, rfl⟩
abbrev main_cst_26 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_cst_27 : Ref sig .tc := ⟨.hbm, 274, rfl⟩
abbrev main_call8_v0 : Ref sig .tc := ⟨.hbm, 275, rfl⟩
abbrev main_call8_v1 : Ref sig .tc := ⟨.hbm, 276, rfl⟩
abbrev main_call8_v2 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x16384x1024 : Shape := ⟨3, ![2, 16384, 1024]⟩
abbrev S8x257 : Shape := ⟨2, ![8, 257]⟩
abbrev S2x16384x8x128 : Shape := ⟨4, ![2, 16384, 8, 128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x16384x16384 : Shape := ⟨3, ![1, 16384, 16384]⟩
abbrev S16384x16384x1 : Shape := ⟨3, ![16384, 16384, 1]⟩
abbrev S8x16384x16384 : Shape := ⟨3, ![8, 16384, 16384]⟩
abbrev S2x8x16384x16384 : Shape := ⟨4, ![2, 8, 16384, 16384]⟩
abbrev S1x8x16384x16384 : Shape := ⟨4, ![1, 8, 16384, 16384]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩

abbrev nBuf : Space → Nat
  | .hbm => 120
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S8x257, .f32⟩
  | .hbm, ⟨4, _⟩ => ⟨S2x16384x8x128, .f32⟩
  | .hbm, ⟨5, _⟩ => ⟨S_, .f32⟩
  | .hbm, ⟨6, _⟩ => ⟨S2x16384x8x128, .f32⟩
  | .hbm, ⟨7, _⟩ => ⟨S2x16384x8x128, .f32⟩
  | .hbm, ⟨8, _⟩ => ⟨S2x16384x8x128, .f32⟩
  | .hbm, ⟨9, _⟩ => ⟨S2x16384x8x128, .f32⟩
  | .hbm, ⟨10, _⟩ => ⟨S16384, .i32⟩
  | .hbm, ⟨11, _⟩ => ⟨S16384x1, .i32⟩
  | .hbm, ⟨12, _⟩ => ⟨S1x16384, .i32⟩
  | .hbm, ⟨13, _⟩ => ⟨S16384x16384, .i32⟩
  | .hbm, ⟨14, _⟩ => ⟨S16384x16384, .i32⟩
  | .hbm, ⟨15, _⟩ => ⟨S16384x16384, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S16384x16384, .i32⟩
  | .hbm, ⟨20, _⟩ => ⟨S16384x16384, .i32⟩
  | .hbm, ⟨21, _⟩ => ⟨S_, .i32⟩
  | .hbm, ⟨22, _⟩ => ⟨S16384x16384, .i32⟩
  | .hbm, ⟨23, _⟩ => ⟨S16384x16384, .i32⟩
  | .hbm, ⟨24, _⟩ => ⟨S_, .i32⟩
  | .hbm, ⟨25, _⟩ => ⟨S16384x16384, .i32⟩
  | .hbm, ⟨26, _⟩ => ⟨S16384x16384, .i32⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S16384, .i32⟩
  | .hbm, ⟨36, _⟩ => ⟨S16384, .i32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S_, .i32⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S16384, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S1x16384, .i32⟩
  | .hbm, ⟨64, _⟩ => ⟨S_, .i32⟩
  | .hbm, ⟨65, _⟩ => ⟨S1x16384, .i32⟩
  | .hbm, ⟨66, _⟩ => ⟨S1x16384, .i1⟩
  | .hbm, ⟨67, _⟩ => ⟨S1x16384, .i32⟩
  | .hbm, ⟨68, _⟩ => ⟨S16384x1, .i32⟩
  | .hbm, ⟨69, _⟩ => ⟨S16384x16384, .i32⟩
  | .hbm, ⟨70, _⟩ => ⟨S16384x16384, .i32⟩
  | .hbm, ⟨71, _⟩ => ⟨S16384x16384, .i1⟩
  | .hbm, ⟨72, _⟩ => ⟨S16384x16384, .i1⟩
  | .hbm, ⟨73, _⟩ => ⟨S16384x16384, .i1⟩
  | .hbm, ⟨74, _⟩ => ⟨S1x16384, .i32⟩
  | .hbm, ⟨75, _⟩ => ⟨S16384x1, .i32⟩
  | .hbm, ⟨76, _⟩ => ⟨S_, .i32⟩
  | .hbm, ⟨77, _⟩ => ⟨S16384x1, .i32⟩
  | .hbm, ⟨78, _⟩ => ⟨S16384x1, .i32⟩
  | .hbm, ⟨79, _⟩ => ⟨S16384x16384, .i32⟩
  | .hbm, ⟨80, _⟩ => ⟨S16384x16384, .i32⟩
  | .hbm, ⟨81, _⟩ => ⟨S16384x16384, .i1⟩
  | .hbm, ⟨82, _⟩ => ⟨S16384x16384, .i1⟩
  | .hbm, ⟨83, _⟩ => ⟨S1x16384x16384, .i1⟩
  | .hbm, ⟨84, _⟩ => ⟨S_, .i32⟩
  | .hbm, ⟨85, _⟩ => ⟨S16384x16384, .i32⟩
  | .hbm, ⟨86, _⟩ => ⟨S16384x16384, .i1⟩
  | .hbm, ⟨87, _⟩ => ⟨S_, .i32⟩
  | .hbm, ⟨88, _⟩ => ⟨S16384x16384, .i32⟩
  | .hbm, ⟨89, _⟩ => ⟨S16384x16384, .i32⟩
  | .hbm, ⟨90, _⟩ => ⟨S16384x16384, .i32⟩
  | .hbm, ⟨91, _⟩ => ⟨S16384x16384x1, .i32⟩
  | .hbm, ⟨92, _⟩ => ⟨S8x16384x16384, .f32⟩
  | .hbm, ⟨93, _⟩ => ⟨S_, .f32⟩
  | .hbm, ⟨94, _⟩ => ⟨S_, .f32⟩
  | .hbm, ⟨95, _⟩ => ⟨S8x16384x16384, .i1⟩
  | .hbm, ⟨96, _⟩ => ⟨S8x16384x16384, .f32⟩
  | .hbm, ⟨97, _⟩ => ⟨S8x16384x16384, .f32⟩
  | .hbm, ⟨98, _⟩ => ⟨S2x8x16384x16384, .f32⟩
  | .hbm, ⟨99, _⟩ => ⟨S1x8x16384x16384, .f32⟩
  | .hbm, ⟨100, _⟩ => ⟨S2x8x16384x16384, .f32⟩
  | .hbm, ⟨101, _⟩ => ⟨S2x8x16384x16384, .f32⟩
  | .hbm, ⟨102, _⟩ => ⟨S_, .f32⟩
  | .hbm, ⟨103, _⟩ => ⟨S2x8x16384, .f32⟩
  | .hbm, ⟨104, _⟩ => ⟨S_, .f32⟩
  | .hbm, ⟨105, _⟩ => ⟨S2x8x16384, .f32⟩
  | .hbm, ⟨106, _⟩ => ⟨S2x8x16384, .f32⟩
  | .hbm, ⟨107, _⟩ => ⟨S2x8x16384x1, .f32⟩
  | .hbm, ⟨108, _⟩ => ⟨S2x8x16384x16384, .f32⟩
  | .hbm, ⟨109, _⟩ => ⟨S2x8x16384x16384, .f32⟩
  | .hbm, ⟨110, _⟩ => ⟨S2x8x16384x16384, .f32⟩
  | .hbm, ⟨111, _⟩ => ⟨S_, .f32⟩
  | .hbm, ⟨112, _⟩ => ⟨S2x8x16384, .f32⟩
  | .hbm, ⟨113, _⟩ => ⟨S2x8x16384x1, .f32⟩
  | .hbm, ⟨114, _⟩ => ⟨S2x8x16384x16384, .f32⟩
  | .hbm, ⟨115, _⟩ => ⟨S2x8x16384x16384, .f32⟩
  | .hbm, ⟨116, _⟩ => ⟨S2x8x128x16384, .f32⟩
  | .hbm, ⟨117, _⟩ => ⟨S2x16384x8x128, .f32⟩
  | .hbm, ⟨118, _⟩ => ⟨S2x16384x1024, .f32⟩
  | .hbm, ⟨119, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v14 : Ref sig .tc := ⟨.hbm, 44, rfl⟩
abbrev main_c_3 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v15 : Ref sig .tc := ⟨.hbm, 62, rfl⟩
abbrev main_v16 : Ref sig .tc := ⟨.hbm, 63, rfl⟩
abbrev main_c_4 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_c_5 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_6 : Ref sig .tc := ⟨.hbm, 84, rfl⟩
abbrev main_v35 : Ref sig .tc := ⟨.hbm, 85, rfl⟩
abbrev main_v36 : Ref sig .tc := ⟨.hbm, 86, rfl⟩
abbrev main_c_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_8 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_9 : Ref sig .tc := ⟨.hbm, 102, rfl⟩
abbrev main_v47 : Ref sig .tc := ⟨.hbm, 103, rfl⟩
abbrev main_cst_10 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_11 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2048x6144 : Shape := ⟨2, ![2048, 6144]⟩
abbrev S3072x2048 : Shape := ⟨2, ![3072, 2048]⟩
abbrev S32768x2048 : Shape := ⟨2, ![32768, 2048]⟩
abbrev S2048x3072 : Shape := ⟨2, ![2048, 3072]⟩
abbrev S1x2048 : Shape := ⟨2, ![1, 2048]⟩
abbrev S256x2048 : Shape := ⟨2, ![256, 2048]⟩
abbrev S2x256x2048 : Shape := ⟨3, ![2, 256, 2048]⟩
abbrev S256 : Shape := ⟨1, ![256]⟩
abbrev S256x1 : Shape := ⟨2, ![256, 1]⟩
abbrev S1x256x2048 : Shape := ⟨3, ![1, 256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 12
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6144, .f32⟩
  | .hbm, ⟨3, _⟩ => ⟨S3072x2048, .f32⟩
  | .hbm, ⟨4, _⟩ => ⟨S32768x2048, .f32⟩
  | .hbm, ⟨5, _⟩ => ⟨S2048x3072, .f32⟩
  | .hbm, ⟨6, _⟩ => ⟨S2048x3072, .bf16⟩
  | .hbm, ⟨7, _⟩ => ⟨S2048x3072, .f32⟩
  | .hbm, ⟨8, _⟩ => ⟨S2048x3072, .bf16⟩
  | .hbm, ⟨9, _⟩ => ⟨S3072x2048, .bf16⟩
  | .hbm, ⟨10, _⟩ => ⟨S1x2048, .f32⟩
  | .hbm, ⟨11, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3072, .bf16⟩
  | .local _ .vmem, ⟨4, _⟩ => ⟨S2048x3072, .bf16⟩
  | .local _ .vmem, ⟨5, _⟩ => ⟨S3072x2048, .bf16⟩
  | .local _ .vmem, ⟨6, _⟩ => ⟨S256x2048, .f32⟩
  | .local _ .vmem, ⟨7, _⟩ => ⟨S256x2048, .f32⟩
  | .local _ .vmem, ⟨8, _⟩ => ⟨S2x256x2048, .bf16⟩
  | .local _ .vmem, ⟨9, _⟩ => ⟨S256x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let c1_i32_7 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v16 : BitVec 32 := Scalar.subi c1_i32_7 v9
  let v17 : Index := Scalar.indexCast v16
  let c0 : Index := 0#32
  let c0_8 : Index := 0#32
  ![v17.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v108 : Index := Scalar.indexCast v9
  let c0_65 : Index := 0#32
  let c0_66 : Index := 0#32
  ![v108.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x16384x2048 : Shape := ⟨3, ![2, 16384, 2048]⟩
abbrev S2048 : Shape := ⟨1, ![2048]⟩
abbrev S2048x6144 : Shape := ⟨2, ![2048, 6144]⟩
abbrev S3072x2048 : Shape := ⟨2, ![3072, 2048]⟩
abbrev S_ : Shape := ⟨0, ![]⟩
abbrev S2x16384 : Shape := ⟨2, ![2, 16384]⟩
abbrev S2x16384x1 : Shape := ⟨3, ![2, 16384, 1]⟩
abbrev S2048x1 : Shape := ⟨2, ![2048, 1]⟩
abbrev S2048x3072 : Shape := ⟨2, ![2048, 3072]⟩
abbrev S2x16384x3072 : Shape := ⟨3, ![2, 16384, 3072]⟩
abbrev S32768x2048 : Shape := ⟨2, ![32768, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6144, .f32⟩
  | .hbm, ⟨3, _⟩ => ⟨S3072x2048, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S2048x1, .f32⟩
  | .hbm, ⟨18, _⟩ => ⟨S2048x6144, .f32⟩
  | .hbm, ⟨19, _⟩ => ⟨S2048x6144, .f32⟩
  | .hbm, ⟨20, _⟩ => ⟨S2048x3072, .f32⟩
  | .hbm, ⟨21, _⟩ => ⟨S2x16384x3072, .f32⟩
  | .hbm, ⟨22, _⟩ => ⟨S2048x3072, .f32⟩
  | .hbm, ⟨23, _⟩ => ⟨S2x16384x3072, .f32⟩
  | .hbm, ⟨24, _⟩ => ⟨S2x16384x3072, .f32⟩
  | .hbm, ⟨25, _⟩ => ⟨S2x16384x3072, .f32⟩
  | .hbm, ⟨26, _⟩ => ⟨S_, .f32⟩
  | .hbm, ⟨27, _⟩ => ⟨S2x16384x3072, .f32⟩
  | .hbm, ⟨28, _⟩ => ⟨S2x16384x3072, .f32⟩
  | .hbm, ⟨29, _⟩ => ⟨S_, .f32⟩
  | .hbm, ⟨30, _⟩ => ⟨S2x16384x3072, .f32⟩
  | .hbm, ⟨31, _⟩ => ⟨S2x16384x3072, .f32⟩
  | .hbm, ⟨32, _⟩ => ⟨S2x16384x3072, .f32⟩
  | .hbm, ⟨33, _⟩ => ⟨S2x16384x3072, .f32⟩
  | .hbm, ⟨34, _⟩ => ⟨S_, .f32⟩
  | .hbm, ⟨35, _⟩ => ⟨S3072x2048, .f32⟩
  | .hbm, ⟨36, _⟩ => ⟨S3072x2048, .f32⟩
  | .hbm, ⟨37, _⟩ => ⟨S2x16384x2048, .f32⟩
  | .hbm, ⟨38, _⟩ => ⟨S2x16384x2048, .f32⟩
  | .hbm, ⟨39, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel3.lean ====
abbrev S2x256x2048 : Shape := ⟨3, ![2, 256, 2048]⟩
abbrev S2048 : Shape := ⟨1, ![2048]⟩
abbrev S2048x1024 : Shape := ⟨2, ![2048, 1024]⟩
abbrev S128 : Shape := ⟨1, ![128]⟩
abbrev S512x2048 : Shape := ⟨2, ![512, 2048]⟩
abbrev S1x2048x1024 : Shape := ⟨3, ![1, 2048, 1024]⟩
abbrev S1x2048 : Shape := ⟨2, ![1, 2048]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x128 : Shape := ⟨2, ![512, 128]⟩

abbrev nBuf : Space → Nat
  | .hbm => 13
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S512x2048, .f32⟩
  | .hbm, ⟨5, _⟩ => ⟨S2048x1024, .bf16⟩
  | .hbm, ⟨6, _⟩ => ⟨S1x2048x1024, .bf16⟩
  | .hbm, ⟨7, _⟩ => ⟨S1x2048, .f32⟩
  | .hbm, ⟨8, _⟩ => ⟨S1x128, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x128, .f32⟩
  | .local _ .vmem, ⟨4, _⟩ => ⟨S512x512, .bf16⟩
  | .local _ .vmem, ⟨5, _⟩ => ⟨S512x512, .f32⟩
  | .local _ .vmem, ⟨6, _⟩ => ⟨S512x512, .bf16⟩
  | .local _ .vmem, ⟨7, _⟩ => ⟨S512x512, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference3Ideal.lean ====
abbrev S2x256x2048 : Shape := ⟨3, ![2, 256, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S2x256 : Shape := ⟨2, ![2, 256]⟩
abbrev S2x256x1 : Shape := ⟨3, ![2, 256, 1]⟩
abbrev S2048x1 : Shape := ⟨2, ![2048, 1]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S512x512 : Shape := ⟨2, ![512, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2x256x1024, .f32⟩
  | .hbm, ⟨21, _⟩ => ⟨S2x256x512, .f32⟩
  | .hbm, ⟨22, _⟩ => ⟨S2x256x4x128, .f32⟩
  | .hbm, ⟨23, _⟩ => ⟨S2x256x4x128, .f32⟩
  | .hbm, ⟨24, _⟩ => ⟨S_, .f32⟩
  | .hbm, ⟨25, _⟩ => ⟨S2x256x4, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S2x256x4x1, .f32⟩
  | .hbm, ⟨34, _⟩ => ⟨S2x256x4x128, .f32⟩
  | .hbm, ⟨35, _⟩ => ⟨S2x256x4x128, .f32⟩
  | .hbm, ⟨36, _⟩ => ⟨S1x1x1x128, .f32⟩
  | .hbm, ⟨37, _⟩ => ⟨S2x256x4x128, .f32⟩
  | .hbm, ⟨38, _⟩ => ⟨S2x256x4x128, .f32⟩
  | .hbm, ⟨39, _⟩ => ⟨S2x256x512, .f32⟩
  | .hbm, ⟨40, _⟩ => ⟨S2x256x4x128, .f32⟩
  | .hbm, ⟨41, _⟩ => ⟨S512x512, .f32⟩
  | .hbm, ⟨42, _⟩ => ⟨S512x512, .f32⟩
  | .hbm, ⟨43, _⟩ => ⟨S512x512, .bf16⟩
  | .hbm, ⟨44, _⟩ => ⟨S512x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048 : Shape := ⟨1, ![2048]⟩
abbrev S2048x3584 : Shape := ⟨2, ![2048, 3584]⟩
abbrev S128 : Shape := ⟨1, ![128]⟩
abbrev S32768x2048 : Shape := ⟨2, ![32768, 2048]⟩
abbrev S1x2048x3584 : Shape := ⟨3, ![1, 2048, 3584]⟩
abbrev S1x2048 : Shape := ⟨2, ![1, 2048]⟩
abbrev S1x128 : Shape := ⟨2, ![1, 128]⟩
abbrev S32768x1024 : Shape := ⟨2, ![32768, 1024]⟩
abbrev S1024x1024 : Shape := ⟨2, ![1024, 1024]⟩
abbrev S32768x512 : Shape := ⟨2, ![32768, 512]⟩
abbrev S512x2048 : Shape := ⟨2, ![512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x128 : Shape := ⟨2, ![512, 128]⟩

abbrev nBuf : Space → Nat
  | .hbm => 19
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32768x2048, .f32⟩
  | .hbm, ⟨7, _⟩ => ⟨S2048x3584, .bf16⟩
  | .hbm, ⟨8, _⟩ => ⟨S1x2048x3584, .bf16⟩
  | .hbm, ⟨9, _⟩ => ⟨S1x2048, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S32768x1024, .bf16⟩
  | .hbm, ⟨14, _⟩ => ⟨S32768x1024, .bf16⟩
  | .hbm, ⟨15, _⟩ => ⟨S1024x1024, .f32⟩
  | .hbm, ⟨16, _⟩ => ⟨S32768x1024, .bf16⟩
  | .hbm, ⟨17, _⟩ => ⟨S1024x1024, .f32⟩
  | .hbm, ⟨18, _⟩ => ⟨S32768x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3584, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x512, .bf16⟩
  | .local _ .vmem, ⟨18, _⟩ => ⟨S512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S2x16384x2048 : Shape := ⟨3, ![2, 16384, 2048]⟩
abbrev S2048 : Shape := ⟨1, ![2048]⟩
abbrev S2048x3584 : Shape := ⟨2, ![2048, 3584]⟩
abbrev S128 : Shape := ⟨1, ![128]⟩
abbrev S_ : Shape := ⟨0, ![]⟩
abbrev S2x16384 : Shape := ⟨2, ![2, 16384]⟩
abbrev S2x16384x1 : Shape := ⟨3, ![2, 16384, 1]⟩
abbrev S2048x1 : Shape := ⟨2, ![2048, 1]⟩
abbrev S2048x1024 : Shape := ⟨2, ![2048, 1024]⟩
abbrev S2x16384x1024 : Shape := ⟨3, ![2, 16384, 1024]⟩
abbrev S2x16384x8x128 : Shape := ⟨4, ![2, 16384, 8, 128]⟩
abbrev S2048x512 : Shape := ⟨2, ![2048, 512]⟩
abbrev S2x16384x512 : Shape := ⟨3, ![2, 16384, 512]⟩
abbrev S2x16384x4x128 : Shape := ⟨4, ![2, 16384, 4, 128]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384x4 : Shape := ⟨3, ![2, 16384, 4]⟩
abbrev S2x16384x4x1 : Shape := ⟨4, ![2, 16384, 4, 1]⟩
abbrev S32768x1024 : Shape := ⟨2, ![32768, 1024]⟩
abbrev S2x512x8x128 : Shape := ⟨4, ![2, 512, 8, 128]⟩
abbrev S1024x1024 : Shape := ⟨2, ![1024, 1024]⟩
abbrev S32768x512 : Shape := ⟨2, ![32768, 512]⟩

abbrev nBuf : Space → Nat
  | .hbm => 100
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S2048x1, .f32⟩
  | .hbm, ⟨20, _⟩ => ⟨S2048x3584, .f32⟩
  | .hbm, ⟨21, _⟩ => ⟨S2048x3584, .f32⟩
  | .hbm, ⟨22, _⟩ => ⟨S2048x1024, .f32⟩
  | .hbm, ⟨23, _⟩ => ⟨S2x16384x1024, .f32⟩
  | .hbm, ⟨24, _⟩ => ⟨S2x16384x8x128, .f32⟩
  | .hbm, ⟨25, _⟩ => ⟨S2048x1024, .f32⟩
  | .hbm, ⟨26, _⟩ => ⟨S2x16384x1024, .f32⟩
  | .hbm, ⟨27, _⟩ => ⟨S2x16384x8x128, .f32⟩
  | .hbm, ⟨28, _⟩ => ⟨S2048x1024, .f32⟩
  | .hbm, ⟨29, _⟩ => ⟨S2x16384x1024, .f32⟩
  | .hbm, ⟨30, _⟩ => ⟨S2x16384x8x128, .f32⟩
  | .hbm, ⟨31, _⟩ => ⟨S2048x512, .f32⟩
  | .hbm, ⟨32, _⟩ => ⟨S2x16384x512, .f32⟩
  | .hbm, ⟨33, _⟩ => ⟨S2x16384x4x128, .f32⟩
  | .hbm, ⟨34, _⟩ => ⟨S2x16384x8x128, .f32⟩
  | .hbm, ⟨35, _⟩ => ⟨S_, .f32⟩
  | .hbm, ⟨36, _⟩ => ⟨S2x16384x8, .f32⟩
  | .hbm, ⟨37, _⟩ => ⟨S2x16384x8x1, .f32⟩
  | .hbm, ⟨38, _⟩ => ⟨S_, .f32⟩
  | .hbm, ⟨39, _⟩ => ⟨S2x16384x8x1, .f32⟩
  | .hbm, ⟨40, _⟩ => ⟨S2x16384x8x1, .f32⟩
  | .hbm, ⟨41, _⟩ => ⟨S_, .f32⟩
  | .hbm, ⟨42, _⟩ => ⟨S2x16384x8x1, .f32⟩
  | .hbm, ⟨43, _⟩ => ⟨S2x16384x8x1, .f32⟩
  | .hbm, ⟨44, _⟩ => ⟨S2x16384x8x1, .f32⟩
  | .hbm, ⟨45, _⟩ => ⟨S2x16384x8x128, .f32⟩
  | .hbm, ⟨46, _⟩ => ⟨S2x16384x8x128, .f32⟩
  | .hbm, ⟨47, _⟩ => ⟨S1x1x1x128, .f32⟩
  | .hbm, ⟨48, _⟩ => ⟨S2x16384x8x128, .f32⟩
  | .hbm, ⟨49, _⟩ => ⟨S2x16384x8x128, .f32⟩
  | .hbm, ⟨50, _⟩ => ⟨S_, .f32⟩
  | .hbm, ⟨51, _⟩ => ⟨S2x16384x8x128, .f32⟩
  | .hbm, ⟨52, _⟩ => ⟨S2x16384x8x128, .f32⟩
  | .hbm, ⟨53, _⟩ => ⟨S2x16384x8x128, .f32⟩
  | .hbm, ⟨54, _⟩ => ⟨S_, .f32⟩
  | .hbm, ⟨55, _⟩ => ⟨S2x16384x8, .f32⟩
  | .hbm, ⟨56, _⟩ => ⟨S2x16384x8x1, .f32⟩
  | .hbm, ⟨57, _⟩ => ⟨S_, .f32⟩
  | .hbm, ⟨58, _⟩ => ⟨S2x16384x8x1, .f32⟩
  | .hbm, ⟨59, _⟩ => ⟨S2x16384x8x1, .f32⟩
  | .hbm, ⟨60, _⟩ => ⟨S_, .f32⟩
  | .hbm, ⟨61, _⟩ => ⟨S2x16384x8x1, .f32⟩
  | .hbm, ⟨62, _⟩ => ⟨S2x16384x8x1, .f32⟩
  | .hbm, ⟨63, _⟩ => ⟨S2x16384x8x1, .f32⟩
  | .hbm, ⟨64, _⟩ => ⟨S2x16384x8x128, .f32⟩
  | .hbm, ⟨65, _⟩ => ⟨S2x16384x8x128, .f32⟩
  | .hbm, ⟨66, _⟩ => ⟨S1x1x1x128, .f32⟩
  | .hbm, ⟨67, _⟩ => ⟨S2x16384x8x128, .f32⟩
  | .hbm, ⟨68, _⟩ => ⟨S2x16384x8x128, .f32⟩
  | .hbm, ⟨69, _⟩ => ⟨S2x16384x4x128, .f32⟩
  | .hbm, ⟨70, _⟩ => ⟨S_, .f32⟩
  | .hbm, ⟨71, _⟩ => ⟨S2x16384x4, .f32⟩
  | .hbm, ⟨72, _⟩ => ⟨S2x16384x4x1, .f32⟩
  | .hbm, ⟨73, _⟩ => ⟨S_, .f32⟩
  | .hbm, ⟨74, _⟩ => ⟨S2x16384x4x1, .f32⟩
  | .hbm, ⟨75, _⟩ => ⟨S2x16384x4x1, .f32⟩
  | .hbm, ⟨76, _⟩ => ⟨S_, .f32⟩
  | .hbm, ⟨77, _⟩ => ⟨S2x16384x4x1, .f32⟩
  | .hbm, ⟨78, _⟩ => ⟨S2x16384x4x1, .f32⟩
  | .hbm, ⟨79, _⟩ => ⟨S2x16384x4x1, .f32⟩
  | .hbm, ⟨80, _⟩ => ⟨S2x16384x4x128, .f32⟩
  | .hbm, ⟨81, _⟩ => ⟨S2x16384x4x128, .f32⟩
  | .hbm, ⟨82, _⟩ => ⟨S1x1x1x128, .f32⟩
  | .hbm, ⟨83, _⟩ => ⟨S2x16384x4x128, .f32⟩
  | .hbm, ⟨84, _⟩ => ⟨S2x16384x4x128, .f32⟩
  | .hbm, ⟨85, _⟩ => ⟨S_, .f32⟩
  | .hbm, ⟨86, _⟩ => ⟨S2x16384x4x128, .f32⟩
  | .hbm, ⟨87, _⟩ => ⟨S2x16384x4x128, .f32⟩
  | .hbm, ⟨88, _⟩ => ⟨S32768x1024, .f32⟩
  | .hbm, ⟨89, _⟩ => ⟨S32768x1024, .bf16⟩
  | .hbm, ⟨90, _⟩ => ⟨S32768x1024, .f32⟩
  | .hbm, ⟨91, _⟩ => ⟨S32768x1024, .bf16⟩
  | .hbm, ⟨92, _⟩ => ⟨S2x512x8x128, .f32⟩
  | .hbm, ⟨93, _⟩ => ⟨S1024x1024, .f32⟩
  | .hbm, ⟨94, _⟩ => ⟨S32768x1024, .f32⟩
  | .hbm, ⟨95, _⟩ => ⟨S32768x1024, .bf16⟩
  | .hbm, ⟨96, _⟩ => ⟨S2x512x8x128, .f32⟩
  | .hbm, ⟨97, _⟩ => ⟨S1024x1024, .f32⟩
  | .hbm, ⟨98, _⟩ => ⟨S32768x512, .f32⟩
  | .hbm, ⟨99, _⟩ => ⟨S32768x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048 : Shape := ⟨1, ![2048]⟩
abbrev S2048x3584 : Shape := ⟨2, ![2048, 3584]⟩
abbrev S128 : Shape := ⟨1, ![128]⟩
abbrev S2x32768x4x256 : Shape := ⟨4, ![2, 32768, 4, 256]⟩
abbrev S32768x2048 : Shape := ⟨2, ![32768, 2048]⟩
abbrev S1x2048x3584 : Shape := ⟨3, ![1, 2048, 3584]⟩
abbrev S1x2048 : Shape := ⟨2, ![1, 2048]⟩
abbrev S1x128 : Shape := ⟨2, ![1, 128]⟩
abbrev S32768x1024 : Shape := ⟨2, ![32768, 1024]⟩
abbrev S32768x512 : Shape := ⟨2, ![32768, 512]⟩
abbrev S512x2048 : Shape := ⟨2, ![512, 2048]⟩
abbrev S512x1024 : Shape := ⟨2, ![512, 1024]⟩
abbrev S1x512x4x256 : Shape := ⟨4, ![1, 512, 4, 256]⟩
abbrev S512x512 : Shape := ⟨2, ![512, 512]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x256 : Shape := ⟨2, ![512, 256]⟩
abbrev S1x512x1x256 : Shape := ⟨4, ![1, 512, 1, 256]⟩
abbrev S512x128 : Shape := ⟨2, ![512, 128]⟩

abbrev nBuf : Space → Nat
  | .hbm => 17
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S2x32768x4x256, .f32⟩
  | .hbm, ⟨5, _⟩ => ⟨S2x32768x4x256, .f32⟩
  | .hbm, ⟨6, _⟩ => ⟨S32768x2048, .f32⟩
  | .hbm, ⟨7, _⟩ => ⟨S2048x3584, .bf16⟩
  | .hbm, ⟨8, _⟩ => ⟨S1x2048x3584, .bf16⟩
  | .hbm, ⟨9, _⟩ => ⟨S1x2048, .f32⟩
  | .hbm, ⟨10, _⟩ => ⟨S1x128, .f32⟩
  | .hbm, ⟨11, _⟩ => ⟨S32768x1024, .bf16⟩
  | .hbm, ⟨12, _⟩ => ⟨S32768x1024, .bf16⟩
  | .hbm, ⟨13, _⟩ => ⟨S2x32768x4x256, .f32⟩
  | .hbm, ⟨14, _⟩ => ⟨S32768x1024, .bf16⟩
  | .hbm, ⟨15, _⟩ => ⟨S2x32768x4x256, .f32⟩
  | .hbm, ⟨16, _⟩ => ⟨S32768x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3584, .bf16⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x4x256, .f32⟩
  | .local _ .vmem, ⟨10, _⟩ => ⟨S1x512x4x256, .f32⟩
  | .local _ .vmem, ⟨11, _⟩ => ⟨S512x1024, .bf16⟩
  | .local _ .vmem, ⟨12, _⟩ => ⟨S512x1024, .bf16⟩
  | .local _ .vmem, ⟨13, _⟩ => ⟨S1x512x4x256, .f32⟩
  | .local _ .vmem, ⟨14, _⟩ => ⟨S1x512x4x256, .f32⟩
  | .local _ .vmem, ⟨15, _⟩ => ⟨S512x512, .bf16⟩
  | .local _ .vmem, ⟨16, _⟩ => ⟨S512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4Ideal.lean ====
abbrev S2x16384x2048 : Shape := ⟨3, ![2, 16384, 2048]⟩
abbrev S2048 : Shape := ⟨1, ![2048]⟩
abbrev S2048x3584 : Shape := ⟨2, ![2048, 3584]⟩
abbrev S128 : Shape := ⟨1, ![128]⟩
abbrev S2x32768x4x256 : Shape := ⟨4, ![2, 32768, 4, 256]⟩
abbrev S32768x2048 : Shape := ⟨2, ![32768, 2048]⟩
abbrev S1x2048x3584 : Shape := ⟨3, ![1, 2048, 3584]⟩
abbrev S1x2048 : Shape := ⟨2, ![1, 2048]⟩
abbrev S1x128 : Shape := ⟨2, ![1, 128]⟩
abbrev S32768x1024 : Shape := ⟨2, ![32768, 1024]⟩
abbrev S32768x512 : Shape := ⟨2, ![32768, 512]⟩
abbrev S512x2048 : Shape := ⟨2, ![512, 2048]⟩
abbrev S512x1024 : Shape := ⟨2, ![512, 1024]⟩
abbrev S1x512x4x256 : Shape := ⟨4, ![1, 512, 4, 256]⟩
abbrev S512x512 : Shape := ⟨2, ![512, 512]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x256 : Shape := ⟨2, ![512, 256]⟩
abbrev S1x512x1x256 : Shape := ⟨4, ![1, 512, 1, 256]⟩
abbrev S512x128 : Shape := ⟨2, ![512, 128]⟩

abbrev nBuf : Space → Nat
  | .hbm => 17
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S2x32768x4x256, .f32⟩
  | .hbm, ⟨5, _⟩ => ⟨S2x32768x4x256, .f32⟩
  | .hbm, ⟨6, _⟩ => ⟨S32768x2048, .f32⟩
  | .hbm, ⟨7, _⟩ => ⟨S2048x3584, .bf16⟩
  | .hbm, ⟨8, _⟩ => ⟨S1x2048x3584, .bf16⟩
  | .hbm, ⟨9, _⟩ => ⟨S1x2048, .f32⟩
  | .hbm, ⟨10, _⟩ => ⟨S1x128, .f32⟩
  | .hbm, ⟨11, _⟩ => ⟨S32768x1024, .bf16⟩
  | .hbm, ⟨12, _⟩ => ⟨S32768x1024, .bf16⟩
  | .hbm, ⟨13, _⟩ => ⟨S2x32768x4x256, .f32⟩
  | .hbm, ⟨14, _⟩ => ⟨S32768x1024, .bf16⟩
  | .hbm, ⟨15, _⟩ => ⟨S2x32768x4x256, .f32⟩
  | .hbm, ⟨16, _⟩ => ⟨S32768x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3584, .bf16⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x4x256, .f32⟩
  | .local _ .vmem, ⟨10, _⟩ => ⟨S1x512x4x256, .f32⟩
  | .local _ .vmem, ⟨11, _⟩ => ⟨S512x1024, .bf16⟩
  | .local _ .vmem, ⟨12, _⟩ => ⟨S512x1024, .bf16⟩
  | .local _ .vmem, ⟨13, _⟩ => ⟨S1x512x4x256, .f32⟩
  | .local _ .vmem, ⟨14, _⟩ => ⟨S1x512x4x256, .f32⟩
  | .local _ .vmem, ⟨15, _⟩ => ⟨S512x512, .bf16⟩
  | .local _ .vmem, ⟨16, _⟩ => ⟨S512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S2x16384x2048 : Shape := ⟨3, ![2, 16384, 2048]⟩
abbrev S2048 : Shape := ⟨1, ![2048]⟩
abbrev S2048x3584 : Shape := ⟨2, ![2048, 3584]⟩
abbrev S128 : Shape := ⟨1, ![128]⟩
abbrev S2x32768x4x256 : Shape := ⟨4, ![2, 32768, 4, 256]⟩
abbrev S_ : Shape := ⟨0, ![]⟩
abbrev S2x16384 : Shape := ⟨2, ![2, 16384]⟩
abbrev S2x16384x1 : Shape := ⟨3, ![2, 16384, 1]⟩
abbrev S2048x1 : Shape := ⟨2, ![2048, 1]⟩
abbrev S2048x1024 : Shape := ⟨2, ![2048, 1024]⟩
abbrev S2x16384x1024 : Shape := ⟨3, ![2, 16384, 1024]⟩
abbrev S2x16384x4x256 : Shape := ⟨4, ![2, 16384, 4, 256]⟩
abbrev S2048x512 : Shape := ⟨2, ![2048, 512]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S32768x1024 : Shape := ⟨2, ![32768, 1024]⟩
abbrev S1x32768x4x256 : Shape := ⟨4, ![1, 32768, 4, 256]⟩
abbrev S32768x4x256 : Shape := ⟨3, ![32768, 4, 256]⟩
abbrev S32768x512 : Shape := ⟨2, ![32768, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S2x32768x4x256, .f32⟩
  | .hbm, ⟨5, _⟩ => ⟨S2x32768x4x256, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S2048x1, .f32⟩
  | .hbm, ⟨20, _⟩ => ⟨S2048x3584, .f32⟩
  | .hbm, ⟨21, _⟩ => ⟨S2048x3584, .f32⟩
  | .hbm, ⟨22, _⟩ => ⟨S2048x1024, .f32⟩
  | .hbm, ⟨23, _⟩ => ⟨S2x16384x1024, .f32⟩
  | .hbm, ⟨24, _⟩ => ⟨S2x16384x4x256, .f32⟩
  | .hbm, ⟨25, _⟩ => ⟨S2048x1024, .f32⟩
  | .hbm, ⟨26, _⟩ => ⟨S2x16384x1024, .f32⟩
  | .hbm, ⟨27, _⟩ => ⟨S2x16384x4x256, .f32⟩
  | .hbm, ⟨28, _⟩ => ⟨S2048x1024, .f32⟩
  | .hbm, ⟨29, _⟩ => ⟨S2x16384x1024, .f32⟩
  | .hbm, ⟨30, _⟩ => ⟨S2x16384x4x256, .f32⟩
  | .hbm, ⟨31, _⟩ => ⟨S2048x512, .f32⟩
  | .hbm, ⟨32, _⟩ => ⟨S2x16384x512, .f32⟩
  | .hbm, ⟨33, _⟩ => ⟨S2x16384x4x128, .f32⟩
  | .hbm, ⟨34, _⟩ => ⟨S_, .f32⟩
  | .hbm, ⟨35, _⟩ => ⟨S2x16384x4x256, .f32⟩
  | .hbm, ⟨36, _⟩ => ⟨S2x16384x4x256, .f32⟩
  | .hbm, ⟨37, _⟩ => ⟨S2x16384x4x128, .f32⟩
  | .hbm, ⟨38, _⟩ => ⟨S_, .f32⟩
  | .hbm, ⟨39, _⟩ => ⟨S2x16384x4, .f32⟩
  | .hbm, ⟨40, _⟩ => ⟨S2x16384x4x1, .f32⟩
  | .hbm, ⟨41, _⟩ => ⟨S_, .f32⟩
  | .hbm, ⟨42, _⟩ => ⟨S2x16384x4x1, .f32⟩
  | .hbm, ⟨43, _⟩ => ⟨S2x16384x4x1, .f32⟩
  | .hbm, ⟨44, _⟩ => ⟨S_, .f32⟩
  | .hbm, ⟨45, _⟩ => ⟨S2x16384x4x1, .f32⟩
  | .hbm, ⟨46, _⟩ => ⟨S2x16384x4x1, .f32⟩
  | .hbm, ⟨47, _⟩ => ⟨S2x16384x4x1, .f32⟩
  | .hbm, ⟨48, _⟩ => ⟨S2x16384x4x128, .f32⟩
  | .hbm, ⟨49, _⟩ => ⟨S2x16384x4x128, .f32⟩
  | .hbm, ⟨50, _⟩ => ⟨S1x1x1x128, .f32⟩
  | .hbm, ⟨51, _⟩ => ⟨S2x16384x4x128, .f32⟩
  | .hbm, ⟨52, _⟩ => ⟨S2x16384x4x128, .f32⟩
  | .hbm, ⟨53, _⟩ => ⟨S_, .f32⟩
  | .hbm, ⟨54, _⟩ => ⟨S2x16384x4x128, .f32⟩
  | .hbm, ⟨55, _⟩ => ⟨S2x16384x4x128, .f32⟩
  | .hbm, ⟨56, _⟩ => ⟨S32768x1024, .f32⟩
  | .hbm, ⟨57, _⟩ => ⟨S32768x1024, .bf16⟩
  | .hbm, ⟨58, _⟩ => ⟨S32768x1024, .f32⟩
  | .hbm, ⟨59, _⟩ => ⟨S32768x1024, .bf16⟩
  | .hbm, ⟨60, _⟩ => ⟨S1x32768x4x256, .f32⟩
  | .hbm, ⟨61, _⟩ => ⟨S32768x4x256, .f32⟩
  | .hbm, ⟨62, _⟩ => ⟨S32768x4x256, .f32⟩
  | .hbm, ⟨63, _⟩ => ⟨S1x32768x4x256, .f32⟩
  | .hbm, ⟨64, _⟩ => ⟨S1x32768x4x256, .f32⟩
  | .hbm, ⟨65, _⟩ => ⟨S2x32768x4x256, .f32⟩
  | .hbm, ⟨66, _⟩ => ⟨S32768x1024, .f32⟩
  | .hbm, ⟨67, _⟩ => ⟨S32768x1024, .bf16⟩
  | .hbm, ⟨68, _⟩ => ⟨S1x32768x4x256, .f32⟩
  | .hbm, ⟨69, _⟩ => ⟨S32768x4x256, .f32⟩
  | .hbm, ⟨70, _⟩ => ⟨S32768x4x256, .f32⟩
  | .hbm, ⟨71, _⟩ => ⟨S1x32768x4x256, .f32⟩
  | .hbm, ⟨72, _⟩ => ⟨S1x32768x4x256, .f32⟩
  | .hbm, ⟨73, _⟩ => ⟨S2x32768x4x256, .f32⟩
  | .hbm, ⟨74, _⟩ => ⟨S32768x512, .f32⟩
  | .hbm, ⟨75, _⟩ => ⟨S32768x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel6.lean ====
abbrev S2x16384x2048 : Shape := ⟨3, ![2, 16384, 2048]⟩
abbrev S2x16384x1024 : Shape := ⟨3, ![2, 16384, 1024]⟩
abbrev S2x16384x512 : Shape := ⟨3, ![2, 16384, 512]⟩
abbrev S2x256x512 : Shape := ⟨3, ![2, 256, 512]⟩
abbrev S1536x2048 : Shape := ⟨2, ![1536, 2048]⟩
abbrev S1x1536x2048 : Shape := ⟨3, ![1, 1536, 2048]⟩
abbrev S1x512x2048 : Shape := ⟨3, ![1, 512, 2048]⟩
abbrev S1x512x1024 : Shape := ⟨3, ![1, 512, 1024]⟩
abbrev S1x512x512 : Shape := ⟨3, ![1, 512, 512]⟩
abbrev S1x256x512 : Shape := ⟨3, ![1, 256, 512]⟩
abbrev S512x512 : Shape := ⟨2, ![512, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x512, .f32⟩
  | .hbm, ⟨3, _⟩ => ⟨S2x256x512, .f32⟩
  | .hbm, ⟨4, _⟩ => ⟨S2x256x512, .f32⟩
  | .hbm, ⟨5, _⟩ => ⟨S1536x2048, .f32⟩
  | .hbm, ⟨6, _⟩ => ⟨S2x16384x1024, .bf16⟩
  | .hbm, ⟨7, _⟩ => ⟨S2x16384x512, .bf16⟩
  | .hbm, ⟨8, _⟩ => ⟨S2x256x512, .bf16⟩
  | .hbm, ⟨9, _⟩ => ⟨S2x256x512, .bf16⟩
  | .hbm, ⟨10, _⟩ => ⟨S1536x2048, .bf16⟩
  | .hbm, ⟨11, _⟩ => ⟨S1x1536x2048, .bf16⟩
  | .hbm, ⟨12, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1536x2048, .bf16⟩
  | .local _ .vmem, ⟨11, _⟩ => ⟨S1x512x2048, .f32⟩
  | .local _ .vmem, ⟨12, _⟩ => ⟨S1x512x2048, .f32⟩
  | .local _ .vmem, ⟨13, _⟩ => ⟨S512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x16384x2048 : Shape := ⟨3, ![2, 16384, 2048]⟩
abbrev S2x16384x1024 : Shape := ⟨3, ![2, 16384, 1024]⟩
abbrev S2x16384x512 : Shape := ⟨3, ![2, 16384, 512]⟩
abbrev S2x256x512 : Shape := ⟨3, ![2, 256, 512]⟩
abbrev S1536x2048 : Shape := ⟨2, ![1536, 2048]⟩
abbrev S2x16384x4x128 : Shape := ⟨4, ![2, 16384, 4, 128]⟩
abbrev S2x256x4x128 : Shape := ⟨4, ![2, 256, 4, 128]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x1536 : Shape := ⟨3, ![2, 16384, 1536]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x512, .f32⟩
  | .hbm, ⟨3, _⟩ => ⟨S2x256x512, .f32⟩
  | .hbm, ⟨4, _⟩ => ⟨S2x256x512, .f32⟩
  | .hbm, ⟨5, _⟩ => ⟨S1536x2048, .f32⟩
  | .hbm, ⟨6, _⟩ => ⟨S2x16384x4x128, .f32⟩
  | .hbm, ⟨7, _⟩ => ⟨S2x256x4x128, .f32⟩
  | .hbm, ⟨8, _⟩ => ⟨S2x256x4x128, .f32⟩
  | .hbm, ⟨9, _⟩ => ⟨S2x4x16384x256, .f32⟩
  | .hbm, ⟨10, _⟩ => ⟨S_, .f32⟩
  | .hbm, ⟨11, _⟩ => ⟨S2x4x16384, .f32⟩
  | .hbm, ⟨12, _⟩ => ⟨S_, .f32⟩
  | .hbm, ⟨13, _⟩ => ⟨S2x4x16384, .f32⟩
  | .hbm, ⟨14, _⟩ => ⟨S2x4x16384, .f32⟩
  | .hbm, ⟨15, _⟩ => ⟨S2x4x16384x1, .f32⟩
  | .hbm, ⟨16, _⟩ => ⟨S2x4x16384x256, .f32⟩
  | .hbm, ⟨17, _⟩ => ⟨S2x4x16384x256, .f32⟩
  | .hbm, ⟨18, _⟩ => ⟨S2x4x16384x256, .f32⟩
  | .hbm, ⟨19, _⟩ => ⟨S_, .f32⟩
  | .hbm, ⟨20, _⟩ => ⟨S2x4x16384, .f32⟩
  | .hbm, ⟨21, _⟩ => ⟨S2x4x16384x1, .f32⟩
  | .hbm, ⟨22, _⟩ => ⟨S2x4x16384x256, .f32⟩
  | .hbm, ⟨23, _⟩ => ⟨S2x4x16384x256, .f32⟩
  | .hbm, ⟨24, _⟩ => ⟨S2x4x128x16384, .f32⟩
  | .hbm, ⟨25, _⟩ => ⟨S2x16384x4x128, .f32⟩
  | .hbm, ⟨26, _⟩ => ⟨S2x16384x512, .f32⟩
  | .hbm, ⟨27, _⟩ => ⟨S2x16384x1536, .f32⟩
  | .hbm, ⟨28, _⟩ => ⟨S2x16384x2048, .f32⟩
  | .hbm, ⟨29, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel8.lean ====
abbrev S32x16x2048 : Shape := ⟨3, ![32, 16, 2048]⟩
abbrev S2048 : Shape := ⟨1, ![2048]⟩
abbrev S2048x3584 : Shape := ⟨2, ![2048, 3584]⟩
abbrev S128 : Shape := ⟨1, ![128]⟩
abbrev S2x512x4x256 : Shape := ⟨4, ![2, 512, 4, 256]⟩
abbrev S512x2048 : Shape := ⟨2, ![512, 2048]⟩
abbrev S1x2048x3584 : Shape := ⟨3, ![1, 2048, 3584]⟩
abbrev S1x2048 : Shape := ⟨2, ![1, 2048]⟩
abbrev S1x128 : Shape := ⟨2, ![1, 128]⟩
abbrev S512x1024 : Shape := ⟨2, ![512, 1024]⟩
abbrev S512x512 : Shape := ⟨2, ![512, 512]⟩
abbrev S1x512x4x256 : Shape := ⟨4, ![1, 512, 4, 256]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x256 : Shape := ⟨2, ![512, 256]⟩
abbrev S1x512x1x256 : Shape := ⟨4, ![1, 512, 1, 256]⟩
abbrev S512x128 : Shape := ⟨2, ![512, 128]⟩

abbrev nBuf : Space → Nat
  | .hbm => 17
  | .vmem => 10
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S2x512x4x256, .f32⟩
  | .hbm, ⟨5, _⟩ => ⟨S2x512x4x256, .f32⟩
  | .hbm, ⟨6, _⟩ => ⟨S512x2048, .f32⟩
  | .hbm, ⟨7, _⟩ => ⟨S2048x3584, .bf16⟩
  | .hbm, ⟨8, _⟩ => ⟨S1x2048x3584, .bf16⟩
  | .hbm, ⟨9, _⟩ => ⟨S1x2048, .f32⟩
  | .hbm, ⟨10, _⟩ => ⟨S1x128, .f32⟩
  | .hbm, ⟨11, _⟩ => ⟨S512x1024, .bf16⟩
  | .hbm, ⟨12, _⟩ => ⟨S512x1024, .bf16⟩
  | .hbm, ⟨13, _⟩ => ⟨S2x512x4x256, .f32⟩
  | .hbm, ⟨14, _⟩ => ⟨S512x1024, .bf16⟩
  | .hbm, ⟨15, _⟩ => ⟨S2x512x4x256, .f32⟩
  | .hbm, ⟨16, _⟩ => ⟨S512x512, .bf16⟩
  | .local _ .vmem, ⟨0, _⟩ => ⟨S512x2048, .f32⟩
  | .local _ .vmem, ⟨1, _⟩ => ⟨S1x2048, .f32⟩
  | .local _ .vmem, ⟨2, _⟩ => ⟨S1x2048x3584, .bf16⟩
  | .local _ .vmem, ⟨3, _⟩ => ⟨S1x128, .f32⟩
  | .local _ .vmem, ⟨4, _⟩ => ⟨S512x1024, .bf16⟩
  | .local _ .vmem, ⟨5, _⟩ => ⟨S512x1024, .bf16⟩
  | .local _ .vmem, ⟨6, _⟩ => ⟨S1x512x4x256, .f32⟩
  | .local _ .vmem, ⟨7, _⟩ => ⟨S512x1024, .bf16⟩
  | .local _ .vmem, ⟨8, _⟩ => ⟨S1x512x4x256, .f32⟩
  | .local _ .vmem, ⟨9, _⟩ => ⟨S512x512, .bf16⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x512x4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference8Ideal.lean ====
abbrev S32x16x2048 : Shape := ⟨3, ![32, 16, 2048]⟩
abbrev S2048 : Shape := ⟨1, ![2048]⟩
abbrev S2048x3584 : Shape := ⟨2, ![2048, 3584]⟩
abbrev S128 : Shape := ⟨1, ![128]⟩
abbrev S2x512x4x256 : Shape := ⟨4, ![2, 512, 4, 256]⟩
abbrev S_ : Shape := ⟨0, ![]⟩
abbrev S32x16 : Shape := ⟨2, ![32, 16]⟩
abbrev S32x16x1 : Shape := ⟨3, ![32, 16, 1]⟩
abbrev S2048x1 : Shape := ⟨2, ![2048, 1]⟩
abbrev S2048x1024 : Shape := ⟨2, ![2048, 1024]⟩
abbrev S32x16x1024 : Shape := ⟨3, ![32, 16, 1024]⟩
abbrev S32x16x4x256 : Shape := ⟨4, ![32, 16, 4, 256]⟩
abbrev S2048x512 : Shape := ⟨2, ![2048, 512]⟩
abbrev S32x16x512 : Shape := ⟨3, ![32, 16, 512]⟩
abbrev S32x16x4x128 : Shape := ⟨4, ![32, 16, 4, 128]⟩
abbrev S32x16x4 : Shape := ⟨3, ![32, 16, 4]⟩
abbrev S32x16x4x1 : Shape := ⟨4, ![32, 16, 4, 1]⟩
abbrev S1x1x1x128 : Shape := ⟨4, ![1, 1, 1, 128]⟩
abbrev S512x1024 : Shape := ⟨2, ![512, 1024]⟩
abbrev S1x512x4x256 : Shape := ⟨4, ![1, 512, 4, 256]⟩
abbrev S512x4x256 : Shape := ⟨3, ![512, 4, 256]⟩
abbrev S512x512 : Shape := ⟨2, ![512, 512]⟩

abbrev nBuf : Space → Nat
  | .hbm => 76
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S2x512x4x256, .f32⟩
  | .hbm, ⟨5, _⟩ => ⟨S2x512x4x256, .f32⟩
  | .hbm, ⟨6, _⟩ => ⟨S32x16x2048, .f32⟩
  | .hbm, ⟨7, _⟩ => ⟨S_, .f32⟩
  | .hbm, ⟨8, _⟩ => ⟨S32x16, .f32⟩
  | .hbm, ⟨9, _⟩ => ⟨S32x16x1, .f32⟩
  | .hbm, ⟨10, _⟩ => ⟨S_, .f32⟩
  | .hbm, ⟨11, _⟩ => ⟨S32x16x1, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S32x16x1, .f32⟩
  | .hbm, ⟨17, _⟩ => ⟨S32x16x2048, .f32⟩
  | .hbm, ⟨18, _⟩ => ⟨S32x16x2048, .f32⟩
  | .hbm, ⟨19, _⟩ => ⟨S2048x1, .f32⟩
  | .hbm, ⟨20, _⟩ => ⟨S2048x3584, .f32⟩
  | .hbm, ⟨21, _⟩ => ⟨S2048x3584, .f32⟩
  | .hbm, ⟨22, _⟩ => ⟨S2048x1024, .f32⟩
  | .hbm, ⟨23, _⟩ => ⟨S32x16x1024, .f32⟩
  | .hbm, ⟨24, _⟩ => ⟨S32x16x4x256, .f32⟩
  | .hbm, ⟨25, _⟩ => ⟨S2048x1024, .f32⟩
  | .hbm, ⟨26, _⟩ => ⟨S32x16x1024, .f32⟩
  | .hbm, ⟨27, _⟩ => ⟨S32x16x4x256, .f32⟩
  | .hbm, ⟨28, _⟩ => ⟨S2048x1024, .f32⟩
  | .hbm, ⟨29, _⟩ => ⟨S32x16x1024, .f32⟩
  | .hbm, ⟨30, _⟩ => ⟨S32x16x4x256, .f32⟩
  | .hbm, ⟨31, _⟩ => ⟨S2048x512, .f32⟩
  | .hbm, ⟨32, _⟩ => ⟨S32x16x512, .f32⟩
  | .hbm, ⟨33, _⟩ => ⟨S32x16x4x128, .f32⟩
  | .hbm, ⟨34, _⟩ => ⟨S_, .f32⟩
  | .hbm, ⟨35, _⟩ => ⟨S32x16x4x256, .f32⟩
  | .hbm, ⟨36, _⟩ => ⟨S32x16x4x256, .f32⟩
  | .hbm, ⟨37, _⟩ => ⟨S32x16x4x128, .f32⟩
  | .hbm, ⟨38, _⟩ => ⟨S_, .f32⟩
  | .hbm, ⟨39, _⟩ => ⟨S32x16x4, .f32⟩
  | .hbm, ⟨40, _⟩ => ⟨S32x16x4x1, .f32⟩
  | .hbm, ⟨41, _⟩ => ⟨S_, .f32⟩
  | .hbm, ⟨42, _⟩ => ⟨S32x16x4x1, .f32⟩
  | .hbm, ⟨43, _⟩ => ⟨S32x16x4x1, .f32⟩
  | .hbm, ⟨44, _⟩ => ⟨S_, .f32⟩
  | .hbm, ⟨45, _⟩ => ⟨S32x16x4x1, .f32⟩
  | .hbm, ⟨46, _⟩ => ⟨S32x16x4x1, .f32⟩
  | .hbm, ⟨47, _⟩ => ⟨S32x16x4x1, .f32⟩
  | .hbm, ⟨48, _⟩ => ⟨S32x16x4x128, .f32⟩
  | .hbm, ⟨49, _⟩ => ⟨S32x16x4x128, .f32⟩
  | .hbm, ⟨50, _⟩ => ⟨S1x1x1x128, .f32⟩
  | .hbm, ⟨51, _⟩ => ⟨S32x16x4x128, .f32⟩
  | .hbm, ⟨52, _⟩ => ⟨S32x16x4x128, .f32⟩
  | .hbm, ⟨53, _⟩ => ⟨S_, .f32⟩
  | .hbm, ⟨54, _⟩ => ⟨S32x16x4x128, .f32⟩
  | .hbm, ⟨55, _⟩ => ⟨S32x16x4x128, .f32⟩
  | .hbm, ⟨56, _⟩ => ⟨S512x1024, .f32⟩
  | .hbm, ⟨57, _⟩ => ⟨S512x1024, .bf16⟩
  | .hbm, ⟨58, _⟩ => ⟨S512x1024, .f32⟩
  | .hbm, ⟨59, _⟩ => ⟨S512x1024, .bf16⟩
  | .hbm, ⟨60, _⟩ => ⟨S1x512x4x256, .f32⟩
  | .hbm, ⟨61, _⟩ => ⟨S512x4x256, .f32⟩
  | .hbm, ⟨62, _⟩ => ⟨S512x4x256, .f32⟩
  | .hbm, ⟨63, _⟩ => ⟨S1x512x4x256, .f32⟩
  | .hbm, ⟨64, _⟩ => ⟨S1x512x4x256, .f32⟩
  | .hbm, ⟨65, _⟩ => ⟨S2x512x4x256, .f32⟩
  | .hbm, ⟨66, _⟩ => ⟨S512x1024, .f32⟩
  | .hbm, ⟨67, _⟩ => ⟨S512x1024, .bf16⟩
  | .hbm, ⟨68, _⟩ => ⟨S1x512x4x256, .f32⟩
  | .hbm, ⟨69, _⟩ => ⟨S512x4x256, .f32⟩
  | .hbm, ⟨70, _⟩ => ⟨S512x4x256, .f32⟩
  | .hbm, ⟨71, _⟩ => ⟨S1x512x4x256, .f32⟩
  | .hbm, ⟨72, _⟩ => ⟨S1x512x4x256, .f32⟩
  | .hbm, ⟨73, _⟩ => ⟨S2x512x4x256, .f32⟩
  | .hbm, ⟨74, _⟩ => ⟨S512x512, .f32⟩
  | .hbm, ⟨75, _⟩ => ⟨S512x512, .bf16⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel9.lean ====
abbrev S32x16x2048 : Shape := ⟨3, ![32, 16, 2048]⟩
abbrev S2048 : Shape := ⟨1, ![2048]⟩
abbrev S2048x3584 : Shape := ⟨2, ![2048, 3584]⟩
abbrev S128 : Shape := ⟨1, ![128]⟩
abbrev S2x512x8x128 : Shape := ⟨4, ![2, 512, 8, 128]⟩
abbrev S512x2048 : Shape := ⟨2, ![512, 2048]⟩
abbrev S1x2048x3584 : Shape := ⟨3, ![1, 2048, 3584]⟩
abbrev S1x2048 : Shape := ⟨2, ![1, 2048]⟩
abbrev S1x128 : Shape := ⟨2, ![1, 128]⟩
abbrev S512x1024 : Shape := ⟨2, ![512, 1024]⟩
abbrev S512x512 : Shape := ⟨2, ![512, 512]⟩
abbrev S1x512x8x128 : Shape := ⟨4, ![1, 512, 8, 128]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x128 : Shape := ⟨2, ![512, 128]⟩
abbrev S1x512x1x128 : Shape := ⟨4, ![1, 512, 1, 128]⟩

abbrev nBuf : Space → Nat
  | .hbm => 21
  | .vmem => 12
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x512x8x128, .f32⟩
  | .hbm, ⟨7, _⟩ => ⟨S2x512x8x128, .f32⟩
  | .hbm, ⟨8, _⟩ => ⟨S512x2048, .f32⟩
  | .hbm, ⟨9, _⟩ => ⟨S2048x3584, .bf16⟩
  | .hbm, ⟨10, _⟩ => ⟨S1x2048x3584, .bf16⟩
  | .hbm, ⟨11, _⟩ => ⟨S1x2048, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S512x1024, .bf16⟩
  | .hbm, ⟨16, _⟩ => ⟨S512x1024, .bf16⟩
  | .hbm, ⟨17, _⟩ => ⟨S2x512x8x128, .f32⟩
  | .hbm, ⟨18, _⟩ => ⟨S512x1024, .bf16⟩
  | .hbm, ⟨19, _⟩ => ⟨S2x512x8x128, .f32⟩
  | .hbm, ⟨20, _⟩ => ⟨S512x512, .bf16⟩
  | .local _ .vmem, ⟨0, _⟩ => ⟨S512x2048, .f32⟩
  | .local _ .vmem, ⟨1, _⟩ => ⟨S1x2048, .f32⟩
  | .local _ .vmem, ⟨2, _⟩ => ⟨S1x2048x3584, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S1x512x8x128, .f32⟩
  | .local _ .vmem, ⟨9, _⟩ => ⟨S512x1024, .bf16⟩
  | .local _ .vmem, ⟨10, _⟩ => ⟨S1x512x8x128, .f32⟩
  | .local _ .vmem, ⟨11, _⟩ => ⟨S512x512, .bf16⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x512x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x512x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference9Ideal.lean ====
abbrev S32x16x2048 : Shape := ⟨3, ![32, 16, 2048]⟩
abbrev S2048 : Shape := ⟨1, ![2048]⟩
abbrev S2048x3584 : Shape := ⟨2, ![2048, 3584]⟩
abbrev S128 : Shape := ⟨1, ![128]⟩
abbrev S2x512x8x128 : Shape := ⟨4, ![2, 512, 8, 128]⟩
abbrev S_ : Shape := ⟨0, ![]⟩
abbrev S32x16 : Shape := ⟨2, ![32, 16]⟩
abbrev S32x16x1 : Shape := ⟨3, ![32, 16, 1]⟩
abbrev S2048x1 : Shape := ⟨2, ![2048, 1]⟩
abbrev S2048x1024 : Shape := ⟨2, ![2048, 1024]⟩
abbrev S32x16x1024 : Shape := ⟨3, ![32, 16, 1024]⟩
abbrev S32x16x8x128 : Shape := ⟨4, ![32, 16, 8, 128]⟩
abbrev S2048x512 : Shape := ⟨2, ![2048, 512]⟩
abbrev S32x16x512 : Shape := ⟨3, ![32, 16, 512]⟩
abbrev S32x16x4x128 : Shape := ⟨4, ![32, 16, 4, 128]⟩
abbrev S32x16x8 : Shape := ⟨3, ![32, 16, 8]⟩
abbrev S32x16x8x1 : Shape := ⟨4, ![32, 16, 8, 1]⟩
abbrev S1x1x1x128 : Shape := ⟨4, ![1, 1, 1, 128]⟩
abbrev S32x16x4 : Shape := ⟨3, ![32, 16, 4]⟩
abbrev S32x16x4x1 : Shape := ⟨4, ![32, 16, 4, 1]⟩
abbrev S512x1024 : Shape := ⟨2, ![512, 1024]⟩
abbrev S1x512x8x128 : Shape := ⟨4, ![1, 512, 8, 128]⟩
abbrev S512x8x128 : Shape := ⟨3, ![512, 8, 128]⟩
abbrev S512x512 : Shape := ⟨2, ![512, 512]⟩

abbrev nBuf : Space → Nat
  | .hbm => 110
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S2048, .f32⟩
  | .hbm, ⟨2, _⟩ => ⟨S2048x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x512x8x128, .f32⟩
  | .hbm, ⟨7, _⟩ => ⟨S2x512x8x128, .f32⟩
  | .hbm, ⟨8, _⟩ => ⟨S32x16x2048, .f32⟩
  | .hbm, ⟨9, _⟩ => ⟨S_, .f32⟩
  | .hbm, ⟨10, _⟩ => ⟨S32x16, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S_, .f32⟩
  | .hbm, ⟨16, _⟩ => ⟨S32x16x1, .f32⟩
  | .hbm, ⟨17, _⟩ => ⟨S32x16x1, .f32⟩
  | .hbm, ⟨18, _⟩ => ⟨S32x16x1, .f32⟩
  | .hbm, ⟨19, _⟩ => ⟨S32x16x2048, .f32⟩
  | .hbm, ⟨20, _⟩ => ⟨S32x16x2048, .f32⟩
  | .hbm, ⟨21, _⟩ => ⟨S2048x1, .f32⟩
  | .hbm, ⟨22, _⟩ => ⟨S2048x3584, .f32⟩
  | .hbm, ⟨23, _⟩ => ⟨S2048x3584, .f32⟩
  | .hbm, ⟨24, _⟩ => ⟨S2048x1024, .f32⟩
  | .hbm, ⟨25, _⟩ => ⟨S32x16x1024, .f32⟩
  | .hbm, ⟨26, _⟩ => ⟨S32x16x8x128, .f32⟩
  | .hbm, ⟨27, _⟩ => ⟨S2048x1024, .f32⟩
  | .hbm, ⟨28, _⟩ => ⟨S32x16x1024, .f32⟩
  | .hbm, ⟨29, _⟩ => ⟨S32x16x8x128, .f32⟩
  | .hbm, ⟨30, _⟩ => ⟨S2048x1024, .f32⟩
  | .hbm, ⟨31, _⟩ => ⟨S32x16x1024, .f32⟩
  | .hbm, ⟨32, _⟩ => ⟨S32x16x8x128, .f32⟩
  | .hbm, ⟨33, _⟩ => ⟨S2048x512, .f32⟩
  | .hbm, ⟨34, _⟩ => ⟨S32x16x512, .f32⟩
  | .hbm, ⟨35, _⟩ => ⟨S32x16x4x128, .f32⟩
  | .hbm, ⟨36, _⟩ => ⟨S32x16x8x128, .f32⟩
  | .hbm, ⟨37, _⟩ => ⟨S_, .f32⟩
  | .hbm, ⟨38, _⟩ => ⟨S32x16x8, .f32⟩
  | .hbm, ⟨39, _⟩ => ⟨S32x16x8x1, .f32⟩
  | .hbm, ⟨40, _⟩ => ⟨S_, .f32⟩
  | .hbm, ⟨41, _⟩ => ⟨S32x16x8x1, .f32⟩
  | .hbm, ⟨42, _⟩ => ⟨S32x16x8x1, .f32⟩
  | .hbm, ⟨43, _⟩ => ⟨S_, .f32⟩
  | .hbm, ⟨44, _⟩ => ⟨S32x16x8x1, .f32⟩
  | .hbm, ⟨45, _⟩ => ⟨S32x16x8x1, .f32⟩
  | .hbm, ⟨46, _⟩ => ⟨S32x16x8x1, .f32⟩
  | .hbm, ⟨47, _⟩ => ⟨S32x16x8x128, .f32⟩
  | .hbm, ⟨48, _⟩ => ⟨S32x16x8x128, .f32⟩
  | .hbm, ⟨49, _⟩ => ⟨S1x1x1x128, .f32⟩
  | .hbm, ⟨50, _⟩ => ⟨S32x16x8x128, .f32⟩
  | .hbm, ⟨51, _⟩ => ⟨S32x16x8x128, .f32⟩
  | .hbm, ⟨52, _⟩ => ⟨S_, .f32⟩
  | .hbm, ⟨53, _⟩ => ⟨S32x16x8x128, .f32⟩
  | .hbm, ⟨54, _⟩ => ⟨S32x16x8x128, .f32⟩
  | .hbm, ⟨55, _⟩ => ⟨S32x16x8x128, .f32⟩
  | .hbm, ⟨56, _⟩ => ⟨S_, .f32⟩
  | .hbm, ⟨57, _⟩ => ⟨S32x16x8, .f32⟩
  | .hbm, ⟨58, _⟩ => ⟨S32x16x8x1, .f32⟩
  | .hbm, ⟨59, _⟩ => ⟨S_, .f32⟩
  | .hbm, ⟨60, _⟩ => ⟨S32x16x8x1, .f32⟩
  | .hbm, ⟨61, _⟩ => ⟨S32x16x8x1, .f32⟩
  | .hbm, ⟨62, _⟩ => ⟨S_, .f32⟩
  | .hbm, ⟨63, _⟩ => ⟨S32x16x8x1, .f32⟩
  | .hbm, ⟨64, _⟩ => ⟨S32x16x8x1, .f32⟩
  | .hbm, ⟨65, _⟩ => ⟨S32x16x8x1, .f32⟩
  | .hbm, ⟨66, _⟩ => ⟨S32x16x8x128, .f32⟩
  | .hbm, ⟨67, _⟩ => ⟨S32x16x8x128, .f32⟩
  | .hbm, ⟨68, _⟩ => ⟨S1x1x1x128, .f32⟩
  | .hbm, ⟨69, _⟩ => ⟨S32x16x8x128, .f32⟩
  | .hbm, ⟨70, _⟩ => ⟨S32x16x8x128, .f32⟩
  | .hbm, ⟨71, _⟩ => ⟨S32x16x4x128, .f32⟩
  | .hbm, ⟨72, _⟩ => ⟨S_, .f32⟩
  | .hbm, ⟨73, _⟩ => ⟨S32x16x4, .f32⟩
  | .hbm, ⟨74, _⟩ => ⟨S32x16x4x1, .f32⟩
  | .hbm, ⟨75, _⟩ => ⟨S_, .f32⟩
  | .hbm, ⟨76, _⟩ => ⟨S32x16x4x1, .f32⟩
  | .hbm, ⟨77, _⟩ => ⟨S32x16x4x1, .f32⟩
  | .hbm, ⟨78, _⟩ => ⟨S_, .f32⟩
  | .hbm, ⟨79, _⟩ => ⟨S32x16x4x1, .f32⟩
  | .hbm, ⟨80, _⟩ => ⟨S32x16x4x1, .f32⟩
  | .hbm, ⟨81, _⟩ => ⟨S32x16x4x1, .f32⟩
  | .hbm, ⟨82, _⟩ => ⟨S32x16x4x128, .f32⟩
  | .hbm, ⟨83, _⟩ => ⟨S32x16x4x128, .f32⟩
  | .hbm, ⟨84, _⟩ => ⟨S1x1x1x128, .f32⟩
  | .hbm, ⟨85, _⟩ => ⟨S32x16x4x128, .f32⟩
  | .hbm, ⟨86, _⟩ => ⟨S32x16x4x128, .f32⟩
  | .hbm, ⟨87, _⟩ => ⟨S_, .f32⟩
  | .hbm, ⟨88, _⟩ => ⟨S32x16x4x128, .f32⟩
  | .hbm, ⟨89, _⟩ => ⟨S32x16x4x128, .f32⟩
  | .hbm, ⟨90, _⟩ => ⟨S512x1024, .f32⟩
  | .hbm, ⟨91, _⟩ => ⟨S512x1024, .bf16⟩
  | .hbm, ⟨92, _⟩ => ⟨S512x1024, .f32⟩
  | .hbm, ⟨93, _⟩ => ⟨S512x1024, .bf16⟩
  | .hbm, ⟨94, _⟩ => ⟨S1x512x8x128, .f32⟩
  | .hbm, ⟨95, _⟩ => ⟨S512x8x128, .f32⟩
  | .hbm, ⟨96, _⟩ => ⟨S512x8x128, .f32⟩
  | .hbm, ⟨97, _⟩ => ⟨S1x512x8x128, .f32⟩
  | .hbm, ⟨98, _⟩ => ⟨S1x512x8x128, .f32⟩
  | .hbm, ⟨99, _⟩ => ⟨S2x512x8x128, .f32⟩
  | .hbm, ⟨100, _⟩ => ⟨S512x1024, .f32⟩
  | .hbm, ⟨101, _⟩ => ⟨S512x1024, .bf16⟩
  | .hbm, ⟨102, _⟩ => ⟨S1x512x8x128, .f32⟩
  | .hbm, ⟨103, _⟩ => ⟨S512x8x128, .f32⟩
  | .hbm, ⟨104, _⟩ => ⟨S512x8x128, .f32⟩
  | .hbm, ⟨105, _⟩ => ⟨S1x512x8x128, .f32⟩
  | .hbm, ⟨106, _⟩ => ⟨S1x512x8x128, .f32⟩
  | .hbm, ⟨107, _⟩ => ⟨S2x512x8x128, .f32⟩
  | .hbm, ⟨108, _⟩ => ⟨S512x512, .f32⟩
  | .hbm, ⟨109, _⟩ => ⟨S512x512, .bf16⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== Proof.Softmax.lean ====
/- The equation between the two ways in which a row of banded attention is written: over a window of keys, with
   powers of two, dividing once at the end; and over all the keys, with exponentials, dividing every weight. -/
module

public import Idealize.ShloMosaic.PureOps.Ideal
public import Idealize.ShloMosaic.Lib.Pipeline.ValueKit

@[expose] public section

noncomputable section

namespace Cert.Band

open Idealize.ShloMosaic

/-- A nonnegative real factor distributes over a finite sum of extended reals. -/
theorem real_mul_sum {ι : Type*} (S : Finset ι) (f : ι → EReal) (r : ℝ) (hr : 0 ≤ r) :
    (r : EReal) * ∑ i ∈ S, f i = ∑ i ∈ S, (r : EReal) * f i := by
  classical
  induction S using Finset.induction_on with
  | empty => simp
  | insert i S hi ih =>
    rw [Finset.sum_insert hi, Finset.sum_insert hi, ← ih,
      EReal.left_distrib_of_nonneg_of_ne_top (by exact_mod_cast hr) (EReal.coe_ne_top r)]

/-- A sum of reals, read as extended reals, is the real sum. -/
theorem coe_sum {ι : Type*} (S : Finset ι) (f : ι → ℝ) :
    ∑ i ∈ S, ((f i : ℝ) : EReal) = ((∑ i ∈ S, f i : ℝ) : EReal) := by
  classical
  induction S using Finset.induction_on with
  | empty => simp
  | insert i S hi ih => rw [Finset.sum_insert hi, Finset.sum_insert hi, ih, EReal.coe_add]

/-- A finite maximum from −∞ is a real number that bounds every entry and is one of them. -/
theorem fold_max_eq {ι : Type*} [Fintype ι] (s : ι → EReal) (M : ℝ) (i₀ : ι) (h₀ : s i₀ = M) (h : ∀ i, s i ≤ M) :
    Finset.univ.fold max ⊥ s = (M : EReal) :=
  le_antisymm ((Finset.fold_max_le _).2 ⟨bot_le, fun i _ => h i⟩)
    ((Finset.le_fold_max _).2 (.inr ⟨i₀, Finset.mem_univ _, h₀.ge⟩))

/-- A power of two of a real number over log 2 is the exponential of the number. -/
theorem exp2_eq (x : ℝ) : Ideal.exp2 (((Real.log 2)⁻¹ * x : ℝ) : EReal) = ((Real.exp x : ℝ) : EReal) := by
  show ((Real.rpow 2 ((Real.log 2)⁻¹ * x) : ℝ) : EReal) = _
  have h : Real.log 2 ≠ 0 := (Real.log_pos (by norm_num)).ne'
  congr 1
  show (2 : ℝ) ^ ((Real.log 2)⁻¹ * x) = _
  rw [Real.rpow_def_of_pos (by norm_num), mul_inv_cancel_left₀ h]

variable {ι κ : Type*} [Fintype ι] [Fintype κ] [DecidableEq ι] [DecidableEq κ]

/-- A sum over window columns, of which only those in `A` contribute, is the sum over the keys in `B` that
    these columns hold. -/
theorem sum_window (A : Finset ι) (B : Finset κ) (key : ι → κ) (col : κ → ι)
    (hA : ∀ c ∈ A, key c ∈ B ∧ col (key c) = c) (hB : ∀ y ∈ B, col y ∈ A ∧ key (col y) = y)
    (f : ι → EReal) (g : κ → EReal) (hf : ∀ c ∉ A, f c = 0) (hfg : ∀ c ∈ A, f c = g (key c)) :
    ∑ c, f c = ∑ y ∈ B, g y := by
  rw [← Finset.sum_subset (Finset.subset_univ A) (fun c _ hc => hf c hc)]
  exact Finset.sum_bij' (fun c _ => key c) (fun y _ => col y) (fun c hc => (hA c hc).1) (fun y hy => (hB y hy).1)
    (fun c hc => (hA c hc).2) (fun y hy => (hB y hy).2) hfg

/-- One row of the attention. The window's columns in `A` hold the keys in `B`, at scores `a`; every other
    column and every other key is masked by −∞. Powers of two of the scores over log 2, weighted and divided by
    their sum at the end, give what the softmax over all the keys gives. -/
theorem window_softmax (A : Finset ι) (B : Finset κ) (key : ι → κ) (col : κ → ι)
    (hA : ∀ c ∈ A, key c ∈ B ∧ col (key c) = c) (hB : ∀ y ∈ B, col y ∈ A ∧ key (col y) = y) (hne : B.Nonempty)
    (a : κ → ℝ) (s w : ι → EReal) (t W : κ → EReal)
    (hs : ∀ c ∈ A, s c = (((Real.log 2)⁻¹ * a (key c) : ℝ) : EReal)) (hs' : ∀ c ∉ A, s c = ⊥)
    (ht : ∀ y ∈ B, t y = (a y : EReal)) (ht' : ∀ y ∉ B, t y = ⊥)
    (hw : ∀ c ∈ A, w c = W (key c)) :
    Ideal.div (∑ c, Ideal.exp2 (s c - Finset.univ.fold max ⊥ s) * w c)
        (∑ c, Ideal.exp2 (s c - Finset.univ.fold max ⊥ s))
      = ∑ y, W y * Ideal.div (Ideal.exp (t y - Finset.univ.fold max ⊥ t))
          (∑ y, Ideal.exp (t y - Finset.univ.fold max ⊥ t)) := by
  have hlog : 0 < (Real.log 2)⁻¹ := inv_pos.2 (Real.log_pos (by norm_num))
  obtain ⟨y₀, hy₀, hM⟩ := B.exists_max_image a hne
  have hts : Finset.univ.fold max ⊥ t = ((a y₀ : ℝ) : EReal) := by
    refine fold_max_eq t _ y₀ (ht _ hy₀) fun y => ?_
    by_cases hy : y ∈ B
    · rw [ht y hy]; exact_mod_cast hM y hy
    · rw [ht' y hy]; exact bot_le
  have hss : Finset.univ.fold max ⊥ s = (((Real.log 2)⁻¹ * a y₀ : ℝ) : EReal) := by
    refine fold_max_eq s _ (col y₀) (by rw [hs _ (hB _ hy₀).1, (hB _ hy₀).2]) fun c => ?_
    by_cases hc : c ∈ A
    · rw [hs c hc]
      exact_mod_cast mul_le_mul_of_nonneg_left (hM _ (hA c hc).1) hlog.le
    · rw [hs' c hc]; exact bot_le
  have hx2 : ∀ c ∈ A, Ideal.exp2 (s c - (((Real.log 2)⁻¹ * a y₀ : ℝ) : EReal))
      = ((Real.exp (a (key c) - a y₀) : ℝ) : EReal) := fun c hc => by
    rw [hs c hc, ← EReal.coe_sub, ← mul_sub, exp2_eq]
  have hx2' : ∀ c ∉ A, Ideal.exp2 (s c - (((Real.log 2)⁻¹ * a y₀ : ℝ) : EReal)) = 0 := fun c hc => by
    rw [hs' c hc, EReal.bot_sub]; rfl
  have hx : ∀ y ∈ B, Ideal.exp (t y - ((a y₀ : ℝ) : EReal)) = ((Real.exp (a y - a y₀) : ℝ) : EReal) := fun y hy => by
    rw [ht y hy, ← EReal.coe_sub]; rfl
  have hx' : ∀ y ∉ B, Ideal.exp (t y - ((a y₀ : ℝ) : EReal)) = 0 := fun y hy => by
    rw [ht' y hy, EReal.bot_sub]; rfl
  rw [hts, hss]
  set D : ℝ := ∑ y ∈ B, Real.exp (a y - a y₀) with hD
  have hDpos : 0 < D := Finset.sum_pos (fun _ _ => Real.exp_pos _) hne
  have hden : ∑ c, Ideal.exp2 (s c - (((Real.log 2)⁻¹ * a y₀ : ℝ) : EReal)) = (D : EReal) := by
    rw [sum_window A B key col hA hB _ (fun y => ((Real.exp (a y - a y₀) : ℝ) : EReal)) hx2' hx2, coe_sum]
  have hnum : ∑ c, Ideal.exp2 (s c - (((Real.log 2)⁻¹ * a y₀ : ℝ) : EReal)) * w c
      = ∑ y ∈ B, ((Real.exp (a y - a y₀) : ℝ) : EReal) * W y :=
    sum_window A B key col hA hB _ _ (fun c hc => by rw [hx2' c hc, zero_mul])
      (fun c hc => by rw [hx2 c hc, hw c hc])
  have hden' : ∑ y, Ideal.exp (t y - ((a y₀ : ℝ) : EReal)) = (D : EReal) := by
    rw [← Finset.sum_subset (Finset.subset_univ B) (fun y _ hy => hx' y hy), Finset.sum_congr rfl hx, coe_sum]
  have hdiv : ∀ x : EReal, Ideal.div x (D : EReal) = ((D⁻¹ : ℝ) : EReal) * x := fun x => by
    rw [Ideal.div_coe hDpos.ne', one_div, mul_comm]
  rw [hden, hnum, hden', hdiv, real_mul_sum _ _ _ (inv_pos.2 hDpos).le,
    ← Finset.sum_subset (Finset.subset_univ B) (fun y _ hy => by rw [hx' y hy, hdiv, mul_zero, mul_zero])]
  refine Finset.sum_congr rfl fun y hy => ?_
  rw [hx y hy, hdiv, ← mul_assoc, mul_comm]

end Cert.Band

end
-- ==== Proof.Block.lean ====
/- What the band attention's body leaves in its output block, as one formula of the blocks it loads. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Band
open Cert.KernelIdeal Cert.KernelIdeal.Gen

/-- Row `c` of the three key (or value) tiles laid one after the other, at lane `d` of one head. -/
def row3 (k0 k1 k2 : Vec Ideal S1x256x128 .bf16) (c : Fin 768) (d : Fin 128) : EReal :=
  if h : (c : ℕ) < 256 then k0 (ix3 0 ⟨c, h⟩ d)
  else if h' : (c : ℕ) - 256 < 256 then k1 (ix3 0 ⟨c - 256, h'⟩ d)
  else k2 (ix3 0 ⟨c - 256 - 256, by omega⟩ d)

/-- Row `c` of the three key (or value) tiles laid one after the other, at lane `d`. -/
def tile3 (k0 k1 k2 : Vec Ideal S1x256x1024 .bf16) (c : Fin 768) (d : Fin 1024) : EReal :=
  if h : (c : ℕ) < 256 then k0 (ix3 0 ⟨c, h⟩ d)
  else if h' : (c : ℕ) - 256 < 256 then k1 (ix3 0 ⟨c - 256, h'⟩ d)
  else k2 (ix3 0 ⟨c - 256 - 256, by omega⟩ d)

/-- The score of query row `r` against window column `c` of one head, with its bias. -/
def score1 (q k0 k1 k2 : Vec Ideal S1x256x128 .bf16) (b : Vec Ideal S1x1x256x768 .f32) (r : Fin 256) (c : Fin 768) : EReal :=
  (∑ d : Fin 128, q (ix3 0 r d) * row3 k0 k1 k2 c d) + b (ix4 0 0 r c)

/-- Powers of two of the scores, weighted, and divided at the end by their sum. -/
def mix (s w : Fin 768 → EReal) : EReal :=
  Ideal.div (∑ c, Ideal.exp2 (s c - Finset.univ.fold max ⊥ s) * w c) (∑ c, Ideal.exp2 (s c - Finset.univ.fold max ⊥ s))

theorem negInf : Ideal.ofBits FTy.f32 4286578688#32 = (⊥ : EReal) := by
  simp [Ideal.ofBits, Ideal.ieee]

/-- The scores of one head, entry by entry. -/
theorem scores_at (q k0 k1 k2 : Vec Ideal S1x256x128 .bf16) (b : Vec Ideal S1x1x256x768 .f32) (i : S256x768.Idx) :
    k0_pay2 k0 k1 k2 q b i = score1 q k0 k1 k2 b (i 0) (i 1) := by
  pointwise [k0_pay2, score1, row3]

/-- One head's output block, entry by entry. -/
theorem head_at (s : FVec Ideal S256x768 .f32) (v0 v1 v2 : Vec Ideal S1x256x128 .bf16) (x : S1x256x128.Idx) :
    k0_pay5 s v0 v1 v2 x = mix (fun c => s (ix2 (x 1) c)) (fun c => row3 v0 v1 v2 c (x 2)) := by
  pointwise [k0_pay5, mix, row3, negInf]
  rfl

/-- The output block at row `r` and lane `w`, from the blocks the body loads: the head is `w / 128`. -/
def outAt (q k0 k1 k2 v0 v1 v2 : Vec Ideal S1x256x1024 .bf16) (b : Vec Ideal S1x8x256x768 .f32) (r : Fin 256) (w : Fin 1024) : EReal :=
  mix (fun c => (∑ d : Fin 128, q (ix3 0 r ⟨(w : ℕ) / 128 * 128 + d, by omega⟩) * tile3 k0 k1 k2 c ⟨(w : ℕ) / 128 * 128 + d, by omega⟩)
      + b (ix4 0 ⟨(w : ℕ) / 128, by omega⟩ r c)) (fun c => tile3 v0 v1 v2 c w)

/-- The rows of three head slices are the rows of the tiles at the head's lanes. -/
theorem row3_eq (n : ℕ) (hn : n < 8) {x0 x1 x2 : Vec Ideal S1x256x1024 .bf16} {v0 v1 v2 : Vec Ideal S1x256x128 .bf16}
    (h0 : ∀ (r : Fin 256) (d : Fin 128), v0 (ix3 0 r d) = x0 (ix3 0 r ⟨n * 128 + (d : ℕ), by omega⟩))
    (h1 : ∀ (r : Fin 256) (d : Fin 128), v1 (ix3 0 r d) = x1 (ix3 0 r ⟨n * 128 + (d : ℕ), by omega⟩))
    (h2 : ∀ (r : Fin 256) (d : Fin 128), v2 (ix3 0 r d) = x2 (ix3 0 r ⟨n * 128 + (d : ℕ), by omega⟩)) (c : Fin 768) (d : Fin 128) :
    row3 v0 v1 v2 c d = tile3 x0 x1 x2 c ⟨n * 128 + (d : ℕ), by omega⟩ := by
  simp only [row3, tile3, h0, h1, h2]

/-- One head's block is the lanes `128 n … 128 n + 127` of the formula, once its loads are those lanes. -/
theorem outAt_of_head (n : ℕ) (hn : n < 8) (x0 x1 x2 x3 x4 x5 x6 : Vec Ideal S1x256x1024 .bf16) (x7 : Vec Ideal S1x8x256x768 .f32)
    (q k0 k1 k2 v0 v1 v2 : Vec Ideal S1x256x128 .bf16) (b : Vec Ideal S1x1x256x768 .f32)
    (hq : ∀ r d, q (ix3 0 r d) = x0 (ix3 0 r ⟨n * 128 + (d : ℕ), by omega⟩))
    (hk0 : ∀ r d, k0 (ix3 0 r d) = x1 (ix3 0 r ⟨n * 128 + (d : ℕ), by omega⟩))
    (hk1 : ∀ r d, k1 (ix3 0 r d) = x2 (ix3 0 r ⟨n * 128 + (d : ℕ), by omega⟩))
    (hk2 : ∀ r d, k2 (ix3 0 r d) = x3 (ix3 0 r ⟨n * 128 + (d : ℕ), by omega⟩))
    (hv0 : ∀ r d, v0 (ix3 0 r d) = x4 (ix3 0 r ⟨n * 128 + (d : ℕ), by omega⟩))
    (hv1 : ∀ r d, v1 (ix3 0 r d) = x5 (ix3 0 r ⟨n * 128 + (d : ℕ), by omega⟩))
    (hv2 : ∀ r d, v2 (ix3 0 r d) = x6 (ix3 0 r ⟨n * 128 + (d : ℕ), by omega⟩))
    (hb : ∀ r c, b (ix4 0 0 r c) = x7 (ix4 0 ⟨n, hn⟩ r c))
    (x : S1x256x128.Idx) (r : Fin 256) (w : Fin 1024) (hr : (r : ℕ) = x 1) (hw : (w : ℕ) = n * 128 + (x 2 : ℕ)) :
    k0_pay5 (k0_pay2 k0 k1 k2 q b) v0 v1 v2 x = outAt x0 x1 x2 x3 x4 x5 x6 x7 r w := by
  rw [head_at]
  have hx2 : (x 2 : ℕ) < 128 := (x 2).isLt
  have hdiv : (w : ℕ) / 128 = n := by omega
  obtain rfl : r = x 1 := Fin.ext hr
  subst hdiv
  unfold outAt
  congr 1
  · funext c
    rw [scores_at]
    refine congrArg₂ (· + ·) (Finset.sum_congr rfl fun d _ => congrArg₂ (· * ·) (hq _ _) ?_) (hb _ _)
    exact row3_eq _ (by omega) hk0 hk1 hk2 c d
  · funext c
    refine (row3_eq _ (by omega) hv0 hv1 hv2 c (x 2)).trans ?_
    exact congrArg (tile3 x4 x5 x6 c) (Fin.ext hw.symm)

/-- The whole output block: eight heads side by side. -/
theorem out_at (x0 x1 x2 x3 x4 x5 x6 : Vec Ideal S1x256x1024 .bf16) (x7 : Vec Ideal S1x8x256x768 .f32) (y : S1x256x1024.Idx) :
    out0_8 x0 x1 x2 x3 x4 x5 x6 x7 y = outAt x0 x1 x2 x3 x4 x5 x6 x7 (y 1) (y 2) := by
  unfold_out out0_8
  canon_tiles x h
  · refine outAt_of_head 7 (by omega) x0 x1 x2 x3 x4 x5 x6 x7 (View.ld x0 r0_14) (View.ld x1 r0_14) (View.ld x2 r0_14) (View.ld x3 r0_14)
      (View.ld x4 r0_14) (View.ld x5 r0_14) (View.ld x6 r0_14) (View.ld x7 r0_15) ?_ ?_ ?_ ?_ ?_ ?_ ?_ ?_ x _ _ (by omega) (by omega)
    all_goals (intro a b; pointwise; try blk_ext)
  · refine outAt_of_head 6 (by omega) x0 x1 x2 x3 x4 x5 x6 x7 (View.ld x0 r0_12) (View.ld x1 r0_12) (View.ld x2 r0_12) (View.ld x3 r0_12)
      (View.ld x4 r0_12) (View.ld x5 r0_12) (View.ld x6 r0_12) (View.ld x7 r0_13) ?_ ?_ ?_ ?_ ?_ ?_ ?_ ?_ x _ _ (by omega) (by omega)
    all_goals (intro a b; pointwise; try blk_ext)
  · refine outAt_of_head 5 (by omega) x0 x1 x2 x3 x4 x5 x6 x7 (View.ld x0 r0_10) (View.ld x1 r0_10) (View.ld x2 r0_10) (View.ld x3 r0_10)
      (View.ld x4 r0_10) (View.ld x5 r0_10) (View.ld x6 r0_10) (View.ld x7 r0_11) ?_ ?_ ?_ ?_ ?_ ?_ ?_ ?_ x _ _ (by omega) (by omega)
    all_goals (intro a b; pointwise; try blk_ext)
  · refine outAt_of_head 4 (by omega) x0 x1 x2 x3 x4 x5 x6 x7 (View.ld x0 r0_8) (View.ld x1 r0_8) (View.ld x2 r0_8) (View.ld x3 r0_8)
      (View.ld x4 r0_8) (View.ld x5 r0_8) (View.ld x6 r0_8) (View.ld x7 r0_9) ?_ ?_ ?_ ?_ ?_ ?_ ?_ ?_ x _ _ (by omega) (by omega)
    all_goals (intro a b; pointwise; try blk_ext)
  · refine outAt_of_head 3 (by omega) x0 x1 x2 x3 x4 x5 x6 x7 (View.ld x0 r0_6) (View.ld x1 r0_6) (View.ld x2 r0_6) (View.ld x3 r0_6)
      (View.ld x4 r0_6) (View.ld x5 r0_6) (View.ld x6 r0_6) (View.ld x7 r0_7) ?_ ?_ ?_ ?_ ?_ ?_ ?_ ?_ x _ _ (by omega) (by omega)
    all_goals (intro a b; pointwise; try blk_ext)
  · refine outAt_of_head 2 (by omega) x0 x1 x2 x3 x4 x5 x6 x7 (View.ld x0 r0_4) (View.ld x1 r0_4) (View.ld x2 r0_4) (View.ld x3 r0_4)
      (View.ld x4 r0_4) (View.ld x5 r0_4) (View.ld x6 r0_4) (View.ld x7 r0_5) ?_ ?_ ?_ ?_ ?_ ?_ ?_ ?_ x _ _ (by omega) (by omega)
    all_goals (intro a b; pointwise; try blk_ext)
  · refine outAt_of_head 1 (by omega) x0 x1 x2 x3 x4 x5 x6 x7 (View.ld x0 r0_2) (View.ld x1 r0_2) (View.ld x2 r0_2) (View.ld x3 r0_2)
      (View.ld x4 r0_2) (View.ld x5 r0_2) (View.ld x6 r0_2) (View.ld x7 r0_3) ?_ ?_ ?_ ?_ ?_ ?_ ?_ ?_ x _ _ (by omega) (by omega)
    all_goals (intro a b; pointwise; try blk_ext)
  · refine outAt_of_head 0 (by omega) x0 x1 x2 x3 x4 x5 x6 x7 (View.ld x0 r0_0) (View.ld x1 r0_0) (View.ld x2 r0_0) (View.ld x3 r0_0)
      (View.ld x4 r0_0) (View.ld x5 r0_0) (View.ld x6 r0_0) (View.ld x7 r0_1) ?_ ?_ ?_ ?_ ?_ ?_ ?_ ?_ x _ _ (by omega) (by omega)
    all_goals (intro a b; pointwise; try blk_ext)

end Cert.Band

end
-- ==== Proof.Array.lean ====
/- The band attention call's whole output array, as one formula of the arrays its windows read. -/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.Band
open Cert.KernelIdeal Cert.KernelIdeal.Gen

/-- The row of the keys that query tile `i` sees at window column `c`: tiles `i - 2`, `i - 1`, `i`, none below zero. -/
def keyRow (i c : ℕ) : ℕ := (i + c / 256 - 2) * 256 + c % 256

theorem keyRow_lt {i c : ℕ} (hi : i < 64) (hc : c < 768) : keyRow i c < 16384 := by
  unfold keyRow; omega

/-- The kernel's result at batch `b`, position `x` and lane `w`, from its prepared operands. -/
def bandAt (Q K V : Vec Ideal S2x16384x1024 .bf16) (T : Vec Ideal S3x8x256x768 .f32) (b : Fin 2) (x : Fin 16384) (w : Fin 1024) : EReal :=
  mix (fun c => (∑ d : Fin 128, Q (ix3 b x ⟨(w : ℕ) / 128 * 128 + d, by omega⟩)
        * K (ix3 b ⟨keyRow (x / 256) c, keyRow_lt (by omega) c.isLt⟩ ⟨(w : ℕ) / 128 * 128 + d, by omega⟩))
      + T (ix4 ⟨min ((x : ℕ) / 256) 2, by omega⟩ ⟨(w : ℕ) / 128, by omega⟩ ⟨(x : ℕ) % 256, by omega⟩ c))
    (fun c => V (ix3 b ⟨keyRow (x / 256) c, keyRow_lt (by omega) c.isLt⟩ w))

/-- Three blocks read at tiles `i - 2`, `i - 1`, `i` of an array, laid one after the other, are its rows `keyRow i c`. -/
theorem tile3_rows (K : Vec Ideal S2x16384x1024 .bf16) (b : Fin 2) (i : ℕ) (hi : i < 64) {k0 k1 k2 : Vec Ideal S1x256x1024 .bf16}
    (h0 : ∀ (r : Fin 256) (d : Fin 1024), k0 (ix3 0 r d) = K (ix3 b ⟨(i - 2) * 256 + (r : ℕ), by omega⟩ d))
    (h1 : ∀ (r : Fin 256) (d : Fin 1024), k1 (ix3 0 r d) = K (ix3 b ⟨(i - 1) * 256 + (r : ℕ), by omega⟩ d))
    (h2 : ∀ (r : Fin 256) (d : Fin 1024), k2 (ix3 0 r d) = K (ix3 b ⟨i * 256 + (r : ℕ), by omega⟩ d)) (c : Fin 768) (d : Fin 1024) :
    tile3 k0 k1 k2 c d = K (ix3 b ⟨keyRow i c, keyRow_lt hi c.isLt⟩ d) := by
  have hc := c.isLt
  unfold tile3 keyRow
  split
  · rw [h0]; refine congrArg (fun u => K (ix3 b u d)) (Fin.ext ?_); simp only; omega
  · split
    · rw [h1]; refine congrArg (fun u => K (ix3 b u d)) (Fin.ext ?_); simp only; omega
    · rw [h2]; refine congrArg (fun u => K (ix3 b u d)) (Fin.ext ?_); simp only; omega

/-- Which blocks the windows read at a grid point. -/
theorem idx : ∀ t : Fin cfg0.N,
    win0_0.index t = ![t.val / 64, t.val % 64, 0]
    ∧ win0_1.index t = ![t.val / 64, t.val % 64 - 2, 0] ∧ win0_2.index t = ![t.val / 64, t.val % 64 - 1, 0] ∧ win0_3.index t = ![t.val / 64, t.val % 64, 0]
    ∧ win0_4.index t = ![t.val / 64, t.val % 64 - 2, 0] ∧ win0_5.index t = ![t.val / 64, t.val % 64 - 1, 0] ∧ win0_6.index t = ![t.val / 64, t.val % 64, 0]
    ∧ win0_7.index t = ![min (t.val % 64) 2, 0, 0, 0] ∧ win0_8.index t = ![t.val / 64, t.val % 64, 0] :=
  (by decide +kernel : ∀ t : Fin grid0.N, _)

variable (m : (ℓ : Loc nD τ sig) → Buf (Elt Ideal) ℓ)

/-- A block's formula is the array's, once its loads are the tiles of the arrays. -/
theorem outAt_eq (Q K W : Vec Ideal S2x16384x1024 .bf16) (T : Vec Ideal S3x8x256x768 .f32) (b : Fin 2) (i : ℕ) (hi : i < 64)
    (q k0 k1 k2 v0 v1 v2 : Vec Ideal S1x256x1024 .bf16) (tb : Vec Ideal S1x8x256x768 .f32)
    (hq : ∀ (r : Fin 256) (d : Fin 1024), q (ix3 0 r d) = Q (ix3 b ⟨i * 256 + (r : ℕ), by omega⟩ d))
    (hk0 : ∀ (r : Fin 256) (d : Fin 1024), k0 (ix3 0 r d) = K (ix3 b ⟨(i - 2) * 256 + (r : ℕ), by omega⟩ d))
    (hk1 : ∀ (r : Fin 256) (d : Fin 1024), k1 (ix3 0 r d) = K (ix3 b ⟨(i - 1) * 256 + (r : ℕ), by omega⟩ d))
    (hk2 : ∀ (r : Fin 256) (d : Fin 1024), k2 (ix3 0 r d) = K (ix3 b ⟨i * 256 + (r : ℕ), by omega⟩ d))
    (hv0 : ∀ (r : Fin 256) (d : Fin 1024), v0 (ix3 0 r d) = W (ix3 b ⟨(i - 2) * 256 + (r : ℕ), by omega⟩ d))
    (hv1 : ∀ (r : Fin 256) (d : Fin 1024), v1 (ix3 0 r d) = W (ix3 b ⟨(i - 1) * 256 + (r : ℕ), by omega⟩ d))
    (hv2 : ∀ (r : Fin 256) (d : Fin 1024), v2 (ix3 0 r d) = W (ix3 b ⟨i * 256 + (r : ℕ), by omega⟩ d))
    (hb : ∀ (h : Fin 8) (r : Fin 256) (c : Fin 768), tb (ix4 0 h r c) = T (ix4 ⟨min i 2, by omega⟩ h r c))
    (r : Fin 256) (w : Fin 1024) (x : Fin 16384) (hx : (x : ℕ) = i * 256 + (r : ℕ)) :
    outAt q k0 k1 k2 v0 v1 v2 tb r w = bandAt Q K W T b x w := by
  have hdiv : (x : ℕ) / 256 = i := by omega
  have hr : r = ⟨(x : ℕ) % 256, by omega⟩ := Fin.ext (by simp only; omega)
  subst hdiv
  unfold outAt bandAt
  congr 1
  · funext c
    refine congrArg₂ (· + ·) (Finset.sum_congr rfl fun d _ => congrArg₂ (· * ·) ?_ ?_) ?_
    · rw [hq]; exact congrArg (fun u => Q (ix3 b u _)) (Fin.ext hx.symm)
    · exact tile3_rows K b _ hi hk0 hk1 hk2 c _
    · rw [hb, ← hr]
  · funext c
    exact tile3_rows W b _ hi hv0 hv1 hv2 c w

theorem blk0 (c : Dev nD) (t : Fin cfg0.N) (ht : t.val < 128) (r : Fin 256) (d : Fin 1024) :
    iblk m c 0 t (ix3 0 r d) = V m c main_v5 (ix3 ⟨t.val / 64, by omega⟩ ⟨(t.val % 64) * 256 + (r : ℕ), by omega⟩ d) := by
  have e : win0_0.index t = _ := (idx t).1
  have e0 : win0_0.index t 0 = t.val / 64 := congrFun e 0
  have e1 : win0_0.index t 1 = t.val % 64 := congrFun e 1
  have e2 : win0_0.index t 2 = 0 := congrFun e 2
  blk_simp [iblk]
  blk_ext
  all_goals omega

theorem blk1 (c : Dev nD) (t : Fin cfg0.N) (ht : t.val < 128) (r : Fin 256) (d : Fin 1024) :
    iblk m c 1 t (ix3 0 r d) = V m c main_v6 (ix3 ⟨t.val / 64, by omega⟩ ⟨(t.val % 64 - 2) * 256 + (r : ℕ), by omega⟩ d) := by
  have e : win0_1.index t = _ := (idx t).2.1
  have e0 : win0_1.index t 0 = t.val / 64 := congrFun e 0
  have e1 : win0_1.index t 1 = t.val % 64 - 2 := congrFun e 1
  have e2 : win0_1.index t 2 = 0 := congrFun e 2
  blk_simp [iblk]
  blk_ext
  all_goals omega

theorem blk2 (c : Dev nD) (t : Fin cfg0.N) (ht : t.val < 128) (r : Fin 256) (d : Fin 1024) :
    iblk m c 2 t (ix3 0 r d) = V m c main_v6 (ix3 ⟨t.val / 64, by omega⟩ ⟨(t.val % 64 - 1) * 256 + (r : ℕ), by omega⟩ d) := by
  have e : win0_2.index t = _ := (idx t).2.2.1
  have e0 : win0_2.index t 0 = t.val / 64 := congrFun e 0
  have e1 : win0_2.index t 1 = t.val % 64 - 1 := congrFun e 1
  have e2 : win0_2.index t 2 = 0 := congrFun e 2
  blk_simp [iblk]
  blk_ext
  all_goals omega

theorem blk3 (c : Dev nD) (t : Fin cfg0.N) (ht : t.val < 128) (r : Fin 256) (d : Fin 1024) :
    iblk m c 3 t (ix3 0 r d) = V m c main_v6 (ix3 ⟨t.val / 64, by omega⟩ ⟨(t.val % 64) * 256 + (r : ℕ), by omega⟩ d) := by
  have e : win0_3.index t = _ := (idx t).2.2.2.1
  have e0 : win0_3.index t 0 = t.val / 64 := congrFun e 0
  have e1 : win0_3.index t 1 = t.val % 64 := congrFun e 1
  have e2 : win0_3.index t 2 = 0 := congrFun e 2
  blk_simp [iblk]
  blk_ext
  all_goals omega

theorem blk4 (c : Dev nD) (t : Fin cfg0.N) (ht : t.val < 128) (r : Fin 256) (d : Fin 1024) :
    iblk m c 4 t (ix3 0 r d) = V m c main_v7 (ix3 ⟨t.val / 64, by omega⟩ ⟨(t.val % 64 - 2) * 256 + (r : ℕ), by omega⟩ d) := by
  have e : win0_4.index t = _ := (idx t).2.2.2.2.1
  have e0 : win0_4.index t 0 = t.val / 64 := congrFun e 0
  have e1 : win0_4.index t 1 = t.val % 64 - 2 := congrFun e 1
  have e2 : win0_4.index t 2 = 0 := congrFun e 2
  blk_simp [iblk]
  blk_ext
  all_goals omega

theorem blk5 (c : Dev nD) (t : Fin cfg0.N) (ht : t.val < 128) (r : Fin 256) (d : Fin 1024) :
    iblk m c 5 t (ix3 0 r d) = V m c main_v7 (ix3 ⟨t.val / 64, by omega⟩ ⟨(t.val % 64 - 1) * 256 + (r : ℕ), by omega⟩ d) := by
  have e : win0_5.index t = _ := (idx t).2.2.2.2.2.1
  have e0 : win0_5.index t 0 = t.val / 64 := congrFun e 0
  have e1 : win0_5.index t 1 = t.val % 64 - 1 := congrFun e 1
  have e2 : win0_5.index t 2 = 0 := congrFun e 2
  blk_simp [iblk]
  blk_ext
  all_goals omega

theorem blk6 (c : Dev nD) (t : Fin cfg0.N) (ht : t.val < 128) (r : Fin 256) (d : Fin 1024) :
    iblk m c 6 t (ix3 0 r d) = V m c main_v7 (ix3 ⟨t.val / 64, by omega⟩ ⟨(t.val % 64) * 256 + (r : ℕ), by omega⟩ d) := by
  have e : win0_6.index t = _ := (idx t).2.2.2.2.2.2.1
  have e0 : win0_6.index t 0 = t.val / 64 := congrFun e 0
  have e1 : win0_6.index t 1 = t.val % 64 := congrFun e 1
  have e2 : win0_6.index t 2 = 0 := congrFun e 2
  blk_simp [iblk]
  blk_ext
  all_goals omega

theorem blk7 (c : Dev nD) (t : Fin cfg0.N) (ht : t.val < 128) (h : Fin 8) (r : Fin 256) (d : Fin 768) :
    iblk m c 7 t (ix4 0 h r d) = V m c main_v143 (ix4 ⟨min (t.val % 64) 2, by omega⟩ h r d) := by
  have e : win0_7.index t = _ := (idx t).2.2.2.2.2.2.2.1
  have e0 : win0_7.index t 0 = min (t.val % 64) 2 := congrFun e 0
  have e1 : win0_7.index t 1 = 0 := congrFun e 1
  have e2 : win0_7.index t 2 = 0 := congrFun e 2
  have e3 : win0_7.index t 3 = 0 := congrFun e 3
  blk_simp [iblk]
  blk_ext
  all_goals omega

/-- What a grid point leaves in its output block. -/
theorem point (c : Dev nD) (t : Fin cfg0.N) (ht : t.val < 128) (r : Fin 256) (w : Fin 1024) :
    outAt (iblk m c 0 t) (iblk m c 1 t) (iblk m c 2 t) (iblk m c 3 t) (iblk m c 4 t) (iblk m c 5 t) (iblk m c 6 t) (iblk m c 7 t) r w
      = bandAt (V m c main_v5) (V m c main_v6) (V m c main_v7) (V m c main_v143) ⟨t.val / 64, by omega⟩ ⟨t.val % 64 * 256 + (r : ℕ), by omega⟩ w :=
  outAt_eq (V m c main_v5) (V m c main_v6) (V m c main_v7) (V m c main_v143) ⟨t.val / 64, by omega⟩ (t.val % 64) (by omega)
    _ _ _ _ _ _ _ _ (blk0 m c t ht) (blk1 m c t ht) (blk2 m c t ht) (blk3 m c t ht) (blk4 m c t ht) (blk5 m c t ht) (blk6 m c t ht) (blk7 m c t ht)
    r w _ rfl

theorem emb0 (t : Fin cfg0.N) (y : S1x256x1024.Idx) : (((win0_8.blk t).view.emb y 0 : Fin 2) : ℕ) = t.val / 64 := by
  have e := (idx t).2.2.2.2.2.2.2.2
  blk_simp [e]; try omega
theorem emb1 (t : Fin cfg0.N) (y : S1x256x1024.Idx) : (((win0_8.blk t).view.emb y 1 : Fin 16384) : ℕ) = t.val % 64 * 256 + ((y 1 : Fin 256) : ℕ) := by
  have e := (idx t).2.2.2.2.2.2.2.2
  blk_simp [e]; try omega
theorem emb2 (t : Fin cfg0.N) (y : S1x256x1024.Idx) : (((win0_8.blk t).view.emb y 2 : Fin 1024) : ℕ) = ((y 2 : Fin 1024) : ℕ) := by
  have e := (idx t).2.2.2.2.2.2.2.2
  blk_simp [e]; try omega

/-- The array after the run. -/
theorem array_eq (c : Dev nD) :
    (dats m 0 c).arrAt 8 cfg0.N = fun j : S2x16384x1024.Idx =>
      bandAt (V m c main_v5) (V m c main_v6) (V m c main_v7) (V m c main_v143) (j 0) (j 1) (j 2) := by
  refine (dats m 0 c).arrAt_eq_of_covers 8 _ (by decide +kernel) fun t _ y => ?_
  have ht : t.val < 128 := t.isLt
  blk_simp
  rw [after0_8, out_at]
  refine (point m c t ht (y 1) (y 2)).trans ?_
  exact congr (congr (congrArg (bandAt _ _ _ _) (Fin.ext (emb0 t y).symm)) (Fin.ext (emb1 t y).symm)) (Fin.ext (emb2 t y).symm)

end Cert.Band

end
-- ==== Proof.Words.lean ====
/- The 32-bit index words of the band: rounding down to a chunk, the band's mask bit and the clipped distance, as natural numbers. -/
module

public import Idealize.ShloMosaic.Lib.Pipeline.ValueKit
public import Idealize.ShloMosaic.Lib.Routing.Words

@[expose] public section

noncomputable section

open Idealize.ShloMosaic

namespace Cert.Band

/-- The sign of a word, as it is printed. -/
def signW (x : BitVec 32) : BitVec 32 := if x = 0 then 0 else if x.msb = true then -1 else 1

/-- The chunk of a position: division by 64, rounded down. -/
def chunkW (x : BitVec 32) : BitVec 32 :=
  Scalar.select (IntOp.andi (IntOp.cmpi .ne (signW x) (signW 64#32)) (IntOp.cmpi .ne (IntOp.remsi .host x 64#32) 0#32))
    (IntOp.subi (IntOp.divsi .host x 64#32) 1#32) (IntOp.divsi .host x 64#32)

/-- The band's mask bit of key position `k` for query position `q`. -/
def maskW (k q : BitVec 32) : BitVec 1 :=
  IntOp.andi (IntOp.andi (IntOp.cmpi .sge k 0#32) (IntOp.cmpi .sle (chunkW k) (chunkW q))) (IntOp.cmpi .sge (chunkW k) (IntOp.subi (chunkW q) 8#32))

/-- Key position `y` is in the band of query position `x`: at most its chunk, and at most eight chunks back. -/
def InBand (x y : ℕ) : Prop := y / 64 ≤ x / 64 ∧ x / 64 ≤ y / 64 + 8

instance (x y : ℕ) : Decidable (InBand x y) := inferInstanceAs (Decidable (_ ∧ _))

theorem msb_word {n : ℕ} (h : n < 2 ^ 31) : (BitVec.ofNat 32 n).msb = false := by
  rw [BitVec.msb_eq_decide]; simp only [BitVec.toNat_ofNat, decide_eq_false_iff_not]; omega

theorem chunkW_word {n : ℕ} (h : n < 2 ^ 31) : chunkW (BitVec.ofNat 32 n) = BitVec.ofNat 32 (n / 64) := by
  unfold chunkW
  rw [show (64#32 : BitVec 32) = BitVec.ofNat 32 64 from rfl, Routing.divsi_word _ h (by norm_num) (by norm_num), Routing.remsi_word _ h (by norm_num) (by norm_num)]
  unfold signW
  rw [msb_word h, msb_word (n := 64) (by norm_num)]
  by_cases h0 : BitVec.ofNat 32 n = 0
  · have hn : n = 0 := by
      have := congrArg BitVec.toNat h0
      simp only [BitVec.toNat_ofNat] at this
      have h2 : (0 : BitVec 32).toNat = 0 := rfl
      omega
    subst hn
    decide
  · rw [if_neg h0]
    simp [IntOp.cmpi, IntOp.andi, Scalar.select]

theorem toInt_word {n : ℕ} (h : n < 2 ^ 31) : (BitVec.ofNat 32 n).toInt = n := by
  rw [BitVec.toInt_eq_toNat_of_msb (msb_word h)]; simp only [BitVec.toNat_ofNat]; omega

theorem maskW_word {x y : ℕ} (hx : x < 2 ^ 30) (hy : y < 2 ^ 30) :
    maskW (BitVec.ofNat 32 y) (BitVec.ofNat 32 x) = if InBand x y then 1#1 else 0#1 := by
  unfold maskW InBand
  rw [chunkW_word (by omega), chunkW_word (by omega)]
  have hs : (IntOp.subi (BitVec.ofNat 32 (x / 64)) 8#32).toInt = (x / 64 : ℕ) - 8 := by
    unfold IntOp.subi
    rw [BitVec.toInt_sub, toInt_word (by omega)]
    rw [show (8#32 : BitVec 32).toInt = 8 from rfl]
    rw [Int.bmod_eq_of_le (by omega) (by omega)]
  simp only [IntOp.cmpi, IntOp.andi, BitVec.sle, toInt_word (show y < 2 ^ 31 by omega), toInt_word (show y / 64 < 2 ^ 31 by omega), toInt_word (show x / 64 < 2 ^ 31 by omega), hs]
  have h0 : (0#32 : BitVec 32).toInt = 0 := rfl
  rw [h0]
  by_cases h1 : y / 64 ≤ x / 64 <;> by_cases h2 : x / 64 ≤ y / 64 + 8
  all_goals
    simp only [h1, h2, and_true, and_false, true_and, false_and, if_true, if_false, Nat.cast_nonneg, Nat.cast_le, decide_true, decide_false]
  · rw [decide_eq_true (show ((x / 64 : ℕ) : ℤ) - 8 ≤ ((y / 64 : ℕ) : ℤ) by omega)]; rfl
  · rw [decide_eq_false (show ¬ ((x / 64 : ℕ) : ℤ) - 8 ≤ ((y / 64 : ℕ) : ℤ) by omega)]; rfl
  · simp
  · simp

theorem maskW_neg {k q : BitVec 32} (hk : k.msb = true) : maskW k q = 0#1 := by
  unfold maskW
  have h : IntOp.cmpi .sge k 0#32 = 0#1 := by
    have hn : k.toInt < 0 := BitVec.toInt_neg_iff.mpr (by rw [BitVec.msb_eq_decide] at hk; simp only [decide_eq_true_eq] at hk; omega)
    have h0 : (0#32 : BitVec 32).toInt = 0 := rfl
    simp only [IntOp.cmpi, BitVec.sle, h0, decide_eq_false (show ¬ (0 : ℤ) ≤ k.toInt by omega)]
    rfl
  rw [h]; simp [IntOp.andi]

end Cert.Band

end
-- ==== Proof.Host.lean ====
/- The operands the host prepares for the band attention call: the scaled queries, the keys, the values and the bias table. -/
module

public import proofs.«01_k».proof.Proof.Gen.KernelIdeal.Frame
public import Idealize.ShloMosaic.Lib.Pipeline.ValueKit
public import Idealize.ShloMosaic.Lib.StableHlo.ReadAt
public import proofs.«01_k».proof.Proof.Words

@[expose] public section

set_option maxRecDepth 16384

noncomputable section

open Idealize.ShloMosaic Idealize.ShloMosaic.TcCoe Idealize.SL.Sem
open Idealize.ShloMosaic.Pipeline (Dat)

namespace Cert.Band
open Cert.KernelIdeal Cert.KernelIdeal.Gen

variable (m : (ℓ : Loc nD τ sig) → Buf (Elt Ideal) ℓ)

/-- The arguments as functions of an index to the extended reals. -/
abbrev argQ (c : Dev nD) : S2x16384x1024.Idx → EReal := m ((c : Thread nD τ).loc main_arg0)
abbrev argK (c : Dev nD) : S2x16384x1024.Idx → EReal := m ((c : Thread nD τ).loc main_arg1)
abbrev argV (c : Dev nD) : S2x16384x1024.Idx → EReal := m ((c : Thread nD τ).loc main_arg2)
abbrev argB (c : Dev nD) : S8x257.Idx → EReal := m ((c : Thread nD τ).loc main_arg3)

/-- The row of biases a head's table is cut from, with `1 / ln 2` in it: the last bias, then the biases backwards, then the first. -/
def rowBias (x : S8x257.Idx → EReal) (h : Fin 8) (r d : ℕ) : EReal :=
  (if h_1 : (r * 1023 + (255 + d)) % 1024 < 639 then x (ix2 h 256)
    else if h_2 : (r * 1023 + (255 + d)) % 1024 - 639 < 257 then x (ix2 h (Fin.rev ⟨(r * 1023 + (255 + d)) % 1024 - 639, h_2⟩))
    else x (ix2 h 0)) * Ideal.div 1 (Ideal.log (Ideal.ofBits FTy.f32 1073741824#32))

theorem noBias : (id (constant (F := Ideal) S_ FTy.f32 4286578688#32) : FVec Ideal S_ .f32) ix0 = (⊥ : EReal) := by
  show Ideal.ofBits .f32 4286578688#32 = ⊥
  simp [Ideal.ofBits, Ideal.ieee]

theorem q_at (c : Dev nD) (b : Fin 2) (x : Fin 16384) (w : Fin 1024) :
    (V m c main_v5 (ix3 b x w) : EReal) = argQ m c (ix3 b x w)
      * (Ideal.ofBits FTy.f32 1035273459#32 * Ideal.div 1 (Ideal.log (Ideal.ofBits FTy.f32 1073741824#32))) := by
  unfold V
  after_reads_at

theorem k_at (c : Dev nD) (b : Fin 2) (x : Fin 16384) (w : Fin 1024) :
    (V m c main_v6 (ix3 b x w) : EReal) = argK m c (ix3 b x w) := by
  entry_read
  rfl

theorem v_at (c : Dev nD) (b : Fin 2) (x : Fin 16384) (w : Fin 1024) :
    (V m c main_v7 (ix3 b x w) : EReal) = argV m c (ix3 b x w) := by
  entry_read
  rfl

set_option maxHeartbeats 2000000 in
theorem table0_at (c : Dev nD) (h : Fin 8) (r : Fin 256) (d : Fin 768) :
    (V m c main_v143 (ix4 0 h r d) : EReal) = Scalar.select (maskW (IntOp.addi 4294966784#32 (BitVec.ofNat 32 d)) (IntOp.addi 0#32 (BitVec.ofNat 32 r)))
      (rowBias (argB m c) h r d) ⊥ := by
  unfold V
  after_reads_at
  after_reads_at
  refine congr (congr (congrArg Scalar.select ?_) ?_) ?_
  · rfl
  · after_reads_at
    rfl
  · exact noBias

set_option maxHeartbeats 2000000 in
theorem table1_at (c : Dev nD) (h : Fin 8) (r : Fin 256) (d : Fin 768) :
    (V m c main_v143 (ix4 1 h r d) : EReal) = Scalar.select (maskW (IntOp.addi 4294967040#32 (BitVec.ofNat 32 d)) (IntOp.addi 256#32 (BitVec.ofNat 32 r)))
      (rowBias (argB m c) h r d) ⊥ := by
  unfold V
  after_reads_at
  after_reads_at
  refine congr (congr (congrArg Scalar.select ?_) ?_) ?_
  · rfl
  · after_reads_at
    rfl
  · exact noBias

set_option maxHeartbeats 2000000 in
theorem table2_at (c : Dev nD) (h : Fin 8) (r : Fin 256) (d : Fin 768) :
    (V m c main_v143 (ix4 2 h r d) : EReal) = Scalar.select (maskW (IntOp.addi 0#32 (BitVec.ofNat 32 d)) (IntOp.addi 512#32 (BitVec.ofNat 32 r)))
      (rowBias (argB m c) h r d) ⊥ := by
  unfold V
  after_reads_at
  after_reads_at
  refine congr (congr (congrArg Scalar.select ?_) ?_) ?_
  · rfl
  · after_reads_at
    rfl
  · exact noBias

theorem rowBias_eq (x : S8x257.Idx → EReal) (h : Fin 8) (r d : ℕ) (hr : r < 256) (hd : d < 768) :
    rowBias x h r d = x (ix2 h ⟨min 256 (640 + r - d), by omega⟩) * Ideal.div 1 (Ideal.log (Ideal.ofBits FTy.f32 1073741824#32)) := by
  unfold rowBias
  congr 1
  have ht' : (r * 1023 + (255 + d)) % 1024 = 255 + d - r := by omega
  split_ifs with h1 h2
  · exact congrArg x (congrArg (ix2 h) (Fin.ext (show 256 = min 256 (640 + r - d) by omega)))
  · refine congrArg x (congrArg (ix2 h) (Fin.ext ?_))
    rw [Fin.val_rev]
    show 257 - ((r * 1023 + (255 + d)) % 1024 - 639 + 1) = min 256 (640 + r - d)
    omega
  · exact congrArg x (congrArg (ix2 h) (Fin.ext (show 0 = min 256 (640 + r - d) by omega)))

/-- The word of a key position counted from `k0` words before zero: the position, or a negative word. -/
theorem mask_window (k : BitVec 32) (o q0 r d : ℕ) (ho : o ≤ 512) (hq : q0 ≤ 512) (hr : r < 256) (hd : d < 768)
    (hk : k = BitVec.ofNat 32 (2 ^ 32 - o)) :
    maskW (IntOp.addi k (BitVec.ofNat 32 d)) (IntOp.addi (BitVec.ofNat 32 q0) (BitVec.ofNat 32 r))
      = if o ≤ d ∧ InBand (q0 + r) (d - o) then 1#1 else 0#1 := by
  have hq' : IntOp.addi (BitVec.ofNat 32 q0) (BitVec.ofNat 32 r) = BitVec.ofNat 32 (q0 + r) := (BitVec.ofNat_add q0 r).symm
  by_cases h : o ≤ d
  · have e : IntOp.addi k (BitVec.ofNat 32 d) = BitVec.ofNat 32 (d - o) := by
      subst hk
      apply BitVec.eq_of_toNat_eq
      simp only [IntOp.addi, BitVec.toNat_add, BitVec.toNat_ofNat]
      omega
    rw [e, hq', maskW_word (by omega) (by omega)]
    simp only [h, true_and]
  · rw [if_neg (fun hh => h hh.1)]
    apply maskW_neg
    subst hk
    rw [BitVec.msb_eq_decide]
    simp only [IntOp.addi, BitVec.toNat_add, BitVec.toNat_ofNat, decide_eq_true_eq]
    omega

/-- The bias table's entry: the relative bias times `1 / ln 2` where the window's key is in the band, `-∞` elsewhere. -/
theorem table_at (c : Dev nD) (i : Fin 3) (h : Fin 8) (r : Fin 256) (d : Fin 768) :
    (V m c main_v143 (ix4 i h r d) : EReal) = if 512 ≤ d.val + 256 * i.val ∧ InBand (256 * i + r) (d.val + 256 * i.val - 512)
      then argB m c (ix2 h ⟨min 256 (640 + r - d), by omega⟩) * Ideal.div 1 (Ideal.log (Ideal.ofBits FTy.f32 1073741824#32))
      else ⊥ := by
  have hr := r.isLt
  have hd := d.isLt
  have key : ∀ o q0 : ℕ, (o ≤ d.val ∧ InBand (q0 + r) (d.val - o) ↔ 512 ≤ d.val + 256 * i.val ∧ InBand (256 * i + r) (d.val + 256 * i.val - 512)) →
      Scalar.select (if o ≤ d.val ∧ InBand (q0 + r) (d.val - o) then 1#1 else 0#1) (rowBias (argB m c) h r d) ⊥
      = if 512 ≤ d.val + 256 * i.val ∧ InBand (256 * i + r) (d.val + 256 * i.val - 512)
      then argB m c (ix2 h ⟨min 256 (640 + r - d), by omega⟩) * Ideal.div 1 (Ideal.log (Ideal.ofBits FTy.f32 1073741824#32))
      else ⊥ := by
    intro o q0 hiff
    rw [rowBias_eq _ _ _ _ hr hd]
    by_cases hc : o ≤ d.val ∧ InBand (q0 + r) (d.val - o)
    · rw [if_pos hc, if_pos (hiff.mp hc)]; rfl
    · rw [if_neg hc, if_neg (fun hh => hc (hiff.mpr hh))]; rfl
  match i with
  | 0 =>
    refine (table0_at m c h r d).trans ?_
    rw [show (0#32 : BitVec 32) = BitVec.ofNat 32 0 from rfl, mask_window _ 512 0 r d (by norm_num) (by norm_num) hr hd (by rfl)]
    exact key 512 0 (by show _ ↔ 512 ≤ d.val + 256 * 0 ∧ InBand (256 * 0 + r) (d.val + 256 * 0 - 512); unfold InBand; omega)
  | 1 =>
    refine (table1_at m c h r d).trans ?_
    rw [show (256#32 : BitVec 32) = BitVec.ofNat 32 256 from rfl, mask_window _ 256 256 r d (by norm_num) (by norm_num) hr hd (by rfl)]
    exact key 256 256 (by show _ ↔ 512 ≤ d.val + 256 * 1 ∧ InBand (256 * 1 + r) (d.val + 256 * 1 - 512); unfold InBand; omega)
  | 2 =>
    refine (table2_at m c h r d).trans ?_
    rw [show (512#32 : BitVec 32) = BitVec.ofNat 32 512 from rfl, mask_window _ 0 512 r d (by norm_num) (by norm_num) hr hd (by rfl)]
    exact key 0 512 (by show _ ↔ 512 ≤ d.val + 256 * 2 ∧ InBand (256 * 2 + r) (d.val + 256 * 2 - 512); unfold InBand; omega)

end Cert.Band

end
-- ==== Proof.Ref.lean ====
/- The reference's result at an index, read in pieces: the chunks, the band mask, the relative positions, the bias, the scores, and the weighted values. -/
module

public import proofs.«01_k».proof.Proof.Gen.ReferenceIdeal.Run
public import Idealize.ShloMosaic.Lib.Pipeline.ValueKit
public import proofs.«01_k».proof.Proof.Words

@[expose] public section

set_option maxRecDepth 16384

noncomputable section

open Idealize.ShloMosaic Idealize.ShloMosaic.TcCoe Idealize.SL.Sem

namespace Cert.Band
open Cert.ReferenceIdeal Cert.ReferenceIdeal.Gen Cert.ReferenceIdeal.Value Cert.ReferenceIdeal.Facts

/-- The chunk of every position. -/
def refChunk : IVec S16384 32 :=
  select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32))))

/-- The band mask, query by key. -/
def refMask : IVec S16384x16384 1 :=
  andi (andi (broadcastInDim S16384x16384 ![0, 1] bcast_S1x16384_S16384x16384_0_1 (cmpi .sge (broadcastInDim S1x16384 ![1] bcast_S16384_S1x16384_1 (iotaInDim S16384 32 0)) (broadcastInDim S1x16384 ![] bcast_S_S1x16384 (constantI S_ 32 0#32)))) (cmpi .sle (broadcastInDim S16384x16384 ![0, 1] bcast_S1x16384_S16384x16384_0_1 (broadcastInDim S1x16384 ![1] bcast_S16384_S1x16384_1 refChunk)) (broadcastInDim S16384x16384 ![0, 1] bcast_S16384x1_S16384x16384_0_1 (broadcastInDim S16384x1 ![0] bcast_S16384_S16384x1_0 refChunk)))) (cmpi .sge (broadcastInDim S16384x16384 ![0, 1] bcast_S1x16384_S16384x16384_0_1 (broadcastInDim S1x16384 ![1] bcast_S16384_S1x16384_1 refChunk)) (broadcastInDim S16384x16384 ![0, 1] bcast_S16384x1_S16384x16384_0_1 (subi (broadcastInDim S16384x1 ![0] bcast_S16384_S16384x1_0 refChunk) (broadcastInDim S16384x1 ![] bcast_S_S16384x1 (constantI S_ 32 8#32)))))

/-- The relative position's index into the biases, query by key. -/
def refRel : IVec S16384x16384 32 :=
  select (cmpi .slt (addi (minsi (broadcastInDim S16384x16384 ![] bcast_S_S16384x16384 (id (constantI S_ 32 128#32))) (maxsi (broadcastInDim S16384x16384 ![] bcast_S_S16384x16384 (id (constantI S_ 32 4294967168#32))) (subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))))) (broadcastInDim S16384x16384 ![] bcast_S_S16384x16384 (constantI S_ 32 128#32))) (broadcastInDim S16384x16384 ![] bcast_S_S16384x16384 (constantI S_ 32 0#32))) (addi (addi (minsi (broadcastInDim S16384x16384 ![] bcast_S_S16384x16384 (id (constantI S_ 32 128#32))) (maxsi (broadcastInDim S16384x16384 ![] bcast_S_S16384x16384 (id (constantI S_ 32 4294967168#32))) (subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))))) (broadcastInDim S16384x16384 ![] bcast_S_S16384x16384 (constantI S_ 32 128#32))) (broadcastInDim S16384x16384 ![] bcast_S_S16384x16384 (constantI S_ 32 257#32))) (addi (minsi (broadcastInDim S16384x16384 ![] bcast_S_S16384x16384 (id (constantI S_ 32 128#32))) (maxsi (broadcastInDim S16384x16384 ![] bcast_S_S16384x16384 (id (constantI S_ 32 4294967168#32))) (subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))))) (broadcastInDim S16384x16384 ![] bcast_S_S16384x16384 (constantI S_ 32 128#32)))

/-- The additive bias of every head, query and key. -/
def refBias (x : FVec Ideal S8x257 .f32) : FVec Ideal S8x16384x16384 .f32 :=
  select (broadcastInDim S8x16384x16384 ![0, 1, 2] bcast_S1x16384x16384_S8x16384x16384_0_1_2 (broadcastInDim S1x16384x16384 ![1, 2] bcast_S16384x16384_S1x16384x16384_1_2 refMask)) (Host.gather gather_S8x257_S16384x16384x1_S8x16384x16384_0_1_n_n_1_2_81 x (broadcastInDim S16384x16384x1 ![0, 1] bcast_S16384x16384_S16384x16384x1_0_1 refRel)) (broadcastInDim S8x16384x16384 ![] bcast_S_S8x16384x16384 (id (constant S_ .f32 0xFF800000#32)))

/-- The scores. -/
def refScores (q k : FVec Ideal S2x16384x1024 .f32) (x : FVec Ideal S8x257 .f32) : FVec Ideal S2x8x16384x16384 .f32 :=
  addf (Host.dotGeneral dot_S2x16384x8x128_S2x16384x8x128_S2x8x16384x16384_3_3_1_1_02_02 none (mulf (shapeCast _ q shapeCasts_S2x16384x1024_S2x16384x8x128) (broadcastInDim S2x16384x8x128 ![] bcast_S_S2x16384x8x128 (constant S_ .f32 0x3DB504F3#32))) (shapeCast _ k shapeCasts_S2x16384x1024_S2x16384x8x128)) (broadcastInDim S2x8x16384x16384 ![0, 1, 2, 3] bcast_S1x8x16384x16384_S2x8x16384x16384_0_1_2_3 (broadcastInDim S1x8x16384x16384 ![1, 2, 3] bcast_S8x16384x16384_S1x8x16384x16384_1_2_3 (refBias x)))

/-- The largest score of every head and query. -/
def refMax (s : FVec Ideal S2x8x16384x16384 .f32) : FVec Ideal S2x8x16384 .f32 :=
  Host.reduce FloatOps.maximumf s (constant S_ .f32 0xFF800000#32) reducesTo_S2x8x16384x16384_S2x8x16384_d3 h_S_

/-- The same, no smaller than `-∞`, repeated along the keys. -/
def refTop (s : FVec Ideal S2x8x16384x16384 .f32) : FVec Ideal S2x8x16384 .f32 :=
  maximumf (broadcastInDim S2x8x16384 ![] bcast_S_S2x8x16384 (constant S_ .f32 0xFF800000#32)) (refMax s)

/-- One number per head and query, repeated along the keys. -/
def refSpread (s : FVec Ideal S2x8x16384 .f32) : FVec Ideal S2x8x16384x16384 .f32 :=
  broadcastInDim S2x8x16384x16384 ![0, 1, 2, 3] bcast_S2x8x16384x1_S2x8x16384x16384_0_1_2_3 (broadcastInDim S2x8x16384x1 ![0, 1, 2] bcast_S2x8x16384_S2x8x16384x1_0_1_2 s)

/-- The exponentials of the scores less their row's largest. -/
def refMass (s : FVec Ideal S2x8x16384x16384 .f32) : FVec Ideal S2x8x16384x16384 .f32 :=
  Host.exp (subf s (refSpread (refTop s)))

/-- The values weighted by the softmax of the scores. -/
def refTail (s : FVec Ideal S2x8x16384x16384 .f32) (v : FVec Ideal S2x16384x1024 .f32) : FVec Ideal S2x16384x1024 .bf16 :=
    truncf .bf16 (shapeCast _ (transpose S2x16384x8x128 [0, 3, 1, 2] (Host.dotGeneral dot_S2x16384x8x128_S2x8x16384x16384_S2x8x128x16384_1_3_3_2_02_01 none (shapeCast _ v shapeCasts_S2x16384x1024_S2x16384x8x128) (Host.divf (refMass s) (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd (refMass s) (constant S_ .f32 0x00000000#32) reducesTo_S2x8x16384x16384_S2x8x16384_d3 h_S_))))) transposes_S2x8x128x16384_S2x16384x8x128_0_3_1_2) shapeCasts_S2x16384x8x128_S2x16384x1024) bitsLt_bf16_f32

variable (m : (ℓ : Loc nD τ sig) → Buf (Elt Ideal) ℓ)

theorem ref_eq (c : Dev nD) : res_main_v61 (F := Ideal) m c
    = refTail (refScores (m ((c.tc : Thread nD τ).loc main_arg0)) (m ((c.tc : Thread nD τ).loc main_arg1)) (m ((c.tc : Thread nD τ).loc main_arg3)))
        (m ((c.tc : Thread nD τ).loc main_arg2)) := by
  unfold res_main_v61 refTail refMass refSpread refTop refMax refScores refBias refRel refMask refChunk
  rfl

theorem refChunk_at (y : Fin 16384) : refChunk (ix1 y) = chunkW (BitVec.ofNat 32 y) := by
  unfold refChunk
  pointwise
  rfl

theorem refMask_at (x y : Fin 16384) : refMask (ix2 x y) = maskW (BitVec.ofNat 32 y) (BitVec.ofNat 32 x) := by
  unfold refMask
  pointwise
  simp only [refChunk_at]
  rfl

/-- A maximum along the last of four axes, entry by entry. -/
theorem rowMax_at {n0 n1 n2 n3 : ℕ} {u : Shape} (s : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (a : Fin n0) (b : Fin n1) (x : Fin n2) :
    Host.reduce FloatOps.maximumf s c h hu (ix3 a b x)
      = Finset.univ.fold max (c (Shape.Idx.first hu) : EReal) (fun y : Fin n3 => (s (ix4 a b x y) : EReal)) := by
  simp only [pointwise]

theorem refMax_at (s : FVec Ideal S2x8x16384x16384 .f32) (b : Fin 2) (h : Fin 8) (x : Fin 16384) :
    refMax s (ix3 b h x) = Finset.univ.fold max (⊥ : EReal) (fun y : Fin 16384 => (s (ix4 b h x y) : EReal)) := by
  have e : (constant (F := Ideal) S_ .f32 0xFF800000#32 : FVec Ideal S_ .f32) (Shape.Idx.first h_S_) = (⊥ : EReal) := by
    show Ideal.ofBits .f32 0xFF800000#32 = ⊥
    simp [Ideal.ofBits, Ideal.ieee]
  refine (rowMax_at s (constant S_ .f32 0xFF800000#32) reducesTo_S2x8x16384x16384_S2x8x16384_d3 h_S_ b h x).trans ?_
  rw [e]

/-- The relative position's index: the distance back, clipped at 0 and 256. -/
theorem rel_word {x y : ℕ} (hx : x < 2 ^ 20) (hy : y < 2 ^ 20) :
    (IntOp.addi (IntOp.minsi 128#32 (IntOp.maxsi 4294967168#32 (IntOp.subi (BitVec.ofNat 32 x) (BitVec.ofNat 32 y)))) 128#32)
      = BitVec.ofNat 32 (min 256 (x + 128 - y)) := by
  have e : (IntOp.subi (BitVec.ofNat 32 x) (BitVec.ofNat 32 y)).toInt = (x : ℤ) - y := by
    unfold IntOp.subi
    rw [BitVec.toInt_sub, toInt_word (by omega), toInt_word (by omega), Int.bmod_eq_of_le (by omega) (by omega)]
  have e1 : (4294967168#32 : BitVec 32).toInt = -128 := rfl
  have e2 : (128#32 : BitVec 32).toInt = 128 := rfl
  have em : (IntOp.minsi 128#32 (IntOp.maxsi 4294967168#32 (IntOp.subi (BitVec.ofNat 32 x) (BitVec.ofNat 32 y)))).toInt = min 128 (max (-128) ((x : ℤ) - y)) := by
    unfold IntOp.minsi IntOp.maxsi
    simp only [BitVec.slt, decide_eq_true_eq]
    split_ifs with h1 h2 h2 <;> simp only [e, e1, e2] at * <;> omega
  apply BitVec.eq_of_toInt_eq
  unfold IntOp.addi
  rw [BitVec.toInt_add, em, e2, toInt_word (by omega), Int.bmod_eq_of_le (by omega) (by omega)]
  omega

theorem refRel_at (x y : Fin 16384) : refRel (ix2 x y) = BitVec.ofNat 32 (min 256 (x.val + 128 - y.val)) := by
  unfold refRel
  pointwise
  rw [show (id (constantI S_ 32 128#32) : IVec S_ 32) ix0 = 128#32 from rfl, show (id (constantI S_ 32 4294967168#32) : IVec S_ 32) ix0 = 4294967168#32 from rfl,
    rel_word (by omega) (by omega)]
  have h : IntOp.cmpi .slt (BitVec.ofNat 32 (min 256 (x.val + 128 - y.val))) 0#32 = 0#1 := by
    have hn : (BitVec.ofNat 32 (min 256 (x.val + 128 - y.val))).toInt = (min 256 (x.val + 128 - y.val) : ℕ) := toInt_word (by omega)
    have h0 : (0#32 : BitVec 32).toInt = 0 := rfl
    simp only [IntOp.cmpi, BitVec.slt, hn, h0, decide_eq_false (show ¬ ((min 256 (x.val + 128 - y.val) : ℕ) : ℤ) < 0 by omega)]
    rfl
  rw [h]
  rfl

/-- A table read by an index array along its last axis: row `h` at the index, clipped to the table. -/
theorem gather_row {A N R C : ℕ} (g : GatherDims ⟨2, ![A, N]⟩ ⟨3, ![R, C, 1]⟩ ⟨3, ![A, R, C]⟩)
    (x : (⟨2, ![A, N]⟩ : Shape).Idx → EReal) (idx : IVec ⟨3, ![R, C, 1]⟩ 32) (h : Fin A) (i : Fin R) (j : Fin C)
    (l : Fin N) (h0 : g.start (ix3 h i j) idx 0 + g.batchCoord (ix3 h i j) 0 + g.offCoord (ix3 h i j) 0 = h.val)
    (h1 : g.start (ix3 h i j) idx 1 + g.batchCoord (ix3 h i j) 1 + g.offCoord (ix3 h i j) 1 = l.val) :
    Host.gather g x idx (ix3 h i j) = x (ix2 h l) := by
  unfold Host.gather
  congr 1
  funext a
  apply Fin.ext
  match a with
  | ⟨0, _⟩ => exact h0
  | ⟨1, _⟩ => exact h1

theorem gather_at (x : FVec Ideal S8x257 .f32) (idx : IVec S16384x16384x1 32) (h : Fin 8) (i j : Fin 16384) :
    Host.gather gather_S8x257_S16384x16384x1_S8x16384x16384_0_1_n_n_1_2_81 x idx (ix3 h i j)
      = x (ix2 h ⟨min (idx (ix3 i j 0)).toInt.toNat 256, by omega⟩) := by
  refine gather_row _ x idx h i j _ ?_ ?_
  · rw [GatherDims.batchCoord_eq_zero _ _ _ List.not_mem_nil]
    unfold GatherDims.start GatherDims.offCoord
    rw [dif_neg (show (0 : Fin 2) ∉ gather_S8x257_S16384x16384x1_S8x16384x16384_0_1_n_n_1_2_81.startIndexMap from (by decide : (0 : Fin 2) ∉ ([1] : List (Fin 2)))),
      dif_pos ((GatherDims.mem_sKept _ _).mpr ⟨show (0 : Fin 2) ∉ ([1] : List (Fin 2)) by decide, List.not_mem_nil⟩)]
    simp only [Nat.zero_add]
    rfl
  · rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (1 : Fin 2) ∈ gather_S8x257_S16384x16384x1_S8x16384x16384_0_1_n_n_1_2_81.startIndexMap from List.mem_singleton.mpr rfl)]
    have hsi : ∀ hh, (gather_S8x257_S16384x16384x1_S8x16384x16384_0_1_n_n_1_2_81).siIdx (ix3 h i j)
        ⟨List.idxOf (1 : Fin 2) ([1] : List (Fin 2)), hh⟩ = ix3 i j (0 : Fin 1) := by
      intro hh
      funext b
      apply Fin.ext
      match b with
      | ⟨0, _⟩ => rfl
      | ⟨1, _⟩ => rfl
      | ⟨2, _⟩ => rfl
    exact congrArg (fun q => min (idx q).toInt.toNat 256) (hsi _)

theorem refBias_at (x : FVec Ideal S8x257 .f32) (h : Fin 8) (i j : Fin 16384) :
    (refBias x (ix3 h i j) : EReal) = if InBand i j then (x (ix2 h ⟨min 256 (i.val + 128 - j.val), by omega⟩) : EReal) else ⊥ := by
  unfold refBias
  pointwise
  rw [refMask_at, maskW_word (by omega) (by omega), gather_at]
  have e : (id (constant (F := Ideal) S_ FTy.f32 4286578688#32) : FVec Ideal S_ .f32) ix0 = (⊥ : EReal) := by
    show Ideal.ofBits .f32 0xFF800000#32 = ⊥
    simp [Ideal.ofBits, Ideal.ieee]
  rw [e]
  by_cases hb : InBand i j
  · rw [if_pos hb, if_pos hb]
    show x _ = x _
    refine congrArg x (congrArg (ix2 h) (Fin.ext ?_))
    show min ((refRel (ix2 i j)).toInt.toNat) 256 = _
    rw [refRel_at, toInt_word (by omega)]
    show min (min 256 (i.val + 128 - j.val)) 256 = min 256 (i.val + 128 - j.val)
    omega
  · rw [if_neg hb, if_neg hb]
    rfl

theorem max_floor (y : FVec Ideal S2x8x16384 .f32) (hb) (i : S2x8x16384.Idx) :
    maximumf (broadcastInDim S2x8x16384 ![] hb (constant (F := Ideal) S_ .f32 0xFF800000#32)) y i = y i := by
  show max (Ideal.ofBits .f32 0xFF800000#32) (y i : EReal) = y i
  rw [show Ideal.ofBits .f32 0xFF800000#32 = (⊥ : EReal) by simp [Ideal.ofBits, Ideal.ieee]]
  exact max_eq_right bot_le

theorem refTop_at (s : FVec Ideal S2x8x16384x16384 .f32) (b : Fin 2) (h : Fin 8) (x : Fin 16384) :
    refTop s (ix3 b h x) = Finset.univ.fold max (⊥ : EReal) (fun y : Fin 16384 => (s (ix4 b h x y) : EReal)) := by
  rw [← refMax_at]
  exact max_floor (refMax s) _ _

theorem refSpread_at (s : FVec Ideal S2x8x16384 .f32) (b : Fin 2) (h : Fin 8) (x y : Fin 16384) :
    refSpread s (ix4 b h x y) = s (ix3 b h x) := by
  unfold refSpread
  pointwise

theorem refMass_at (s : FVec Ideal S2x8x16384x16384 .f32) (b : Fin 2) (h : Fin 8) (x y : Fin 16384) :
    (refMass s (ix4 b h x y) : EReal) = Ideal.exp (s (ix4 b h x y) - Finset.univ.fold max (⊥ : EReal) (fun y : Fin 16384 => (s (ix4 b h x y) : EReal))) := by
  rw [← refTop_at, ← refSpread_at (refTop s) b h x y]
  rfl

theorem refScores_at (q k : FVec Ideal S2x16384x1024 .f32) (x : FVec Ideal S8x257 .f32) (b : Fin 2) (h : Fin 8) (i j : Fin 16384) :
    (refScores q k x (ix4 b h i j) : EReal)
      = (∑ d : Fin 128, (q (ix3 b i ⟨h.val * 128 + d.val, by omega⟩) * Ideal.ofBits FTy.f32 1035273459#32 * k (ix3 b j ⟨h.val * 128 + d.val, by omega⟩) : EReal))
        + if InBand i j then (x (ix2 h ⟨min 256 (i.val + 128 - j.val), by omega⟩) : EReal) else ⊥ := by
  unfold refScores
  pointwise
  rw [refBias_at]

/-- The weighted values: the softmax over all keys of one head's scores, against that head's columns. -/
theorem refTail_at (s : FVec Ideal S2x8x16384x16384 .f32) (v : FVec Ideal S2x16384x1024 .f32) (b : Fin 2) (x : Fin 16384) (w : Fin 1024)
    (t : Fin 16384 → EReal) (ht : ∀ y, s (ix4 b ⟨w.val / 128, by omega⟩ x y) = t y) :
    (refTail s v (ix3 b x w) : EReal) = ∑ y, v (ix3 b y w) * Ideal.div (Ideal.exp (t y - Finset.univ.fold max ⊥ t))
      (∑ y, Ideal.exp (t y - Finset.univ.fold max ⊥ t)) := by
  unfold refTail
  pointwise
  simp only [refMass_at, ht]

end Cert.Band

end
-- ==== Proof.Pre.lean ====
/- The precondition read: the queries, the keys and the relative biases are real numbers. -/
module

public import proofs.«01_k».proof.Pre_finite_scores
public import Idealize.ShloMosaic.Lib.Pipeline.ValueKit
public import Idealize.ShloMosaic.Lib.ReduceAll

@[expose] public section

noncomputable section

open Idealize.ShloMosaic

namespace Cert.Band

instance preFacts : Cert.Pre_finite_scores.Facts where
  bcast_S_S2x16384x1024 := by decide
  reducesTo_S2x16384x1024_S_d0_1_2 := by decide
  h_S_ := by decide
  bcast_S_S8x257 := by decide
  reducesTo_S8x257_S_d0_1 := by decide

/-- An extended real whose absolute value is below the word of `+∞` is a real number. -/
theorem real_of_abs (a : EReal) (h : FloatOps.cmpf (F := Ideal) (φ := .f32) .olt (FloatOps.absf (F := Ideal) (φ := .f32) a) (Ideal.ofBits .f32 0x7F800000#32) = 1#1) :
    a = ((a.toReal : ℝ) : EReal) := by
  have hi : Ideal.ofBits .f32 0x7F800000#32 = (⊤ : EReal) := by simp [Ideal.ofBits, Ideal.ieee]
  rw [hi] at h
  have h' : BitVec.ofBool (decide (max a (-a) < (⊤ : EReal))) = 1#1 := h
  by_cases hc : max a (-a) < (⊤ : EReal)
  · obtain ⟨h1, h2⟩ := max_lt_iff.mp hc
    refine (EReal.coe_toReal h1.ne ?_).symm
    rintro rfl
    simp at h2
  · rw [decide_eq_false hc] at h'
    exact absurd h' (by decide)

/-- What the precondition says of each of its three arrays. -/
theorem finite_of_pre (q k v : FVec Ideal Cert.Pre_finite_scores.S2x16384x1024 .f32) (b : FVec Ideal Cert.Pre_finite_scores.S8x257 .f32)
    (h : Cert.Pre_finite_scores.fn (F := Ideal) q k v b = fun _ => 1#1) :
    (∀ i, (q i : EReal) = ((EReal.toReal (q i) : ℝ) : EReal)) ∧ (∀ i, (k i : EReal) = ((EReal.toReal (k i) : ℝ) : EReal))
      ∧ (∀ i, (b i : EReal) = ((EReal.toReal (b i) : ℝ) : EReal)) := by
  have h0 := congrFun h ix0
  dsimp only [Cert.Pre_finite_scores.fn] at h0
  have both : ∀ x y : BitVec 1, x &&& y = 1#1 → x = 1#1 ∧ y = 1#1 := by decide
  obtain ⟨h1, hb⟩ := both _ _ h0
  obtain ⟨hq, hk⟩ := both _ _ h1
  refine ⟨fun i => real_of_abs _ ?_, fun i => real_of_abs _ ?_, fun i => real_of_abs _ ?_⟩
  · exact Host.reduce_andi_all _ _ _ _ _ hq i
  · exact Host.reduce_andi_all _ _ _ _ _ hk i
  · exact Host.reduce_andi_all _ _ _ _ _ hb i

end Cert.Band

end
-- ==== Proof.Equation.lean ====
/- The kernel's window and the reference's whole row give the same weighted mean: the two softmaxes, in base two and in base e, over the keys in the band. -/
module

public import proofs.«01_k».proof.Proof.Softmax
public import proofs.«01_k».proof.Proof.Array
public import proofs.«01_k».proof.Proof.Host
public import proofs.«01_k».proof.Proof.Ref
public import proofs.«01_k».proof.Proof.Pre

@[expose] public section

noncomputable section

open Idealize.ShloMosaic Idealize.ShloMosaic.TcCoe Idealize.SL.Sem
open Idealize.ShloMosaic.Pipeline (Dat)

namespace Cert.Band
open Cert.KernelIdeal Cert.KernelIdeal.Gen

/-- The queries' scale, a real number. -/
def scaleR : ℝ := (Ideal.ofBits FTy.f32 1035273459#32).toReal

theorem scale_eq : Ideal.ofBits FTy.f32 1035273459#32 = (scaleR : EReal) := by
  refine (EReal.coe_toReal ?_ ?_).symm <;> simp [Ideal.ofBits, Ideal.ieee] <;> norm_cast

theorem two_eq : Ideal.ofBits FTy.f32 1073741824#32 = ((2 : ℝ) : EReal) := by
  show Ideal.ieee 8 23 1073741824#32 = _
  unfold Ideal.ieee
  simp
  rw [← EReal.coe_mul]
  exact congrArg _ (by norm_num)

theorem perLog_eq : Ideal.div 1 (Ideal.log (Ideal.ofBits FTy.f32 1073741824#32)) = (((Real.log 2)⁻¹ : ℝ) : EReal) := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [two_eq, hl, Ideal.div_coe (Real.log_pos (by norm_num)).ne']
  rw [one_mul, one_div]

/-- The window's columns whose key is in the band of query `x`. -/
def cols (x : ℕ) : Finset (Fin 768) := Finset.univ.filter fun c => 512 ≤ c.val + x / 256 * 256 ∧ InBand x (c.val + x / 256 * 256 - 512)

/-- The keys in the band of query `x`. -/
def keys (x : ℕ) : Finset (Fin 16384) := Finset.univ.filter fun y => InBand x y.val

theorem mem_cols (x : ℕ) (c : Fin 768) : c ∈ cols x ↔ 512 ≤ c.val + x / 256 * 256 ∧ (c.val + x / 256 * 256 - 512) / 64 ≤ x / 64 ∧ x / 64 ≤ (c.val + x / 256 * 256 - 512) / 64 + 8 := by
  exact ⟨fun h => (Finset.mem_filter.mp h).2, fun h => Finset.mem_filter.mpr ⟨Finset.mem_univ _, h⟩⟩

theorem mem_keys (x : ℕ) (y : Fin 16384) : y ∈ keys x ↔ y.val / 64 ≤ x / 64 ∧ x / 64 ≤ y.val / 64 + 8 := by
  exact ⟨fun h => (Finset.mem_filter.mp h).2, fun h => Finset.mem_filter.mpr ⟨Finset.mem_univ _, h⟩⟩

/-- A score in base two: the scale and the bias both carry `1 / ln 2`, which comes out of the sum. -/
theorem score_base (q k : Fin 128 → ℝ) (b l s : ℝ) :
    (∑ d, ((q d : ℝ) : EReal) * ((s : EReal) * (l : EReal)) * ((k d : ℝ) : EReal)) + (b : EReal) * (l : EReal)
      = ((l * ((∑ d, q d * s * k d) + b) : ℝ) : EReal) := by
  have e : ∀ d, ((q d : ℝ) : EReal) * ((s : EReal) * (l : EReal)) * ((k d : ℝ) : EReal) = ((l * (q d * s * k d) : ℝ) : EReal) := by
    intro d
    rw [← EReal.coe_mul, ← EReal.coe_mul, ← EReal.coe_mul]
    exact congrArg _ (by ring)
  simp only [e]
  rw [coe_sum, ← EReal.coe_mul, ← EReal.coe_add, ← Finset.mul_sum]
  exact congrArg _ (by ring)

theorem score_plain (q k : Fin 128 → ℝ) (b s : ℝ) :
    (∑ d, ((q d : ℝ) : EReal) * (s : EReal) * ((k d : ℝ) : EReal)) + (b : EReal) = (((∑ d, q d * s * k d) + b : ℝ) : EReal) := by
  simp only [← EReal.coe_mul]
  rw [coe_sum, ← EReal.coe_add]

variable (m : (ℓ : Loc nD τ sig) → Buf (Elt Ideal) ℓ)

/-- The kernel's result at an index is the reference's, read off the arguments. -/
theorem band_eq (c : Dev nD) (b : Fin 2) (x : Fin 16384) (w : Fin 1024)
    (hq : ∀ i, argQ m c i = ((argQ m c i).toReal : EReal)) (hk : ∀ i, argK m c i = ((argK m c i).toReal : EReal))
    (hb : ∀ i, argB m c i = ((argB m c i).toReal : EReal)) :
    bandAt (V m c main_v5) (V m c main_v6) (V m c main_v7) (V m c main_v143) b x w
      = refTail (refScores (argQ m c) (argK m c) (argB m c)) (argV m c) (ix3 b x w) := by
  have hx := x.isLt
  have hw := w.isLt
  let h : Fin 8 := ⟨w.val / 128, by omega⟩
  let a : Fin 16384 → ℝ := fun y => (∑ d : Fin 128, (argQ m c (ix3 b x ⟨h.val * 128 + d.val, by omega⟩)).toReal * scaleR * (argK m c (ix3 b y ⟨h.val * 128 + d.val, by omega⟩)).toReal)
    + (argB m c (ix2 h ⟨min 256 (x.val + 128 - y.val), by omega⟩)).toReal
  rw [refTail_at _ _ b x w (fun y => if InBand x y then ((a y : ℝ) : EReal) else ⊥)]
  · unfold bandAt mix
    refine window_softmax (cols x) (keys x)
      (fun c => ⟨min 16383 (c.val + x.val / 256 * 256 - 512), by omega⟩) (fun y => ⟨min 767 (y.val + 512 - x.val / 256 * 256), by omega⟩)
      ?_ ?_ ?_ a _ _ _ (fun y => argV m c (ix3 b y w)) ?_ ?_ ?_ ?_ ?_
    · intro c hc
      have h1 := (mem_cols _ _).mp hc
      have h2 := c.isLt
      refine ⟨(mem_keys _ _).mpr ?_, Fin.ext ?_⟩
      · show min 16383 (c.val + x.val / 256 * 256 - 512) / 64 ≤ x.val / 64 ∧ x.val / 64 ≤ min 16383 (c.val + x.val / 256 * 256 - 512) / 64 + 8
        omega
      · show min 767 (min 16383 (c.val + x.val / 256 * 256 - 512) + 512 - x.val / 256 * 256) = c.val
        omega
    · intro y hy
      have h1 := (mem_keys _ _).mp hy
      have h2 := y.isLt
      refine ⟨(mem_cols _ _).mpr ?_, Fin.ext ?_⟩
      · show 512 ≤ min 767 (y.val + 512 - x.val / 256 * 256) + x.val / 256 * 256 ∧ (min 767 (y.val + 512 - x.val / 256 * 256) + x.val / 256 * 256 - 512) / 64 ≤ x.val / 64
          ∧ x.val / 64 ≤ (min 767 (y.val + 512 - x.val / 256 * 256) + x.val / 256 * 256 - 512) / 64 + 8
        omega
      · show min 16383 (min 767 (y.val + 512 - x.val / 256 * 256) + x.val / 256 * 256 - 512) = y.val
        omega
    · exact ⟨x, (mem_keys _ _).mpr (by omega)⟩
    · intro d hd
      have h1 := (mem_cols _ _).mp hd
      have hd' := d.isLt
      rw [table_at, if_pos]
      · have hsum : ∀ e : Fin 128, @HMul.hMul EReal EReal EReal _ (V m c main_v5 (ix3 b x ⟨w.val / 128 * 128 + e.val, by omega⟩)) (V m c main_v6 (ix3 b ⟨keyRow (x.val / 256) d.val, keyRow_lt (by omega) hd'⟩ ⟨w.val / 128 * 128 + e.val, by omega⟩))
            = (((argQ m c (ix3 b x ⟨h.val * 128 + e.val, by omega⟩)).toReal : ℝ) : EReal) * ((scaleR : EReal) * (((Real.log 2)⁻¹ : ℝ) : EReal))
              * (((argK m c (ix3 b ⟨min 16383 (d.val + x.val / 256 * 256 - 512), by omega⟩ ⟨h.val * 128 + e.val, by omega⟩)).toReal : ℝ) : EReal) := by
          intro e
          rw [q_at, k_at, scale_eq, perLog_eq, ← hq, ← hk]
          refine congrArg (fun y : Fin 16384 => argQ m c (ix3 b x ⟨h.val * 128 + e.val, by omega⟩) * ((scaleR : EReal) * (((Real.log 2)⁻¹ : ℝ) : EReal)) * argK m c (ix3 b y ⟨h.val * 128 + e.val, by omega⟩)) (Fin.ext ?_)
          show keyRow (x.val / 256) d.val = min 16383 (d.val + x.val / 256 * 256 - 512)
          unfold keyRow
          omega
        refine (congrArg₂ (· + ·) (Finset.sum_congr rfl fun e _ => hsum e) ?_).trans
          (score_base (fun e => (argQ m c (ix3 b x ⟨h.val * 128 + e.val, by omega⟩)).toReal)
            (fun e => (argK m c (ix3 b ⟨min 16383 (d.val + x.val / 256 * 256 - 512), by omega⟩ ⟨h.val * 128 + e.val, by omega⟩)).toReal)
            (argB m c (ix2 h ⟨min 256 (x.val + 128 - min 16383 (d.val + x.val / 256 * 256 - 512)), by omega⟩)).toReal (Real.log 2)⁻¹ scaleR)
        rw [perLog_eq, ← hb]
        refine congrArg (fun r : Fin 257 => argB m c (ix2 h r) * (((Real.log 2)⁻¹ : ℝ) : EReal)) (Fin.ext ?_)
        show min 256 (640 + x.val % 256 - d.val) = min 256 (x.val + 128 - min 16383 (d.val + x.val / 256 * 256 - 512))
        omega
      · unfold InBand
        show 512 ≤ d.val + 256 * min (x.val / 256) 2 ∧ ((d.val + 256 * min (x.val / 256) 2 - 512) / 64 ≤ (256 * min (x.val / 256) 2 + x.val % 256) / 64 ∧ (256 * min (x.val / 256) 2 + x.val % 256) / 64 ≤ (d.val + 256 * min (x.val / 256) 2 - 512) / 64 + 8)
        omega
    · intro d hd
      have h1 := fun hh => hd ((mem_cols _ _).mpr hh)
      have hd' := d.isLt
      rw [table_at, if_neg, EReal.add_bot]
      unfold InBand
      show ¬ (512 ≤ d.val + 256 * min (x.val / 256) 2 ∧ ((d.val + 256 * min (x.val / 256) 2 - 512) / 64 ≤ (256 * min (x.val / 256) 2 + x.val % 256) / 64 ∧ (256 * min (x.val / 256) 2 + x.val % 256) / 64 ≤ (d.val + 256 * min (x.val / 256) 2 - 512) / 64 + 8))
      intro h2
      apply h1
      omega
    · intro y hy
      exact if_pos ((mem_keys _ _).mp hy)
    · intro y hy
      exact if_neg (fun hh => hy ((mem_keys _ _).mpr hh))
    · intro d hd
      have h1 := (mem_cols _ _).mp hd
      have hd' := d.isLt
      rw [v_at]
      refine congrArg (fun y : Fin 16384 => argV m c (ix3 b y w)) (Fin.ext ?_)
      show keyRow (x.val / 256) d.val = min 16383 (d.val + x.val / 256 * 256 - 512)
      unfold keyRow
      omega
  · intro y
    rw [refScores_at, scale_eq]
    by_cases hc : InBand x y
    · rw [if_pos hc, if_pos hc]
      refine (congrArg₂ (· + ·) (Finset.sum_congr rfl fun e _ => ?_) ?_).trans
          (score_plain (fun e => (argQ m c (ix3 b x ⟨h.val * 128 + e.val, by omega⟩)).toReal)
            (fun e => (argK m c (ix3 b y ⟨h.val * 128 + e.val, by omega⟩)).toReal)
            (argB m c (ix2 h ⟨min 256 (x.val + 128 - y.val), by omega⟩)).toReal scaleR)
      · rw [← hq, ← hk]
      · rw [← hb]
    · rw [if_neg hc, if_neg hc, EReal.add_bot]

end Cert.Band

end
-- ==== Proof.FfnBody.lean ====
/- The feed-forward's body at one grid point: at the first point it only prepares the next block's normalized rows, at every
   later one it finishes the rows prepared before and prepares the next. -/
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.ValueKit

@[expose] public section

set_option maxRecDepth 16384

noncomputable section

namespace Cert.Ffn
open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points -/

theorem cond2_iff : ∀ t : Fin grid0.N, k0_cond2 (grid0.coords t) = 1#1 ↔ t.val ≠ 0 := by decide +kernel
theorem off1_eq : ∀ t : Fin grid0.N, k0_off1 (grid0.coords t) = ![(t.val + 1) % 2, 0, 0] := by decide +kernel
theorem off2_eq : ∀ t : Fin grid0.N, k0_off2 (grid0.coords t) = ![t.val % 2, 0, 0] := by decide +kernel
theorem first_iff : ∀ t : Fin grid0.N,
    Scalar.cmpi .ne (Scalar.extui (Scalar.cmpi .eq (BitVec.ofNat 32 (grid0.coords t 0).val) 0#32) : BitVec 32) 0#32 = 1#1 ↔ t.val = 0 := by
  decide +kernel
theorem flush_iff : ∀ t : Fin grid0.N, win0_5.flush t = true ↔ t.val ≠ 0 := by decide +kernel

/-! ## The body at one point -/

abbrev c0 : Rect S2048x3072 := Rect.unit (s := S2048x3072) ![0, 0] S2048x1024.size inb_S2048x3072_S2048x1024_0_0
abbrev c1 : Rect S2048x3072 := Rect.unit (s := S2048x3072) ![0, 1024] S2048x1024.size inb_S2048x3072_S2048x1024_0_1024
abbrev c2 : Rect S2048x3072 := Rect.unit (s := S2048x3072) ![0, 2048] S2048x1024.size inb_S2048x3072_S2048x1024_0_2048
abbrev d0 : Rect S3072x2048 := Rect.unit (s := S3072x2048) ![0, 0] S1024x2048.size inb_S3072x2048_S1024x2048_0_0
abbrev d1 : Rect S3072x2048 := Rect.unit (s := S3072x2048) ![1024, 0] S1024x2048.size inb_S3072x2048_S1024x2048_1024_0
abbrev d2 : Rect S3072x2048 := Rect.unit (s := S3072x2048) ![2048, 0] S1024x2048.size inb_S3072x2048_S1024x2048_2048_0

/-- The output block from the normalized rows `n`, the rows `x` themselves and the three weights: the inner width in thirds. -/
def outB (n : Vec F S1x256x2048 .bf16) (x : Vec F S256x2048 .f32) (wa wb : Vec F S2048x3072 .bf16) (wo : Vec F S3072x2048 .bf16) : Vec F S256x2048 .f32 :=
  k0_pay3 (k0_pay11 (k0_pay7 n) (View.ld wa c2) (View.ld wb c2))
    (k0_pay10 (k0_pay7 n) (k0_pay9 n (View.ld wa c1)) (View.ld wb c1)
      (k0_pay8 n (View.ld wa c0) (View.ld wb c0) x (View.ld wo d0)) (View.ld wo d1))
    (View.ld wo d2)

/-- The last store, read back through its own rectangle. -/
theorem ld_writes {s : Shape} {e : EltTy} (v : View sig .tc .vmem s e) (f : v.ty.Contents (Elt F)) (r : Rect s) (w : r.shape.Idx → Elt F e) :
    View.ld (v.read (Elt F) (v.writes (Elt F) f [⟨r, w⟩])) r = w :=
  funext fun x => View.read_writes_cons_emb v f r w [] x

theorem copy2 (x : Vec F S256x2048 .f32) : k0_pay2 x = x := by
  unfold k0_pay2; simp only [shapeCast_self]
theorem copy6 (x : Vec F S256x2048 .f32) : k0_pay6 x = x := by
  unfold k0_pay6 k0_pay4; simp only [shapeCast_self]
theorem norm5 (x : Vec F S256x2048 .f32) (g : Vec F S1x2048 .f32) : k0_pay5 x g = k0_pay1 x g := rfl

set_option maxHeartbeats 1000000 in
/-- At the first point the output block is left alone, the first slot receives the normalized rows and the copy the rows. -/
theorem sound_first (c : Dev nD) (E : Set ℕ) (i : grid0.Coords)
    (h1 : Scalar.cmpi .ne (Scalar.extui (Scalar.cmpi .eq (BitVec.ofNat 32 (i 0).val) 0#32) : BitVec 32) 0#32 = 1#1) (h2 : ¬ k0_cond2 i = 1#1)
    (arg1 : Memref sig .tc .vmem S256x2048 .f32) (harg1 : arg1.IsWhole) (arg2 : Memref sig .tc .vmem S1x2048 .f32) (harg2 : arg2.IsWhole) (arg3 : Memref sig .tc .vmem S2048x3072 .bf16) (harg3 : arg3.IsWhole) (arg4 : Memref sig .tc .vmem S2048x3072 .bf16) (harg4 : arg4.IsWhole) (arg5 : Memref sig .tc .vmem S3072x2048 .bf16) (harg5 : arg5.IsWhole) (arg6 : Memref sig .tc .vmem S256x2048 .f32) (harg6 : arg6.IsWhole) (arg7 : Memref sig .tc .vmem S2x256x2048 .bf16) (harg7 : arg7.IsWhole) (arg8 : Memref sig .tc .vmem S256x2048 .f32) (harg8 : arg8.IsWhole)
    (x0 : Vec F S256x2048 .f32) (x1 : Vec F S1x2048 .f32) (K : PUnit → sProp 𝕄) :
    iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ (∃ y, ⌜∀ inb, View.ld y (Rect.unit (s := S2x256x2048) ![0, 0, 0] S1x256x2048.size inb) = k0_pay1 x0 x1⌝ ∗ owns (c : Thread nD τ) arg7 fullShare y)
            ∗ owns (c : Thread nD τ) arg8 fullShare x0) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%d7, %f7, -, H7⟩, ⟨%d8, %f8, -, H8⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H7]
  · iexists _; isplitr
    swap
    · iexists _; isplitr
      swap; · iexact H7
      ipureintro; rfl
    ipureintro
    intro inb
    refine (ld_writes _ _ _ _).trans ?_
    exact congrArg₂ (k0_pay1 (F := F)) (View.readAt_full (s := S256x2048) _ _ _) (View.readAt_full (s := S1x2048) _ _ _)
  iexists _; isplitr
  swap; · iexact H8
  ipureintro
  exact (View.read_writes_full _ _ _ _ _).trans (View.readAt_full _ _ _ ▸ copy2 _)

set_option maxHeartbeats 1000000 in
/-- At a later point the output block receives the finished rows, the other slot the next normalized rows and the copy the next rows. -/
theorem sound_later (c : Dev nD) (E : Set ℕ) (i : grid0.Coords)
    (h1 : ¬ Scalar.cmpi .ne (Scalar.extui (Scalar.cmpi .eq (BitVec.ofNat 32 (i 0).val) 0#32) : BitVec 32) 0#32 = 1#1) (h2 : k0_cond2 i = 1#1)
    (arg1 : Memref sig .tc .vmem S256x2048 .f32) (harg1 : arg1.IsWhole) (arg2 : Memref sig .tc .vmem S1x2048 .f32) (harg2 : arg2.IsWhole) (arg3 : Memref sig .tc .vmem S2048x3072 .bf16) (harg3 : arg3.IsWhole) (arg4 : Memref sig .tc .vmem S2048x3072 .bf16) (harg4 : arg4.IsWhole) (arg5 : Memref sig .tc .vmem S3072x2048 .bf16) (harg5 : arg5.IsWhole) (arg6 : Memref sig .tc .vmem S256x2048 .f32) (harg6 : arg6.IsWhole) (arg7 : Memref sig .tc .vmem S2x256x2048 .bf16) (harg7 : arg7.IsWhole) (arg8 : Memref sig .tc .vmem S256x2048 .f32) (harg8 : arg8.IsWhole)
    (x0 : Vec F S256x2048 .f32) (x1 : Vec F S1x2048 .f32) (x2 x3 : Vec F S2048x3072 .bf16) (x4 : Vec F S3072x2048 .bf16)
    (n : Vec F S1x256x2048 .bf16) (x : Vec F S256x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ y, ⌜∀ inb, View.ld y (Rect.unit (s := S2x256x2048) (k0_off1 i) S1x256x2048.size inb) = n⌝ ∗ owns (c : Thread nD τ) arg7 fullShare y)
        ∗ owns (c : Thread nD τ) arg8 fullShare x
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (outB n x x2 x3 x4)
            ∗ (∃ y, ⌜∀ inb, View.ld y (Rect.unit (s := S2x256x2048) (k0_off2 i) S1x256x2048.size inb) = k0_pay5 x0 x1⌝ ∗ owns (c : Thread nD τ) arg7 fullShare y)
            ∗ owns (c : Thread nD τ) arg8 fullShare x0) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%y7, %hy7, %f7, %hf7, H7⟩, ⟨%f8, %hf8, H8⟩, Hk⟩
  subst hf0 hf1 hf2 hf3 hf4 hf7 hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_full _ _ _ _ _).trans ?_
    have hn : sound_later.sl.r c i h2 arg7 f7 = k0_pay7 n := congrArg k0_pay7 (hy7 _)
    have hn1 : sound_later.sl.r_1 c i h2 arg3 arg7 f2 f7 = k0_pay9 n (View.ld (View.read (Elt F) arg3.view f2) c1) :=
      congrArg₂ k0_pay9 (hy7 _) rfl
    unfold sound_later.sl.r_2 sound_later.sl.v84 sound_later.sl.H6_3
    rw [hn, hn1]
    refine congrArg₂ (fun a b => k0_pay3 a b _) rfl ((View.readCov_full (s := S256x2048) _ _ _ _ _).trans ?_)
    unfold sound_later.sl.v61
    refine congrArg (fun a => k0_pay10 _ _ _ a _) ?_
    unfold sound_later.sl.H6_2
    refine ((View.readCov_full (s := S256x2048) _ _ _ _ _).trans ?_)
    refine congrArg₂ (fun a b => k0_pay8 a _ _ b _) (hy7 _) ?_
    unfold sound_later.sl.v38
    refine ((View.readCov_full (s := S256x2048) _ _ _ _ _).trans ?_)
    exact View.readAt_full (s := S256x2048) _ _ _
  isplitl [H7]
  · iexists _; isplitr
    swap
    · iexists _; isplitr
      swap; · iexact H7
      ipureintro; rfl
    ipureintro
    intro inb
    refine (ld_writes _ _ _ _).trans ?_
    exact congrArg₂ (k0_pay5 (F := F)) (View.readAt_full (s := S256x2048) _ _ _) (View.readAt_full (s := S1x2048) _ _ _)
  iexists _; isplitr
  swap; · iexact H8
  ipureintro
  exact (View.read_writes_full _ _ _ _ _).trans (View.readAt_full _ _ _ ▸ copy6 _)

end Cert.Ffn
end
-- ==== Proof.FfnRun.lean ====
/- The feed-forward's run over its grid: what the two carried buffers hold between points, and every final state. -/
module

public import proofs.«01_k».proof.Proof.FfnBody
public import Idealize.ShloMosaic.Lib.Claim

@[expose] public section

set_option maxRecDepth 16384

noncomputable section

namespace Cert.Ffn
open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows staged at point `k`, normalized. -/
def rows (c : Dev nD) (k : Fin cfg0.N) : Vec F S1x256x2048 .bf16 := k0_pay1 (iblk m c 0 k) (iblk m c 1 k)

/-- The point before `t`. -/
abbrev prev (t : Fin cfg0.N) : Fin cfg0.N := ⟨t.val - 1, by have := t.isLt; omega⟩

/-- The output block of point `t`: of the rows staged at the point before. -/
def outT (c : Dev nD) (t : Fin cfg0.N) : Vec F S256x2048 .f32 :=
  outB (rows m c (prev t)) (iblk m c 0 (prev t)) (iblk m c 2 t) (iblk m c 3 t) (iblk m c 4 t)

/-- What is carried after point `k`: slot `k % 2` of the first buffer at that point's normalized rows, the second at its rows. -/
def carried (c : Dev nD) (k : Fin cfg0.N) : sProp 𝕄 :=
  iprop((∃ y, ⌜∀ off inb, off = ![k.val % 2, 0, 0] → View.ld y (Rect.unit (s := S2x256x2048) off S1x256x2048.size inb) = rows m c k⌝
        ∗ owns (c : Thread nD τ) (Memref.whole cc0_scratch0) fullShare y)
    ∗ owns (c : Thread nD τ) (Memref.whole cc0_scratch1) fullShare (iblk m c 0 k) ∗ ∃ r, prngReg c r)

/-- What is carried before point `n`. -/
def inv (c : Dev nD) : (n : ℕ) → n ≤ cfg0.N → sProp 𝕄
  | 0, _ => Pipeline.ΦA spec0 c
  | k + 1, h => carried m c ⟨k, h⟩

/-- The two buffers at anything, as the run finds and leaves them. -/
theorem free_eq (c : Dev nD) : (Pipeline.ΦA (Val := Elt F) (U := UR sig nD τ) spec0 c : sProp 𝕄)
    = iprop(((∃ d, owns (c : Thread nD τ) (Memref.whole cc0_scratch0) fullShare d) ∗ ∃ d, owns (c : Thread nD τ) (Memref.whole cc0_scratch1) fullShare d)
      ∗ ∃ r, prngReg c r) := by
  unfold Pipeline.ΦA
  rw [scopedRest0_eq]
  simp only [owns_whole]

theorem carried_free (c : Dev nD) (k : Fin cfg0.N) : carried m c k ⊢ Pipeline.ΦA spec0 c := by
  rw [free_eq]; unfold carried
  iintro ⟨⟨%y, -, H⟩, H', Hr⟩
  isplitr [Hr]
  · isplitl [H]
    · iexists y; iexact H
    · iexists _; iexact H'
  iexact Hr

/-- The run's data: the arrays as found, each input's block left in place, the output's block at the finished rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outT m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outT m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem inv_start (c : Dev nD) (t : Fin cfg0.N) : (dats m 0 c).Φ t.castSucc = inv m c t.val (Nat.le_of_lt t.isLt) := by
  dsimp only [dats]; exact Pipeline.Dat.Φ_castSucc (inv m c) t
theorem inv_end (c : Dev nD) (t : Fin cfg0.N) : (dats m 0 c).Φ t.succ = carried m c t := by
  dsimp only [dats]; rfl

/-- Before the first point nothing is carried. -/
theorem inv_zero (c : Dev nD) (t : Fin cfg0.N) (h : t.val = 0) : inv m c t.val (Nat.le_of_lt t.isLt) = Pipeline.ΦA spec0 c := by
  obtain ⟨n, hn⟩ := t; simp only at h; subst h; rfl
/-- Before a later one, what the point before left. -/
theorem inv_pos (c : Dev nD) (t : Fin cfg0.N) (h : t.val ≠ 0) : inv m c t.val (Nat.le_of_lt t.isLt) = carried m c (prev t) := by
  obtain ⟨n, hn⟩ := t
  cases n with
  | zero => exact absurd rfl h
  | succ k => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem leaves_first (c : Dev nD) (t : Fin cfg0.N) (h : t.val = 0) :
    (dats m 0 c).leavesExact 5 t = iprop(∃ d, owns (c : Thread nD τ) (st0_5 t) fullShare ((dats m 0 c).before 5 t d)) :=
  (dats m 0 c).leavesExact_idle 5 t
    (show (!(k0_cond2 (grid0.coords t) == 1#1)) = true by
      have := (not_congr (cond2_iff t)).mpr (not_not.mpr h); simpa using this)
    (Bool.eq_false_iff.mpr fun hf => (flush_iff t).mp hf h)

theorem leaves_later (c : Dev nD) (t : Fin cfg0.N) (h : t.val ≠ 0) :
    (dats m 0 c).leavesExact 5 t = owns (c : Thread nD τ) (st0_5 t) fullShare (outT m c t) := by
  have hi : cfg0.idle 5 (cfg0.grid.coords t) = false :=
    (show (!(k0_cond2 (grid0.coords t) == 1#1)) = false by simpa using (cond2_iff t).mpr h)
  unfold Dat.leavesExact
  rw [hi, after5]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [inv_start, inv_end, show (dats m 0 c).owesAt () t.succ = (dats m 0 c).owesAt () t.castSucc from rfl,
    after0, after1, after2, after3, after4]
  by_cases h : t.val = 0
  · rw [leaves_first m c t h, inv_zero m c t h, free_eq]
    iintro ⟨⟨⟨H7, H8⟩, Hr⟩, Ho, ⟨%d0, H0⟩, ⟨%d1, H1⟩, ⟨%d2, H2⟩, ⟨%d3, H3⟩, ⟨%d4, H4⟩, H5⟩
    iapply (sound_first c Set.univ (grid0.coords t) ((first_iff t).mpr h) (fun h2 => (cond2_iff t).mp h2 h) _ _ _ _ _ _ _ _ _ _ _ _ _ _ _ _ (iblk m c 0 t) (iblk m c 1 t) _)
    isplitl [H0]; · iexact H0
    isplitl [H1]; · iexact H1
    isplitl [H7]; · iexact H7
    isplitl [H8]; · iexact H8
    iintro ⟨H0, H1, ⟨%y, %hy, H7⟩, H8⟩
    isplitl [H7 H8 Hr]
    · unfold carried
      isplitl [H7]
      · iexists y; isplitr
        · ipureintro
          intro off inb ho
          rw [h] at ho
          subst ho
          exact hy inb
        iexact H7
      isplitl [H8]; · iexact H8
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [leaves_later m c t h, inv_pos m c t h]
    unfold carried
    iintro ⟨⟨⟨%y, %hy, H7⟩, H8, Hr⟩, Ho, ⟨%d0, H0⟩, ⟨%d1, H1⟩, ⟨%d2, H2⟩, ⟨%d3, H3⟩, ⟨%d4, H4⟩, ⟨%d5, H5⟩⟩
    iapply (sound_later c Set.univ (grid0.coords t) (fun h1 => h ((first_iff t).mp h1)) ((cond2_iff t).mpr h) _ _ _ _ _ _ _ _ _ _ _ _ _ _ _ _ (iblk m c 0 t) (iblk m c 1 t) (iblk m c 2 t) (iblk m c 3 t) (iblk m c 4 t) (rows m c (prev t)) (iblk m c 0 (prev t)) _)
    isplitl [H0]; · iexact H0
    isplitl [H1]; · iexact H1
    isplitl [H2]; · iexact H2
    isplitl [H3]; · iexact H3
    isplitl [H4]; · iexact H4
    isplitl [H5]; · iexists _; iexact H5
    isplitl [H7]
    · iexists y; isplitr
      · ipureintro
        intro inb
        exact hy _ inb ((off1_eq t).trans (by congr 1; show (t.val + 1) % 2 = (t.val - 1) % 2; omega))
      iexact H7
    isplitl [H8]; · iexact H8
    iintro ⟨H0, H1, H2, H3, H4, H5, ⟨%y', %hy', H7⟩, H8⟩
    isplitl [H7 H8 Hr]
    · isplitl [H7]
      · iexists y'; isplitr
        · ipureintro
          intro off inb ho
          have e := ho.trans (off2_eq t).symm
          subst e
          exact hy' inb
        iexact H7
      isplitl [H8]; · iexact H8
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends, with the arrays at what the data computes and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => ite_self _)
    (howed := fun _ _ => rfl) (V := V m) (hmain := hmain m Variants.none) (hA := A_eq m)
    (hin := fun c => .rfl) (hout := fun c => carried_free m c _)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result ends as the array the grid points leave, the arguments as they were. -/
theorem run_value : θ_run defs (onTc (τ := τ) (main (F := F))) ⟨m, fun _ => 0, ρ⟩ (fun r => ∀ c : Dev nD,
      r.2.mem ((c.tc : Thread nD τ).loc main_v7) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 5, h.2.1 c⟩) (θ_run_and (run_main m ρ) (frame m ρ))

end Cert.Ffn
end
-- ==== Proof.FfnMath.lean ====
/- The feed-forward's entry as a formula of its operands, in the order the tiles compute it and in the order the plain definition does, and their equality. -/
module

public import Idealize.ShloMosaic.Lib.Pipeline.ValueKit
public import Idealize.ShloMosaic.Lib.IdealHost

@[expose] public section

set_option maxRecDepth 16384

noncomputable section

open Idealize.ShloMosaic

namespace Cert.Ffn

/-- The factor a row is scaled by: one over the root of the mean of its squares plus a small constant. -/
def scale (x : Fin 2048 → EReal) : EReal :=
  Ideal.rsqrt (Ideal.div (∑ d, x d * x d) (Ideal.ofBits FTy.f32 1157627904#32) + Ideal.ofBits FTy.f32 897988541#32)

/-- A row scaled, and weighted lane by lane. -/
def normed (x g : Fin 2048 → EReal) (d : Fin 2048) : EReal := x d * scale x * g d

/-- The gated hidden unit from its two projections, halved. -/
def unit (a b : EReal) : EReal :=
  Ideal.div a (Ideal.ofBits FTy.f32 1065353216#32 + Ideal.exp (0 - a)) * b * Ideal.ofBits FTy.f32 1056964608#32

/-- The hidden units of a normed row. -/
def hidden {n : ℕ} (y : Fin 2048 → EReal) (wa wb : Fin 2048 → Fin n → EReal) (k : Fin n) : EReal :=
  unit (∑ d, y d * wa d k) (∑ d, y d * wb d k)

/-- The third of the hidden units that starts at `o`, projected back. -/
def part (o : ℕ) (ho : o + 1024 ≤ 3072) (y : Fin 2048 → EReal) (wa wb : Fin 2048 → Fin 3072 → EReal) (wo : Fin 3072 → EReal) : EReal :=
  ∑ k : Fin 1024, hidden y wa wb ⟨o + (k : ℕ), by omega⟩ * wo ⟨o + (k : ℕ), by omega⟩

/-- One entry of the result as the tiles add it: the input's, then the three thirds in turn. -/
def tiled (x g : Fin 2048 → EReal) (wa wb : Fin 2048 → Fin 3072 → EReal) (wo : Fin 3072 → EReal) (w : Fin 2048) : EReal :=
  x w + part 0 (by omega) (normed x g) wa wb wo + part 1024 (by omega) (normed x g) wa wb wo + part 2048 (by omega) (normed x g) wa wb wo

/-- The gate as the plain definition writes it. -/
def silu (a : EReal) : EReal :=
  a * Ideal.div (Ideal.ofBits FTy.f32 1065353216#32) (Ideal.ofBits FTy.f32 1065353216#32 + Ideal.exp (-a))

/-- One entry of the result as the plain definition computes it, the weights scaled beforehand. -/
def plain (x g : Fin 2048 → EReal) (wa wb : Fin 2048 → Fin 3072 → EReal) (wo : Fin 3072 → EReal) (w : Fin 2048) : EReal :=
  x w + ∑ k : Fin 3072, silu (∑ d, x d * scale x * (g d * wa d k)) * (∑ d, x d * scale x * (g d * wb d k))
    * (Ideal.ofBits FTy.f32 1056964608#32 * wo k)

theorem one_f32 : Ideal.ofBits FTy.f32 1065353216#32 = (1 : EReal) := Ideal.ofBits_one_f32

theorem exp_nonneg (z : EReal) : 0 ≤ Ideal.exp z := by
  induction z with
  | bot => exact le_refl _
  | top => exact le_top
  | coe r => exact EReal.coe_nonneg.mpr (Real.exp_pos r).le

/-- The gate's divisor is not zero. -/
theorem gate_ne (z : EReal) : (1 : EReal) + Ideal.exp z ≠ 0 := by
  have h : (1 : EReal) ≤ 1 + Ideal.exp z := le_add_of_nonneg_right (exp_nonneg z)
  exact (lt_of_lt_of_le zero_lt_one h).ne'

theorem unit_eq (a b : EReal) : unit a b = silu a * b * Ideal.ofBits FTy.f32 1056964608#32 := by
  unfold unit silu
  rw [one_f32, zero_sub, Ideal.mul_one_div (gate_ne (-a))]

/-- A sum over all hidden units is the sum of its thirds. -/
theorem sum_thirds (f : Fin 3072 → EReal) :
    ∑ k, f k = (∑ k : Fin 1024, f ⟨0 + (k : ℕ), by omega⟩) + (∑ k : Fin 1024, f ⟨1024 + (k : ℕ), by omega⟩)
      + ∑ k : Fin 1024, f ⟨2048 + (k : ℕ), by omega⟩ := by
  have h := Fin.sum_univ_add (a := 1024 + 1024) (b := 1024) (f := f)
  have h' := Fin.sum_univ_add (a := 1024) (b := 1024) (f := fun k => f (Fin.castAdd 1024 k))
  refine h.trans ?_
  rw [h']
  refine congrArg₂ (· + ·) (congrArg₂ (· + ·) ?_ ?_) ?_ <;>
    exact Finset.sum_congr rfl fun k _ => congrArg f (Fin.ext (by simp; try omega))

theorem tiled_eq (x g : Fin 2048 → EReal) (wa wb : Fin 2048 → Fin 3072 → EReal) (wo : Fin 3072 → EReal) (w : Fin 2048) :
    tiled x g wa wb wo w = plain x g wa wb wo w := by
  unfold tiled plain part
  rw [add_assoc (x w), add_assoc (x w), ← sum_thirds (fun k => hidden (normed x g) wa wb k * wo k)]
  refine congrArg (x w + ·) (Finset.sum_congr rfl fun k _ => ?_)
  simp only [hidden, normed, unit_eq, mul_assoc]

end Cert.Ffn

end
-- ==== Proof.FfnBlock.lean ====
/- What a grid point of the feed-forward computes, entry by entry. -/
module

public import proofs.«01_k».proof.Proof.FfnBody
public import proofs.«01_k».proof.Proof.FfnMath

@[expose] public section

set_option maxRecDepth 16384

noncomputable section

open Idealize.ShloMosaic Idealize.ShloMosaic.TcCoe Idealize.SL.Sem
open Idealize.ShloMosaic.Pipeline (Dat)

namespace Cert.Ffn
open Cert.Kernel2Ideal Cert.Kernel2Ideal.Gen

/-- The normalized rows. -/
theorem rows_at (x : Vec Ideal S256x2048 .f32) (g : Vec Ideal S1x2048 .f32) (i : S1x256x2048.Idx) :
    k0_pay1 x g i = normed (fun d => x (ix2 (i 1) d)) (fun d => g (ix2 0 d)) (i 2) := by
  pointwise [k0_pay1, normed, scale]

/-- A third of the gate's projection. -/
theorem gate_at (n : Vec Ideal S1x256x2048 .bf16) (w : Vec Ideal S2048x1024 .bf16) (i : S256x1024.Idx) :
    k0_pay9 n w i = (∑ d : Fin 2048, n (ix3 0 (i 0) d) * w (ix2 d (i 1)) : EReal) := by
  pointwise [k0_pay9, k0_pay7]

/-- A third of the hidden units. -/
theorem hidden_at (n : Vec Ideal S1x256x2048 .bf16) (wa wb : Vec Ideal S2048x1024 .bf16) (i : S256x1024.Idx) :
    k0_pay11 (k0_pay7 n) wa wb i
      = hidden (fun d => n (ix3 0 (i 0) d)) (fun d k => wa (ix2 d k)) (fun d k => wb (ix2 d k)) (i 1) := by
  pointwise [k0_pay11, k0_pay7, hidden, unit]

/-- The first third added to the rows. -/
theorem first_at (n : Vec Ideal S1x256x2048 .bf16) (wa wb : Vec Ideal S2048x1024 .bf16) (x : Vec Ideal S256x2048 .f32)
    (wo : Vec Ideal S1024x2048 .bf16) (i : S256x2048.Idx) :
    k0_pay8 n wa wb x wo i = x i + ∑ k : Fin 1024,
      hidden (fun d => n (ix3 0 (i 0) d)) (fun d k => wa (ix2 d k)) (fun d k => wb (ix2 d k)) k * wo (ix2 k (i 1)) := by
  pointwise [k0_pay8, k0_pay7, hidden, unit]

/-- The second third added to what the block holds. -/
theorem second_at (n : Vec Ideal S1x256x2048 .bf16) (wa wb : Vec Ideal S2048x1024 .bf16) (x : Vec Ideal S256x2048 .f32)
    (wo : Vec Ideal S1024x2048 .bf16) (i : S256x2048.Idx) :
    k0_pay10 (k0_pay7 n) (k0_pay9 n wa) wb x wo i = x i + ∑ k : Fin 1024,
      hidden (fun d => n (ix3 0 (i 0) d)) (fun d k => wa (ix2 d k)) (fun d k => wb (ix2 d k)) k * wo (ix2 k (i 1)) := by
  pointwise [k0_pay10, gate_at, k0_pay7, hidden, unit]

/-- A third added to what the block holds, its hidden units given. -/
theorem third_at (h : Vec Ideal S256x1024 .bf16) (x : Vec Ideal S256x2048 .f32) (wo : Vec Ideal S1024x2048 .bf16) (i : S256x2048.Idx) :
    k0_pay3 h x wo i = x i + ∑ k : Fin 1024, h (ix2 (i 0) k) * wo (ix2 k (i 1)) := by
  pointwise [k0_pay3]

/-! ## The thirds of the weights -/

theorem cols0 (w : Vec Ideal S2048x3072 .bf16) (d : Fin 2048) (k : Fin 1024) : View.ld w c0 (ix2 d k) = w (ix2 d ⟨0 + (k : ℕ), by omega⟩) := by
  pointwise; blk_ext
theorem cols1 (w : Vec Ideal S2048x3072 .bf16) (d : Fin 2048) (k : Fin 1024) : View.ld w c1 (ix2 d k) = w (ix2 d ⟨1024 + (k : ℕ), by omega⟩) := by
  pointwise; blk_ext
theorem cols2 (w : Vec Ideal S2048x3072 .bf16) (d : Fin 2048) (k : Fin 1024) : View.ld w c2 (ix2 d k) = w (ix2 d ⟨2048 + (k : ℕ), by omega⟩) := by
  pointwise; blk_ext
theorem rows0 (w : Vec Ideal S3072x2048 .bf16) (k : Fin 1024) (l : Fin 2048) : View.ld w d0 (ix2 k l) = w (ix2 ⟨0 + (k : ℕ), by omega⟩ l) := by
  pointwise; blk_ext
theorem rows1 (w : Vec Ideal S3072x2048 .bf16) (k : Fin 1024) (l : Fin 2048) : View.ld w d1 (ix2 k l) = w (ix2 ⟨1024 + (k : ℕ), by omega⟩ l) := by
  pointwise; blk_ext
theorem rows2 (w : Vec Ideal S3072x2048 .bf16) (k : Fin 1024) (l : Fin 2048) : View.ld w d2 (ix2 k l) = w (ix2 ⟨2048 + (k : ℕ), by omega⟩ l) := by
  pointwise; blk_ext

/-- The output block of a grid point, entry by entry. -/
theorem out_at (x : Vec Ideal S256x2048 .f32) (g : Vec Ideal S1x2048 .f32) (wa wb : Vec Ideal S2048x3072 .bf16) (wo : Vec Ideal S3072x2048 .bf16)
    (r : Fin 256) (w : Fin 2048) :
    outB (k0_pay1 x g) x wa wb wo (ix2 r w)
      = tiled (fun d => x (ix2 r d)) (fun d => g (ix2 0 d)) (fun d k => wa (ix2 d k)) (fun d k => wb (ix2 d k)) (fun k => wo (ix2 k w)) w := by
  unfold outB tiled part
  rw [third_at, second_at, first_at]
  refine congrArg₂ (· + ·) (congrArg₂ (· + ·) (congrArg₂ (· + ·) rfl ?_) ?_) ?_
  · refine Finset.sum_congr rfl fun k _ => congrArg₂ (· * ·) ?_ (rows0 wo k w)
    exact congrArg₂ unit (Finset.sum_congr rfl fun d _ => congrArg₂ (· * ·) (rows_at x g (ix3 0 r d)) (cols0 wa d k))
      (Finset.sum_congr rfl fun d _ => congrArg₂ (· * ·) (rows_at x g (ix3 0 r d)) (cols0 wb d k))
  · refine Finset.sum_congr rfl fun k _ => congrArg₂ (· * ·) ?_ (rows1 wo k w)
    exact congrArg₂ unit (Finset.sum_congr rfl fun d _ => congrArg₂ (· * ·) (rows_at x g (ix3 0 r d)) (cols1 wa d k))
      (Finset.sum_congr rfl fun d _ => congrArg₂ (· * ·) (rows_at x g (ix3 0 r d)) (cols1 wb d k))
  · refine Finset.sum_congr rfl fun k _ => congrArg₂ (· * ·) ((hidden_at _ _ _ (ix2 r k)).trans ?_) (rows2 wo k w)
    exact congrArg₂ unit (Finset.sum_congr rfl fun d _ => congrArg₂ (· * ·) (rows_at x g (ix3 0 r d)) (cols2 wa d k))
      (Finset.sum_congr rfl fun d _ => congrArg₂ (· * ·) (rows_at x g (ix3 0 r d)) (cols2 wb d k))

end Cert.Ffn

end
-- ==== Proof.FfnArray.lean ====
/- The feed-forward's whole array after its run, as a formula of the operands in memory. -/
module

public import proofs.«01_k».proof.Proof.FfnRun
public import proofs.«01_k».proof.Proof.FfnBlock

@[expose] public section

set_option maxRecDepth 16384

noncomputable section

open Idealize.ShloMosaic Idealize.ShloMosaic.TcCoe Idealize.SL.Sem
open Idealize.ShloMosaic.Pipeline (Dat)

namespace Cert.Ffn
open Cert.Kernel2Ideal Cert.Kernel2Ideal.Gen

variable (m : (ℓ : Loc nD τ sig) → Buf (Elt Ideal) ℓ)

theorem idx : ∀ t : Fin cfg0.N, win0_0.index t = ![min t.val 127, 0] ∧ win0_1.index t = ![0, 0] ∧ win0_2.index t = ![0, 0]
    ∧ win0_3.index t = ![0, 0] ∧ win0_4.index t = ![0, 0] ∧ win0_5.index t = ![t.val - 1, 0] :=
  (by decide +kernel : ∀ t : Fin grid0.N, _)

theorem blk0 (c : Dev nD) (t : Fin cfg0.N) (ht : t.val < 128) (r : Fin 256) (d : Fin 2048) :
    iblk m c 0 t (ix2 r d) = V m c main_v0 (ix2 ⟨t.val * 256 + (r : ℕ), by omega⟩ d) := by
  have e : win0_0.index t = _ := (idx t).1
  have e0 : win0_0.index t 0 = min t.val 127 := congrFun e 0
  have e1 : win0_0.index t 1 = 0 := congrFun e 1
  blk_simp [iblk]
  blk_ext
  all_goals omega

theorem blk1 (c : Dev nD) (t : Fin cfg0.N) (d : Fin 2048) :
    iblk m c 1 t (ix2 0 d) = V m c main_v6 (ix2 0 d) := by
  have e : win0_1.index t = _ := (idx t).2.1
  have e0 : win0_1.index t 0 = 0 := congrFun e 0
  have e1 : win0_1.index t 1 = 0 := congrFun e 1
  blk_simp [iblk]
  blk_ext
  all_goals omega

theorem blk2 (c : Dev nD) (t : Fin cfg0.N) (d : Fin 2048) (k : Fin 3072) :
    iblk m c 2 t (ix2 d k) = V m c main_v2 (ix2 d k) := by
  have e : win0_2.index t = _ := (idx t).2.2.1
  have e0 : win0_2.index t 0 = 0 := congrFun e 0
  have e1 : win0_2.index t 1 = 0 := congrFun e 1
  blk_simp [iblk]
  blk_ext
  all_goals omega

theorem blk3 (c : Dev nD) (t : Fin cfg0.N) (d : Fin 2048) (k : Fin 3072) :
    iblk m c 3 t (ix2 d k) = V m c main_v4 (ix2 d k) := by
  have e : win0_3.index t = _ := (idx t).2.2.2.1
  have e0 : win0_3.index t 0 = 0 := congrFun e 0
  have e1 : win0_3.index t 1 = 0 := congrFun e 1
  blk_simp [iblk]
  blk_ext
  all_goals omega

theorem blk4 (c : Dev nD) (t : Fin cfg0.N) (k : Fin 3072) (l : Fin 2048) :
    iblk m c 4 t (ix2 k l) = V m c main_v5 (ix2 k l) := by
  have e : win0_4.index t = _ := (idx t).2.2.2.2.1
  have e0 : win0_4.index t 0 = 0 := congrFun e 0
  have e1 : win0_4.index t 1 = 0 := congrFun e 1
  blk_simp [iblk]
  blk_ext
  all_goals omega

/-- One entry of the result, from the operands in memory. -/
def rowAt (c : Dev nD) (r : Fin 32768) (w : Fin 2048) : EReal :=
  tiled (fun d => V m c main_v0 (ix2 r d)) (fun d => V m c main_v6 (ix2 0 d)) (fun d k => V m c main_v2 (ix2 d k))
    (fun d k => V m c main_v4 (ix2 d k)) (fun k => V m c main_v5 (ix2 k w)) w

/-- What a grid point after the first leaves in its output block: the rows of the point before it. -/
theorem point (c : Dev nD) (t : Fin cfg0.N) (h0 : t.val ≠ 0) (ht : t.val < 129) (r : Fin 256) (w : Fin 2048) :
    outT m c t (ix2 r w) = rowAt m c ⟨(t.val - 1) * 256 + (r : ℕ), by omega⟩ w := by
  unfold outT rows rowAt
  have hp : (prev t).val < 128 := by show t.val - 1 < 128; omega
  rw [out_at]
  simp only [blk0 m c (prev t) hp, blk1, blk2, blk3, blk4]

theorem emb0 (t : Fin cfg0.N) (y : S256x2048.Idx) : (((win0_5.blk t).view.emb y 0 : Fin 32768) : ℕ) = (t.val - 1) * 256 + ((y 0 : Fin 256) : ℕ) := by
  have e := (idx t).2.2.2.2.2
  blk_simp [e]; try omega
theorem emb1 (t : Fin cfg0.N) (y : S256x2048.Idx) : (((win0_5.blk t).view.emb y 1 : Fin 2048) : ℕ) = ((y 1 : Fin 2048) : ℕ) := by
  have e := (idx t).2.2.2.2.2
  blk_simp [e]; try omega

/-- The array after the run. -/
theorem array_eq (c : Dev nD) :
    (dats m 0 c).arrAt 5 cfg0.N = fun j : S32768x2048.Idx => rowAt m c (j 0) (j 1) := by
  refine (dats m 0 c).arrAt_eq_of_covers 5 _ (by decide +kernel) fun t hf y => ?_
  have ht : t.val < 129 := t.isLt
  have h0 : t.val ≠ 0 := (flush_iff t).mp hf
  rw [after5]
  have hy : y = ix2 (y 0) (y 1) := by
    funext a
    match a with
    | ⟨0, _⟩ => rfl
    | ⟨1, _⟩ => rfl
  refine (congrArg (outT m c t) hy).trans ((point m c t h0 ht (y 0) (y 1)).trans ?_)
  exact congr (congrArg (rowAt m c) (Fin.ext (emb0 t y).symm)) (Fin.ext (emb1 t y).symm)

end Cert.Ffn

end
-- ==== Proof.FfnRef.lean ====
/- The feed-forward's reference and the kernel's operands at an index of the arguments, and the equality of the two results. -/
module

public import proofs.«01_k».proof.Proof.Gen.Reference2Ideal.Run
public import proofs.«01_k».proof.Proof.FfnArray
public import Idealize.ShloMosaic.Lib.StableHlo.ReadAt

@[expose] public section

set_option maxRecDepth 16384

noncomputable section

open Idealize.ShloMosaic Idealize.ShloMosaic.TcCoe Idealize.SL.Sem

namespace Cert.Ffn

section Operands
open Cert.Kernel2Ideal Cert.Kernel2Ideal.Gen

variable (m : (ℓ : Loc nD τ sig) → Buf (Elt Ideal) ℓ)

/-- The arguments as functions of an index to the extended reals. -/
abbrev argX (c : Dev nD) : S2x16384x2048.Idx → EReal := m ((c : Thread nD τ).loc main_arg0)
abbrev argG (c : Dev nD) : S2048.Idx → EReal := m ((c : Thread nD τ).loc main_arg1)
abbrev argI (c : Dev nD) : S2048x6144.Idx → EReal := m ((c : Thread nD τ).loc main_arg2)
abbrev argO (c : Dev nD) : S3072x2048.Idx → EReal := m ((c : Thread nD τ).loc main_arg3)

theorem x_at (c : Dev nD) (r : Fin 32768) (d : Fin 2048) :
    (V m c main_v0 (ix2 r d) : EReal) = argX m c (ix3 ⟨(r : ℕ) / 16384, by omega⟩ ⟨(r : ℕ) % 16384, by omega⟩ d) := by
  unfold V
  after_reads_at

theorem g_at (c : Dev nD) (d : Fin 2048) : (V m c main_v6 (ix2 0 d) : EReal) = argG m c (ix1 d) := by
  unfold V
  after_reads_at

theorem wa_at (c : Dev nD) (d : Fin 2048) (k : Fin 3072) :
    (V m c main_v2 (ix2 d k) : EReal) = argI m c (ix2 d ⟨(k : ℕ), by omega⟩) := by
  unfold V
  after_reads_at

theorem wb_at (c : Dev nD) (d : Fin 2048) (k : Fin 3072) :
    (V m c main_v4 (ix2 d k) : EReal) = argI m c (ix2 d ⟨3072 + (k : ℕ), by omega⟩) := by
  unfold V
  after_reads_at

theorem wo_at (c : Dev nD) (k : Fin 3072) (w : Fin 2048) : (V m c main_v5 (ix2 k w) : EReal) = argO m c (ix2 k w) := by
  unfold V
  after_reads_at

end Operands

section Reference
open Cert.Reference2Ideal Cert.Reference2Ideal.Gen Cert.Reference2Ideal.Facts

/-- The reference's scaled rows. -/
def refScaled (x : FVec Ideal S2x16384x2048 .f32) : FVec Ideal S2x16384x2048 .f32 :=
  mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))

/-- Its scaled input weights. -/
def refWeights (g : FVec Ideal S2048 .f32) (w : FVec Ideal S2048x6144 .f32) : FVec Ideal S2048x6144 .f32 :=
  mulf (broadcastInDim S2048x6144 ![0, 1] bcast_S2048x1_S2048x6144_0_1 (broadcastInDim S2048x1 ![0] bcast_S2048_S2048x1_0 g)) w

/-- Its two projections. -/
def refA (y : FVec Ideal S2x16384x2048 .f32) (w : FVec Ideal S2048x6144 .f32) : FVec Ideal S2x16384x3072 .f32 :=
  Host.dotGeneral dot_S2x16384x2048_S2048x3072_S2x16384x3072_2_0_01_1_n_n none y (extractStridedSlice S2048x3072 ![0, 0] w slices_S2048x6144_S2048x3072_0_0)
def refB (y : FVec Ideal S2x16384x2048 .f32) (w : FVec Ideal S2048x6144 .f32) : FVec Ideal S2x16384x3072 .f32 :=
  Host.dotGeneral dot_S2x16384x2048_S2048x3072_S2x16384x3072_2_0_01_1_n_n none y (extractStridedSlice S2048x3072 ![0, 3072] w slices_S2048x6144_S2048x3072_0_3072)

/-- Its gate. -/
def refGate (a : FVec Ideal S2x16384x3072 .f32) : FVec Ideal S2x16384x3072 .f32 :=
  mulf a (Host.divf (broadcastInDim S2x16384x3072 ![] bcast_S_S2x16384x3072 (constant S_ .f32 0x3F800000#32)) (addf (broadcastInDim S2x16384x3072 ![] bcast_S_S2x16384x3072 (constant S_ .f32 0x3F800000#32)) (Host.exp (Host.negf a))))

/-- Its result, from the hidden units' two projections. -/
def refOut (x : FVec Ideal S2x16384x2048 .f32) (a b : FVec Ideal S2x16384x3072 .f32) (o : FVec Ideal S3072x2048 .f32) : FVec Ideal S32768x2048 .f32 :=
  shapeCast _ (addf x (Host.dotGeneral dot_S2x16384x3072_S3072x2048_S2x16384x2048_2_0_01_1_n_n none (mulf (refGate a) b) (mulf (broadcastInDim S3072x2048 ![] bcast_S_S3072x2048 (constant S_ .f32 0x3F000000#32)) o))) shapeCasts_S2x16384x2048_S32768x2048

/-- Its result, from the arguments. -/
def refAll (x : FVec Ideal S2x16384x2048 .f32) (g : FVec Ideal S2048 .f32) (w : FVec Ideal S2048x6144 .f32) (o : FVec Ideal S3072x2048 .f32) : FVec Ideal S32768x2048 .f32 :=
  refOut x (refA (refScaled x) (refWeights g w)) (refB (refScaled x) (refWeights g w)) o

theorem refScaled_at (x : FVec Ideal S2x16384x2048 .f32) (b : Fin 2) (p : Fin 16384) (d : Fin 2048) :
    refScaled x (ix3 b p d) = x (ix3 b p d) * scale (fun e => x (ix3 b p e)) := by
  unfold refScaled scale
  pointwise

theorem refWeights_at (g : FVec Ideal S2048 .f32) (w : FVec Ideal S2048x6144 .f32) (d : Fin 2048) (k : Fin 6144) :
    refWeights g w (ix2 d k) = g (ix1 d) * w (ix2 d k) := by
  unfold refWeights
  pointwise

theorem refA_at (y : FVec Ideal S2x16384x2048 .f32) (w : FVec Ideal S2048x6144 .f32) (b : Fin 2) (p : Fin 16384) (k : Fin 3072) :
    refA y w (ix3 b p k) = (∑ d : Fin 2048, y (ix3 b p d) * w (ix2 d ⟨(k : ℕ), by omega⟩) : EReal) := by
  unfold refA
  pointwise

theorem refB_at (y : FVec Ideal S2x16384x2048 .f32) (w : FVec Ideal S2048x6144 .f32) (b : Fin 2) (p : Fin 16384) (k : Fin 3072) :
    refB y w (ix3 b p k) = (∑ d : Fin 2048, y (ix3 b p d) * w (ix2 d ⟨3072 + (k : ℕ), by omega⟩) : EReal) := by
  unfold refB
  pointwise

theorem refGate_at (a : FVec Ideal S2x16384x3072 .f32) (i : S2x16384x3072.Idx) : refGate a i = silu (a i) := by
  unfold refGate silu
  pointwise

theorem refOut_at (x : FVec Ideal S2x16384x2048 .f32) (a b : FVec Ideal S2x16384x3072 .f32) (o : FVec Ideal S3072x2048 .f32)
    (r : Fin 32768) (w : Fin 2048) (e : Fin 2) (p : Fin 16384) (he : (e : ℕ) = (r : ℕ) / 16384) (hp : (p : ℕ) = (r : ℕ) % 16384) :
    refOut x a b o (ix2 r w) = x (ix3 e p w) + ∑ k : Fin 3072, silu (a (ix3 e p k)) * b (ix3 e p k)
      * (Ideal.ofBits FTy.f32 1056964608#32 * o (ix2 k w)) := by
  have he' : e = ⟨(r : ℕ) / 16384, by omega⟩ := Fin.ext he
  have hp' : p = ⟨(r : ℕ) % 16384, by omega⟩ := Fin.ext hp
  rw [he', hp']
  unfold refOut
  pointwise [refGate_at]

theorem refAll_at (x : FVec Ideal S2x16384x2048 .f32) (g : FVec Ideal S2048 .f32) (w : FVec Ideal S2048x6144 .f32) (o : FVec Ideal S3072x2048 .f32)
    (r : Fin 32768) (l : Fin 2048) (e : Fin 2) (p : Fin 16384) (he : (e : ℕ) = (r : ℕ) / 16384) (hp : (p : ℕ) = (r : ℕ) % 16384) :
    refAll x g w o (ix2 r l) = plain (fun d => x (ix3 e p d)) (fun d => g (ix1 d)) (fun d k => w (ix2 d ⟨(k : ℕ), by omega⟩))
      (fun d k => w (ix2 d ⟨3072 + (k : ℕ), by omega⟩)) (fun k => o (ix2 k l)) l := by
  unfold refAll plain
  rw [refOut_at x _ _ o r l e p he hp]
  simp only [refA_at, refB_at, refScaled_at, refWeights_at]

end Reference

section Value
open Cert.Kernel2Ideal Cert.Kernel2Ideal.Gen

variable (m : (ℓ : Loc nD τ sig) → Buf (Elt Ideal) ℓ)

/-- One entry of the kernel's result is the reference's. -/
theorem rowAt_eq (c : Dev nD) (r : Fin 32768) (l : Fin 2048) :
    rowAt m c r l = refAll (argX m c) (argG m c) (argI m c) (argO m c) (ix2 r l) := by
  rw [refAll_at _ _ _ _ r l ⟨(r : ℕ) / 16384, by omega⟩ ⟨(r : ℕ) % 16384, by omega⟩ rfl rfl, ← tiled_eq]
  exact congrFun (congr (congr (congr (congr (congrArg tiled (funext fun d => x_at m c r d)) (funext fun d => g_at m c d))
    (funext fun d => funext fun k => wa_at m c d k)) (funext fun d => funext fun k => wb_at m c d k)) (funext fun k => wo_at m c k l)) l

/-- The kernel's array is the reference's result of the same arguments. -/
theorem value (c : Dev nD) :
    (dats m 0 c).arrAt 5 cfg0.N = refAll (argX m c) (argG m c) (argI m c) (argO m c) := by
  refine (array_eq m c).trans ?_
  funext j
  have hj : j = ix2 (j 0) (j 1) := by
    funext a
    match a with
    | ⟨0, _⟩ => rfl
    | ⟨1, _⟩ => rfl
  exact (rowAt_eq m c (j 0) (j 1)).trans (congrArg (refAll (argX m c) (argG m c) (argI m c) (argO m c)) hj.symm)

end Value

end Cert.Ffn

end
-- ==== Proof.ProjMath.lean ====
/- A projection's entry as a formula of a row, its gain and a weight matrix, in the order the tiles compute it and in the order the plain definition does;
   and a head's lanes scaled by the root of the mean of their squares. -/
module

public import proofs.«01_k».proof.Proof.FfnMath

@[expose] public section

set_option maxRecDepth 16384

noncomputable section

open Idealize.ShloMosaic

namespace Cert.Proj

/-- Column `j` of a row, normalized and weighted, times a matrix. -/
def proj {n : ℕ} (x g : Fin 2048 → EReal) (w : Fin 2048 → Fin n → EReal) (j : Fin n) : EReal := ∑ d, Cert.Ffn.normed x g d * w d j

/-- The same with the matrix weighted beforehand. -/
def projPlain {n : ℕ} (x g : Fin 2048 → EReal) (w : Fin 2048 → Fin n → EReal) (j : Fin n) : EReal :=
  ∑ d, x d * Cert.Ffn.scale x * (g d * w d j)

theorem proj_eq {n : ℕ} (x g : Fin 2048 → EReal) (w : Fin 2048 → Fin n → EReal) (j : Fin n) : proj x g w j = projPlain x g w j := by
  unfold proj projPlain Cert.Ffn.normed
  exact Finset.sum_congr rfl fun d _ => mul_assoc _ _ _

/-- A column of a projection depends on the row, the gain and that column. -/
theorem proj_congr {n n' : ℕ} {x x' g g' : Fin 2048 → EReal} {w : Fin 2048 → Fin n → EReal} {w' : Fin 2048 → Fin n' → EReal} {j : Fin n} {j' : Fin n'}
    (hx : ∀ d, x d = x' d) (hg : ∀ d, g d = g' d) (hw : ∀ d, w d j = w' d j') : proj x g w j = proj x' g' w' j' := by
  rw [funext hx, funext hg]
  exact Finset.sum_congr rfl fun d _ => congrArg (_ * ·) (hw d)

/-- The factor a head's lanes are scaled by: one over the root of the mean of their squares plus a small constant. -/
def headScale (y : Fin 128 → EReal) : EReal :=
  Ideal.rsqrt (Ideal.div (∑ d, y d * y d) (Ideal.ofBits FTy.f32 1124073472#32) + Ideal.ofBits FTy.f32 897988541#32)

/-- A head's lane scaled and weighted. -/
def headed (y g : Fin 128 → EReal) (j : Fin 128) : EReal := y j * headScale y * g j

/-- A head's lane depends on the lanes read and on its place. -/
theorem headed_congr {y y' g g' : Fin 128 → EReal} {j j' : Fin 128} (hy : ∀ d, y d = y' d) (hg : ∀ d, g d = g' d) (hj : j = j') :
    headed y g j = headed y' g' j' := by
  rw [funext hy, funext hg, hj]

end Cert.Proj

end
-- ==== Proof.MemBlock.lean ====
/- What the projection of the memory leaves in its blocks, entry by entry. -/
module

public import proofs.«01_k».proof.Proof.Gen.Kernel3Ideal.Frame
public import proofs.«01_k».proof.Proof.ProjMath

@[expose] public section

set_option maxRecDepth 16384

noncomputable section

open Idealize.ShloMosaic Idealize.ShloMosaic.TcCoe Idealize.SL.Sem
open Idealize.ShloMosaic.Pipeline (Dat)

namespace Cert.Mem
open Cert.Kernel3Ideal Cert.Kernel3Ideal.Gen
open Cert.Proj Cert.Ffn

theorem keys_at (x : Vec Ideal S512x2048 .f32) (g : Vec Ideal S1x2048 .f32) (w : Vec Ideal S1x2048x512 .bf16) (i : S512x512.Idx) :
    k0_pay4 x g w i = proj (fun d => x (ix2 (i 0) d)) (fun d => g (ix2 0 d)) (fun d k => w (ix3 0 d k)) (i 1) := by
  pointwise [k0_pay4, k0_pay3, proj, normed, scale]

theorem vals_at (x : Vec Ideal S512x2048 .f32) (g : Vec Ideal S1x2048 .f32) (w : Vec Ideal S1x2048x512 .bf16) (i : S512x512.Idx) :
    k0_pay5 x g w i = proj (fun d => x (ix2 (i 0) d)) (fun d => g (ix2 0 d)) (fun d k => w (ix3 0 d k)) (i 1) := by
  pointwise [k0_pay5, k0_pay3, proj, normed, scale]

theorem head0_at (x : Vec Ideal S512x2048 .f32) (g : Vec Ideal S1x2048 .f32) (w : Vec Ideal S1x2048x512 .bf16) (gk : Vec Ideal S1x128 .f32) (i : S512x128.Idx) :
    k0_pay6 x g w gk i = headed (fun d => k0_pay4 x g w (ix2 (i 0) ⟨0 + (d : ℕ), by omega⟩)) (fun d => gk (ix2 0 d)) (i 1) := by
  pointwise [k0_pay6, headed, headScale]

theorem head1_at (y : FVec Ideal S512x512 .f32) (gk : Vec Ideal S1x128 .f32) (i : S512x128.Idx) :
    k0_pay8 y gk i = headed (fun d => y (ix2 (i 0) ⟨128 + (d : ℕ), by omega⟩)) (fun d => gk (ix2 0 d)) (i 1) := by
  pointwise [k0_pay8, headed, headScale]

theorem head2_at (y : FVec Ideal S512x512 .f32) (gk : Vec Ideal S1x128 .f32) (i : S512x128.Idx) :
    k0_pay10 y gk i = headed (fun d => y (ix2 (i 0) ⟨256 + (d : ℕ), by omega⟩)) (fun d => gk (ix2 0 d)) (i 1) := by
  pointwise [k0_pay10, headed, headScale]

theorem head3_at (y : FVec Ideal S512x512 .f32) (gk : Vec Ideal S1x128 .f32) (i : S512x128.Idx) :
    k0_pay12 y gk i = headed (fun d => y (ix2 (i 0) ⟨384 + (d : ℕ), by omega⟩)) (fun d => gk (ix2 0 d)) (i 1) := by
  pointwise [k0_pay12, headed, headScale]

section Block
variable (x0 : Vec Ideal S512x2048 .f32) (x1 : Vec Ideal S1x2048 .f32) (x2 : Vec Ideal S1x2048x1024 .bf16) (x3 : Vec Ideal S1x128 .f32)

theorem ldx (r : Fin 512) (d : Fin 2048) : View.ld x0 r0_0 (ix2 r d) = x0 (ix2 r d) := by
  pointwise; try blk_ext
theorem ldg (d : Fin 2048) : View.ld x1 r0_1 (ix2 0 d) = x1 (ix2 0 d) := by
  pointwise; try blk_ext
theorem ldk (d : Fin 2048) (k : Fin 512) : View.ld x2 r0_2 (ix3 0 d k) = x2 (ix3 0 d ⟨(k : ℕ), by omega⟩) := by
  pointwise; try blk_ext
theorem ldv (d : Fin 2048) (k : Fin 512) : View.ld x2 r0_3 (ix3 0 d k) = x2 (ix3 0 d ⟨512 + (k : ℕ), by omega⟩) := by
  pointwise; try blk_ext
theorem ldh (d : Fin 128) : View.ld x3 r0_4 (ix2 0 d) = x3 (ix2 0 d) := by
  pointwise; try blk_ext

/-- Column `j` of row `r` of the projection of a block. -/
def colAt (r : Fin 512) (j : Fin 1024) : EReal :=
  proj (fun d => x0 (ix2 r d)) (fun d => x1 (ix2 0 d)) (fun d k => x2 (ix3 0 d k)) j

theorem keysL (r k : Fin 512) : k0_pay4 (View.ld x0 r0_0) (View.ld x1 r0_1) (View.ld x2 r0_2) (ix2 r k) = colAt x0 x1 x2 r ⟨(k : ℕ), by omega⟩ :=
  (keys_at _ _ _ (ix2 r k)).trans (proj_congr (fun d => ldx x0 r d) (fun d => ldg x1 d) (fun d => ldk x2 d k))
theorem valsL (r k : Fin 512) : k0_pay5 (View.ld x0 r0_0) (View.ld x1 r0_1) (View.ld x2 r0_3) (ix2 r k) = colAt x0 x1 x2 r ⟨512 + (k : ℕ), by omega⟩ :=
  (vals_at _ _ _ (ix2 r k)).trans (proj_congr (fun d => ldx x0 r d) (fun d => ldg x1 d) (fun d => ldv x2 d k))

/-- The keys' block at row `r` and lane `w`. -/
def keyAt (r w : Fin 512) : EReal :=
  headed (fun d => colAt x0 x1 x2 r ⟨(w : ℕ) / 128 * 128 + (d : ℕ), by omega⟩) (fun d => x3 (ix2 0 d)) ⟨(w : ℕ) % 128, by omega⟩

theorem key_tile (n : ℕ) (hn : n < 4) (o : ℕ) (ho : o = n * 128) (p : S512x128.Idx → EReal) (x : S512x128.Idx) (r w : Fin 512)
    (hp : p x = headed (fun d => k0_pay4 (View.ld x0 r0_0) (View.ld x1 r0_1) (View.ld x2 r0_2) (ix2 (x 0) ⟨o + (d : ℕ), by omega⟩)) (fun d => View.ld x3 r0_4 (ix2 0 d)) (x 1))
    (hr : (r : ℕ) = x 0) (hw : (w : ℕ) = n * 128 + (x 1 : ℕ)) : p x = keyAt x0 x1 x2 x3 r w := by
  have hx : ((x 1 : Fin 128) : ℕ) < 128 := (x 1).isLt
  refine hp.trans (headed_congr (fun d => (keysL x0 x1 x2 (x 0) _).trans ?_) (fun d => ldh x3 d) (Fin.ext ?_))
  · exact congr (congrArg (colAt x0 x1 x2) (Fin.ext hr.symm)) (Fin.ext (by show o + (d : ℕ) = (w : ℕ) / 128 * 128 + (d : ℕ); omega))
  · show ((x 1 : Fin 128) : ℕ) = (w : ℕ) % 128; omega

theorem out5_at (y : S512x512.Idx) : out0_5 x0 x1 x2 x3 y = keyAt x0 x1 x2 x3 (y 0) (y 1) := by
  unfold_out out0_5
  canon_tiles x h
  · exact key_tile x0 x1 x2 x3 3 (by omega) 384 rfl _ x _ _ (head3_at _ _ x) (by omega) (by omega)
  · exact key_tile x0 x1 x2 x3 2 (by omega) 256 rfl _ x _ _ (head2_at _ _ x) (by omega) (by omega)
  · exact key_tile x0 x1 x2 x3 1 (by omega) 128 rfl _ x _ _ (head1_at _ _ x) (by omega) (by omega)
  · exact key_tile x0 x1 x2 x3 0 (by omega) 0 rfl _ x _ _ (head0_at _ _ _ _ x) (by omega) (by omega)

theorem out4_at (y : S512x512.Idx) : out0_4 x0 x1 x2 x3 y = keyAt x0 x1 x2 x3 (y 0) (y 1) := by
  unfold_out out0_4
  canon_tiles x h
  · exact key_tile x0 x1 x2 x3 3 (by omega) 384 rfl _ x _ _ (head3_at _ _ x) (by omega) (by omega)
  · exact key_tile x0 x1 x2 x3 2 (by omega) 256 rfl _ x _ _ (head2_at _ _ x) (by omega) (by omega)
  · exact key_tile x0 x1 x2 x3 1 (by omega) 128 rfl _ x _ _ (head1_at _ _ x) (by omega) (by omega)
  · exact key_tile x0 x1 x2 x3 0 (by omega) 0 rfl _ x _ _ (head0_at _ _ _ _ x) (by omega) (by omega)

theorem val_tile (n : ℕ) (hn : n < 4) (o : ℕ) (ho : o = n * 128) (p : S512x128.Idx → EReal) (x : S512x128.Idx) (r w : Fin 512)
    (hp : p x = k0_pay5 (View.ld x0 r0_0) (View.ld x1 r0_1) (View.ld x2 r0_3) (ix2 (x 0) ⟨o + ((x 1 : Fin 128) : ℕ), by have : ((x 1 : Fin 128) : ℕ) < 128 := (x 1).isLt; omega⟩))
    (hr : (r : ℕ) = x 0) (hw : (w : ℕ) = n * 128 + (x 1 : ℕ)) : p x = colAt x0 x1 x2 r ⟨512 + (w : ℕ), by omega⟩ := by
  refine hp.trans ((valsL x0 x1 x2 (x 0) _).trans ?_)
  exact congr (congrArg (colAt x0 x1 x2) (Fin.ext hr.symm)) (Fin.ext (by show 512 + (o + ((x 1 : Fin 128) : ℕ)) = 512 + (w : ℕ); omega))

theorem out7_at (y : S512x512.Idx) : out0_7 x0 x1 x2 x3 y = colAt x0 x1 x2 (y 0) ⟨512 + ((y 1 : Fin 512) : ℕ), by have : ((y 1 : Fin 512) : ℕ) < 512 := (y 1).isLt; omega⟩ := by
  unfold_out out0_7
  canon_tiles x h
  · exact val_tile x0 x1 x2 3 (by omega) 384 rfl _ x _ _ (by pointwise [k0_pay1]) (by omega) (by omega)
  · exact val_tile x0 x1 x2 2 (by omega) 256 rfl _ x _ _ (by pointwise [k0_pay18]) (by omega) (by omega)
  · exact val_tile x0 x1 x2 1 (by omega) 128 rfl _ x _ _ (by pointwise [k0_pay16]) (by omega) (by omega)
  · exact val_tile x0 x1 x2 0 (by omega) 0 rfl _ x _ _ (by pointwise [k0_pay14]) (by omega) (by omega)

theorem out6_at (y : S512x512.Idx) : out0_6 x0 x1 x2 x3 y = colAt x0 x1 x2 (y 0) ⟨512 + ((y 1 : Fin 512) : ℕ), by have : ((y 1 : Fin 512) : ℕ) < 512 := (y 1).isLt; omega⟩ := by
  unfold_out out0_6
  canon_tiles x h
  · exact val_tile x0 x1 x2 3 (by omega) 384 rfl _ x _ _ (by pointwise [k0_pay2, k0_pay1]) (by omega) (by omega)
  · exact val_tile x0 x1 x2 2 (by omega) 256 rfl _ x _ _ (by pointwise [k0_pay19, k0_pay18]) (by omega) (by omega)
  · exact val_tile x0 x1 x2 1 (by omega) 128 rfl _ x _ _ (by pointwise [k0_pay17, k0_pay16]) (by omega) (by omega)
  · exact val_tile x0 x1 x2 0 (by omega) 0 rfl _ x _ _ (by pointwise [k0_pay15, k0_pay14]) (by omega) (by omega)

end Block

end Cert.Mem

end
-- ==== Proof.MemArray.lean ====
/- The memory projection's whole arrays after its run, as formulas of the operands in memory. -/
module

public import proofs.«01_k».proof.Proof.MemBlock

@[expose] public section

set_option maxRecDepth 16384

noncomputable section

open Idealize.ShloMosaic Idealize.ShloMosaic.TcCoe Idealize.SL.Sem
open Idealize.ShloMosaic.Pipeline (Dat)

namespace Cert.Mem
open Cert.Kernel3Ideal Cert.Kernel3Ideal.Gen
open Cert.Proj

variable (m : (ℓ : Loc nD τ sig) → Buf (Elt Ideal) ℓ)

theorem idx : ∀ t : Fin cfg0.N, win0_0.index t = ![0, 0] ∧ win0_1.index t = ![0, 0] ∧ win0_2.index t = ![0, 0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (c : Dev nD) (t : Fin cfg0.N) (r : Fin 512) (d : Fin 2048) : iblk m c 0 t (ix2 r d) = V m c main_v0 (ix2 r d) := by
  have e : win0_0.index t = _ := (idx t).1
  have e0 : win0_0.index t 0 = 0 := congrFun e 0
  have e1 : win0_0.index t 1 = 0 := congrFun e 1
  blk_simp [iblk]
  blk_ext
  all_goals omega

theorem blk1 (c : Dev nD) (t : Fin cfg0.N) (d : Fin 2048) : iblk m c 1 t (ix2 0 d) = V m c main_v3 (ix2 0 d) := by
  have e : win0_1.index t = _ := (idx t).2.1
  have e0 : win0_1.index t 0 = 0 := congrFun e 0
  have e1 : win0_1.index t 1 = 0 := congrFun e 1
  blk_simp [iblk]
  blk_ext
  all_goals omega

theorem blk2 (c : Dev nD) (t : Fin cfg0.N) (d : Fin 2048) (k : Fin 1024) : iblk m c 2 t (ix3 0 d k) = V m c main_v2 (ix3 0 d k) := by
  have e : win0_2.index t = _ := (idx t).2.2.1
  have e0 : win0_2.index t 0 = 0 := congrFun e 0
  have e1 : win0_2.index t 1 = 0 := congrFun e 1
  have e2 : win0_2.index t 2 = 0 := congrFun e 2
  blk_simp [iblk]
  blk_ext
  all_goals omega

theorem blk3 (c : Dev nD) (t : Fin cfg0.N) (d : Fin 128) : iblk m c 3 t (ix2 0 d) = V m c main_v4 (ix2 0 d) := by
  have e : win0_3.index t = _ := (idx t).2.2.2.1
  have e0 : win0_3.index t 0 = 0 := congrFun e 0
  have e1 : win0_3.index t 1 = 0 := congrFun e 1
  blk_simp [iblk]
  blk_ext
  all_goals omega

/-- Column `j` of row `r` of the projection, from the operands in memory. -/
def col (c : Dev nD) (r : Fin 512) (j : Fin 1024) : EReal :=
  proj (fun d => V m c main_v0 (ix2 r d)) (fun d => V m c main_v3 (ix2 0 d)) (fun d k => V m c main_v2 (ix3 0 d k)) j

/-- A key's lane. -/
def keyRow (c : Dev nD) (r w : Fin 512) : EReal :=
  headed (fun d => col m c r ⟨(w : ℕ) / 128 * 128 + (d : ℕ), by omega⟩) (fun d => V m c main_v4 (ix2 0 d)) ⟨(w : ℕ) % 128, by omega⟩

/-- A value's lane. -/
def valRow (c : Dev nD) (r w : Fin 512) : EReal := col m c r ⟨512 + (w : ℕ), by omega⟩

theorem colAt_eq (c : Dev nD) (t : Fin cfg0.N) (r : Fin 512) (j : Fin 1024) :
    colAt (iblk m c 0 t) (iblk m c 1 t) (iblk m c 2 t) r j = col m c r j :=
  proj_congr (fun d => blk0 m c t r d) (fun d => blk1 m c t d) (fun d => blk2 m c t d j)

theorem keyAt_eq (c : Dev nD) (t : Fin cfg0.N) (r w : Fin 512) :
    keyAt (iblk m c 0 t) (iblk m c 1 t) (iblk m c 2 t) (iblk m c 3 t) r w = keyRow m c r w :=
  headed_congr (fun d => colAt_eq m c t r _) (fun d => blk3 m c t d) rfl

theorem valAt_eq (c : Dev nD) (t : Fin cfg0.N) (y : S512x512.Idx) (r w : Fin 512) (hr : (r : ℕ) = (y 0 : Fin 512)) (hw : (w : ℕ) = (y 1 : Fin 512)) :
    colAt (iblk m c 0 t) (iblk m c 1 t) (iblk m c 2 t) (y 0) ⟨512 + ((y 1 : Fin 512) : ℕ), by have : ((y 1 : Fin 512) : ℕ) < 512 := (y 1).isLt; omega⟩ = valRow m c r w :=
  (colAt_eq m c t (y 0) _).trans (congr (congrArg (col m c) (Fin.ext hr.symm)) (Fin.ext (by show 512 + ((y 1 : Fin 512) : ℕ) = 512 + (w : ℕ); omega)))

theorem emb4_0 (t : Fin cfg0.N) (y : S512x512.Idx) : (((win0_4.blk t).view.emb y 0 : Fin 512) : ℕ) = ((y 0 : Fin 512) : ℕ) := by
  have e := (idx t).2.2.2.2.1
  blk_simp [e]; try omega
theorem emb4_1 (t : Fin cfg0.N) (y : S512x512.Idx) : (((win0_4.blk t).view.emb y 1 : Fin 512) : ℕ) = ((y 1 : Fin 512) : ℕ) := by
  have e := (idx t).2.2.2.2.1
  blk_simp [e]; try omega

theorem array4 (c : Dev nD) : (dats m 0 c).arrAt 4 cfg0.N = fun j : S512x512.Idx => keyRow m c (j 0) (j 1) := by
  refine (dats m 0 c).arrAt_eq_of_covers 4 _ (by decide +kernel) fun t hf y => ?_
  rw [after0_4]
  refine (out4_at _ _ _ _ y).trans ?_
  exact (keyAt_eq m c t _ _).trans (congr (congrArg (keyRow m c) (Fin.ext (emb4_0 t y).symm)) (Fin.ext (emb4_1 t y).symm))

theorem emb5_0 (t : Fin cfg0.N) (y : S512x512.Idx) : (((win0_5.blk t).view.emb y 0 : Fin 512) : ℕ) = ((y 0 : Fin 512) : ℕ) := by
  have e := (idx t).2.2.2.2.2.1
  blk_simp [e]; try omega
theorem emb5_1 (t : Fin cfg0.N) (y : S512x512.Idx) : (((win0_5.blk t).view.emb y 1 : Fin 512) : ℕ) = ((y 1 : Fin 512) : ℕ) := by
  have e := (idx t).2.2.2.2.2.1
  blk_simp [e]; try omega

theorem array5 (c : Dev nD) : (dats m 0 c).arrAt 5 cfg0.N = fun j : S512x512.Idx => keyRow m c (j 0) (j 1) := by
  refine (dats m 0 c).arrAt_eq_of_covers 5 _ (by decide +kernel) fun t hf y => ?_
  rw [after0_5]
  refine (out5_at _ _ _ _ y).trans ?_
  exact (keyAt_eq m c t _ _).trans (congr (congrArg (keyRow m c) (Fin.ext (emb5_0 t y).symm)) (Fin.ext (emb5_1 t y).symm))

theorem emb6_0 (t : Fin cfg0.N) (y : S512x512.Idx) : (((win0_6.blk t).view.emb y 0 : Fin 512) : ℕ) = ((y 0 : Fin 512) : ℕ) := by
  have e := (idx t).2.2.2.2.2.2.1
  blk_simp [e]; try omega
theorem emb6_1 (t : Fin cfg0.N) (y : S512x512.Idx) : (((win0_6.blk t).view.emb y 1 : Fin 512) : ℕ) = ((y 1 : Fin 512) : ℕ) := by
  have e := (idx t).2.2.2.2.2.2.1
  blk_simp [e]; try omega

theorem array6 (c : Dev nD) : (dats m 0 c).arrAt 6 cfg0.N = fun j : S512x512.Idx => valRow m c (j 0) (j 1) := by
  refine (dats m 0 c).arrAt_eq_of_covers 6 _ (by decide +kernel) fun t hf y => ?_
  rw [after0_6]
  refine (out6_at _ _ _ _ y).trans ?_
  exact valAt_eq m c t y _ _ (emb6_0 t y) (emb6_1 t y)

theorem emb7_0 (t : Fin cfg0.N) (y : S512x512.Idx) : (((win0_7.blk t).view.emb y 0 : Fin 512) : ℕ) = ((y 0 : Fin 512) : ℕ) := by
  have e := (idx t).2.2.2.2.2.2.2
  blk_simp [e]; try omega
theorem emb7_1 (t : Fin cfg0.N) (y : S512x512.Idx) : (((win0_7.blk t).view.emb y 1 : Fin 512) : ℕ) = ((y 1 : Fin 512) : ℕ) := by
  have e := (idx t).2.2.2.2.2.2.2
  blk_simp [e]; try omega

theorem array7 (c : Dev nD) : (dats m 0 c).arrAt 7 cfg0.N = fun j : S512x512.Idx => valRow m c (j 0) (j 1) := by
  refine (dats m 0 c).arrAt_eq_of_covers 7 _ (by decide +kernel) fun t hf y => ?_
  rw [after0_7]
  refine (out7_at _ _ _ _ y).trans ?_
  exact valAt_eq m c t y _ _ (emb7_0 t y) (emb7_1 t y)

end Cert.Mem

end
-- ==== Proof.MemRef.lean ====
/- The memory projection's reference and the kernel's operands at an index of the arguments, and the equality of the results. -/
module

public import proofs.«01_k».proof.Proof.Gen.Reference3Ideal.Run
public import proofs.«01_k».proof.Proof.MemArray
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Mem
open Cert.Proj Cert.Ffn

section Operands
open Cert.Kernel3Ideal Cert.Kernel3Ideal.Gen

variable (m : (ℓ : Loc nD τ sig) → Buf (Elt Ideal) ℓ)

/-- The arguments as functions of an index to the extended reals. -/
abbrev argX (c : Dev nD) : S2x256x2048.Idx → EReal := m ((c : Thread nD τ).loc main_arg0)
abbrev argG (c : Dev nD) : S2048.Idx → EReal := m ((c : Thread nD τ).loc main_arg1)
abbrev argW (c : Dev nD) : S2048x1024.Idx → EReal := m ((c : Thread nD τ).loc main_arg2)
abbrev argK (c : Dev nD) : S128.Idx → EReal := m ((c : Thread nD τ).loc main_arg3)

theorem x_at (c : Dev nD) (r : Fin 512) (d : Fin 2048) :
    (V m c main_v0 (ix2 r d) : EReal) = argX m c (ix3 ⟨(r : ℕ) / 256, by omega⟩ ⟨(r : ℕ) % 256, by omega⟩ d) := by
  unfold V
  after_reads_at

theorem g_at (c : Dev nD) (d : Fin 2048) : (V m c main_v3 (ix2 0 d) : EReal) = argG m c (ix1 d) := by
  unfold V
  after_reads_at

theorem w_at (c : Dev nD) (d : Fin 2048) (k : Fin 1024) : (V m c main_v2 (ix3 0 d k) : EReal) = argW m c (ix2 d k) := by
  unfold V
  after_reads_at

theorem k_at (c : Dev nD) (d : Fin 128) : (V m c main_v4 (ix2 0 d) : EReal) = argK m c (ix1 d) := by
  unfold V
  after_reads_at

end Operands

section Reference
open Cert.Reference3Ideal Cert.Reference3Ideal.Gen Cert.Reference3Ideal.Facts

/-- The reference's scaled rows. -/
def refScaled (x : FVec Ideal S2x256x2048 .f32) : FVec Ideal S2x256x2048 .f32 :=
  mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))

/-- Its projection, by weights scaled beforehand. -/
def refKv (x : FVec Ideal S2x256x2048 .f32) (g : FVec Ideal S2048 .f32) (w : FVec Ideal S2048x1024 .f32) : FVec Ideal S2x256x1024 .f32 :=
  Host.dotGeneral dot_S2x256x2048_S2048x1024_S2x256x1024_2_0_01_1_n_n none (refScaled x)
    (mulf (broadcastInDim S2048x1024 ![0, 1] bcast_S2048x1_S2048x1024_0_1 (broadcastInDim S2048x1 ![0] bcast_S2048_S2048x1_0 g)) w)

/-- Its heads, scaled and weighted. -/
def refRms (a : FVec Ideal S2x256x4x128 .f32) (g : FVec Ideal S128 .f32) : FVec Ideal S2x256x4x128 .f32 :=
  mulf (mulf a (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf a a) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32))))))
    (broadcastInDim S2x256x4x128 ![0, 1, 2, 3] bcast_S1x1x1x128_S2x256x4x128_0_1_2_3 (broadcastInDim S1x1x1x128 ![3] bcast_S128_S1x1x1x128_3 g))

/-- The keys' heads of its projection. -/
def refKeyHeads (y : FVec Ideal S2x256x1024 .f32) : FVec Ideal S2x256x4x128 .f32 :=
  shapeCast _ (extractStridedSlice S2x256x512 ![0, 0, 0] y slices_S2x256x1024_S2x256x512_0_0_0) shapeCasts_S2x256x512_S2x256x4x128
/-- The values' heads. -/
def refValHeads (y : FVec Ideal S2x256x1024 .f32) : FVec Ideal S2x256x4x128 .f32 :=
  shapeCast _ (extractStridedSlice S2x256x512 ![0, 0, 512] y slices_S2x256x1024_S2x256x512_0_0_512) shapeCasts_S2x256x512_S2x256x4x128

/-- Its keys and its values, as rows. -/
def refKeys (x : FVec Ideal S2x256x2048 .f32) (g : FVec Ideal S2048 .f32) (w : FVec Ideal S2048x1024 .f32) (gk : FVec Ideal S128 .f32) : FVec Ideal S512x512 .f32 :=
  shapeCast _ (refRms (refKeyHeads (refKv x g w)) gk) shapeCasts_S2x256x4x128_S512x512
def refVals (x : FVec Ideal S2x256x2048 .f32) (g : FVec Ideal S2048 .f32) (w : FVec Ideal S2048x1024 .f32) : FVec Ideal S512x512 .f32 :=
  shapeCast _ (refValHeads (refKv x g w)) shapeCasts_S2x256x4x128_S512x512

theorem refScaled_at (x : FVec Ideal S2x256x2048 .f32) (b : Fin 2) (p : Fin 256) (d : Fin 2048) :
    refScaled x (ix3 b p d) = x (ix3 b p d) * scale (fun e => x (ix3 b p e)) := by
  unfold refScaled scale
  pointwise

theorem refKv_at (x : FVec Ideal S2x256x2048 .f32) (g : FVec Ideal S2048 .f32) (w : FVec Ideal S2048x1024 .f32) (b : Fin 2) (p : Fin 256) (k : Fin 1024) :
    refKv x g w (ix3 b p k) = proj (fun d => x (ix3 b p d)) (fun d => g (ix1 d)) (fun d k => w (ix2 d k)) k := by
  rw [proj_eq]
  unfold refKv projPlain
  pointwise [refScaled_at]

theorem refRms_at (a : FVec Ideal S2x256x4x128 .f32) (g : FVec Ideal S128 .f32) (b : Fin 2) (p : Fin 256) (h : Fin 4) (j : Fin 128) :
    refRms a g (ix4 b p h j) = headed (fun d => a (ix4 b p h d)) (fun d => g (ix1 d)) j := by
  unfold refRms headed headScale
  pointwise

theorem refKeyHeads_at (y : FVec Ideal S2x256x1024 .f32) (b : Fin 2) (p : Fin 256) (h : Fin 4) (j : Fin 128) :
    refKeyHeads y (ix4 b p h j) = y (ix3 b p ⟨(h : ℕ) * 128 + (j : ℕ), by omega⟩) := by
  unfold refKeyHeads
  pointwise
  try blk_ext
  all_goals omega
theorem refValHeads_at (y : FVec Ideal S2x256x1024 .f32) (b : Fin 2) (p : Fin 256) (h : Fin 4) (j : Fin 128) :
    refValHeads y (ix4 b p h j) = y (ix3 b p ⟨512 + ((h : ℕ) * 128 + (j : ℕ)), by omega⟩) := by
  unfold refValHeads
  pointwise
  try blk_ext
  all_goals omega

theorem refRows_at (a : FVec Ideal S2x256x4x128 .f32) (r w : Fin 512) :
    shapeCast S512x512 a shapeCasts_S2x256x4x128_S512x512 (ix2 r w)
      = a (ix4 ⟨(r : ℕ) / 256, by omega⟩ ⟨(r : ℕ) % 256, by omega⟩ ⟨(w : ℕ) / 128, by omega⟩ ⟨(w : ℕ) % 128, by omega⟩) := by
  pointwise
  try blk_ext
  all_goals omega

end Reference

section Value
open Cert.Kernel3Ideal Cert.Kernel3Ideal.Gen

variable (m : (ℓ : Loc nD τ sig) → Buf (Elt Ideal) ℓ)

theorem col_eq (c : Dev nD) (r : Fin 512) (j j' : Fin 1024) (h : (j : ℕ) = j') :
    col m c r j = refKv (argX m c) (argG m c) (argW m c) (ix3 ⟨(r : ℕ) / 256, by omega⟩ ⟨(r : ℕ) % 256, by omega⟩ j') := by
  obtain rfl : j = j' := Fin.ext h
  exact (proj_congr (fun d => x_at m c r d) (fun d => g_at m c d) (fun d => w_at m c d j)).trans (refKv_at _ _ _ _ _ j).symm

theorem keyRow_eq (c : Dev nD) (r w : Fin 512) : keyRow m c r w = refKeys (argX m c) (argG m c) (argW m c) (argK m c) (ix2 r w) := by
  unfold refKeys
  rw [refRows_at, refRms_at]
  refine headed_congr (fun d => ?_) (fun d => k_at m c d) rfl
  rw [refKeyHeads_at]
  exact col_eq m c r _ _ rfl

theorem valRow_eq (c : Dev nD) (r w : Fin 512) : valRow m c r w = refVals (argX m c) (argG m c) (argW m c) (ix2 r w) := by
  unfold refVals
  rw [refRows_at, refValHeads_at]
  exact col_eq m c r _ _ (by show 512 + (w : ℕ) = 512 + ((w : ℕ) / 128 * 128 + (w : ℕ) % 128); omega)

theorem pair (j : S512x512.Idx) : j = ix2 (j 0) (j 1) := by
  funext a
  match a with
  | ⟨0, _⟩ => rfl
  | ⟨1, _⟩ => rfl

theorem keys_eq (c : Dev nD) : (fun j : S512x512.Idx => keyRow m c (j 0) (j 1)) = refKeys (argX m c) (argG m c) (argW m c) (argK m c) :=
  funext fun j => (keyRow_eq m c (j 0) (j 1)).trans (congrArg (refKeys (argX m c) (argG m c) (argW m c) (argK m c)) (pair j).symm)

theorem vals_eq (c : Dev nD) : (fun j : S512x512.Idx => valRow m c (j 0) (j 1)) = refVals (argX m c) (argG m c) (argW m c) :=
  funext fun j => (valRow_eq m c (j 0) (j 1)).trans (congrArg (refVals (argX m c) (argG m c) (argW m c)) (pair j).symm)

end Value

end Cert.Mem

end
-- ==== Proof.LayerMath.lean ====
/- A projection's columns and heads of a layer, from a row, its gain and the layer's weights. -/
module

public import proofs.«01_k».proof.Proof.ProjMath

@[expose] public section

set_option maxRecDepth 16384

noncomputable section

open Idealize.ShloMosaic

namespace Cert.Proj

/-- Column `j` of a layer's projection of a row. -/
def column (x g : Fin 2048 → EReal) (w : Fin 2048 → Fin 3584 → EReal) (j : ℕ) (h : j < 3584) : EReal := proj x g w ⟨j, h⟩

/-- Lane `j` of the head that starts at column `b`, scaled and weighted. -/
def headOf (x g : Fin 2048 → EReal) (w : Fin 2048 → Fin 3584 → EReal) (gk : Fin 128 → EReal) (b : ℕ) (h : b + 128 ≤ 3584) (j : Fin 128) : EReal :=
  headed (fun d => column x g w (b + (d : ℕ)) (by omega)) gk j

theorem column_congr {x x' g g' : Fin 2048 → EReal} {w w' : Fin 2048 → Fin 3584 → EReal} {j j' : ℕ} {h : j < 3584} {h' : j' < 3584}
    (hx : ∀ d, x d = x' d) (hg : ∀ d, g d = g' d) (hw : ∀ d k, w d k = w' d k) (hj : j = j') : column x g w j h = column x' g' w' j' h' := by
  subst hj
  exact proj_congr hx hg fun d => hw d _

theorem headOf_congr {x x' g g' : Fin 2048 → EReal} {w w' : Fin 2048 → Fin 3584 → EReal} {gk gk' : Fin 128 → EReal} {b b' : ℕ} {h : b + 128 ≤ 3584} {h' : b' + 128 ≤ 3584}
    {j j' : Fin 128} (hx : ∀ d, x d = x' d) (hg : ∀ d, g d = g' d) (hw : ∀ d k, w d k = w' d k) (hk : ∀ d, gk d = gk' d) (hb : b = b') (hj : j = j') :
    headOf x g w gk b h j = headOf x' g' w' gk' b' h' j' := by
  subst hb
  exact headed_congr (fun d => column_congr hx hg hw rfl) hk hj

end Cert.Proj

end
-- ==== Proof.LayerRef.lean ====
/- The pieces of a layer's projection in the reference, at an index: the weighted weights, the four products, the heads and the rows. -/
module

public import proofs.«01_k».proof.Proof.Gen.Reference5Ideal.Run
public import proofs.«01_k».proof.Proof.LayerMath
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.Layer
open Cert.Proj Cert.Ffn
open Cert.Reference5Ideal Cert.Reference5Ideal.Gen Cert.Reference5Ideal.Facts

/-- A layer's weights, weighted by its gain. -/
def weights (g : FVec Ideal S2048 .f32) (w : FVec Ideal S2048x3584 .f32) : FVec Ideal S2048x3584 .f32 :=
  mulf (broadcastInDim S2048x3584 ![0, 1] bcast_S2048x1_S2048x3584_0_1 (broadcastInDim S2048x1 ![0] bcast_S2048_S2048x1_0 g)) w

theorem weights_at (g : FVec Ideal S2048 .f32) (w : FVec Ideal S2048x3584 .f32) (d : Fin 2048) (k : Fin 3584) :
    weights g w (ix2 d k) = g (ix1 d) * w (ix2 d k) := by
  unfold weights
  pointwise

/-- The queries' columns of the product. -/
def prodQ (x : FVec Ideal S2x16384x2048 .f32) (g : FVec Ideal S2048 .f32) (w : FVec Ideal S2048x3584 .f32) : FVec Ideal S2x16384x1024 .f32 :=
  Host.dotGeneral dot_S2x16384x2048_S2048x1024_S2x16384x1024_2_0_01_1_n_n none (refScaled x) (extractStridedSlice S2048x1024 ![0, 0] (weights g w) slices_S2048x3584_S2048x1024_0_0)

theorem prodQ_at (x : FVec Ideal S2x16384x2048 .f32) (g : FVec Ideal S2048 .f32) (w : FVec Ideal S2048x3584 .f32) (b : Fin 2) (p : Fin 16384) (k : Fin 1024) :
    prodQ x g w (ix3 b p k) = column (fun d => x (ix3 b p d)) (fun d => g (ix1 d)) (fun d k => w (ix2 d k)) (0 + (k : ℕ)) (by omega) := by
  unfold column
  rw [proj_eq]
  unfold prodQ projPlain
  pointwise [refScaled_at, weights_at]
  try simp only [Nat.zero_add, Nat.add_comm, zero_add]

/-- The keys' columns of the product. -/
def prodK (x : FVec Ideal S2x16384x2048 .f32) (g : FVec Ideal S2048 .f32) (w : FVec Ideal S2048x3584 .f32) : FVec Ideal S2x16384x1024 .f32 :=
  Host.dotGeneral dot_S2x16384x2048_S2048x1024_S2x16384x1024_2_0_01_1_n_n none (refScaled x) (extractStridedSlice S2048x1024 ![0, 1024] (weights g w) slices_S2048x3584_S2048x1024_0_1024)

theorem prodK_at (x : FVec Ideal S2x16384x2048 .f32) (g : FVec Ideal S2048 .f32) (w : FVec Ideal S2048x3584 .f32) (b : Fin 2) (p : Fin 16384) (k : Fin 1024) :
    prodK x g w (ix3 b p k) = column (fun d => x (ix3 b p d)) (fun d => g (ix1 d)) (fun d k => w (ix2 d k)) (1024 + (k : ℕ)) (by omega) := by
  unfold column
  rw [proj_eq]
  unfold prodK projPlain
  pointwise [refScaled_at, weights_at]
  try simp only [Nat.zero_add, Nat.add_comm, zero_add]

/-- The values' columns of the product. -/
def prodV (x : FVec Ideal S2x16384x2048 .f32) (g : FVec Ideal S2048 .f32) (w : FVec Ideal S2048x3584 .f32) : FVec Ideal S2x16384x1024 .f32 :=
  Host.dotGeneral dot_S2x16384x2048_S2048x1024_S2x16384x1024_2_0_01_1_n_n none (refScaled x) (extractStridedSlice S2048x1024 ![0, 2048] (weights g w) slices_S2048x3584_S2048x1024_0_2048)

theorem prodV_at (x : FVec Ideal S2x16384x2048 .f32) (g : FVec Ideal S2048 .f32) (w : FVec Ideal S2048x3584 .f32) (b : Fin 2) (p : Fin 16384) (k : Fin 1024) :
    prodV x g w (ix3 b p k) = column (fun d => x (ix3 b p d)) (fun d => g (ix1 d)) (fun d k => w (ix2 d k)) (2048 + (k : ℕ)) (by omega) := by
  unfold column
  rw [proj_eq]
  unfold prodV projPlain
  pointwise [refScaled_at, weights_at]
  try simp only [Nat.zero_add, Nat.add_comm, zero_add]

/-- The memory queries' columns of the product. -/
def prodM (x : FVec Ideal S2x16384x2048 .f32) (g : FVec Ideal S2048 .f32) (w : FVec Ideal S2048x3584 .f32) : FVec Ideal S2x16384x512 .f32 :=
  Host.dotGeneral dot_S2x16384x2048_S2048x512_S2x16384x512_2_0_01_1_n_n none (refScaled x) (extractStridedSlice S2048x512 ![0, 3072] (weights g w) slices_S2048x3584_S2048x512_0_3072)

theorem prodM_at (x : FVec Ideal S2x16384x2048 .f32) (g : FVec Ideal S2048 .f32) (w : FVec Ideal S2048x3584 .f32) (b : Fin 2) (p : Fin 16384) (k : Fin 512) :
    prodM x g w (ix3 b p k) = column (fun d => x (ix3 b p d)) (fun d => g (ix1 d)) (fun d k => w (ix2 d k)) (3072 + (k : ℕ)) (by omega) := by
  unfold column
  rw [proj_eq]
  unfold prodM projPlain
  pointwise [refScaled_at, weights_at]
  try simp only [Nat.zero_add, Nat.add_comm, zero_add]

/-- Heads of 128 lanes, scaled and weighted. -/
def rms8 (a : FVec Ideal S2x16384x8x128 .f32) (g : FVec Ideal S128 .f32) : FVec Ideal S2x16384x8x128 .f32 :=
  mulf (mulf a (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf a a) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32))))))
    (broadcastInDim S2x16384x8x128 ![0, 1, 2, 3] bcast_S1x1x1x128_S2x16384x8x128_0_1_2_3 (broadcastInDim S1x1x1x128 ![3] bcast_S128_S1x1x1x128_3 g))

theorem rms8_at (a : FVec Ideal S2x16384x8x128 .f32) (g : FVec Ideal S128 .f32) (b : Fin 2) (p : Fin 16384) (h : Fin 8) (j : Fin 128) :
    rms8 a g (ix4 b p h j) = headed (fun d => a (ix4 b p h d)) (fun d => g (ix1 d)) j := by
  unfold rms8 headed headScale
  pointwise

/-- The same times the queries' factor. -/
def scaled8 (a : FVec Ideal S2x16384x8x128 .f32) (g : FVec Ideal S128 .f32) : FVec Ideal S2x16384x8x128 .f32 :=
  mulf (rms8 a g) (broadcastInDim S2x16384x8x128 ![] bcast_S_S2x16384x8x128 (constant S_ .f32 0x3DB504F3#32))

theorem scaled8_at (a : FVec Ideal S2x16384x8x128 .f32) (g : FVec Ideal S128 .f32) (b : Fin 2) (p : Fin 16384) (h : Fin 8) (j : Fin 128) :
    scaled8 a g (ix4 b p h j) = headed (fun d => a (ix4 b p h d)) (fun d => g (ix1 d)) j * Ideal.ofBits FTy.f32 0x3DB504F3#32 := by
  unfold scaled8
  pointwise [rms8_at]

theorem split8_at (y : FVec Ideal S2x16384x1024 .f32) (b : Fin 2) (p : Fin 16384) (h : Fin 8) (j : Fin 128) :
    shapeCast S2x16384x8x128 y shapeCasts_S2x16384x1024_S2x16384x8x128 (ix4 b p h j) = y (ix3 b p ⟨(h : ℕ) * 128 + (j : ℕ), by omega⟩) := by
  pointwise
  try blk_ext
  all_goals omega

theorem rows8_at (a : FVec Ideal S2x16384x8x128 .f32) (r : Fin 32768) (w : Fin 1024) :
    shapeCast S32768x1024 a shapeCasts_S2x16384x8x128_S32768x1024 (ix2 r w)
      = a (ix4 ⟨(r : ℕ) / 16384, by omega⟩ ⟨(r : ℕ) % 16384, by omega⟩ ⟨(w : ℕ) / 128, by omega⟩ ⟨(w : ℕ) % 128, by omega⟩) := by
  pointwise
  try blk_ext
  all_goals omega

/-- Heads of 128 lanes, scaled and weighted. -/
def rms4 (a : FVec Ideal S2x16384x4x128 .f32) (g : FVec Ideal S128 .f32) : FVec Ideal S2x16384x4x128 .f32 :=
  mulf (mulf a (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf a a) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32))))))
    (broadcastInDim S2x16384x4x128 ![0, 1, 2, 3] bcast_S1x1x1x128_S2x16384x4x128_0_1_2_3 (broadcastInDim S1x1x1x128 ![3] bcast_S128_S1x1x1x128_3 g))

theorem rms4_at (a : FVec Ideal S2x16384x4x128 .f32) (g : FVec Ideal S128 .f32) (b : Fin 2) (p : Fin 16384) (h : Fin 4) (j : Fin 128) :
    rms4 a g (ix4 b p h j) = headed (fun d => a (ix4 b p h d)) (fun d => g (ix1 d)) j := by
  unfold rms4 headed headScale
  pointwise

/-- The same times the queries' factor. -/
def scaled4 (a : FVec Ideal S2x16384x4x128 .f32) (g : FVec Ideal S128 .f32) : FVec Ideal S2x16384x4x128 .f32 :=
  mulf (rms4 a g) (broadcastInDim S2x16384x4x128 ![] bcast_S_S2x16384x4x128 (constant S_ .f32 0x3DB504F3#32))

theorem scaled4_at (a : FVec Ideal S2x16384x4x128 .f32) (g : FVec Ideal S128 .f32) (b : Fin 2) (p : Fin 16384) (h : Fin 4) (j : Fin 128) :
    scaled4 a g (ix4 b p h j) = headed (fun d => a (ix4 b p h d)) (fun d => g (ix1 d)) j * Ideal.ofBits FTy.f32 0x3DB504F3#32 := by
  unfold scaled4
  pointwise [rms4_at]

theorem split4_at (y : FVec Ideal S2x16384x512 .f32) (b : Fin 2) (p : Fin 16384) (h : Fin 4) (j : Fin 128) :
    shapeCast S2x16384x4x128 y shapeCasts_S2x16384x512_S2x16384x4x128 (ix4 b p h j) = y (ix3 b p ⟨(h : ℕ) * 128 + (j : ℕ), by omega⟩) := by
  pointwise
  try blk_ext
  all_goals omega

theorem rows4_at (a : FVec Ideal S2x16384x4x128 .f32) (r : Fin 32768) (w : Fin 512) :
    shapeCast S32768x512 a shapeCasts_S2x16384x4x128_S32768x512 (ix2 r w)
      = a (ix4 ⟨(r : ℕ) / 16384, by omega⟩ ⟨(r : ℕ) % 16384, by omega⟩ ⟨(w : ℕ) / 128, by omega⟩ ⟨(w : ℕ) % 128, by omega⟩) := by
  pointwise
  try blk_ext
  all_goals omega

theorem tail_at (a : FVec Ideal S2x16384x8x128 .f32) (u w : Fin 1024) :
    shapeCast S1024x1024 (extractStridedSlice S2x512x8x128 ![0, 15872, 0, 0] a slices_S2x16384x8x128_S2x512x8x128_0_15872_0_0) shapeCasts_S2x512x8x128_S1024x1024 (ix2 u w)
      = a (ix4 ⟨(u : ℕ) / 512, by omega⟩ ⟨15872 + (u : ℕ) % 512, by omega⟩ ⟨(w : ℕ) / 128, by omega⟩ ⟨(w : ℕ) % 128, by omega⟩) := by
  pointwise
  try blk_ext
  all_goals omega

end Cert.Layer

end
-- ==== Proof.BandProjBlock.lean ====
/- What the band layer's projection leaves in its blocks, entry by entry. -/
module

public import proofs.«01_k».proof.Proof.Gen.Kernel5Ideal.Frame
public import proofs.«01_k».proof.Proof.LayerMath

@[expose] public section

set_option maxRecDepth 16384

noncomputable section

open Idealize.ShloMosaic Idealize.ShloMosaic.TcCoe Idealize.SL.Sem
open Idealize.ShloMosaic.Pipeline (Dat)

namespace Cert.BandProj
open Cert.Kernel5Ideal Cert.Kernel5Ideal.Gen
open Cert.Proj Cert.Ffn

theorem dot2_at (x : Vec Ideal S512x2048 .f32) (g : Vec Ideal S1x2048 .f32) (w : Vec Ideal S1x2048x512 .bf16) (i : S512x512.Idx) :
    k0_pay2 x g w i = proj (fun d => x (ix2 (i 0) d)) (fun d => g (ix2 0 d)) (fun d k => w (ix3 0 d k)) (i 1) := by
  pointwise [k0_pay2, k0_pay1, proj, normed, scale]

theorem dot3_at (x : Vec Ideal S512x2048 .f32) (g : Vec Ideal S1x2048 .f32) (w : Vec Ideal S1x2048x512 .bf16) (i : S512x512.Idx) :
    k0_pay3 x g w i = proj (fun d => x (ix2 (i 0) d)) (fun d => g (ix2 0 d)) (fun d k => w (ix3 0 d k)) (i 1) := by
  pointwise [k0_pay3, k0_pay1, proj, normed, scale]

theorem dot9_at (x : Vec Ideal S512x2048 .f32) (g : Vec Ideal S1x2048 .f32) (w : Vec Ideal S1x2048x512 .bf16) (i : S512x512.Idx) :
    k0_pay9 (k0_pay1 x g) w i = proj (fun d => x (ix2 (i 0) d)) (fun d => g (ix2 0 d)) (fun d k => w (ix3 0 d k)) (i 1) := by
  pointwise [k0_pay9, k0_pay1, proj, normed, scale]

theorem dot16_at (x : Vec Ideal S512x2048 .f32) (g : Vec Ideal S1x2048 .f32) (w : Vec Ideal S1x2048x512 .bf16) (i : S512x512.Idx) :
    k0_pay16 (k0_pay1 x g) w i = proj (fun d => x (ix2 (i 0) d)) (fun d => g (ix2 0 d)) (fun d k => w (ix3 0 d k)) (i 1) := by
  pointwise [k0_pay16, k0_pay1, proj, normed, scale]

theorem dot25_at (x : Vec Ideal S512x2048 .f32) (g : Vec Ideal S1x2048 .f32) (w : Vec Ideal S1x2048x512 .bf16) (i : S512x512.Idx) :
    k0_pay25 (k0_pay1 x g) w i = proj (fun d => x (ix2 (i 0) d)) (fun d => g (ix2 0 d)) (fun d k => w (ix3 0 d k)) (i 1) := by
  pointwise [k0_pay25, k0_pay1, proj, normed, scale]

theorem dot34_at (x : Vec Ideal S512x2048 .f32) (g : Vec Ideal S1x2048 .f32) (w : Vec Ideal S1x2048x512 .bf16) (i : S512x512.Idx) :
    k0_pay34 (k0_pay1 x g) w i = proj (fun d => x (ix2 (i 0) d)) (fun d => g (ix2 0 d)) (fun d k => w (ix3 0 d k)) (i 1) := by
  pointwise [k0_pay34, k0_pay1, proj, normed, scale]

theorem dot43_at (x : Vec Ideal S512x2048 .f32) (g : Vec Ideal S1x2048 .f32) (w : Vec Ideal S1x2048x512 .bf16) (i : S512x512.Idx) :
    k0_pay43 (k0_pay1 x g) w i = proj (fun d => x (ix2 (i 0) d)) (fun d => g (ix2 0 d)) (fun d k => w (ix3 0 d k)) (i 1) := by
  pointwise [k0_pay43, k0_pay1, proj, normed, scale]

/-- The factor of the queries. -/
def headFactor : EReal := Ideal.ofBits FTy.f32 0x3DB504F3#32

theorem head6_at (y : FVec Ideal S512x512 .f32) (gk : Vec Ideal S1x128 .f32) (i : S512x128.Idx) :
    k0_pay6 y gk i = headed (fun d => y (ix2 (i 0) ⟨128 + (d : ℕ), by omega⟩)) (fun d => gk (ix2 0 d)) (i 1) * headFactor := by
  pointwise [k0_pay6, headed, headScale, headFactor]

theorem head7_at (y : FVec Ideal S512x512 .f32) (gk : Vec Ideal S1x128 .f32) (i : S512x128.Idx) :
    k0_pay7 y gk i = headed (fun d => y (ix2 (i 0) ⟨256 + (d : ℕ), by omega⟩)) (fun d => gk (ix2 0 d)) (i 1) * headFactor := by
  pointwise [k0_pay7, headed, headScale, headFactor]

theorem head8_at (y : FVec Ideal S512x512 .f32) (gk : Vec Ideal S1x128 .f32) (i : S512x128.Idx) :
    k0_pay8 y gk i = headed (fun d => y (ix2 (i 0) ⟨384 + (d : ℕ), by omega⟩)) (fun d => gk (ix2 0 d)) (i 1) * headFactor := by
  pointwise [k0_pay8, headed, headScale, headFactor]

theorem head13_at (y : FVec Ideal S512x512 .f32) (gk : Vec Ideal S1x128 .f32) (i : S512x128.Idx) :
    k0_pay13 y gk i = headed (fun d => y (ix2 (i 0) ⟨128 + (d : ℕ), by omega⟩)) (fun d => gk (ix2 0 d)) (i 1) * headFactor := by
  pointwise [k0_pay13, headed, headScale, headFactor]

theorem head14_at (y : FVec Ideal S512x512 .f32) (gk : Vec Ideal S1x128 .f32) (i : S512x128.Idx) :
    k0_pay14 y gk i = headed (fun d => y (ix2 (i 0) ⟨256 + (d : ℕ), by omega⟩)) (fun d => gk (ix2 0 d)) (i 1) * headFactor := by
  pointwise [k0_pay14, headed, headScale, headFactor]

theorem head15_at (y : FVec Ideal S512x512 .f32) (gk : Vec Ideal S1x128 .f32) (i : S512x128.Idx) :
    k0_pay15 y gk i = headed (fun d => y (ix2 (i 0) ⟨384 + (d : ℕ), by omega⟩)) (fun d => gk (ix2 0 d)) (i 1) * headFactor := by
  pointwise [k0_pay15, headed, headScale, headFactor]

theorem head52_at (y : FVec Ideal S512x512 .f32) (gk : Vec Ideal S1x128 .f32) (i : S512x128.Idx) :
    k0_pay52 y gk i = headed (fun d => y (ix2 (i 0) ⟨0 + (d : ℕ), by omega⟩)) (fun d => gk (ix2 0 d)) (i 1) * headFactor := by
  pointwise [k0_pay52, headed, headScale, headFactor]

theorem head56_at (y : FVec Ideal S512x512 .f32) (gk : Vec Ideal S1x128 .f32) (i : S512x128.Idx) :
    k0_pay56 y gk i = headed (fun d => y (ix2 (i 0) ⟨256 + (d : ℕ), by omega⟩)) (fun d => gk (ix2 0 d)) (i 1) * headFactor := by
  pointwise [k0_pay56, headed, headScale, headFactor]

theorem head57_at (y : FVec Ideal S512x512 .f32) (gk : Vec Ideal S1x128 .f32) (i : S512x128.Idx) :
    k0_pay57 y gk i = headed (fun d => y (ix2 (i 0) ⟨384 + (d : ℕ), by omega⟩)) (fun d => gk (ix2 0 d)) (i 1) * headFactor := by
  pointwise [k0_pay57, headed, headScale, headFactor]

theorem head5_at (x : Vec Ideal S512x2048 .f32) (g : Vec Ideal S1x2048 .f32) (w : Vec Ideal S1x2048x512 .bf16) (gk : Vec Ideal S1x128 .f32) (i : S512x128.Idx) :
    k0_pay5 (k0_pay4 x g w gk) (Scalar.ofBits .f32 0x3DB504F3#32) i
      = headed (fun d => k0_pay2 x g w (ix2 (i 0) ⟨0 + (d : ℕ), by omega⟩)) (fun d => gk (ix2 0 d)) (i 1) * headFactor := by
  pointwise [k0_pay5, k0_pay4, headed, headScale, headFactor]

theorem head12_at (y : FVec Ideal S512x512 .f32) (gk : Vec Ideal S1x128 .f32) (i : S512x128.Idx) :
    k0_pay12 (k0_pay10 y gk) (k0_pay11 (F := Ideal)) i = headed (fun d => y (ix2 (i 0) ⟨0 + (d : ℕ), by omega⟩)) (fun d => gk (ix2 0 d)) (i 1) * headFactor := by
  pointwise [k0_pay12, k0_pay10, k0_pay11, headed, headScale, headFactor]

theorem head55_at (y : FVec Ideal S512x512 .f32) (gk : Vec Ideal S1x128 .f32) (i : S512x128.Idx) :
    k0_pay55 (k0_pay53 y gk) (k0_pay54 (F := Ideal)) i = headed (fun d => y (ix2 (i 0) ⟨128 + (d : ℕ), by omega⟩)) (fun d => gk (ix2 0 d)) (i 1) * headFactor := by
  pointwise [k0_pay55, k0_pay53, k0_pay54, headed, headScale, headFactor]

theorem head17_at (y : FVec Ideal S512x512 .f32) (gk : Vec Ideal S1x128 .f32) (i : S512x128.Idx) :
    k0_pay17 y gk i = headed (fun d => y (ix2 (i 0) ⟨0 + (d : ℕ), by omega⟩)) (fun d => gk (ix2 0 d)) (i 1) := by
  pointwise [k0_pay17, headed, headScale, headFactor]

theorem head19_at (y : FVec Ideal S512x512 .f32) (gk : Vec Ideal S1x128 .f32) (i : S512x128.Idx) :
    k0_pay19 y gk i = headed (fun d => y (ix2 (i 0) ⟨128 + (d : ℕ), by omega⟩)) (fun d => gk (ix2 0 d)) (i 1) := by
  pointwise [k0_pay19, headed, headScale, headFactor]

theorem head21_at (y : FVec Ideal S512x512 .f32) (gk : Vec Ideal S1x128 .f32) (i : S512x128.Idx) :
    k0_pay21 y gk i = headed (fun d => y (ix2 (i 0) ⟨256 + (d : ℕ), by omega⟩)) (fun d => gk (ix2 0 d)) (i 1) := by
  pointwise [k0_pay21, headed, headScale, headFactor]

theorem head23_at (y : FVec Ideal S512x512 .f32) (gk : Vec Ideal S1x128 .f32) (i : S512x128.Idx) :
    k0_pay23 y gk i = headed (fun d => y (ix2 (i 0) ⟨384 + (d : ℕ), by omega⟩)) (fun d => gk (ix2 0 d)) (i 1) := by
  pointwise [k0_pay23, headed, headScale, headFactor]

theorem head26_at (y : FVec Ideal S512x512 .f32) (gk : Vec Ideal S1x128 .f32) (i : S512x128.Idx) :
    k0_pay26 y gk i = headed (fun d => y (ix2 (i 0) ⟨0 + (d : ℕ), by omega⟩)) (fun d => gk (ix2 0 d)) (i 1) := by
  pointwise [k0_pay26, headed, headScale, headFactor]

theorem head28_at (y : FVec Ideal S512x512 .f32) (gk : Vec Ideal S1x128 .f32) (i : S512x128.Idx) :
    k0_pay28 y gk i = headed (fun d => y (ix2 (i 0) ⟨128 + (d : ℕ), by omega⟩)) (fun d => gk (ix2 0 d)) (i 1) := by
  pointwise [k0_pay28, headed, headScale, headFactor]

theorem head30_at (y : FVec Ideal S512x512 .f32) (gk : Vec Ideal S1x128 .f32) (i : S512x128.Idx) :
    k0_pay30 y gk i = headed (fun d => y (ix2 (i 0) ⟨256 + (d : ℕ), by omega⟩)) (fun d => gk (ix2 0 d)) (i 1) := by
  pointwise [k0_pay30, headed, headScale, headFactor]

theorem head32_at (y : FVec Ideal S512x512 .f32) (gk : Vec Ideal S1x128 .f32) (i : S512x128.Idx) :
    k0_pay32 y gk i = headed (fun d => y (ix2 (i 0) ⟨384 + (d : ℕ), by omega⟩)) (fun d => gk (ix2 0 d)) (i 1) := by
  pointwise [k0_pay32, headed, headScale, headFactor]

theorem head18_at (y : FVec Ideal S512x512 .f32) (gk : Vec Ideal S1x128 .f32) (i : S512x128.Idx) :
    k0_pay18 y gk i = headed (fun d => y (ix2 (i 0) ⟨0 + (d : ℕ), by omega⟩)) (fun d => gk (ix2 0 d)) (i 1) := by
  pointwise [k0_pay18, k0_pay17, headed, headScale, headFactor]

theorem head20_at (y : FVec Ideal S512x512 .f32) (gk : Vec Ideal S1x128 .f32) (i : S512x128.Idx) :
    k0_pay20 y gk i = headed (fun d => y (ix2 (i 0) ⟨128 + (d : ℕ), by omega⟩)) (fun d => gk (ix2 0 d)) (i 1) := by
  pointwise [k0_pay20, k0_pay19, headed, headScale, headFactor]

theorem head22_at (y : FVec Ideal S512x512 .f32) (gk : Vec Ideal S1x128 .f32) (i : S512x128.Idx) :
    k0_pay22 y gk i = headed (fun d => y (ix2 (i 0) ⟨256 + (d : ℕ), by omega⟩)) (fun d => gk (ix2 0 d)) (i 1) := by
  pointwise [k0_pay22, k0_pay21, headed, headScale, headFactor]

theorem head24_at (y : FVec Ideal S512x512 .f32) (gk : Vec Ideal S1x128 .f32) (i : S512x128.Idx) :
    k0_pay24 y gk i = headed (fun d => y (ix2 (i 0) ⟨384 + (d : ℕ), by omega⟩)) (fun d => gk (ix2 0 d)) (i 1) := by
  pointwise [k0_pay24, k0_pay23, headed, headScale, headFactor]

theorem head29_at (y : FVec Ideal S512x512 .f32) (gk : Vec Ideal S1x128 .f32) (i : S512x128.Idx) :
    k0_pay29 y gk i = headed (fun d => y (ix2 (i 0) ⟨128 + (d : ℕ), by omega⟩)) (fun d => gk (ix2 0 d)) (i 1) := by
  pointwise [k0_pay29, k0_pay28, headed, headScale, headFactor]

theorem head31_at (y : FVec Ideal S512x512 .f32) (gk : Vec Ideal S1x128 .f32) (i : S512x128.Idx) :
    k0_pay31 y gk i = headed (fun d => y (ix2 (i 0) ⟨256 + (d : ℕ), by omega⟩)) (fun d => gk (ix2 0 d)) (i 1) := by
  pointwise [k0_pay31, k0_pay30, headed, headScale, headFactor]

theorem head33_at (y : FVec Ideal S512x512 .f32) (gk : Vec Ideal S1x128 .f32) (i : S512x128.Idx) :
    k0_pay33 y gk i = headed (fun d => y (ix2 (i 0) ⟨384 + (d : ℕ), by omega⟩)) (fun d => gk (ix2 0 d)) (i 1) := by
  pointwise [k0_pay33, k0_pay32, headed, headScale, headFactor]

theorem lane35_at (y : FVec Ideal S512x512 .f32) (i : S512x128.Idx) :
    k0_pay35 y i = y (ix2 (i 0) ⟨0 + ((i 1 : Fin 128) : ℕ), by have : ((i 1 : Fin 128) : ℕ) < 128 := (i 1).isLt; omega⟩) := by
  pointwise [k0_pay35, k0_pay35]

theorem lane36_at (y : FVec Ideal S512x512 .f32) (i : S512x128.Idx) :
    k0_pay36 y i = y (ix2 (i 0) ⟨0 + ((i 1 : Fin 128) : ℕ), by have : ((i 1 : Fin 128) : ℕ) < 128 := (i 1).isLt; omega⟩) := by
  pointwise [k0_pay36, k0_pay35]

theorem lane37_at (y : FVec Ideal S512x512 .f32) (i : S512x128.Idx) :
    k0_pay37 y i = y (ix2 (i 0) ⟨128 + ((i 1 : Fin 128) : ℕ), by have : ((i 1 : Fin 128) : ℕ) < 128 := (i 1).isLt; omega⟩) := by
  pointwise [k0_pay37, k0_pay37]

theorem lane38_at (y : FVec Ideal S512x512 .f32) (i : S512x128.Idx) :
    k0_pay38 y i = y (ix2 (i 0) ⟨128 + ((i 1 : Fin 128) : ℕ), by have : ((i 1 : Fin 128) : ℕ) < 128 := (i 1).isLt; omega⟩) := by
  pointwise [k0_pay38, k0_pay37]

theorem lane39_at (y : FVec Ideal S512x512 .f32) (i : S512x128.Idx) :
    k0_pay39 y i = y (ix2 (i 0) ⟨256 + ((i 1 : Fin 128) : ℕ), by have : ((i 1 : Fin 128) : ℕ) < 128 := (i 1).isLt; omega⟩) := by
  pointwise [k0_pay39, k0_pay39]

theorem lane40_at (y : FVec Ideal S512x512 .f32) (i : S512x128.Idx) :
    k0_pay40 y i = y (ix2 (i 0) ⟨256 + ((i 1 : Fin 128) : ℕ), by have : ((i 1 : Fin 128) : ℕ) < 128 := (i 1).isLt; omega⟩) := by
  pointwise [k0_pay40, k0_pay39]

theorem lane41_at (y : FVec Ideal S512x512 .f32) (i : S512x128.Idx) :
    k0_pay41 y i = y (ix2 (i 0) ⟨384 + ((i 1 : Fin 128) : ℕ), by have : ((i 1 : Fin 128) : ℕ) < 128 := (i 1).isLt; omega⟩) := by
  pointwise [k0_pay41, k0_pay41]

theorem lane42_at (y : FVec Ideal S512x512 .f32) (i : S512x128.Idx) :
    k0_pay42 y i = y (ix2 (i 0) ⟨384 + ((i 1 : Fin 128) : ℕ), by have : ((i 1 : Fin 128) : ℕ) < 128 := (i 1).isLt; omega⟩) := by
  pointwise [k0_pay42, k0_pay41]

theorem lane44_at (y : FVec Ideal S512x512 .f32) (i : S512x128.Idx) :
    k0_pay44 y i = y (ix2 (i 0) ⟨0 + ((i 1 : Fin 128) : ℕ), by have : ((i 1 : Fin 128) : ℕ) < 128 := (i 1).isLt; omega⟩) := by
  pointwise [k0_pay44, k0_pay44]

theorem lane45_at (y : FVec Ideal S512x512 .f32) (i : S512x128.Idx) :
    k0_pay45 y i = y (ix2 (i 0) ⟨0 + ((i 1 : Fin 128) : ℕ), by have : ((i 1 : Fin 128) : ℕ) < 128 := (i 1).isLt; omega⟩) := by
  pointwise [k0_pay45, k0_pay44]

theorem lane46_at (y : FVec Ideal S512x512 .f32) (i : S512x128.Idx) :
    k0_pay46 y i = y (ix2 (i 0) ⟨128 + ((i 1 : Fin 128) : ℕ), by have : ((i 1 : Fin 128) : ℕ) < 128 := (i 1).isLt; omega⟩) := by
  pointwise [k0_pay46, k0_pay46]

theorem lane47_at (y : FVec Ideal S512x512 .f32) (i : S512x128.Idx) :
    k0_pay47 y i = y (ix2 (i 0) ⟨128 + ((i 1 : Fin 128) : ℕ), by have : ((i 1 : Fin 128) : ℕ) < 128 := (i 1).isLt; omega⟩) := by
  pointwise [k0_pay47, k0_pay46]

theorem lane48_at (y : FVec Ideal S512x512 .f32) (i : S512x128.Idx) :
    k0_pay48 y i = y (ix2 (i 0) ⟨256 + ((i 1 : Fin 128) : ℕ), by have : ((i 1 : Fin 128) : ℕ) < 128 := (i 1).isLt; omega⟩) := by
  pointwise [k0_pay48, k0_pay48]

theorem lane49_at (y : FVec Ideal S512x512 .f32) (i : S512x128.Idx) :
    k0_pay49 y i = y (ix2 (i 0) ⟨256 + ((i 1 : Fin 128) : ℕ), by have : ((i 1 : Fin 128) : ℕ) < 128 := (i 1).isLt; omega⟩) := by
  pointwise [k0_pay49, k0_pay48]

theorem lane50_at (y : FVec Ideal S512x512 .f32) (i : S512x128.Idx) :
    k0_pay50 y i = y (ix2 (i 0) ⟨384 + ((i 1 : Fin 128) : ℕ), by have : ((i 1 : Fin 128) : ℕ) < 128 := (i 1).isLt; omega⟩) := by
  pointwise [k0_pay50, k0_pay50]

theorem lane51_at (y : FVec Ideal S512x512 .f32) (i : S512x128.Idx) :
    k0_pay51 y i = y (ix2 (i 0) ⟨384 + ((i 1 : Fin 128) : ℕ), by have : ((i 1 : Fin 128) : ℕ) < 128 := (i 1).isLt; omega⟩) := by
  pointwise [k0_pay51, k0_pay50]

section Block
variable (x0 : Vec Ideal S512x2048 .f32) (x1 : Vec Ideal S1x2048 .f32) (x2 : Vec Ideal S1x2048x3584 .bf16) (x3 x4 x5 : Vec Ideal S1x128 .f32)

theorem ldx (r : Fin 512) (d : Fin 2048) : View.ld x0 r0_0 (ix2 r d) = x0 (ix2 r d) := by
  pointwise; try blk_ext
theorem ldg (d : Fin 2048) : View.ld x1 r0_1 (ix2 0 d) = x1 (ix2 0 d) := by
  pointwise; try blk_ext
theorem ldh (d : Fin 128) : View.ld x3 r0_4 (ix2 0 d) = x3 (ix2 0 d) := by
  pointwise; try blk_ext
theorem ldw0 (d : Fin 2048) (k : Fin 512) : View.ld x2 r0_2 (ix3 0 d k) = x2 (ix3 0 d ⟨0 + (k : ℕ), by omega⟩) := by
  pointwise; try blk_ext
theorem ldw1 (d : Fin 2048) (k : Fin 512) : View.ld x2 r0_3 (ix3 0 d k) = x2 (ix3 0 d ⟨512 + (k : ℕ), by omega⟩) := by
  pointwise; try blk_ext
theorem ldw2 (d : Fin 2048) (k : Fin 512) : View.ld x2 r0_9 (ix3 0 d k) = x2 (ix3 0 d ⟨1024 + (k : ℕ), by omega⟩) := by
  pointwise; try blk_ext
theorem ldw3 (d : Fin 2048) (k : Fin 512) : View.ld x2 r0_14 (ix3 0 d k) = x2 (ix3 0 d ⟨1536 + (k : ℕ), by omega⟩) := by
  pointwise; try blk_ext
theorem ldw4 (d : Fin 2048) (k : Fin 512) : View.ld x2 r0_15 (ix3 0 d k) = x2 (ix3 0 d ⟨2048 + (k : ℕ), by omega⟩) := by
  pointwise; try blk_ext
theorem ldw5 (d : Fin 2048) (k : Fin 512) : View.ld x2 r0_16 (ix3 0 d k) = x2 (ix3 0 d ⟨2560 + (k : ℕ), by omega⟩) := by
  pointwise; try blk_ext
theorem ldw6 (d : Fin 2048) (k : Fin 512) : View.ld x2 r0_17 (ix3 0 d k) = x2 (ix3 0 d ⟨3072 + (k : ℕ), by omega⟩) := by
  pointwise; try blk_ext

/-- Column `j` of row `r` of the projection of a block. -/
def colAt (r : Fin 512) (j : ℕ) (h : j < 3584) : EReal :=
  column (fun d => x0 (ix2 r d)) (fun d => x1 (ix2 0 d)) (fun d k => x2 (ix3 0 d k)) j h

/-- Lane `j` of the head of row `r` that starts at column `b`. -/
def headAt (gk : Vec Ideal S1x128 .f32) (r : Fin 512) (b : ℕ) (h : b + 128 ≤ 3584) (j : Fin 128) : EReal :=
  headOf (fun d => x0 (ix2 r d)) (fun d => x1 (ix2 0 d)) (fun d k => x2 (ix3 0 d k)) (fun d => gk (ix2 0 d)) b h j

theorem group0_at (r k : Fin 512) : k0_pay59 x0 x1 x2 x3 x4 x5 (ix2 r k) = colAt x0 x1 x2 r (0 + (k : ℕ)) (by omega) := by
  unfold k0_pay59 colAt column
  exact (dot2_at _ _ _ (ix2 r k)).trans (proj_congr (fun d => ldx x0 r d) (fun d => ldg x1 d) (fun d => ldw0 x2 d k))
theorem group1_at (r k : Fin 512) : k0_pay60 x0 x1 x2 x3 x4 x5 (ix2 r k) = colAt x0 x1 x2 r (512 + (k : ℕ)) (by omega) := by
  unfold k0_pay60 colAt column
  exact (dot3_at _ _ _ (ix2 r k)).trans (proj_congr (fun d => ldx x0 r d) (fun d => ldg x1 d) (fun d => ldw1 x2 d k))
theorem group2_at (r k : Fin 512) : k0_pay61 x0 x1 x2 x3 x4 x5 (ix2 r k) = colAt x0 x1 x2 r (1024 + (k : ℕ)) (by omega) := by
  unfold k0_pay61 k0_pay58 colAt column
  exact (dot9_at _ _ _ (ix2 r k)).trans (proj_congr (fun d => ldx x0 r d) (fun d => ldg x1 d) (fun d => ldw2 x2 d k))
theorem group3_at (r k : Fin 512) : k0_pay62 x0 x1 x2 x3 x4 x5 (ix2 r k) = colAt x0 x1 x2 r (1536 + (k : ℕ)) (by omega) := by
  unfold k0_pay62 k0_pay58 colAt column
  exact (dot16_at _ _ _ (ix2 r k)).trans (proj_congr (fun d => ldx x0 r d) (fun d => ldg x1 d) (fun d => ldw3 x2 d k))
theorem group4_at (r k : Fin 512) : k0_pay63 x0 x1 x2 x3 x4 x5 (ix2 r k) = colAt x0 x1 x2 r (2048 + (k : ℕ)) (by omega) := by
  unfold k0_pay63 k0_pay58 colAt column
  exact (dot25_at _ _ _ (ix2 r k)).trans (proj_congr (fun d => ldx x0 r d) (fun d => ldg x1 d) (fun d => ldw4 x2 d k))
theorem group5_at (r k : Fin 512) : k0_pay65 x0 x1 x2 x3 x4 x5 (ix2 r k) = colAt x0 x1 x2 r (2560 + (k : ℕ)) (by omega) := by
  unfold k0_pay65 k0_pay58 colAt column
  exact (dot34_at _ _ _ (ix2 r k)).trans (proj_congr (fun d => ldx x0 r d) (fun d => ldg x1 d) (fun d => ldw5 x2 d k))
theorem group6_at (r k : Fin 512) : k0_pay66 x0 x1 x2 x3 x4 x5 (ix2 r k) = colAt x0 x1 x2 r (3072 + (k : ℕ)) (by omega) := by
  unfold k0_pay66 k0_pay58 colAt column
  exact (dot43_at _ _ _ (ix2 r k)).trans (proj_congr (fun d => ldx x0 r d) (fun d => ldg x1 d) (fun d => ldw6 x2 d k))

theorem head_tile (y : S512x512.Idx → EReal) (n off : ℕ) (hn : n + 512 ≤ 3584) (ho : off + 128 ≤ 512) (hy : ∀ r k : Fin 512, y (ix2 r k) = colAt x0 x1 x2 r (n + (k : ℕ)) (by omega))
    (gk : Vec Ideal S1x128 .f32) (x : S512x128.Idx) (r : Fin 512) (b : ℕ) (hb : b + 128 ≤ 3584) (j : Fin 128)
    (hr : (r : ℕ) = x 0) (e : b = n + off) (hj : (j : ℕ) = x 1) :
    headed (fun d => y (ix2 (x 0) ⟨off + (d : ℕ), by omega⟩)) (fun d => View.ld gk r0_4 (ix2 0 d)) (x 1) = headAt x0 x1 x2 gk r b hb j := by
  obtain rfl : r = x 0 := Fin.ext hr
  unfold headAt headOf
  refine headed_congr (fun d => (hy (x 0) ⟨off + (d : ℕ), by omega⟩).trans ?_) (fun d => ldh gk d) (Fin.ext hj.symm)
  exact column_congr (fun _ => rfl) (fun _ => rfl) (fun _ _ => rfl) (by show n + (off + (d : ℕ)) = b + (d : ℕ); omega)

theorem lane_tile (y : S512x512.Idx → EReal) (n off : ℕ) (hn : n + 512 ≤ 3584) (ho : off + 128 ≤ 512) (hy : ∀ r k : Fin 512, y (ix2 r k) = colAt x0 x1 x2 r (n + (k : ℕ)) (by omega))
    (x : S512x128.Idx) (h : off + ((x 1 : Fin 128) : ℕ) < 512) (r : Fin 512) (j : ℕ) (hj : j < 3584) (hr : (r : ℕ) = x 0) (e : j = n + (off + ((x 1 : Fin 128) : ℕ))) :
    y (ix2 (x 0) ⟨off + ((x 1 : Fin 128) : ℕ), h⟩) = colAt x0 x1 x2 r j hj := by
  obtain rfl : r = x 0 := Fin.ext hr
  exact (hy _ _).trans (column_congr (fun _ => rfl) (fun _ => rfl) (fun _ _ => rfl) e.symm)

theorem out6_at (y : S512x1024.Idx) : out0_6 x0 x1 x2 x3 x4 x5 y = headAt x0 x1 x2 x3 (y 0) (0 + ((y 1 : Fin 1024) : ℕ) / 128 * 128) (by have : ((y 1 : Fin 1024) : ℕ) < 1024 := (y 1).isLt; omega) ⟨((y 1 : Fin 1024) : ℕ) % 128, by omega⟩ * headFactor := by
  unfold out0_6
  canon_tiles x h
  · exact (head15_at _ _ x).trans (congrArg (· * headFactor) (head_tile x0 x1 x2 _ 512 384 (by omega) (by omega) (group1_at x0 x1 x2 x3 x4 x5) x3 x _ _ _ _ (by omega) (by omega) (by show _ % 128 = _; omega)))
  · exact (head14_at _ _ x).trans (congrArg (· * headFactor) (head_tile x0 x1 x2 _ 512 256 (by omega) (by omega) (group1_at x0 x1 x2 x3 x4 x5) x3 x _ _ _ _ (by omega) (by omega) (by show _ % 128 = _; omega)))
  · exact (head13_at _ _ x).trans (congrArg (· * headFactor) (head_tile x0 x1 x2 _ 512 128 (by omega) (by omega) (group1_at x0 x1 x2 x3 x4 x5) x3 x _ _ _ _ (by omega) (by omega) (by show _ % 128 = _; omega)))
  · exact (head12_at _ _ x).trans (congrArg (· * headFactor) (head_tile x0 x1 x2 _ 512 0 (by omega) (by omega) (group1_at x0 x1 x2 x3 x4 x5) x3 x _ _ _ _ (by omega) (by omega) (by show _ % 128 = _; omega)))
  · exact (head8_at _ _ x).trans (congrArg (· * headFactor) (head_tile x0 x1 x2 _ 0 384 (by omega) (by omega) (group0_at x0 x1 x2 x3 x4 x5) x3 x _ _ _ _ (by omega) (by omega) (by show _ % 128 = _; omega)))
  · exact (head7_at _ _ x).trans (congrArg (· * headFactor) (head_tile x0 x1 x2 _ 0 256 (by omega) (by omega) (group0_at x0 x1 x2 x3 x4 x5) x3 x _ _ _ _ (by omega) (by omega) (by show _ % 128 = _; omega)))
  · exact (head6_at _ _ x).trans (congrArg (· * headFactor) (head_tile x0 x1 x2 _ 0 128 (by omega) (by omega) (group0_at x0 x1 x2 x3 x4 x5) x3 x _ _ _ _ (by omega) (by omega) (by show _ % 128 = _; omega)))
  · exact (head5_at _ _ _ _ x).trans (congrArg (· * headFactor) (head_tile x0 x1 x2 _ 0 0 (by omega) (by omega) (group0_at x0 x1 x2 x3 x4 x5) x3 x _ _ _ _ (by omega) (by omega) (by show _ % 128 = _; omega)))

theorem out7_at (y : S512x1024.Idx) : out0_7 x0 x1 x2 x3 x4 x5 y = headAt x0 x1 x2 x4 (y 0) (1024 + ((y 1 : Fin 1024) : ℕ) / 128 * 128) (by have : ((y 1 : Fin 1024) : ℕ) < 1024 := (y 1).isLt; omega) ⟨((y 1 : Fin 1024) : ℕ) % 128, by omega⟩ := by
  unfold out0_7
  canon_tiles x h
  · exact (head33_at _ _ x).trans (head_tile x0 x1 x2 _ 1536 384 (by omega) (by omega) (group3_at x0 x1 x2 x3 x4 x5) x4 x _ _ _ _ (by omega) (by omega) (by show _ % 128 = _; omega))
  · exact (head31_at _ _ x).trans (head_tile x0 x1 x2 _ 1536 256 (by omega) (by omega) (group3_at x0 x1 x2 x3 x4 x5) x4 x _ _ _ _ (by omega) (by omega) (by show _ % 128 = _; omega))
  · exact (head29_at _ _ x).trans (head_tile x0 x1 x2 _ 1536 128 (by omega) (by omega) (group3_at x0 x1 x2 x3 x4 x5) x4 x _ _ _ _ (by omega) (by omega) (by show _ % 128 = _; omega))
  · exact (head26_at _ _ x).trans (head_tile x0 x1 x2 _ 1536 0 (by omega) (by omega) (group3_at x0 x1 x2 x3 x4 x5) x4 x _ _ _ _ (by omega) (by omega) (by show _ % 128 = _; omega))
  · exact (head24_at _ _ x).trans (head_tile x0 x1 x2 _ 1024 384 (by omega) (by omega) (group2_at x0 x1 x2 x3 x4 x5) x4 x _ _ _ _ (by omega) (by omega) (by show _ % 128 = _; omega))
  · exact (head22_at _ _ x).trans (head_tile x0 x1 x2 _ 1024 256 (by omega) (by omega) (group2_at x0 x1 x2 x3 x4 x5) x4 x _ _ _ _ (by omega) (by omega) (by show _ % 128 = _; omega))
  · exact (head20_at _ _ x).trans (head_tile x0 x1 x2 _ 1024 128 (by omega) (by omega) (group2_at x0 x1 x2 x3 x4 x5) x4 x _ _ _ _ (by omega) (by omega) (by show _ % 128 = _; omega))
  · exact (head18_at _ _ x).trans (head_tile x0 x1 x2 _ 1024 0 (by omega) (by omega) (group2_at x0 x1 x2 x3 x4 x5) x4 x _ _ _ _ (by omega) (by omega) (by show _ % 128 = _; omega))

theorem out8_at (y : S512x1024.Idx) : out0_8 x0 x1 x2 x3 x4 x5 y = headAt x0 x1 x2 x4 (y 0) (1024 + ((y 1 : Fin 1024) : ℕ) / 128 * 128) (by have : ((y 1 : Fin 1024) : ℕ) < 1024 := (y 1).isLt; omega) ⟨((y 1 : Fin 1024) : ℕ) % 128, by omega⟩ := by
  unfold out0_8
  canon_tiles x h
  · exact (head32_at _ _ x).trans (head_tile x0 x1 x2 _ 1536 384 (by omega) (by omega) (group3_at x0 x1 x2 x3 x4 x5) x4 x _ _ _ _ (by omega) (by omega) (by show _ % 128 = _; omega))
  · exact (head30_at _ _ x).trans (head_tile x0 x1 x2 _ 1536 256 (by omega) (by omega) (group3_at x0 x1 x2 x3 x4 x5) x4 x _ _ _ _ (by omega) (by omega) (by show _ % 128 = _; omega))
  · exact (head28_at _ _ x).trans (head_tile x0 x1 x2 _ 1536 128 (by omega) (by omega) (group3_at x0 x1 x2 x3 x4 x5) x4 x _ _ _ _ (by omega) (by omega) (by show _ % 128 = _; omega))
  · exact (head26_at _ _ x).trans (head_tile x0 x1 x2 _ 1536 0 (by omega) (by omega) (group3_at x0 x1 x2 x3 x4 x5) x4 x _ _ _ _ (by omega) (by omega) (by show _ % 128 = _; omega))
  · exact (head23_at _ _ x).trans (head_tile x0 x1 x2 _ 1024 384 (by omega) (by omega) (group2_at x0 x1 x2 x3 x4 x5) x4 x _ _ _ _ (by omega) (by omega) (by show _ % 128 = _; omega))
  · exact (head21_at _ _ x).trans (head_tile x0 x1 x2 _ 1024 256 (by omega) (by omega) (group2_at x0 x1 x2 x3 x4 x5) x4 x _ _ _ _ (by omega) (by omega) (by show _ % 128 = _; omega))
  · exact (head19_at _ _ x).trans (head_tile x0 x1 x2 _ 1024 128 (by omega) (by omega) (group2_at x0 x1 x2 x3 x4 x5) x4 x _ _ _ _ (by omega) (by omega) (by show _ % 128 = _; omega))
  · exact (head17_at _ _ x).trans (head_tile x0 x1 x2 _ 1024 0 (by omega) (by omega) (group2_at x0 x1 x2 x3 x4 x5) x4 x _ _ _ _ (by omega) (by omega) (by show _ % 128 = _; omega))

theorem out9_at (y : S512x1024.Idx) : out0_9 x0 x1 x2 x3 x4 x5 y = colAt x0 x1 x2 (y 0) (2048 + ((y 1 : Fin 1024) : ℕ)) (by have : ((y 1 : Fin 1024) : ℕ) < 1024 := (y 1).isLt; omega) := by
  unfold out0_9
  canon_tiles x h
  · exact (lane51_at _ x).trans (lane_tile x0 x1 x2 _ 2560 384 (by omega) (by omega) (group5_at x0 x1 x2 x3 x4 x5) x _ _ _ _ (by omega) (by omega))
  · exact (lane49_at _ x).trans (lane_tile x0 x1 x2 _ 2560 256 (by omega) (by omega) (group5_at x0 x1 x2 x3 x4 x5) x _ _ _ _ (by omega) (by omega))
  · exact (lane47_at _ x).trans (lane_tile x0 x1 x2 _ 2560 128 (by omega) (by omega) (group5_at x0 x1 x2 x3 x4 x5) x _ _ _ _ (by omega) (by omega))
  · exact (lane45_at _ x).trans (lane_tile x0 x1 x2 _ 2560 0 (by omega) (by omega) (group5_at x0 x1 x2 x3 x4 x5) x _ _ _ _ (by omega) (by omega))
  · exact (lane42_at _ x).trans (lane_tile x0 x1 x2 _ 2048 384 (by omega) (by omega) (group4_at x0 x1 x2 x3 x4 x5) x _ _ _ _ (by omega) (by omega))
  · exact (lane40_at _ x).trans (lane_tile x0 x1 x2 _ 2048 256 (by omega) (by omega) (group4_at x0 x1 x2 x3 x4 x5) x _ _ _ _ (by omega) (by omega))
  · exact (lane38_at _ x).trans (lane_tile x0 x1 x2 _ 2048 128 (by omega) (by omega) (group4_at x0 x1 x2 x3 x4 x5) x _ _ _ _ (by omega) (by omega))
  · exact (lane36_at _ x).trans (lane_tile x0 x1 x2 _ 2048 0 (by omega) (by omega) (group4_at x0 x1 x2 x3 x4 x5) x _ _ _ _ (by omega) (by omega))

theorem out10_at (y : S512x1024.Idx) : out0_10 x0 x1 x2 x3 x4 x5 y = colAt x0 x1 x2 (y 0) (2048 + ((y 1 : Fin 1024) : ℕ)) (by have : ((y 1 : Fin 1024) : ℕ) < 1024 := (y 1).isLt; omega) := by
  unfold out0_10
  canon_tiles x h
  · exact (lane50_at _ x).trans (lane_tile x0 x1 x2 _ 2560 384 (by omega) (by omega) (group5_at x0 x1 x2 x3 x4 x5) x _ _ _ _ (by omega) (by omega))
  · exact (lane48_at _ x).trans (lane_tile x0 x1 x2 _ 2560 256 (by omega) (by omega) (group5_at x0 x1 x2 x3 x4 x5) x _ _ _ _ (by omega) (by omega))
  · exact (lane46_at _ x).trans (lane_tile x0 x1 x2 _ 2560 128 (by omega) (by omega) (group5_at x0 x1 x2 x3 x4 x5) x _ _ _ _ (by omega) (by omega))
  · exact (lane44_at _ x).trans (lane_tile x0 x1 x2 _ 2560 0 (by omega) (by omega) (group5_at x0 x1 x2 x3 x4 x5) x _ _ _ _ (by omega) (by omega))
  · exact (lane41_at _ x).trans (lane_tile x0 x1 x2 _ 2048 384 (by omega) (by omega) (group4_at x0 x1 x2 x3 x4 x5) x _ _ _ _ (by omega) (by omega))
  · exact (lane39_at _ x).trans (lane_tile x0 x1 x2 _ 2048 256 (by omega) (by omega) (group4_at x0 x1 x2 x3 x4 x5) x _ _ _ _ (by omega) (by omega))
  · exact (lane37_at _ x).trans (lane_tile x0 x1 x2 _ 2048 128 (by omega) (by omega) (group4_at x0 x1 x2 x3 x4 x5) x _ _ _ _ (by omega) (by omega))
  · exact (lane35_at _ x).trans (lane_tile x0 x1 x2 _ 2048 0 (by omega) (by omega) (group4_at x0 x1 x2 x3 x4 x5) x _ _ _ _ (by omega) (by omega))

theorem out11_at (y : S512x512.Idx) : out0_11 x0 x1 x2 x3 x4 x5 y = headAt x0 x1 x2 x5 (y 0) (3072 + ((y 1 : Fin 512) : ℕ) / 128 * 128) (by have : ((y 1 : Fin 512) : ℕ) < 512 := (y 1).isLt; omega) ⟨((y 1 : Fin 512) : ℕ) % 128, by omega⟩ * headFactor := by
  unfold out0_11
  canon_tiles x h
  · exact (head57_at _ _ x).trans (congrArg (· * headFactor) (head_tile x0 x1 x2 _ 3072 384 (by omega) (by omega) (group6_at x0 x1 x2 x3 x4 x5) x5 x _ _ _ _ (by omega) (by omega) (by show _ % 128 = _; omega)))
  · exact (head56_at _ _ x).trans (congrArg (· * headFactor) (head_tile x0 x1 x2 _ 3072 256 (by omega) (by omega) (group6_at x0 x1 x2 x3 x4 x5) x5 x _ _ _ _ (by omega) (by omega) (by show _ % 128 = _; omega)))
  · exact (head55_at _ _ x).trans (congrArg (· * headFactor) (head_tile x0 x1 x2 _ 3072 128 (by omega) (by omega) (group6_at x0 x1 x2 x3 x4 x5) x5 x _ _ _ _ (by omega) (by omega) (by show _ % 128 = _; omega)))
  · exact (head52_at _ _ x).trans (congrArg (· * headFactor) (head_tile x0 x1 x2 _ 3072 0 (by omega) (by omega) (group6_at x0 x1 x2 x3 x4 x5) x5 x _ _ _ _ (by omega) (by omega) (by show _ % 128 = _; omega)))

end Block

end Cert.BandProj

end
-- ==== Proof.BandProjArray.lean ====
/- The band layer's projection: its whole arrays after its run, as formulas of the operands in memory. -/
module

public import proofs.«01_k».proof.Proof.BandProjBlock

@[expose] public section

set_option maxRecDepth 16384

noncomputable section

open Idealize.ShloMosaic Idealize.ShloMosaic.TcCoe Idealize.SL.Sem
open Idealize.ShloMosaic.Pipeline (Dat)

namespace Cert.BandProj
open Cert.Kernel5Ideal Cert.Kernel5Ideal.Gen
open Cert.Proj

variable (m : (ℓ : Loc nD τ sig) → Buf (Elt Ideal) ℓ)

theorem idx : ∀ t : Fin cfg0.N, t.val < 64 ∧ win0_0.index t = ![t.val, 0] ∧ win0_1.index t = ![0, 0] ∧ win0_2.index t = ![0, 0, 0] ∧ win0_3.index t = ![0, 0]
    ∧ win0_4.index t = ![0, 0] ∧ win0_5.index t = ![0, 0] :=
  (by decide +kernel : ∀ t : Fin grid0.N, _)
theorem idxOut : ∀ t : Fin cfg0.N, win0_6.index t = ![t.val, 0] ∧ win0_7.index t = ![t.val, 0] ∧ win0_8.index t = ![t.val / 32, 0]
    ∧ win0_9.index t = ![t.val, 0] ∧ win0_10.index t = ![t.val / 32, 0] ∧ win0_11.index t = ![t.val, 0] :=
  (by decide +kernel : ∀ t : Fin grid0.N, _)
/-- The tails leave at the last point of a sequence. -/
theorem last8 : ∀ t : Fin cfg0.N, win0_8.flush t = true → t.val % 32 = 31 := (by decide +kernel : ∀ t : Fin grid0.N, _)
theorem last10 : ∀ t : Fin cfg0.N, win0_10.flush t = true → t.val % 32 = 31 := (by decide +kernel : ∀ t : Fin grid0.N, _)

theorem blk0 (c : Dev nD) (t : Fin cfg0.N) (r : Fin 512) (R : Fin 32768) (hR : (R : ℕ) = t.val * 512 + (r : ℕ)) (d : Fin 2048) :
    iblk m c 0 t (ix2 r d) = V m c main_v0 (ix2 R d) := by
  have e : win0_0.index t = _ := (idx t).2.1
  have e0 : win0_0.index t 0 = t.val := congrFun e 0
  have e1 : win0_0.index t 1 = 0 := congrFun e 1
  blk_simp [iblk]
  blk_ext
  all_goals omega

theorem blk1 (c : Dev nD) (t : Fin cfg0.N) (d : Fin 2048) : iblk m c 1 t (ix2 0 d) = V m c main_v3 (ix2 0 d) := by
  have e : win0_1.index t = _ := (idx t).2.2.1
  have e0 : win0_1.index t 0 = 0 := congrFun e 0
  have e1 : win0_1.index t 1 = 0 := congrFun e 1
  blk_simp [iblk]
  blk_ext
  all_goals omega

theorem blk2 (c : Dev nD) (t : Fin cfg0.N) (d : Fin 2048) (k : Fin 3584) : iblk m c 2 t (ix3 0 d k) = V m c main_v2 (ix3 0 d k) := by
  have e : win0_2.index t = _ := (idx t).2.2.2.1
  have e0 : win0_2.index t 0 = 0 := congrFun e 0
  have e1 : win0_2.index t 1 = 0 := congrFun e 1
  have e2 : win0_2.index t 2 = 0 := congrFun e 2
  blk_simp [iblk]
  blk_ext
  all_goals omega

theorem blk3 (c : Dev nD) (t : Fin cfg0.N) (d : Fin 128) : iblk m c 3 t (ix2 0 d) = V m c main_v4 (ix2 0 d) := by
  have e : win0_3.index t = _ := (idx t).2.2.2.2.1
  have e0 : win0_3.index t 0 = 0 := congrFun e 0
  have e1 : win0_3.index t 1 = 0 := congrFun e 1
  blk_simp [iblk]
  blk_ext
  all_goals omega

theorem blk4 (c : Dev nD) (t : Fin cfg0.N) (d : Fin 128) : iblk m c 4 t (ix2 0 d) = V m c main_v5 (ix2 0 d) := by
  have e : win0_4.index t = _ := (idx t).2.2.2.2.2.1
  have e0 : win0_4.index t 0 = 0 := congrFun e 0
  have e1 : win0_4.index t 1 = 0 := congrFun e 1
  blk_simp [iblk]
  blk_ext
  all_goals omega

theorem blk5 (c : Dev nD) (t : Fin cfg0.N) (d : Fin 128) : iblk m c 5 t (ix2 0 d) = V m c main_v6 (ix2 0 d) := by
  have e : win0_5.index t = _ := (idx t).2.2.2.2.2.2
  have e0 : win0_5.index t 0 = 0 := congrFun e 0
  have e1 : win0_5.index t 1 = 0 := congrFun e 1
  blk_simp [iblk]
  blk_ext
  all_goals omega

/-- Column `j` of row `r` of the projection, from the operands in memory. -/
def col (c : Dev nD) (r : Fin 32768) (j : ℕ) (h : j < 3584) : EReal :=
  column (fun d => V m c main_v0 (ix2 r d)) (fun d => V m c main_v3 (ix2 0 d)) (fun d k => V m c main_v2 (ix3 0 d k)) j h

/-- Lane `j` of the head of row `r` that starts at column `b`. -/
def head (c : Dev nD) (gk : Fin 128 → EReal) (r : Fin 32768) (b : ℕ) (h : b + 128 ≤ 3584) (j : Fin 128) : EReal :=
  headOf (fun d => V m c main_v0 (ix2 r d)) (fun d => V m c main_v3 (ix2 0 d)) (fun d k => V m c main_v2 (ix3 0 d k)) gk b h j

/-- The queries, keys, values and memory queries of a row. -/
def qRow (c : Dev nD) (r : Fin 32768) (w : Fin 1024) : EReal :=
  head m c (fun d => V m c main_v4 (ix2 0 d)) r (0 + (w : ℕ) / 128 * 128) (by omega) ⟨(w : ℕ) % 128, by omega⟩ * headFactor
def kRow (c : Dev nD) (r : Fin 32768) (w : Fin 1024) : EReal :=
  head m c (fun d => V m c main_v5 (ix2 0 d)) r (1024 + (w : ℕ) / 128 * 128) (by omega) ⟨(w : ℕ) % 128, by omega⟩
def vRow (c : Dev nD) (r : Fin 32768) (w : Fin 1024) : EReal := col m c r (2048 + (w : ℕ)) (by omega)
def mRow (c : Dev nD) (r : Fin 32768) (w : Fin 512) : EReal :=
  head m c (fun d => V m c main_v6 (ix2 0 d)) r (3072 + (w : ℕ) / 128 * 128) (by omega) ⟨(w : ℕ) % 128, by omega⟩ * headFactor

/-- The row of the sequences that a tail's row is. -/
def tailRow (u : Fin 1024) : Fin 32768 := ⟨(u : ℕ) / 512 * 16384 + 15872 + (u : ℕ) % 512, by omega⟩

theorem colAt_eq (c : Dev nD) (t : Fin cfg0.N) (r : Fin 512) (R : Fin 32768) (hR : (R : ℕ) = t.val * 512 + (r : ℕ)) (j j' : ℕ) (h : j < 3584) (h' : j' < 3584) (e : j = j') :
    colAt (iblk m c 0 t) (iblk m c 1 t) (iblk m c 2 t) r j h = col m c R j' h' := by
  exact column_congr (fun d => blk0 m c t r R hR d) (fun d => blk1 m c t d) (fun d k => blk2 m c t d k) e

theorem headAt_eq (c : Dev nD) (t : Fin cfg0.N) (gk : Vec Ideal S1x128 .f32) (gk' : Fin 128 → EReal) (hg : ∀ d, gk (ix2 0 d) = gk' d)
    (r : Fin 512) (R : Fin 32768) (hR : (R : ℕ) = t.val * 512 + (r : ℕ)) (b b' : ℕ) (h : b + 128 ≤ 3584) (h' : b' + 128 ≤ 3584) (e : b = b') (j j' : Fin 128) (ej : (j : ℕ) = j') :
    headAt (iblk m c 0 t) (iblk m c 1 t) (iblk m c 2 t) gk r b h j = head m c gk' R b' h' j' := by
  exact headOf_congr (fun d => blk0 m c t r R hR d) (fun d => blk1 m c t d) (fun d k => blk2 m c t d k) hg e (Fin.ext ej)

theorem emb6_0 (t : Fin cfg0.N) (y : S512x1024.Idx) : (((win0_6.blk t).view.emb y 0 : Fin 32768) : ℕ) = t.val * 512 + ((y 0 : Fin 512) : ℕ) := by
  have e := (idxOut t).1
  blk_simp [e]; try omega
theorem emb6_1 (t : Fin cfg0.N) (y : S512x1024.Idx) : (((win0_6.blk t).view.emb y 1 : Fin 1024) : ℕ) = ((y 1 : Fin 1024) : ℕ) := by
  have e := (idxOut t).1
  blk_simp [e]; try omega

theorem left6 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    out0_6 (iblk m c 0 t) (iblk m c 1 t) (iblk m c 2 t) (iblk m c 3 t) (iblk m c 4 t) (iblk m c 5 t) y = qRow m c R w := by
  rw [out6_at]
  unfold qRow
  exact congrArg (· * headFactor) (headAt_eq m c t _ _ (blk3 m c t) _ _ hR _ _ _ _ (by omega) _ _ (by show _ % 128 = _ % 128; omega))

theorem array6 (c : Dev nD) : (dats m 0 c).arrAt 6 cfg0.N = fun j : S32768x1024.Idx => qRow m c (j 0) (j 1) := by
  refine (dats m 0 c).arrAt_eq_of_covers 6 _ (by decide +kernel) fun t hf y => ?_
  rw [after0_6]
  refine (left6 m c t y ⟨t.val * 512 + ((y 0 : Fin 512) : ℕ), by have := (idx t).1; have : ((y 0 : Fin 512) : ℕ) < 512 := (y 0).isLt; omega⟩ (y 1) rfl rfl).trans ?_
  exact congr (congrArg (qRow m c) (Fin.ext (emb6_0 t y).symm)) (Fin.ext (emb6_1 t y).symm)

theorem emb7_0 (t : Fin cfg0.N) (y : S512x1024.Idx) : (((win0_7.blk t).view.emb y 0 : Fin 32768) : ℕ) = t.val * 512 + ((y 0 : Fin 512) : ℕ) := by
  have e := (idxOut t).2.1
  blk_simp [e]; try omega
theorem emb7_1 (t : Fin cfg0.N) (y : S512x1024.Idx) : (((win0_7.blk t).view.emb y 1 : Fin 1024) : ℕ) = ((y 1 : Fin 1024) : ℕ) := by
  have e := (idxOut t).2.1
  blk_simp [e]; try omega

theorem left7 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    out0_7 (iblk m c 0 t) (iblk m c 1 t) (iblk m c 2 t) (iblk m c 3 t) (iblk m c 4 t) (iblk m c 5 t) y = kRow m c R w := by
  rw [out7_at]
  unfold kRow
  exact headAt_eq m c t _ _ (blk4 m c t) _ _ hR _ _ _ _ (by omega) _ _ (by show _ % 128 = _ % 128; omega)

theorem array7 (c : Dev nD) : (dats m 0 c).arrAt 7 cfg0.N = fun j : S32768x1024.Idx => kRow m c (j 0) (j 1) := by
  refine (dats m 0 c).arrAt_eq_of_covers 7 _ (by decide +kernel) fun t hf y => ?_
  rw [after0_7]
  refine (left7 m c t y ⟨t.val * 512 + ((y 0 : Fin 512) : ℕ), by have := (idx t).1; have : ((y 0 : Fin 512) : ℕ) < 512 := (y 0).isLt; omega⟩ (y 1) rfl rfl).trans ?_
  exact congr (congrArg (kRow m c) (Fin.ext (emb7_0 t y).symm)) (Fin.ext (emb7_1 t y).symm)

theorem emb8_0 (t : Fin cfg0.N) (y : S512x1024.Idx) : (((win0_8.blk t).view.emb y 0 : Fin 1024) : ℕ) = t.val / 32 * 512 + ((y 0 : Fin 512) : ℕ) := by
  have e := (idxOut t).2.2.1
  blk_simp [e]; try omega
theorem emb8_1 (t : Fin cfg0.N) (y : S512x1024.Idx) : (((win0_8.blk t).view.emb y 1 : Fin 1024) : ℕ) = ((y 1 : Fin 1024) : ℕ) := by
  have e := (idxOut t).2.2.1
  blk_simp [e]; try omega

theorem left8 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    out0_8 (iblk m c 0 t) (iblk m c 1 t) (iblk m c 2 t) (iblk m c 3 t) (iblk m c 4 t) (iblk m c 5 t) y = kRow m c R w := by
  rw [out8_at]
  unfold kRow
  exact headAt_eq m c t _ _ (blk4 m c t) _ _ hR _ _ _ _ (by omega) _ _ (by show _ % 128 = _ % 128; omega)

theorem array8 (c : Dev nD) : (dats m 0 c).arrAt 8 cfg0.N = fun j : S1024x1024.Idx => kRow m c (tailRow (j 0)) (j 1) := by
  refine (dats m 0 c).arrAt_eq_of_covers 8 _ (by decide +kernel) fun t hf y => ?_
  rw [after0_8]
  refine (left8 m c t y ⟨t.val * 512 + ((y 0 : Fin 512) : ℕ), by have := (idx t).1; have : ((y 0 : Fin 512) : ℕ) < 512 := (y 0).isLt; omega⟩ (y 1) rfl rfl).trans ?_
  refine congr (congrArg (kRow m c) (Fin.ext ?_)) (Fin.ext (emb8_1 t y).symm)
  have hl := last8 t hf
  have hy : ((y 0 : Fin 512) : ℕ) < 512 := (y 0).isLt
  show t.val * 512 + ((y 0 : Fin 512) : ℕ) = (((win0_8.blk t).view.emb y 0 : Fin 1024) : ℕ) / 512 * 16384 + 15872 + (((win0_8.blk t).view.emb y 0 : Fin 1024) : ℕ) % 512
  rw [emb8_0 t y]
  omega

theorem emb9_0 (t : Fin cfg0.N) (y : S512x1024.Idx) : (((win0_9.blk t).view.emb y 0 : Fin 32768) : ℕ) = t.val * 512 + ((y 0 : Fin 512) : ℕ) := by
  have e := (idxOut t).2.2.2.1
  blk_simp [e]; try omega
theorem emb9_1 (t : Fin cfg0.N) (y : S512x1024.Idx) : (((win0_9.blk t).view.emb y 1 : Fin 1024) : ℕ) = ((y 1 : Fin 1024) : ℕ) := by
  have e := (idxOut t).2.2.2.1
  blk_simp [e]; try omega

theorem left9 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    out0_9 (iblk m c 0 t) (iblk m c 1 t) (iblk m c 2 t) (iblk m c 3 t) (iblk m c 4 t) (iblk m c 5 t) y = vRow m c R w := by
  rw [out9_at]
  unfold vRow
  exact colAt_eq m c t _ _ hR _ _ _ _ (by omega)

theorem array9 (c : Dev nD) : (dats m 0 c).arrAt 9 cfg0.N = fun j : S32768x1024.Idx => vRow m c (j 0) (j 1) := by
  refine (dats m 0 c).arrAt_eq_of_covers 9 _ (by decide +kernel) fun t hf y => ?_
  rw [after0_9]
  refine (left9 m c t y ⟨t.val * 512 + ((y 0 : Fin 512) : ℕ), by have := (idx t).1; have : ((y 0 : Fin 512) : ℕ) < 512 := (y 0).isLt; omega⟩ (y 1) rfl rfl).trans ?_
  exact congr (congrArg (vRow m c) (Fin.ext (emb9_0 t y).symm)) (Fin.ext (emb9_1 t y).symm)

theorem emb10_0 (t : Fin cfg0.N) (y : S512x1024.Idx) : (((win0_10.blk t).view.emb y 0 : Fin 1024) : ℕ) = t.val / 32 * 512 + ((y 0 : Fin 512) : ℕ) := by
  have e := (idxOut t).2.2.2.2.1
  blk_simp [e]; try omega
theorem emb10_1 (t : Fin cfg0.N) (y : S512x1024.Idx) : (((win0_10.blk t).view.emb y 1 : Fin 1024) : ℕ) = ((y 1 : Fin 1024) : ℕ) := by
  have e := (idxOut t).2.2.2.2.1
  blk_simp [e]; try omega

theorem left10 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    out0_10 (iblk m c 0 t) (iblk m c 1 t) (iblk m c 2 t) (iblk m c 3 t) (iblk m c 4 t) (iblk m c 5 t) y = vRow m c R w := by
  rw [out10_at]
  unfold vRow
  exact colAt_eq m c t _ _ hR _ _ _ _ (by omega)

theorem array10 (c : Dev nD) : (dats m 0 c).arrAt 10 cfg0.N = fun j : S1024x1024.Idx => vRow m c (tailRow (j 0)) (j 1) := by
  refine (dats m 0 c).arrAt_eq_of_covers 10 _ (by decide +kernel) fun t hf y => ?_
  rw [after0_10]
  refine (left10 m c t y ⟨t.val * 512 + ((y 0 : Fin 512) : ℕ), by have := (idx t).1; have : ((y 0 : Fin 512) : ℕ) < 512 := (y 0).isLt; omega⟩ (y 1) rfl rfl).trans ?_
  refine congr (congrArg (vRow m c) (Fin.ext ?_)) (Fin.ext (emb10_1 t y).symm)
  have hl := last10 t hf
  have hy : ((y 0 : Fin 512) : ℕ) < 512 := (y 0).isLt
  show t.val * 512 + ((y 0 : Fin 512) : ℕ) = (((win0_10.blk t).view.emb y 0 : Fin 1024) : ℕ) / 512 * 16384 + 15872 + (((win0_10.blk t).view.emb y 0 : Fin 1024) : ℕ) % 512
  rw [emb10_0 t y]
  omega

theorem emb11_0 (t : Fin cfg0.N) (y : S512x512.Idx) : (((win0_11.blk t).view.emb y 0 : Fin 32768) : ℕ) = t.val * 512 + ((y 0 : Fin 512) : ℕ) := by
  have e := (idxOut t).2.2.2.2.2
  blk_simp [e]; try omega
theorem emb11_1 (t : Fin cfg0.N) (y : S512x512.Idx) : (((win0_11.blk t).view.emb y 1 : Fin 512) : ℕ) = ((y 1 : Fin 512) : ℕ) := by
  have e := (idxOut t).2.2.2.2.2
  blk_simp [e]; try omega

theorem left11 (c : Dev nD) (t : Fin cfg0.N) (y : S512x512.Idx) (R : Fin 32768) (w : Fin 512) (hR : (R : ℕ) = t.val * 512 + ((y 0 : Fin 512) : ℕ)) (hw : (w : ℕ) = ((y 1 : Fin 512) : ℕ)) :
    out0_11 (iblk m c 0 t) (iblk m c 1 t) (iblk m c 2 t) (iblk m c 3 t) (iblk m c 4 t) (iblk m c 5 t) y = mRow m c R w := by
  rw [out11_at]
  unfold mRow
  exact congrArg (· * headFactor) (headAt_eq m c t _ _ (blk5 m c t) _ _ hR _ _ _ _ (by omega) _ _ (by show _ % 128 = _ % 128; omega))

theorem array11 (c : Dev nD) : (dats m 0 c).arrAt 11 cfg0.N = fun j : S32768x512.Idx => mRow m c (j 0) (j 1) := by
  refine (dats m 0 c).arrAt_eq_of_covers 11 _ (by decide +kernel) fun t hf y => ?_
  rw [after0_11]
  refine (left11 m c t y ⟨t.val * 512 + ((y 0 : Fin 512) : ℕ), by have := (idx t).1; have : ((y 0 : Fin 512) : ℕ) < 512 := (y 0).isLt; omega⟩ (y 1) rfl rfl).trans ?_
  exact congr (congrArg (mRow m c) (Fin.ext (emb11_0 t y).symm)) (Fin.ext (emb11_1 t y).symm)

end Cert.BandProj

end
-- ==== Proof.BandProjRef.lean ====
/- The band layer's projection: the kernel's operands and the reference's results at an index of the arguments, and their equality. -/
module

public import proofs.«01_k».proof.Proof.LayerRef
public import proofs.«01_k».proof.Proof.BandProjArray
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BandProj
open Cert.Proj Cert.Ffn Cert.Layer

section Operands
open Cert.Kernel5Ideal Cert.Kernel5Ideal.Gen

variable (m : (ℓ : Loc nD τ sig) → Buf (Elt Ideal) ℓ)

/-- The arguments as functions of an index to the extended reals. -/
abbrev argX (c : Dev nD) : S2x16384x2048.Idx → EReal := m ((c : Thread nD τ).loc main_arg0)
abbrev argG (c : Dev nD) : S2048.Idx → EReal := m ((c : Thread nD τ).loc main_arg1)
abbrev argW (c : Dev nD) : S2048x3584.Idx → EReal := m ((c : Thread nD τ).loc main_arg2)
abbrev argQ (c : Dev nD) : S128.Idx → EReal := m ((c : Thread nD τ).loc main_arg3)
abbrev argK (c : Dev nD) : S128.Idx → EReal := m ((c : Thread nD τ).loc main_arg4)
abbrev argM (c : Dev nD) : S128.Idx → EReal := m ((c : Thread nD τ).loc main_arg5)

theorem x_at (c : Dev nD) (r : Fin 32768) (d : Fin 2048) :
    (V m c main_v0 (ix2 r d) : EReal) = argX m c (ix3 ⟨(r : ℕ) / 16384, by omega⟩ ⟨(r : ℕ) % 16384, by omega⟩ d) := by
  unfold V
  after_reads_at

theorem xrow_at (c : Dev nD) (r : Fin 32768) (b : Fin 2) (p : Fin 16384) (hb : (r : ℕ) / 16384 = b) (hp : (r : ℕ) % 16384 = p) (d : Fin 2048) :
    (V m c main_v0 (ix2 r d) : EReal) = argX m c (ix3 b p d) := by
  have eb : b = ⟨(r : ℕ) / 16384, by omega⟩ := Fin.ext hb.symm
  have ep : p = ⟨(r : ℕ) % 16384, by omega⟩ := Fin.ext hp.symm
  rw [eb, ep]
  exact x_at m c r d

theorem g_at (c : Dev nD) (d : Fin 2048) : (V m c main_v3 (ix2 0 d) : EReal) = argG m c (ix1 d) := by
  unfold V
  after_reads_at

theorem w_at (c : Dev nD) (d : Fin 2048) (k : Fin 3584) : (V m c main_v2 (ix3 0 d k) : EReal) = argW m c (ix2 d k) := by
  unfold V
  after_reads_at

theorem q_at (c : Dev nD) (d : Fin 128) : (V m c main_v4 (ix2 0 d) : EReal) = argQ m c (ix1 d) := by
  unfold V
  after_reads_at

theorem k_at (c : Dev nD) (d : Fin 128) : (V m c main_v5 (ix2 0 d) : EReal) = argK m c (ix1 d) := by
  unfold V
  after_reads_at

theorem m_at (c : Dev nD) (d : Fin 128) : (V m c main_v6 (ix2 0 d) : EReal) = argM m c (ix1 d) := by
  unfold V
  after_reads_at

theorem col_eq (c : Dev nD) (r : Fin 32768) (b : Fin 2) (p : Fin 16384) (hb : (r : ℕ) / 16384 = b) (hp : (r : ℕ) % 16384 = p) (j j' : ℕ) (h : j < 3584) (h' : j' < 3584) (e : j = j') :
    col m c r j h = column (fun d => argX m c (ix3 b p d)) (fun d => argG m c (ix1 d)) (fun d k => argW m c (ix2 d k)) j' h' :=
  column_congr (fun d => xrow_at m c r b p hb hp d) (fun d => g_at m c d) (fun d k => w_at m c d k) e

theorem head_eq (c : Dev nD) (gk gk' : Fin 128 → EReal) (hg : ∀ d, gk d = gk' d) (r : Fin 32768) (b : Fin 2) (p : Fin 16384) (hb : (r : ℕ) / 16384 = b) (hp : (r : ℕ) % 16384 = p)
    (o : ℕ) (ho : o + 128 ≤ 3584) (y : Fin 128 → EReal) (j : Fin 128)
    (hy : ∀ d : Fin 128, y d = column (fun d => argX m c (ix3 b p d)) (fun d => argG m c (ix1 d)) (fun d k => argW m c (ix2 d k)) (o + (d : ℕ)) (by omega)) :
    head m c gk r o ho j = headed y gk' j :=
  headed_congr (fun d => (col_eq m c r b p hb hp _ _ _ _ rfl).trans (hy d).symm) hg rfl

end Operands

section Value
open Cert.Reference5Ideal Cert.Reference5Ideal.Gen Cert.Reference5Ideal.Facts

variable (x : FVec Ideal S2x16384x2048 .f32) (g : FVec Ideal S2048 .f32) (w : FVec Ideal S2048x3584 .f32) (gk : FVec Ideal S128 .f32)

/-- The reference's queries, keys, values and memory queries, and the ends of its keys and values. -/
def refQ : FVec Ideal S32768x1024 .f32 := shapeCast _ (scaled8 (shapeCast _ (prodQ x g w) shapeCasts_S2x16384x1024_S2x16384x8x128) gk) shapeCasts_S2x16384x8x128_S32768x1024
def refK : FVec Ideal S32768x1024 .f32 := shapeCast _ (rms8 (shapeCast _ (prodK x g w) shapeCasts_S2x16384x1024_S2x16384x8x128) gk) shapeCasts_S2x16384x8x128_S32768x1024
def refKt : FVec Ideal S1024x1024 .f32 := shapeCast _ (extractStridedSlice S2x512x8x128 ![0, 15872, 0, 0] (rms8 (shapeCast _ (prodK x g w) shapeCasts_S2x16384x1024_S2x16384x8x128) gk) slices_S2x16384x8x128_S2x512x8x128_0_15872_0_0) shapeCasts_S2x512x8x128_S1024x1024
def refV : FVec Ideal S32768x1024 .f32 := shapeCast _ (shapeCast S2x16384x8x128 (prodV x g w) shapeCasts_S2x16384x1024_S2x16384x8x128) shapeCasts_S2x16384x8x128_S32768x1024
def refVt : FVec Ideal S1024x1024 .f32 := shapeCast _ (extractStridedSlice S2x512x8x128 ![0, 15872, 0, 0] (shapeCast S2x16384x8x128 (prodV x g w) shapeCasts_S2x16384x1024_S2x16384x8x128) slices_S2x16384x8x128_S2x512x8x128_0_15872_0_0) shapeCasts_S2x512x8x128_S1024x1024
def refM : FVec Ideal S32768x512 .f32 := shapeCast _ (scaled4 (shapeCast _ (prodM x g w) shapeCasts_S2x16384x512_S2x16384x4x128) gk) shapeCasts_S2x16384x4x128_S32768x512

end Value

section Equality
open Cert.Kernel5Ideal Cert.Kernel5Ideal.Gen

variable (m : (ℓ : Loc nD τ sig) → Buf (Elt Ideal) ℓ)

theorem refQ_eq (c : Dev nD) (r : Fin 32768) (w : Fin 1024) : qRow m c r w = refQ (argX m c) (argG m c) (argW m c) (argQ m c) (ix2 r w) := by
  unfold refQ qRow
  rw [rows8_at, scaled8_at]
  refine congrArg (· * headFactor) ?_
  refine head_eq m c _ _ (q_at m c) r ⟨(r : ℕ) / 16384, by omega⟩ ⟨(r : ℕ) % 16384, by omega⟩ rfl rfl _ _ _ _ fun d => ?_
  rw [split8_at, prodQ_at]
  exact column_congr (fun _ => rfl) (fun _ => rfl) (fun _ _ => rfl) (by show _ + ((w : ℕ) / 128 * 128 + (d : ℕ)) = _; omega)

theorem refK_eq (c : Dev nD) (r : Fin 32768) (w : Fin 1024) : kRow m c r w = refK (argX m c) (argG m c) (argW m c) (argK m c) (ix2 r w) := by
  unfold refK kRow
  rw [rows8_at, rms8_at]
  refine head_eq m c _ _ (k_at m c) r ⟨(r : ℕ) / 16384, by omega⟩ ⟨(r : ℕ) % 16384, by omega⟩ rfl rfl _ _ _ _ fun d => ?_
  rw [split8_at, prodK_at]
  exact column_congr (fun _ => rfl) (fun _ => rfl) (fun _ _ => rfl) (by show _ + ((w : ℕ) / 128 * 128 + (d : ℕ)) = _; omega)

theorem refKt_eq (c : Dev nD) (r : Fin 1024) (w : Fin 1024) : kRow m c (tailRow r) w = refKt (argX m c) (argG m c) (argW m c) (argK m c) (ix2 r w) := by
  unfold refKt kRow
  rw [tail_at, rms8_at]
  refine head_eq m c _ _ (k_at m c) (tailRow r) ⟨(r : ℕ) / 512, by omega⟩ ⟨15872 + (r : ℕ) % 512, by omega⟩ (by show ((r : ℕ) / 512 * 16384 + 15872 + (r : ℕ) % 512) / 16384 = (r : ℕ) / 512; omega) (by show ((r : ℕ) / 512 * 16384 + 15872 + (r : ℕ) % 512) % 16384 = 15872 + (r : ℕ) % 512; omega) _ _ _ _ fun d => ?_
  rw [split8_at, prodK_at]
  exact column_congr (fun _ => rfl) (fun _ => rfl) (fun _ _ => rfl) (by show _ + ((w : ℕ) / 128 * 128 + (d : ℕ)) = _; omega)

theorem refV_eq (c : Dev nD) (r : Fin 32768) (w : Fin 1024) : vRow m c r w = refV (argX m c) (argG m c) (argW m c) (ix2 r w) := by
  unfold refV vRow
  rw [rows8_at, split8_at, prodV_at]
  exact col_eq m c r ⟨(r : ℕ) / 16384, by omega⟩ ⟨(r : ℕ) % 16384, by omega⟩ rfl rfl _ _ _ _ (by show _ = 2048 + ((w : ℕ) / 128 * 128 + (w : ℕ) % 128); omega)

theorem refVt_eq (c : Dev nD) (r : Fin 1024) (w : Fin 1024) : vRow m c (tailRow r) w = refVt (argX m c) (argG m c) (argW m c) (ix2 r w) := by
  unfold refVt vRow
  rw [tail_at, split8_at, prodV_at]
  exact col_eq m c (tailRow r) ⟨(r : ℕ) / 512, by omega⟩ ⟨15872 + (r : ℕ) % 512, by omega⟩ (by show ((r : ℕ) / 512 * 16384 + 15872 + (r : ℕ) % 512) / 16384 = (r : ℕ) / 512; omega) (by show ((r : ℕ) / 512 * 16384 + 15872 + (r : ℕ) % 512) % 16384 = 15872 + (r : ℕ) % 512; omega) _ _ _ _ (by show _ = 2048 + ((w : ℕ) / 128 * 128 + (w : ℕ) % 128); omega)

theorem refM_eq (c : Dev nD) (r : Fin 32768) (w : Fin 512) : mRow m c r w = refM (argX m c) (argG m c) (argW m c) (argM m c) (ix2 r w) := by
  unfold refM mRow
  rw [rows4_at, scaled4_at]
  refine congrArg (· * headFactor) ?_
  refine head_eq m c _ _ (m_at m c) r ⟨(r : ℕ) / 16384, by omega⟩ ⟨(r : ℕ) % 16384, by omega⟩ rfl rfl _ _ _ _ fun d => ?_
  rw [split4_at, prodM_at]
  exact column_congr (fun _ => rfl) (fun _ => rfl) (fun _ _ => rfl) (by show _ + ((w : ℕ) / 128 * 128 + (d : ℕ)) = _; omega)

theorem refQ_all (c : Dev nD) : (fun j : S32768x1024.Idx => qRow m c (j 0) (j 1)) = refQ (argX m c) (argG m c) (argW m c) (argQ m c) := by
  funext j
  have hj : j = ix2 (j 0) (j 1) := by
    funext a
    match a with
    | ⟨0, _⟩ => rfl
    | ⟨1, _⟩ => rfl
  exact (refQ_eq m c (j 0) (j 1)).trans (congrArg (refQ (argX m c) (argG m c) (argW m c) (argQ m c)) hj.symm)

theorem refK_all (c : Dev nD) : (fun j : S32768x1024.Idx => kRow m c (j 0) (j 1)) = refK (argX m c) (argG m c) (argW m c) (argK m c) := by
  funext j
  have hj : j = ix2 (j 0) (j 1) := by
    funext a
    match a with
    | ⟨0, _⟩ => rfl
    | ⟨1, _⟩ => rfl
  exact (refK_eq m c (j 0) (j 1)).trans (congrArg (refK (argX m c) (argG m c) (argW m c) (argK m c)) hj.symm)

theorem refKt_all (c : Dev nD) : (fun j : S1024x1024.Idx => kRow m c (tailRow (j 0)) (j 1)) = refKt (argX m c) (argG m c) (argW m c) (argK m c) := by
  funext j
  have hj : j = ix2 (j 0) (j 1) := by
    funext a
    match a with
    | ⟨0, _⟩ => rfl
    | ⟨1, _⟩ => rfl
  exact (refKt_eq m c (j 0) (j 1)).trans (congrArg (refKt (argX m c) (argG m c) (argW m c) (argK m c)) hj.symm)

theorem refV_all (c : Dev nD) : (fun j : S32768x1024.Idx => vRow m c (j 0) (j 1)) = refV (argX m c) (argG m c) (argW m c) := by
  funext j
  have hj : j = ix2 (j 0) (j 1) := by
    funext a
    match a with
    | ⟨0, _⟩ => rfl
    | ⟨1, _⟩ => rfl
  exact (refV_eq m c (j 0) (j 1)).trans (congrArg (refV (argX m c) (argG m c) (argW m c)) hj.symm)

theorem refVt_all (c : Dev nD) : (fun j : S1024x1024.Idx => vRow m c (tailRow (j 0)) (j 1)) = refVt (argX m c) (argG m c) (argW m c) := by
  funext j
  have hj : j = ix2 (j 0) (j 1) := by
    funext a
    match a with
    | ⟨0, _⟩ => rfl
    | ⟨1, _⟩ => rfl
  exact (refVt_eq m c (j 0) (j 1)).trans (congrArg (refVt (argX m c) (argG m c) (argW m c)) hj.symm)

theorem refM_all (c : Dev nD) : (fun j : S32768x512.Idx => mRow m c (j 0) (j 1)) = refM (argX m c) (argG m c) (argW m c) (argM m c) := by
  funext j
  have hj : j = ix2 (j 0) (j 1) := by
    funext a
    match a with
    | ⟨0, _⟩ => rfl
    | ⟨1, _⟩ => rfl
  exact (refM_eq m c (j 0) (j 1)).trans (congrArg (refM (argX m c) (argG m c) (argW m c) (argM m c)) hj.symm)

end Equality

end Cert.BandProj

end
-- ==== Proof.StickProjBlock.lean ====
/- What the stick-breaking layer's projection leaves in its blocks, entry by entry. -/
module

public import proofs.«01_k».proof.Proof.Gen.Kernel4Ideal.Value
public import proofs.«01_k».proof.Proof.LayerMath

@[expose] public section

set_option maxRecDepth 16384

noncomputable section

open Idealize.ShloMosaic Idealize.ShloMosaic.TcCoe Idealize.SL.Sem
open Idealize.ShloMosaic.Pipeline (Dat)

namespace Cert.StickProj
open Cert.Kernel4Ideal Cert.Kernel4Ideal.Gen
open Cert.Proj Cert.Ffn

theorem dot4_at (x : Vec Ideal S512x2048 .f32) (g : Vec Ideal S1x2048 .f32) (w : Vec Ideal S1x2048x512 .bf16) (i : S512x512.Idx) :
    k0_pay4 x g w i = proj (fun d => x (ix2 (i 0) d)) (fun d => g (ix2 0 d)) (fun d k => w (ix3 0 d k)) (i 1) := by
  pointwise [k0_pay4, k0_pay3, proj, normed, scale]

theorem dot5_at (x : Vec Ideal S512x2048 .f32) (g : Vec Ideal S1x2048 .f32) (w : Vec Ideal S1x2048x512 .bf16) (i : S512x512.Idx) :
    k0_pay5 x g w i = proj (fun d => x (ix2 (i 0) d)) (fun d => g (ix2 0 d)) (fun d k => w (ix3 0 d k)) (i 1) := by
  pointwise [k0_pay5, k0_pay3, proj, normed, scale]

theorem dot8_at (x : Vec Ideal S512x2048 .f32) (g : Vec Ideal S1x2048 .f32) (w : Vec Ideal S1x2048x512 .bf16) (i : S512x512.Idx) :
    k0_pay8 (k0_pay3 x g) w i = proj (fun d => x (ix2 (i 0) d)) (fun d => g (ix2 0 d)) (fun d k => w (ix3 0 d k)) (i 1) := by
  pointwise [k0_pay8, k0_pay3, proj, normed, scale]

theorem dot11_at (x : Vec Ideal S512x2048 .f32) (g : Vec Ideal S1x2048 .f32) (w : Vec Ideal S1x2048x512 .bf16) (i : S512x512.Idx) :
    k0_pay11 (k0_pay3 x g) w i = proj (fun d => x (ix2 (i 0) d)) (fun d => g (ix2 0 d)) (fun d k => w (ix3 0 d k)) (i 1) := by
  pointwise [k0_pay11, k0_pay3, proj, normed, scale]

theorem dot18_at (x : Vec Ideal S512x2048 .f32) (g : Vec Ideal S1x2048 .f32) (w : Vec Ideal S1x2048x512 .bf16) (i : S512x512.Idx) :
    k0_pay18 (k0_pay3 x g) w i = proj (fun d => x (ix2 (i 0) d)) (fun d => g (ix2 0 d)) (fun d k => w (ix3 0 d k)) (i 1) := by
  pointwise [k0_pay18, k0_pay3, proj, normed, scale]

theorem dot25_at (x : Vec Ideal S512x2048 .f32) (g : Vec Ideal S1x2048 .f32) (w : Vec Ideal S1x2048x512 .bf16) (i : S512x512.Idx) :
    k0_pay25 (k0_pay3 x g) w i = proj (fun d => x (ix2 (i 0) d)) (fun d => g (ix2 0 d)) (fun d k => w (ix3 0 d k)) (i 1) := by
  pointwise [k0_pay25, k0_pay3, proj, normed, scale]

theorem dot32_at (x : Vec Ideal S512x2048 .f32) (g : Vec Ideal S1x2048 .f32) (w : Vec Ideal S1x2048x512 .bf16) (i : S512x512.Idx) :
    k0_pay32 (k0_pay3 x g) w i = proj (fun d => x (ix2 (i 0) d)) (fun d => g (ix2 0 d)) (fun d k => w (ix3 0 d k)) (i 1) := by
  pointwise [k0_pay32, k0_pay3, proj, normed, scale]

/-- The factor of the queries. -/
def laneFactor : EReal := Ideal.ofBits FTy.f32 0x3D800000#32

/-- The factor of the memory queries. -/
def headFactor : EReal := Ideal.ofBits FTy.f32 0x3DB504F3#32

theorem lane6_at (x : Vec Ideal S512x2048 .f32) (g : Vec Ideal S1x2048 .f32) (w : Vec Ideal S1x2048x512 .bf16) (i : S512x256.Idx) :
    k0_pay6 x g w i = k0_pay4 x g w (ix2 (i 0) ⟨0 + ((i 1 : Fin 256) : ℕ), by have : ((i 1 : Fin 256) : ℕ) < 256 := (i 1).isLt; omega⟩) * laneFactor := by
  pointwise [k0_pay6, laneFactor]

theorem lane7_at (x : Vec Ideal S512x2048 .f32) (g : Vec Ideal S1x2048 .f32) (w : Vec Ideal S1x2048x512 .bf16) (i : S512x256.Idx) :
    k0_pay7 x g w i = k0_pay4 x g w (ix2 (i 0) ⟨256 + ((i 1 : Fin 256) : ℕ), by have : ((i 1 : Fin 256) : ℕ) < 256 := (i 1).isLt; omega⟩) * laneFactor := by
  pointwise [k0_pay7, laneFactor]

theorem lane9_at (y : FVec Ideal S512x512 .f32) (i : S512x256.Idx) :
    k0_pay9 y i = y (ix2 (i 0) ⟨0 + ((i 1 : Fin 256) : ℕ), by have : ((i 1 : Fin 256) : ℕ) < 256 := (i 1).isLt; omega⟩) * laneFactor := by
  pointwise [k0_pay9, laneFactor]

theorem lane10_at (y : FVec Ideal S512x512 .f32) (i : S512x256.Idx) :
    k0_pay10 y i = y (ix2 (i 0) ⟨256 + ((i 1 : Fin 256) : ℕ), by have : ((i 1 : Fin 256) : ℕ) < 256 := (i 1).isLt; omega⟩) * laneFactor := by
  pointwise [k0_pay10, laneFactor]

theorem lane13_at (v : FVec Ideal S512x2048 .bf16) (w : Vec Ideal S1x2048x512 .bf16) (i : S512x256.Idx) :
    k0_pay13 v w i = k0_pay8 v w (ix2 (i 0) ⟨0 + ((i 1 : Fin 256) : ℕ), by have : ((i 1 : Fin 256) : ℕ) < 256 := (i 1).isLt; omega⟩) := by
  pointwise [k0_pay13, k0_pay12]

theorem lane14_at (v : FVec Ideal S512x2048 .bf16) (w : Vec Ideal S1x2048x512 .bf16) (i : S1x512x1x256.Idx) :
    k0_pay14 v w i = k0_pay8 v w (ix2 (i 1) ⟨0 + ((i 3 : Fin 256) : ℕ), by have : ((i 3 : Fin 256) : ℕ) < 256 := (i 3).isLt; omega⟩) := by
  pointwise [k0_pay14, k0_pay12]

theorem lane16_at (v : FVec Ideal S512x2048 .bf16) (w : Vec Ideal S1x2048x512 .bf16) (i : S512x256.Idx) :
    k0_pay16 v w i = k0_pay8 v w (ix2 (i 0) ⟨256 + ((i 1 : Fin 256) : ℕ), by have : ((i 1 : Fin 256) : ℕ) < 256 := (i 1).isLt; omega⟩) := by
  pointwise [k0_pay16, k0_pay15]

theorem lane17_at (v : FVec Ideal S512x2048 .bf16) (w : Vec Ideal S1x2048x512 .bf16) (i : S1x512x1x256.Idx) :
    k0_pay17 v w i = k0_pay8 v w (ix2 (i 1) ⟨256 + ((i 3 : Fin 256) : ℕ), by have : ((i 3 : Fin 256) : ℕ) < 256 := (i 3).isLt; omega⟩) := by
  pointwise [k0_pay17, k0_pay15]

theorem lane20_at (y : FVec Ideal S512x512 .f32) (i : S512x256.Idx) :
    k0_pay20 y i = y (ix2 (i 0) ⟨0 + ((i 1 : Fin 256) : ℕ), by have : ((i 1 : Fin 256) : ℕ) < 256 := (i 1).isLt; omega⟩) := by
  pointwise [k0_pay20, k0_pay19]

theorem lane21_at (y : FVec Ideal S512x512 .f32) (i : S1x512x1x256.Idx) :
    k0_pay21 y i = y (ix2 (i 1) ⟨0 + ((i 3 : Fin 256) : ℕ), by have : ((i 3 : Fin 256) : ℕ) < 256 := (i 3).isLt; omega⟩) := by
  pointwise [k0_pay21, k0_pay19]

theorem lane23_at (y : FVec Ideal S512x512 .f32) (i : S512x256.Idx) :
    k0_pay23 y i = y (ix2 (i 0) ⟨256 + ((i 1 : Fin 256) : ℕ), by have : ((i 1 : Fin 256) : ℕ) < 256 := (i 1).isLt; omega⟩) := by
  pointwise [k0_pay23, k0_pay22]

theorem lane24_at (y : FVec Ideal S512x512 .f32) (i : S1x512x1x256.Idx) :
    k0_pay24 y i = y (ix2 (i 1) ⟨256 + ((i 3 : Fin 256) : ℕ), by have : ((i 3 : Fin 256) : ℕ) < 256 := (i 3).isLt; omega⟩) := by
  pointwise [k0_pay24, k0_pay22]

theorem lane27_at (v : FVec Ideal S512x2048 .bf16) (w : Vec Ideal S1x2048x512 .bf16) (i : S512x256.Idx) :
    k0_pay27 v w i = k0_pay18 v w (ix2 (i 0) ⟨0 + ((i 1 : Fin 256) : ℕ), by have : ((i 1 : Fin 256) : ℕ) < 256 := (i 1).isLt; omega⟩) := by
  pointwise [k0_pay27, k0_pay26]

theorem lane28_at (v : FVec Ideal S512x2048 .bf16) (w : Vec Ideal S1x2048x512 .bf16) (i : S1x512x1x256.Idx) :
    k0_pay28 v w i = k0_pay18 v w (ix2 (i 1) ⟨0 + ((i 3 : Fin 256) : ℕ), by have : ((i 3 : Fin 256) : ℕ) < 256 := (i 3).isLt; omega⟩) := by
  pointwise [k0_pay28, k0_pay26]

theorem lane30_at (v : FVec Ideal S512x2048 .bf16) (w : Vec Ideal S1x2048x512 .bf16) (i : S512x256.Idx) :
    k0_pay30 v w i = k0_pay18 v w (ix2 (i 0) ⟨256 + ((i 1 : Fin 256) : ℕ), by have : ((i 1 : Fin 256) : ℕ) < 256 := (i 1).isLt; omega⟩) := by
  pointwise [k0_pay30, k0_pay29]

theorem lane31_at (v : FVec Ideal S512x2048 .bf16) (w : Vec Ideal S1x2048x512 .bf16) (i : S1x512x1x256.Idx) :
    k0_pay31 (k0_pay29 v w) i = k0_pay18 v w (ix2 (i 1) ⟨256 + ((i 3 : Fin 256) : ℕ), by have : ((i 3 : Fin 256) : ℕ) < 256 := (i 3).isLt; omega⟩) := by
  pointwise [k0_pay31, k0_pay29]

theorem lane34_at (y : FVec Ideal S512x512 .f32) (i : S512x256.Idx) :
    k0_pay34 y i = y (ix2 (i 0) ⟨0 + ((i 1 : Fin 256) : ℕ), by have : ((i 1 : Fin 256) : ℕ) < 256 := (i 1).isLt; omega⟩) := by
  pointwise [k0_pay34, k0_pay33]

theorem lane35_at (y : FVec Ideal S512x512 .f32) (i : S1x512x1x256.Idx) :
    k0_pay35 y i = y (ix2 (i 1) ⟨0 + ((i 3 : Fin 256) : ℕ), by have : ((i 3 : Fin 256) : ℕ) < 256 := (i 3).isLt; omega⟩) := by
  pointwise [k0_pay35, k0_pay33]

theorem lane37_at (y : FVec Ideal S512x512 .f32) (i : S512x256.Idx) :
    k0_pay37 y i = y (ix2 (i 0) ⟨256 + ((i 1 : Fin 256) : ℕ), by have : ((i 1 : Fin 256) : ℕ) < 256 := (i 1).isLt; omega⟩) := by
  pointwise [k0_pay37, k0_pay36]

theorem lane38_at (y : FVec Ideal S512x512 .f32) (i : S1x512x1x256.Idx) :
    k0_pay38 y i = y (ix2 (i 1) ⟨256 + ((i 3 : Fin 256) : ℕ), by have : ((i 3 : Fin 256) : ℕ) < 256 := (i 3).isLt; omega⟩) := by
  pointwise [k0_pay38, k0_pay36]

theorem head2_at (y : FVec Ideal S512x512 .f32) (gk : Vec Ideal S1x128 .f32) (i : S512x128.Idx) :
    k0_pay2 y gk i = headed (fun d => y (ix2 (i 0) ⟨384 + (d : ℕ), by omega⟩)) (fun d => gk (ix2 0 d)) (i 1) * headFactor := by
  pointwise [k0_pay2, headed, headScale, headFactor]

theorem head1_at (y : FVec Ideal S512x512 .f32) (gk : Vec Ideal S1x128 .f32) (i : S512x128.Idx) :
    k0_pay1 (k0_pay43 y gk) (k0_pay44 (F := Ideal)) i = headed (fun d => y (ix2 (i 0) ⟨256 + (d : ℕ), by omega⟩)) (fun d => gk (ix2 0 d)) (i 1) * headFactor := by
  pointwise [k0_pay1, k0_pay43, k0_pay44, headed, headScale, headFactor]

theorem head42_at (y : FVec Ideal S512x512 .f32) (gk : Vec Ideal S1x128 .f32) (i : S512x128.Idx) :
    k0_pay42 y gk i = headed (fun d => y (ix2 (i 0) ⟨128 + (d : ℕ), by omega⟩)) (fun d => gk (ix2 0 d)) (i 1) * headFactor := by
  pointwise [k0_pay42, headed, headScale, headFactor]

theorem head41_at (v : FVec Ideal S512x2048 .bf16) (w : Vec Ideal S1x2048x512 .bf16) (gk : Vec Ideal S1x128 .f32) (i : S512x128.Idx) :
    k0_pay41 (k0_pay39 v w) (k0_pay40 gk) i = headed (fun d => k0_pay32 v w (ix2 (i 0) ⟨0 + (d : ℕ), by omega⟩)) (fun d => gk (ix2 0 d)) (i 1) * headFactor := by
  pointwise [k0_pay41, k0_pay39, k0_pay40, headed, headScale, headFactor]

section Block
variable (x0 : Vec Ideal S512x2048 .f32) (x1 : Vec Ideal S1x2048 .f32) (x2 : Vec Ideal S1x2048x3584 .bf16) (x3 : Vec Ideal S1x128 .f32)

theorem ldx (r : Fin 512) (d : Fin 2048) : View.ld x0 (Rect.unit (s := S512x2048) ![0, 0] S512x2048.size inb_S512x2048_S512x2048_0_0) (ix2 r d) = x0 (ix2 r d) := by
  pointwise; try blk_ext
theorem ldg (d : Fin 2048) : View.ld x1 (Rect.unit (s := S1x2048) ![0, 0] S1x2048.size inb_S1x2048_S1x2048_0_0) (ix2 0 d) = x1 (ix2 0 d) := by
  pointwise; try blk_ext
theorem ldh (d : Fin 128) : View.ld x3 (Rect.unit (s := S1x128) ![0, 0] S1x128.size inb_S1x128_S1x128_0_0) (ix2 0 d) = x3 (ix2 0 d) := by
  pointwise; try blk_ext
theorem ldw0 (d : Fin 2048) (k : Fin 512) : View.ld x2 (Rect.unit (s := S1x2048x3584) ![0, 0, 0] S1x2048x512.size inb_S1x2048x3584_S1x2048x512_0_0_0) (ix3 0 d k) = x2 (ix3 0 d ⟨0 + (k : ℕ), by omega⟩) := by
  pointwise; try blk_ext
theorem ldw1 (d : Fin 2048) (k : Fin 512) : View.ld x2 (Rect.unit (s := S1x2048x3584) ![0, 0, 512] S1x2048x512.size inb_S1x2048x3584_S1x2048x512_0_0_512) (ix3 0 d k) = x2 (ix3 0 d ⟨512 + (k : ℕ), by omega⟩) := by
  pointwise; try blk_ext
theorem ldw2 (d : Fin 2048) (k : Fin 512) : View.ld x2 (Rect.unit (s := S1x2048x3584) ![0, 0, 1024] S1x2048x512.size inb_S1x2048x3584_S1x2048x512_0_0_1024) (ix3 0 d k) = x2 (ix3 0 d ⟨1024 + (k : ℕ), by omega⟩) := by
  pointwise; try blk_ext
theorem ldw3 (d : Fin 2048) (k : Fin 512) : View.ld x2 (Rect.unit (s := S1x2048x3584) ![0, 0, 1536] S1x2048x512.size inb_S1x2048x3584_S1x2048x512_0_0_1536) (ix3 0 d k) = x2 (ix3 0 d ⟨1536 + (k : ℕ), by omega⟩) := by
  pointwise; try blk_ext
theorem ldw4 (d : Fin 2048) (k : Fin 512) : View.ld x2 (Rect.unit (s := S1x2048x3584) ![0, 0, 2048] S1x2048x512.size inb_S1x2048x3584_S1x2048x512_0_0_2048) (ix3 0 d k) = x2 (ix3 0 d ⟨2048 + (k : ℕ), by omega⟩) := by
  pointwise; try blk_ext
theorem ldw5 (d : Fin 2048) (k : Fin 512) : View.ld x2 (Rect.unit (s := S1x2048x3584) ![0, 0, 2560] S1x2048x512.size inb_S1x2048x3584_S1x2048x512_0_0_2560) (ix3 0 d k) = x2 (ix3 0 d ⟨2560 + (k : ℕ), by omega⟩) := by
  pointwise; try blk_ext
theorem ldw6 (d : Fin 2048) (k : Fin 512) : View.ld x2 (Rect.unit (s := S1x2048x3584) ![0, 0, 3072] S1x2048x512.size inb_S1x2048x3584_S1x2048x512_0_0_3072) (ix3 0 d k) = x2 (ix3 0 d ⟨3072 + (k : ℕ), by omega⟩) := by
  pointwise; try blk_ext

/-- Column `j` of row `r` of the projection of a block. -/
def colAt (r : Fin 512) (j : ℕ) (h : j < 3584) : EReal :=
  column (fun d => x0 (ix2 r d)) (fun d => x1 (ix2 0 d)) (fun d k => x2 (ix3 0 d k)) j h

/-- Lane `j` of the head of row `r` that starts at column `b`. -/
def headAt (gk : Vec Ideal S1x128 .f32) (r : Fin 512) (b : ℕ) (h : b + 128 ≤ 3584) (j : Fin 128) : EReal :=
  headOf (fun d => x0 (ix2 r d)) (fun d => x1 (ix2 0 d)) (fun d k => x2 (ix3 0 d k)) (fun d => gk (ix2 0 d)) b h j

theorem group0_at (r k : Fin 512) : k0_pay4 (View.ld x0 (Rect.unit (s := S512x2048) ![0, 0] S512x2048.size inb_S512x2048_S512x2048_0_0)) (View.ld x1 (Rect.unit (s := S1x2048) ![0, 0] S1x2048.size inb_S1x2048_S1x2048_0_0)) (View.ld x2 (Rect.unit (s := S1x2048x3584) ![0, 0, 0] S1x2048x512.size inb_S1x2048x3584_S1x2048x512_0_0_0)) (ix2 r k) = colAt x0 x1 x2 r (0 + (k : ℕ)) (by omega) := by
  unfold colAt column
  exact (dot4_at _ _ _ (ix2 r k)).trans (proj_congr (fun d => ldx x0 r d) (fun d => ldg x1 d) (fun d => ldw0 x2 d k))
theorem group1_at (r k : Fin 512) : k0_pay5 (View.ld x0 (Rect.unit (s := S512x2048) ![0, 0] S512x2048.size inb_S512x2048_S512x2048_0_0)) (View.ld x1 (Rect.unit (s := S1x2048) ![0, 0] S1x2048.size inb_S1x2048_S1x2048_0_0)) (View.ld x2 (Rect.unit (s := S1x2048x3584) ![0, 0, 512] S1x2048x512.size inb_S1x2048x3584_S1x2048x512_0_0_512)) (ix2 r k) = colAt x0 x1 x2 r (512 + (k : ℕ)) (by omega) := by
  unfold colAt column
  exact (dot5_at _ _ _ (ix2 r k)).trans (proj_congr (fun d => ldx x0 r d) (fun d => ldg x1 d) (fun d => ldw1 x2 d k))
theorem group2_at (r k : Fin 512) : k0_pay8 (k0_pay3 (View.ld x0 (Rect.unit (s := S512x2048) ![0, 0] S512x2048.size inb_S512x2048_S512x2048_0_0)) (View.ld x1 (Rect.unit (s := S1x2048) ![0, 0] S1x2048.size inb_S1x2048_S1x2048_0_0))) (View.ld x2 (Rect.unit (s := S1x2048x3584) ![0, 0, 1024] S1x2048x512.size inb_S1x2048x3584_S1x2048x512_0_0_1024)) (ix2 r k) = colAt x0 x1 x2 r (1024 + (k : ℕ)) (by omega) := by
  unfold colAt column
  exact (dot8_at _ _ _ (ix2 r k)).trans (proj_congr (fun d => ldx x0 r d) (fun d => ldg x1 d) (fun d => ldw2 x2 d k))
theorem group3_at (r k : Fin 512) : k0_pay11 (k0_pay3 (View.ld x0 (Rect.unit (s := S512x2048) ![0, 0] S512x2048.size inb_S512x2048_S512x2048_0_0)) (View.ld x1 (Rect.unit (s := S1x2048) ![0, 0] S1x2048.size inb_S1x2048_S1x2048_0_0))) (View.ld x2 (Rect.unit (s := S1x2048x3584) ![0, 0, 1536] S1x2048x512.size inb_S1x2048x3584_S1x2048x512_0_0_1536)) (ix2 r k) = colAt x0 x1 x2 r (1536 + (k : ℕ)) (by omega) := by
  unfold colAt column
  exact (dot11_at _ _ _ (ix2 r k)).trans (proj_congr (fun d => ldx x0 r d) (fun d => ldg x1 d) (fun d => ldw3 x2 d k))
theorem group4_at (r k : Fin 512) : k0_pay18 (k0_pay3 (View.ld x0 (Rect.unit (s := S512x2048) ![0, 0] S512x2048.size inb_S512x2048_S512x2048_0_0)) (View.ld x1 (Rect.unit (s := S1x2048) ![0, 0] S1x2048.size inb_S1x2048_S1x2048_0_0))) (View.ld x2 (Rect.unit (s := S1x2048x3584) ![0, 0, 2048] S1x2048x512.size inb_S1x2048x3584_S1x2048x512_0_0_2048)) (ix2 r k) = colAt x0 x1 x2 r (2048 + (k : ℕ)) (by omega) := by
  unfold colAt column
  exact (dot18_at _ _ _ (ix2 r k)).trans (proj_congr (fun d => ldx x0 r d) (fun d => ldg x1 d) (fun d => ldw4 x2 d k))
theorem group5_at (r k : Fin 512) : k0_pay25 (k0_pay3 (View.ld x0 (Rect.unit (s := S512x2048) ![0, 0] S512x2048.size inb_S512x2048_S512x2048_0_0)) (View.ld x1 (Rect.unit (s := S1x2048) ![0, 0] S1x2048.size inb_S1x2048_S1x2048_0_0))) (View.ld x2 (Rect.unit (s := S1x2048x3584) ![0, 0, 2560] S1x2048x512.size inb_S1x2048x3584_S1x2048x512_0_0_2560)) (ix2 r k) = colAt x0 x1 x2 r (2560 + (k : ℕ)) (by omega) := by
  unfold colAt column
  exact (dot25_at _ _ _ (ix2 r k)).trans (proj_congr (fun d => ldx x0 r d) (fun d => ldg x1 d) (fun d => ldw5 x2 d k))
theorem group6_at (r k : Fin 512) : k0_pay32 (k0_pay3 (View.ld x0 (Rect.unit (s := S512x2048) ![0, 0] S512x2048.size inb_S512x2048_S512x2048_0_0)) (View.ld x1 (Rect.unit (s := S1x2048) ![0, 0] S1x2048.size inb_S1x2048_S1x2048_0_0))) (View.ld x2 (Rect.unit (s := S1x2048x3584) ![0, 0, 3072] S1x2048x512.size inb_S1x2048x3584_S1x2048x512_0_0_3072)) (ix2 r k) = colAt x0 x1 x2 r (3072 + (k : ℕ)) (by omega) := by
  unfold colAt column
  exact (dot32_at _ _ _ (ix2 r k)).trans (proj_congr (fun d => ldx x0 r d) (fun d => ldg x1 d) (fun d => ldw6 x2 d k))

theorem head_tile (y : S512x512.Idx → EReal) (n off : ℕ) (hn : n + 512 ≤ 3584) (ho : off + 128 ≤ 512) (hy : ∀ r k : Fin 512, y (ix2 r k) = colAt x0 x1 x2 r (n + (k : ℕ)) (by omega))
    (gk : Vec Ideal S1x128 .f32) (x : S512x128.Idx) (r : Fin 512) (b : ℕ) (hb : b + 128 ≤ 3584) (j : Fin 128)
    (hr : (r : ℕ) = x 0) (e : b = n + off) (hj : (j : ℕ) = x 1) :
    headed (fun d => y (ix2 (x 0) ⟨off + (d : ℕ), by omega⟩)) (fun d => View.ld gk (Rect.unit (s := S1x128) ![0, 0] S1x128.size inb_S1x128_S1x128_0_0) (ix2 0 d)) (x 1) = headAt x0 x1 x2 gk r b hb j := by
  obtain rfl : r = x 0 := Fin.ext hr
  unfold headAt headOf
  refine headed_congr (fun d => (hy (x 0) ⟨off + (d : ℕ), by omega⟩).trans ?_) (fun d => ldh gk d) (Fin.ext hj.symm)
  exact column_congr (fun _ => rfl) (fun _ => rfl) (fun _ _ => rfl) (by show n + (off + (d : ℕ)) = b + (d : ℕ); omega)

theorem lane_tile (y : S512x512.Idx → EReal) (n : ℕ) (hn : n + 512 ≤ 3584) (hy : ∀ r k : Fin 512, y (ix2 r k) = colAt x0 x1 x2 r (n + (k : ℕ)) (by omega))
    (q : Fin 512) (u : ℕ) (h : u < 512) (r : Fin 512) (j : ℕ) (hj : j < 3584) (hr : (r : ℕ) = q) (e : j = n + u) :
    y (ix2 q ⟨u, h⟩) = colAt x0 x1 x2 r j hj := by
  obtain rfl : r = q := Fin.ext hr
  exact (hy _ _).trans (column_congr (fun _ => rfl) (fun _ => rfl) (fun _ _ => rfl) e.symm)

variable (c : Dev nD) (i : grid0.Coords)

theorem out4_at a1 h1 a2 h2 a3 h3 a4 h4 a7 h7 a8 h8 a9 h9 a10 h10 a11 h11 a12 h12 (y : S512x1024.Idx) :
    out0_A_4 c i a1 h1 a2 h2 a3 h3 a4 h4 a7 h7 a8 h8 a9 h9 a10 h10 a11 h11 a12 h12 x0 x1 x2 x3 y = colAt x0 x1 x2 (y 0) (0 + ((y 1 : Fin 1024) : ℕ)) (by have : ((y 1 : Fin 1024) : ℕ) < 1024 := (y 1).isLt; omega) * laneFactor := by
  unfold out0_A_4
  rw [View.read_writes_junk_eq_canon]
  unfold kernelRun0_A
  dsimp only
  sl_unfold_words
  simp only [View.readAt_eq_ld, h1.read_unread, h2.read_unread, h3.read_unread, h4.read_unread]
  canon_tiles x e
  · exact (lane10_at _ x).trans (congrArg (· * laneFactor) (lane_tile x0 x1 x2 _ 512 (by omega) (group1_at x0 x1 x2) _ _ _ _ _ _ (by omega) (by omega)))
  · exact (lane9_at _ x).trans (congrArg (· * laneFactor) (lane_tile x0 x1 x2 _ 512 (by omega) (group1_at x0 x1 x2) _ _ _ _ _ _ (by omega) (by omega)))
  · exact (lane7_at _ _ _ x).trans (congrArg (· * laneFactor) (lane_tile x0 x1 x2 _ 0 (by omega) (group0_at x0 x1 x2) _ _ _ _ _ _ (by omega) (by omega)))
  · exact (lane6_at _ _ _ x).trans (congrArg (· * laneFactor) (lane_tile x0 x1 x2 _ 0 (by omega) (group0_at x0 x1 x2) _ _ _ _ _ _ (by omega) (by omega)))

theorem out5_at a1 h1 a2 h2 a3 h3 a4 h4 a7 h7 a8 h8 a9 h9 a10 h10 a11 h11 a12 h12 (y : S512x1024.Idx) :
    out0_A_5 c i a1 h1 a2 h2 a3 h3 a4 h4 a7 h7 a8 h8 a9 h9 a10 h10 a11 h11 a12 h12 x0 x1 x2 x3 y = colAt x0 x1 x2 (y 0) (1024 + ((y 1 : Fin 1024) : ℕ)) (by have : ((y 1 : Fin 1024) : ℕ) < 1024 := (y 1).isLt; omega) := by
  unfold out0_A_5
  rw [View.read_writes_junk_eq_canon]
  unfold kernelRun0_A
  dsimp only
  sl_unfold_words
  simp only [View.readAt_eq_ld, h1.read_unread, h2.read_unread, h3.read_unread, h4.read_unread]
  canon_tiles x e
  · exact (lane23_at _ x).trans (lane_tile x0 x1 x2 _ 1536 (by omega) (group3_at x0 x1 x2) _ _ _ _ _ _ (by omega) (by omega))
  · exact (lane20_at _ x).trans (lane_tile x0 x1 x2 _ 1536 (by omega) (group3_at x0 x1 x2) _ _ _ _ _ _ (by omega) (by omega))
  · exact (lane16_at _ _ x).trans (lane_tile x0 x1 x2 _ 1024 (by omega) (group2_at x0 x1 x2) _ _ _ _ _ _ (by omega) (by omega))
  · exact (lane13_at _ _ x).trans (lane_tile x0 x1 x2 _ 1024 (by omega) (group2_at x0 x1 x2) _ _ _ _ _ _ (by omega) (by omega))

theorem out6_at a1 h1 a2 h2 a3 h3 a4 h4 a7 h7 a8 h8 a9 h9 a10 h10 a11 h11 a12 h12 (y : S1x512x4x256.Idx) :
    out0_A_6 c i a1 h1 a2 h2 a3 h3 a4 h4 a7 h7 a8 h8 a9 h9 a10 h10 a11 h11 a12 h12 x0 x1 x2 x3 y = colAt x0 x1 x2 (y 1) (1024 + (((y 2 : Fin 4) : ℕ) * 256 + ((y 3 : Fin 256) : ℕ))) (by have : ((y 2 : Fin 4) : ℕ) < 4 := (y 2).isLt; have : ((y 3 : Fin 256) : ℕ) < 256 := (y 3).isLt; omega) := by
  unfold out0_A_6
  rw [View.read_writes_junk_eq_canon]
  unfold kernelRun0_A
  dsimp only
  sl_unfold_words
  simp only [View.readAt_eq_ld, h1.read_unread, h2.read_unread, h3.read_unread, h4.read_unread]
  canon_tiles x e
  · exact (lane24_at _ x).trans (lane_tile x0 x1 x2 _ 1536 (by omega) (group3_at x0 x1 x2) _ _ _ _ _ _ (by omega) (by omega))
  · exact (lane21_at _ x).trans (lane_tile x0 x1 x2 _ 1536 (by omega) (group3_at x0 x1 x2) _ _ _ _ _ _ (by omega) (by omega))
  · exact (lane17_at _ _ x).trans (lane_tile x0 x1 x2 _ 1024 (by omega) (group2_at x0 x1 x2) _ _ _ _ _ _ (by omega) (by omega))
  · exact (lane14_at _ _ x).trans (lane_tile x0 x1 x2 _ 1024 (by omega) (group2_at x0 x1 x2) _ _ _ _ _ _ (by omega) (by omega))

theorem out7_at a1 h1 a2 h2 a3 h3 a4 h4 a7 h7 a8 h8 a9 h9 a10 h10 a11 h11 a12 h12 (y : S512x1024.Idx) :
    out0_A_7 c i a1 h1 a2 h2 a3 h3 a4 h4 a7 h7 a8 h8 a9 h9 a10 h10 a11 h11 a12 h12 x0 x1 x2 x3 y = colAt x0 x1 x2 (y 0) (2048 + ((y 1 : Fin 1024) : ℕ)) (by have : ((y 1 : Fin 1024) : ℕ) < 1024 := (y 1).isLt; omega) := by
  unfold out0_A_7
  rw [View.read_writes_junk_eq_canon]
  unfold kernelRun0_A
  dsimp only
  sl_unfold_words
  simp only [View.readAt_eq_ld, h1.read_unread, h2.read_unread, h3.read_unread, h4.read_unread]
  canon_tiles x e
  · exact (lane37_at _ x).trans (lane_tile x0 x1 x2 _ 2560 (by omega) (group5_at x0 x1 x2) _ _ _ _ _ _ (by omega) (by omega))
  · exact (lane34_at _ x).trans (lane_tile x0 x1 x2 _ 2560 (by omega) (group5_at x0 x1 x2) _ _ _ _ _ _ (by omega) (by omega))
  · exact (lane30_at _ _ x).trans (lane_tile x0 x1 x2 _ 2048 (by omega) (group4_at x0 x1 x2) _ _ _ _ _ _ (by omega) (by omega))
  · exact (lane27_at _ _ x).trans (lane_tile x0 x1 x2 _ 2048 (by omega) (group4_at x0 x1 x2) _ _ _ _ _ _ (by omega) (by omega))

theorem out8_at a1 h1 a2 h2 a3 h3 a4 h4 a7 h7 a8 h8 a9 h9 a10 h10 a11 h11 a12 h12 (y : S1x512x4x256.Idx) :
    out0_A_8 c i a1 h1 a2 h2 a3 h3 a4 h4 a7 h7 a8 h8 a9 h9 a10 h10 a11 h11 a12 h12 x0 x1 x2 x3 y = colAt x0 x1 x2 (y 1) (2048 + (((y 2 : Fin 4) : ℕ) * 256 + ((y 3 : Fin 256) : ℕ))) (by have : ((y 2 : Fin 4) : ℕ) < 4 := (y 2).isLt; have : ((y 3 : Fin 256) : ℕ) < 256 := (y 3).isLt; omega) := by
  unfold out0_A_8
  rw [View.read_writes_junk_eq_canon]
  unfold kernelRun0_A
  dsimp only
  sl_unfold_words
  simp only [View.readAt_eq_ld, h1.read_unread, h2.read_unread, h3.read_unread, h4.read_unread]
  canon_tiles x e
  · exact (lane38_at _ x).trans (lane_tile x0 x1 x2 _ 2560 (by omega) (group5_at x0 x1 x2) _ _ _ _ _ _ (by omega) (by omega))
  · exact (lane35_at _ x).trans (lane_tile x0 x1 x2 _ 2560 (by omega) (group5_at x0 x1 x2) _ _ _ _ _ _ (by omega) (by omega))
  · exact (lane31_at _ _ x).trans (lane_tile x0 x1 x2 _ 2048 (by omega) (group4_at x0 x1 x2) _ _ _ _ _ _ (by omega) (by omega))
  · exact (lane28_at _ _ x).trans (lane_tile x0 x1 x2 _ 2048 (by omega) (group4_at x0 x1 x2) _ _ _ _ _ _ (by omega) (by omega))

theorem out9_at a1 h1 a2 h2 a3 h3 a4 h4 a7 h7 a8 h8 a9 h9 a10 h10 a11 h11 a12 h12 (y : S512x512.Idx) :
    out0_A_9 c i a1 h1 a2 h2 a3 h3 a4 h4 a7 h7 a8 h8 a9 h9 a10 h10 a11 h11 a12 h12 x0 x1 x2 x3 y = headAt x0 x1 x2 x3 (y 0) (3072 + ((y 1 : Fin 512) : ℕ) / 128 * 128) (by have : ((y 1 : Fin 512) : ℕ) < 512 := (y 1).isLt; omega) ⟨((y 1 : Fin 512) : ℕ) % 128, by omega⟩ * headFactor := by
  unfold out0_A_9
  rw [View.read_writes_junk_eq_canon]
  unfold kernelRun0_A
  dsimp only
  sl_unfold_words
  simp only [View.readAt_eq_ld, h1.read_unread, h2.read_unread, h3.read_unread, h4.read_unread]
  canon_tiles x e
  · exact (head2_at _ _ x).trans (congrArg (· * headFactor) (head_tile x0 x1 x2 _ 3072 384 (by omega) (by omega) (group6_at x0 x1 x2) x3 x _ _ _ _ (by omega) (by omega) (by show _ % 128 = _; omega)))
  · exact (head1_at _ _ x).trans (congrArg (· * headFactor) (head_tile x0 x1 x2 _ 3072 256 (by omega) (by omega) (group6_at x0 x1 x2) x3 x _ _ _ _ (by omega) (by omega) (by show _ % 128 = _; omega)))
  · exact (head42_at _ _ x).trans (congrArg (· * headFactor) (head_tile x0 x1 x2 _ 3072 128 (by omega) (by omega) (group6_at x0 x1 x2) x3 x _ _ _ _ (by omega) (by omega) (by show _ % 128 = _; omega)))
  · exact (head41_at _ _ _ x).trans (congrArg (· * headFactor) (head_tile x0 x1 x2 _ 3072 0 (by omega) (by omega) (group6_at x0 x1 x2) x3 x _ _ _ _ (by omega) (by omega) (by show _ % 128 = _; omega)))

end Block

end Cert.StickProj

end
-- ==== Proof.StickProjArray.lean ====
/- The stick-breaking layer's projection: its whole arrays after its run, as formulas of the operands in memory. -/
module

public import proofs.«01_k».proof.Proof.StickProjBlock
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.StickProj
open Cert.Kernel4Ideal Cert.Kernel4Ideal.Gen
open Cert.Proj

variable (m : (ℓ : Loc nD τ sig) → Buf (Elt Ideal) ℓ)

theorem idx : ∀ t : Fin cfg0.N, t.val < 64 ∧ win0_0.index t = ![t.val, 0] ∧ win0_1.index t = ![0, 0] ∧ win0_2.index t = ![0, 0, 0] ∧ win0_3.index t = ![0, 0] :=
  (by decide +kernel : ∀ t : Fin grid0.N, _)
theorem idxOut : ∀ t : Fin cfg0.N, win0_4.index t = ![t.val, 0] ∧ win0_5.index t = ![t.val, 0] ∧ win0_6.index t = ![1, t.val, 0, 0]
    ∧ win0_7.index t = ![t.val, 0] ∧ win0_8.index t = ![1, t.val, 0, 0] ∧ win0_9.index t = ![t.val, 0] :=
  (by decide +kernel : ∀ t : Fin grid0.N, _)

theorem blk0 (c : Dev nD) (t : Fin cfg0.N) (r : Fin 512) (R : Fin 32768) (hR : (R : ℕ) = t.val * 512 + (r : ℕ)) (d : Fin 2048) :
    iblk m c 0 t (ix2 r d) = V m c main_v0 (ix2 R d) := by
  have e : win0_0.index t = _ := (idx t).2.1
  have e0 : win0_0.index t 0 = t.val := congrFun e 0
  have e1 : win0_0.index t 1 = 0 := congrFun e 1
  blk_simp [iblk]
  blk_ext
  all_goals omega

theorem blk1 (c : Dev nD) (t : Fin cfg0.N) (d : Fin 2048) : iblk m c 1 t (ix2 0 d) = V m c main_v3 (ix2 0 d) := by
  have e : win0_1.index t = _ := (idx t).2.2.1
  have e0 : win0_1.index t 0 = 0 := congrFun e 0
  have e1 : win0_1.index t 1 = 0 := congrFun e 1
  blk_simp [iblk]
  blk_ext
  all_goals omega

theorem blk2 (c : Dev nD) (t : Fin cfg0.N) (d : Fin 2048) (k : Fin 3584) : iblk m c 2 t (ix3 0 d k) = V m c main_v2 (ix3 0 d k) := by
  have e : win0_2.index t = _ := (idx t).2.2.2.1
  have e0 : win0_2.index t 0 = 0 := congrFun e 0
  have e1 : win0_2.index t 1 = 0 := congrFun e 1
  have e2 : win0_2.index t 2 = 0 := congrFun e 2
  blk_simp [iblk]
  blk_ext
  all_goals omega

theorem blk3 (c : Dev nD) (t : Fin cfg0.N) (d : Fin 128) : iblk m c 3 t (ix2 0 d) = V m c main_v4 (ix2 0 d) := by
  have e : win0_3.index t = _ := (idx t).2.2.2.2
  have e0 : win0_3.index t 0 = 0 := congrFun e 0
  have e1 : win0_3.index t 1 = 0 := congrFun e 1
  blk_simp [iblk]
  blk_ext
  all_goals omega

/-- Column `j` of row `r` of the projection, from the operands in memory. -/
def col (c : Dev nD) (r : Fin 32768) (j : ℕ) (h : j < 3584) : EReal :=
  column (fun d => V m c main_v0 (ix2 r d)) (fun d => V m c main_v3 (ix2 0 d)) (fun d k => V m c main_v2 (ix3 0 d k)) j h

/-- Lane `j` of the head of row `r` that starts at column `b`. -/
def head (c : Dev nD) (gk : Fin 128 → EReal) (r : Fin 32768) (b : ℕ) (h : b + 128 ≤ 3584) (j : Fin 128) : EReal :=
  headOf (fun d => V m c main_v0 (ix2 r d)) (fun d => V m c main_v3 (ix2 0 d)) (fun d k => V m c main_v2 (ix3 0 d k)) gk b h j

/-- The queries, keys, values and memory queries of a row. -/
def qRow (c : Dev nD) (r : Fin 32768) (w : Fin 1024) : EReal := col m c r (0 + (w : ℕ)) (by omega) * laneFactor
def kRow (c : Dev nD) (r : Fin 32768) (w : Fin 1024) : EReal := col m c r (1024 + (w : ℕ)) (by omega)
def vRow (c : Dev nD) (r : Fin 32768) (w : Fin 1024) : EReal := col m c r (2048 + (w : ℕ)) (by omega)
def mRow (c : Dev nD) (r : Fin 32768) (w : Fin 512) : EReal :=
  head m c (fun d => V m c main_v4 (ix2 0 d)) r (3072 + (w : ℕ) / 128 * 128) (by omega) ⟨(w : ℕ) % 128, by omega⟩ * headFactor

/-- The column of lane `d` of head `h`. -/
def lane (h : Fin 4) (d : Fin 256) : Fin 1024 := ⟨(h : ℕ) * 256 + (d : ℕ), by omega⟩

theorem colAt_eq (c : Dev nD) (t : Fin cfg0.N) (r : Fin 512) (R : Fin 32768) (hR : (R : ℕ) = t.val * 512 + (r : ℕ)) (j j' : ℕ) (h : j < 3584) (h' : j' < 3584) (e : j = j') :
    colAt (iblk m c 0 t) (iblk m c 1 t) (iblk m c 2 t) r j h = col m c R j' h' := by
  exact column_congr (fun d => blk0 m c t r R hR d) (fun d => blk1 m c t d) (fun d k => blk2 m c t d k) e

theorem headAt_eq (c : Dev nD) (t : Fin cfg0.N) (gk : Vec Ideal S1x128 .f32) (gk' : Fin 128 → EReal) (hg : ∀ d, gk (ix2 0 d) = gk' d)
    (r : Fin 512) (R : Fin 32768) (hR : (R : ℕ) = t.val * 512 + (r : ℕ)) (b b' : ℕ) (h : b + 128 ≤ 3584) (h' : b' + 128 ≤ 3584) (e : b = b') (j j' : Fin 128) (ej : (j : ℕ) = j') :
    headAt (iblk m c 0 t) (iblk m c 1 t) (iblk m c 2 t) gk r b h j = head m c gk' R b' h' j' := by
  exact headOf_congr (fun d => blk0 m c t r R hR d) (fun d => blk1 m c t d) (fun d k => blk2 m c t d k) hg e (Fin.ext ej)

theorem emb4_0 (t : Fin cfg0.N) (y : S512x1024.Idx) : (((win0_4.blk t).view.emb y 0 : Fin 32768) : ℕ) = t.val * 512 + ((y 0 : Fin 512) : ℕ) := by
  have e := (idxOut t).1
  blk_simp [e]; try omega
theorem emb4_1 (t : Fin cfg0.N) (y : S512x1024.Idx) : (((win0_4.blk t).view.emb y 1 : Fin 1024) : ℕ) = ((y 1 : Fin 1024) : ℕ) := by
  have e := (idxOut t).1
  blk_simp [e]; try omega

theorem left4 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    (outsAt0 m c t).1 y = qRow m c R w := by
  unfold outsAt0
  dsimp only
  rw [out4_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold qRow
  exact congrArg (· * laneFactor) (colAt_eq m c t _ _ hR _ _ _ _ (by omega))

theorem array4 (c : Dev nD) : (dats m 0 c).arrAt 4 cfg0.N = fun j : S32768x1024.Idx => qRow m c (j 0) (j 1) := by
  refine (dats m 0 c).arrAt_eq_of_covers 4 _ (by decide +kernel) fun t hf y => ?_
  rw [after0_4]
  refine (left4 m c t y ⟨t.val * 512 + ((y 0 : Fin 512) : ℕ), by have := (idx t).1; have : ((y 0 : Fin 512) : ℕ) < 512 := (y 0).isLt; omega⟩ (y 1) rfl rfl).trans ?_
  exact congr (congrArg (qRow m c) (Fin.ext (emb4_0 t y).symm)) (Fin.ext (emb4_1 t y).symm)

theorem emb5_0 (t : Fin cfg0.N) (y : S512x1024.Idx) : (((win0_5.blk t).view.emb y 0 : Fin 32768) : ℕ) = t.val * 512 + ((y 0 : Fin 512) : ℕ) := by
  have e := (idxOut t).2.1
  blk_simp [e]; try omega
theorem emb5_1 (t : Fin cfg0.N) (y : S512x1024.Idx) : (((win0_5.blk t).view.emb y 1 : Fin 1024) : ℕ) = ((y 1 : Fin 1024) : ℕ) := by
  have e := (idxOut t).2.1
  blk_simp [e]; try omega

theorem left5 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    (outsAt0 m c t).2.1 y = kRow m c R w := by
  unfold outsAt0
  dsimp only
  rw [out5_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold kRow
  exact colAt_eq m c t _ _ hR _ _ _ _ (by omega)

theorem array5 (c : Dev nD) : (dats m 0 c).arrAt 5 cfg0.N = fun j : S32768x1024.Idx => kRow m c (j 0) (j 1) := by
  refine (dats m 0 c).arrAt_eq_of_covers 5 _ (by decide +kernel) fun t hf y => ?_
  rw [after0_5]
  refine (left5 m c t y ⟨t.val * 512 + ((y 0 : Fin 512) : ℕ), by have := (idx t).1; have : ((y 0 : Fin 512) : ℕ) < 512 := (y 0).isLt; omega⟩ (y 1) rfl rfl).trans ?_
  exact congr (congrArg (kRow m c) (Fin.ext (emb5_0 t y).symm)) (Fin.ext (emb5_1 t y).symm)

theorem emb7_0 (t : Fin cfg0.N) (y : S512x1024.Idx) : (((win0_7.blk t).view.emb y 0 : Fin 32768) : ℕ) = t.val * 512 + ((y 0 : Fin 512) : ℕ) := by
  have e := (idxOut t).2.2.2.1
  blk_simp [e]; try omega
theorem emb7_1 (t : Fin cfg0.N) (y : S512x1024.Idx) : (((win0_7.blk t).view.emb y 1 : Fin 1024) : ℕ) = ((y 1 : Fin 1024) : ℕ) := by
  have e := (idxOut t).2.2.2.1
  blk_simp [e]; try omega

theorem left7 (c : Dev nD) (t : Fin cfg0.N) (y : S512x1024.Idx) (R : Fin 32768) (w : Fin 1024) (hR : (R : ℕ) = t.val * 512 + ((y 0 : Fin 512) : ℕ)) (hw : (w : ℕ) = ((y 1 : Fin 1024) : ℕ)) :
    (outsAt0 m c t).2.2.2.1 y = vRow m c R w := by
  unfold outsAt0
  dsimp only
  rw [out7_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold vRow
  exact colAt_eq m c t _ _ hR _ _ _ _ (by omega)

theorem array7 (c : Dev nD) : (dats m 0 c).arrAt 7 cfg0.N = fun j : S32768x1024.Idx => vRow m c (j 0) (j 1) := by
  refine (dats m 0 c).arrAt_eq_of_covers 7 _ (by decide +kernel) fun t hf y => ?_
  rw [after0_7]
  refine (left7 m c t y ⟨t.val * 512 + ((y 0 : Fin 512) : ℕ), by have := (idx t).1; have : ((y 0 : Fin 512) : ℕ) < 512 := (y 0).isLt; omega⟩ (y 1) rfl rfl).trans ?_
  exact congr (congrArg (vRow m c) (Fin.ext (emb7_0 t y).symm)) (Fin.ext (emb7_1 t y).symm)

theorem emb9_0 (t : Fin cfg0.N) (y : S512x512.Idx) : (((win0_9.blk t).view.emb y 0 : Fin 32768) : ℕ) = t.val * 512 + ((y 0 : Fin 512) : ℕ) := by
  have e := (idxOut t).2.2.2.2.2
  blk_simp [e]; try omega
theorem emb9_1 (t : Fin cfg0.N) (y : S512x512.Idx) : (((win0_9.blk t).view.emb y 1 : Fin 512) : ℕ) = ((y 1 : Fin 512) : ℕ) := by
  have e := (idxOut t).2.2.2.2.2
  blk_simp [e]; try omega

theorem left9 (c : Dev nD) (t : Fin cfg0.N) (y : S512x512.Idx) (R : Fin 32768) (w : Fin 512) (hR : (R : ℕ) = t.val * 512 + ((y 0 : Fin 512) : ℕ)) (hw : (w : ℕ) = ((y 1 : Fin 512) : ℕ)) :
    (outsAt0 m c t).2.2.2.2.2 y = mRow m c R w := by
  unfold outsAt0
  dsimp only
  rw [out9_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold mRow
  exact congrArg (· * headFactor) (headAt_eq m c t _ _ (blk3 m c t) _ _ hR _ _ _ _ (by omega) _ _ (by show _ % 128 = _ % 128; omega))

theorem array9 (c : Dev nD) : (dats m 0 c).arrAt 9 cfg0.N = fun j : S32768x512.Idx => mRow m c (j 0) (j 1) := by
  refine (dats m 0 c).arrAt_eq_of_covers 9 _ (by decide +kernel) fun t hf y => ?_
  rw [after0_9]
  refine (left9 m c t y ⟨t.val * 512 + ((y 0 : Fin 512) : ℕ), by have := (idx t).1; have : ((y 0 : Fin 512) : ℕ) < 512 := (y 0).isLt; omega⟩ (y 1) rfl rfl).trans ?_
  exact congr (congrArg (mRow m c) (Fin.ext (emb9_0 t y).symm)) (Fin.ext (emb9_1 t y).symm)

theorem emb6_1 (t : Fin cfg0.N) (y : S1x512x4x256.Idx) : (((win0_6.blk t).view.emb y 1 : Fin 32768) : ℕ) = t.val * 512 + ((y 1 : Fin 512) : ℕ) := by
  have e := (idxOut t).2.2.1
  blk_simp [e]; try omega
theorem emb6_2 (t : Fin cfg0.N) (y : S1x512x4x256.Idx) : (((win0_6.blk t).view.emb y 2 : Fin 4) : ℕ) = ((y 2 : Fin 4) : ℕ) := by
  have e := (idxOut t).2.2.1
  blk_simp [e]; try omega
theorem emb6_3 (t : Fin cfg0.N) (y : S1x512x4x256.Idx) : (((win0_6.blk t).view.emb y 3 : Fin 256) : ℕ) = ((y 3 : Fin 256) : ℕ) := by
  have e := (idxOut t).2.2.1
  blk_simp [e]; try omega

theorem left6 (c : Dev nD) (t : Fin cfg0.N) (y : S1x512x4x256.Idx) (R : Fin 32768) (hR : (R : ℕ) = t.val * 512 + ((y 1 : Fin 512) : ℕ)) :
    (outsAt0 m c t).2.2.1 y = kRow m c R (lane (y 2) (y 3)) := by
  unfold outsAt0
  dsimp only
  rw [out6_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold kRow lane
  exact colAt_eq m c t _ _ hR _ _ _ _ rfl

/-- The cache after the run: its second slot written, the rest as it stood before. -/
theorem array6 (c : Dev nD) : (dats m 0 c).arrAt 6 cfg0.N
    = fun j : S2x32768x4x256.Idx => if ((j 0 : Fin 2) : ℕ) / 1 = 1 then kRow m c (j 1) (lane (j 2) (j 3)) else V m c main_v5_2 j := by
  refine (dats m 0 c).arrAt_eq_of_coversWhere 6 (fun j : S2x32768x4x256.Idx => kRow m c (j 1) (lane (j 2) (j 3))) (fun β => β (0 : Fin _) = 1) (by decide +kernel) (fun t hf y => ?_) (fun j => Iff.rfl)
  rw [after0_6]
  refine (left6 m c t y ⟨t.val * 512 + ((y 1 : Fin 512) : ℕ), by have := (idx t).1; have : ((y 1 : Fin 512) : ℕ) < 512 := (y 1).isLt; omega⟩ rfl).trans ?_
  exact congr (congrArg (kRow m c) (Fin.ext (emb6_1 t y).symm)) (congr (congrArg lane (Fin.ext (emb6_2 t y).symm)) (Fin.ext (emb6_3 t y).symm))

theorem emb8_1 (t : Fin cfg0.N) (y : S1x512x4x256.Idx) : (((win0_8.blk t).view.emb y 1 : Fin 32768) : ℕ) = t.val * 512 + ((y 1 : Fin 512) : ℕ) := by
  have e := (idxOut t).2.2.2.2.1
  blk_simp [e]; try omega
theorem emb8_2 (t : Fin cfg0.N) (y : S1x512x4x256.Idx) : (((win0_8.blk t).view.emb y 2 : Fin 4) : ℕ) = ((y 2 : Fin 4) : ℕ) := by
  have e := (idxOut t).2.2.2.2.1
  blk_simp [e]; try omega
theorem emb8_3 (t : Fin cfg0.N) (y : S1x512x4x256.Idx) : (((win0_8.blk t).view.emb y 3 : Fin 256) : ℕ) = ((y 3 : Fin 256) : ℕ) := by
  have e := (idxOut t).2.2.2.2.1
  blk_simp [e]; try omega

theorem left8 (c : Dev nD) (t : Fin cfg0.N) (y : S1x512x4x256.Idx) (R : Fin 32768) (hR : (R : ℕ) = t.val * 512 + ((y 1 : Fin 512) : ℕ)) :
    (outsAt0 m c t).2.2.2.2.1 y = vRow m c R (lane (y 2) (y 3)) := by
  unfold outsAt0
  dsimp only
  rw [out8_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold vRow lane
  exact colAt_eq m c t _ _ hR _ _ _ _ rfl

/-- The cache after the run: its second slot written, the rest as it stood before. -/
theorem array8 (c : Dev nD) : (dats m 0 c).arrAt 8 cfg0.N
    = fun j : S2x32768x4x256.Idx => if ((j 0 : Fin 2) : ℕ) / 1 = 1 then vRow m c (j 1) (lane (j 2) (j 3)) else V m c main_v5_4 j := by
  refine (dats m 0 c).arrAt_eq_of_coversWhere 8 (fun j : S2x32768x4x256.Idx => vRow m c (j 1) (lane (j 2) (j 3))) (fun β => β (0 : Fin _) = 1) (by decide +kernel) (fun t hf y => ?_) (fun j => Iff.rfl)
  rw [after0_8]
  refine (left8 m c t y ⟨t.val * 512 + ((y 1 : Fin 512) : ℕ), by have := (idx t).1; have : ((y 1 : Fin 512) : ℕ) < 512 := (y 1).isLt; omega⟩ rfl).trans ?_
  exact congr (congrArg (vRow m c) (Fin.ext (emb8_1 t y).symm)) (congr (congrArg lane (Fin.ext (emb8_2 t y).symm)) (Fin.ext (emb8_3 t y).symm))

end Cert.StickProj

end
-- ==== Proof.StickProjRef.lean ====
/- The stick-breaking layer's projection: the kernel's operands and the reference's results at an index of the arguments, and their equality. -/
module

public import proofs.«01_k».proof.Proof.Gen.Reference4Ideal.Run
public import proofs.«01_k».proof.Proof.LayerRef
public import proofs.«01_k».proof.Proof.StickProjArray
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.StickProj
open Cert.Proj Cert.Ffn Cert.Layer

section Operands
open Cert.Kernel4Ideal Cert.Kernel4Ideal.Gen

variable (m : (ℓ : Loc nD τ sig) → Buf (Elt Ideal) ℓ)

/-- The arguments as functions of an index to the extended reals. -/
abbrev argX (c : Dev nD) : S2x16384x2048.Idx → EReal := m ((c : Thread nD τ).loc main_arg0)
abbrev argG (c : Dev nD) : S2048.Idx → EReal := m ((c : Thread nD τ).loc main_arg1)
abbrev argW (c : Dev nD) : S2048x3584.Idx → EReal := m ((c : Thread nD τ).loc main_arg2)
abbrev argM (c : Dev nD) : S128.Idx → EReal := m ((c : Thread nD τ).loc main_arg3)
abbrev argK (c : Dev nD) : S2x32768x4x256.Idx → EReal := m ((c : Thread nD τ).loc main_arg4)
abbrev argV (c : Dev nD) : S2x32768x4x256.Idx → EReal := m ((c : Thread nD τ).loc main_arg5)

theorem x_at (c : Dev nD) (r : Fin 32768) (d : Fin 2048) :
    (V m c main_v0 (ix2 r d) : EReal) = argX m c (ix3 ⟨(r : ℕ) / 16384, by omega⟩ ⟨(r : ℕ) % 16384, by omega⟩ d) := by
  unfold V
  after_reads_at

theorem g_at (c : Dev nD) (d : Fin 2048) : (V m c main_v3 (ix2 0 d) : EReal) = argG m c (ix1 d) := by
  unfold V
  after_reads_at

theorem w_at (c : Dev nD) (d : Fin 2048) (k : Fin 3584) : (V m c main_v2 (ix3 0 d k) : EReal) = argW m c (ix2 d k) := by
  unfold V
  after_reads_at

theorem m_at (c : Dev nD) (d : Fin 128) : (V m c main_v4 (ix2 0 d) : EReal) = argM m c (ix1 d) := by
  unfold V
  after_reads_at

/-- The caches before the run are the arguments'. -/
theorem kc_at (c : Dev nD) (s : Fin 2) (r : Fin 32768) (h : Fin 4) (d : Fin 256) : (V m c main_v5_2 (ix4 s r h d) : EReal) = argK m c (ix4 s r h d) := by
  unfold V
  after_reads_at
  rfl

theorem vc_at (c : Dev nD) (s : Fin 2) (r : Fin 32768) (h : Fin 4) (d : Fin 256) : (V m c main_v5_4 (ix4 s r h d) : EReal) = argV m c (ix4 s r h d) := by
  unfold V
  after_reads_at
  rfl

/-- Column `j` of row `r`, from the arguments. -/
def colRef (c : Dev nD) (r : Fin 32768) (j : ℕ) (h : j < 3584) : EReal :=
  column (fun d => argX m c (ix3 ⟨(r : ℕ) / 16384, by omega⟩ ⟨(r : ℕ) % 16384, by omega⟩ d)) (fun d => argG m c (ix1 d)) (fun d k => argW m c (ix2 d k)) j h

theorem col_eq (c : Dev nD) (r : Fin 32768) (j j' : ℕ) (h : j < 3584) (h' : j' < 3584) (e : j = j') : col m c r j h = colRef m c r j' h' :=
  column_congr (fun d => x_at m c r d) (fun d => g_at m c d) (fun d k => w_at m c d k) e

theorem head_eq (c : Dev nD) (gk gk' : Fin 128 → EReal) (hg : ∀ d, gk d = gk' d) (r : Fin 32768)
    (o : ℕ) (ho : o + 128 ≤ 3584) (y : Fin 128 → EReal) (j : Fin 128) (hy : ∀ d : Fin 128, y d = colRef m c r (o + (d : ℕ)) (by omega)) :
    head m c gk r o ho j = headed y gk' j :=
  headed_congr (fun d => (col_eq m c r _ _ _ _ rfl).trans (hy d).symm) hg rfl

end Operands

section Value
open Cert.Reference4Ideal Cert.Reference4Ideal.Gen Cert.Reference4Ideal.Facts

variable (x : FVec Ideal S2x16384x2048 .f32) (g : FVec Ideal S2048 .f32) (w : FVec Ideal S2048x3584 .f32) (gm : FVec Ideal S128 .f32) (kc : FVec Ideal S2x32768x4x256 .f32)

/-- Four heads of 256 lanes times the queries' factor. -/
def scaled256 (a : FVec Ideal S2x16384x4x256 .f32) : FVec Ideal S2x16384x4x256 .f32 :=
  mulf a (broadcastInDim S2x16384x4x256 ![] bcast_S_S2x16384x4x256 (constant S_ .f32 0x3D800000#32))

theorem scaled256_at (a : FVec Ideal S2x16384x4x256 .f32) (b : Fin 2) (p : Fin 16384) (h : Fin 4) (j : Fin 256) :
    scaled256 a (ix4 b p h j) = a (ix4 b p h j) * laneFactor := by
  unfold scaled256 laneFactor
  pointwise

/-- A layer's keys or values behind the earlier layer's in a cache. -/
def stacked (kc : FVec Ideal S2x32768x4x256 .f32) (a : FVec Ideal S2x16384x4x256 .f32) : FVec Ideal S2x32768x4x256 .f32 :=
  concatenate S2x32768x4x256 0
    [⟨S1x32768x4x256, broadcastInDim S1x32768x4x256 ![1, 2, 3] bcast_S32768x4x256_S1x32768x4x256_1_2_3 (shapeCast S32768x4x256 (extractStridedSlice S1x32768x4x256 ![0, 0, 0, 0] kc slices_S2x32768x4x256_S1x32768x4x256_0_0_0_0) shapeCasts_S1x32768x4x256_S32768x4x256)⟩,
     ⟨S1x32768x4x256, broadcastInDim S1x32768x4x256 ![1, 2, 3] bcast_S32768x4x256_S1x32768x4x256_1_2_3 (shapeCast S32768x4x256 a shapeCasts_S2x16384x4x256_S32768x4x256)⟩]
    concatenates_S1x32768x4x256_S1x32768x4x256_S2x32768x4x256_d0

theorem first_at (kc : FVec Ideal S2x32768x4x256 .f32) (r : Fin 32768) (h : Fin 4) (d : Fin 256) :
    shapeCast S32768x4x256 (extractStridedSlice S1x32768x4x256 ![0, 0, 0, 0] kc slices_S2x32768x4x256_S1x32768x4x256_0_0_0_0) shapeCasts_S1x32768x4x256_S32768x4x256 (ix3 r h d) = kc (ix4 0 r h d) := by
  pointwise
  try blk_ext
  all_goals omega

theorem second_at (a : FVec Ideal S2x16384x4x256 .f32) (r : Fin 32768) (h : Fin 4) (d : Fin 256) :
    shapeCast S32768x4x256 a shapeCasts_S2x16384x4x256_S32768x4x256 (ix3 r h d) = a (ix4 ⟨(r : ℕ) / 16384, by omega⟩ ⟨(r : ℕ) % 16384, by omega⟩ h d) := by
  pointwise
  try blk_ext
  all_goals omega

theorem stacked_at (kc : FVec Ideal S2x32768x4x256 .f32) (a : FVec Ideal S2x16384x4x256 .f32) (s : Fin 2) (r : Fin 32768) (h : Fin 4) (d : Fin 256) :
    stacked kc a (ix4 s r h d) = if (s : ℕ) < 1 then kc (ix4 0 r h d) else a (ix4 ⟨(r : ℕ) / 16384, by omega⟩ ⟨(r : ℕ) % 16384, by omega⟩ h d) := by
  unfold stacked
  pointwise [first_at, second_at]
  exact dite_eq_ite

theorem split256_at (y : FVec Ideal S2x16384x1024 .f32) (b : Fin 2) (p : Fin 16384) (h : Fin 4) (j : Fin 256) :
    shapeCast S2x16384x4x256 y shapeCasts_S2x16384x1024_S2x16384x4x256 (ix4 b p h j) = y (ix3 b p ⟨(h : ℕ) * 256 + (j : ℕ), by omega⟩) := by
  pointwise
  try blk_ext
  all_goals omega

theorem rows256_at (a : FVec Ideal S2x16384x4x256 .f32) (r : Fin 32768) (w : Fin 1024) :
    shapeCast S32768x1024 a shapeCasts_S2x16384x4x256_S32768x1024 (ix2 r w)
      = a (ix4 ⟨(r : ℕ) / 16384, by omega⟩ ⟨(r : ℕ) % 16384, by omega⟩ ⟨(w : ℕ) / 256, by omega⟩ ⟨(w : ℕ) % 256, by omega⟩) := by
  pointwise
  try blk_ext
  all_goals omega

/-- The reference's queries, keys, values and memory queries, and its caches. -/
def refQ : FVec Ideal S32768x1024 .f32 := shapeCast _ (scaled256 (shapeCast _ (prodQ x g w) shapeCasts_S2x16384x1024_S2x16384x4x256)) shapeCasts_S2x16384x4x256_S32768x1024
def refK : FVec Ideal S32768x1024 .f32 := shapeCast _ (shapeCast S2x16384x4x256 (prodK x g w) shapeCasts_S2x16384x1024_S2x16384x4x256) shapeCasts_S2x16384x4x256_S32768x1024
def refKc : FVec Ideal S2x32768x4x256 .f32 := stacked kc (shapeCast S2x16384x4x256 (prodK x g w) shapeCasts_S2x16384x1024_S2x16384x4x256)
def refV : FVec Ideal S32768x1024 .f32 := shapeCast _ (shapeCast S2x16384x4x256 (prodV x g w) shapeCasts_S2x16384x1024_S2x16384x4x256) shapeCasts_S2x16384x4x256_S32768x1024
def refVc : FVec Ideal S2x32768x4x256 .f32 := stacked kc (shapeCast S2x16384x4x256 (prodV x g w) shapeCasts_S2x16384x1024_S2x16384x4x256)
def refM : FVec Ideal S32768x512 .f32 := shapeCast _ (scaled4 (shapeCast _ (prodM x g w) shapeCasts_S2x16384x512_S2x16384x4x128) gm) shapeCasts_S2x16384x4x128_S32768x512

end Value

section Equality
open Cert.Kernel4Ideal Cert.Kernel4Ideal.Gen

variable (m : (ℓ : Loc nD τ sig) → Buf (Elt Ideal) ℓ)

theorem refQ_eq (c : Dev nD) (r : Fin 32768) (w : Fin 1024) : qRow m c r w = refQ (argX m c) (argG m c) (argW m c) (ix2 r w) := by
  unfold refQ qRow
  rw [rows256_at, scaled256_at, split256_at, prodQ_at]
  exact congrArg (· * laneFactor) (col_eq m c r _ _ _ _ (by show _ = 0 + ((w : ℕ) / 256 * 256 + (w : ℕ) % 256); omega))

theorem refK_eq (c : Dev nD) (r : Fin 32768) (w : Fin 1024) : kRow m c r w = refK (argX m c) (argG m c) (argW m c) (ix2 r w) := by
  unfold refK kRow
  rw [rows256_at, split256_at, prodK_at]
  exact col_eq m c r _ _ _ _ (by show _ = 1024 + ((w : ℕ) / 256 * 256 + (w : ℕ) % 256); omega)

theorem refV_eq (c : Dev nD) (r : Fin 32768) (w : Fin 1024) : vRow m c r w = refV (argX m c) (argG m c) (argW m c) (ix2 r w) := by
  unfold refV vRow
  rw [rows256_at, split256_at, prodV_at]
  exact col_eq m c r _ _ _ _ (by show _ = 2048 + ((w : ℕ) / 256 * 256 + (w : ℕ) % 256); omega)

theorem refM_eq (c : Dev nD) (r : Fin 32768) (w : Fin 512) : mRow m c r w = refM (argX m c) (argG m c) (argW m c) (argM m c) (ix2 r w) := by
  unfold refM mRow
  rw [rows4_at, scaled4_at]
  refine congrArg (· * headFactor) ?_
  refine head_eq m c _ _ (m_at m c) r _ _ _ _ fun d => ?_
  rw [split4_at, prodM_at]
  exact column_congr (fun _ => rfl) (fun _ => rfl) (fun _ _ => rfl) (by show _ + ((w : ℕ) / 128 * 128 + (d : ℕ)) = _; omega)

theorem refKc_eq (c : Dev nD) (s : Fin 2) (r : Fin 32768) (h : Fin 4) (d : Fin 256) :
    (if (s : ℕ) / 1 = 1 then kRow m c r (lane h d) else (V m c main_v5_2 (ix4 s r h d) : EReal)) = refKc (argX m c) (argG m c) (argW m c) (argK m c) (ix4 s r h d) := by
  unfold refKc
  rw [stacked_at]
  by_cases hs : (s : ℕ) < 1
  · obtain rfl : s = 0 := Fin.ext (by show (s : ℕ) = 0; omega)
    rw [if_neg (by omega), if_pos hs]
    exact kc_at m c 0 r h d
  · rw [if_pos (by omega), if_neg hs, split256_at, prodK_at]
    exact col_eq m c r _ _ _ _ rfl

theorem refVc_eq (c : Dev nD) (s : Fin 2) (r : Fin 32768) (h : Fin 4) (d : Fin 256) :
    (if (s : ℕ) / 1 = 1 then vRow m c r (lane h d) else (V m c main_v5_4 (ix4 s r h d) : EReal)) = refVc (argX m c) (argG m c) (argW m c) (argV m c) (ix4 s r h d) := by
  unfold refVc
  rw [stacked_at]
  by_cases hs : (s : ℕ) < 1
  · obtain rfl : s = 0 := Fin.ext (by show (s : ℕ) = 0; omega)
    rw [if_neg (by omega), if_pos hs]
    exact vc_at m c 0 r h d
  · rw [if_pos (by omega), if_neg hs, split256_at, prodV_at]
    exact col_eq m c r _ _ _ _ rfl

theorem refQ_all (c : Dev nD) : (fun j : S32768x1024.Idx => qRow m c (j 0) (j 1)) = refQ (argX m c) (argG m c) (argW m c) := by
  funext j
  have hj : j = ix2 (j 0) (j 1) := by
    funext a
    match a with
    | ⟨0, _⟩ => rfl
    | ⟨1, _⟩ => rfl
  exact (refQ_eq m c (j 0) (j 1)).trans (congrArg (refQ (argX m c) (argG m c) (argW m c)) hj.symm)

theorem refK_all (c : Dev nD) : (fun j : S32768x1024.Idx => kRow m c (j 0) (j 1)) = refK (argX m c) (argG m c) (argW m c) := by
  funext j
  have hj : j = ix2 (j 0) (j 1) := by
    funext a
    match a with
    | ⟨0, _⟩ => rfl
    | ⟨1, _⟩ => rfl
  exact (refK_eq m c (j 0) (j 1)).trans (congrArg (refK (argX m c) (argG m c) (argW m c)) hj.symm)

theorem refV_all (c : Dev nD) : (fun j : S32768x1024.Idx => vRow m c (j 0) (j 1)) = refV (argX m c) (argG m c) (argW m c) := by
  funext j
  have hj : j = ix2 (j 0) (j 1) := by
    funext a
    match a with
    | ⟨0, _⟩ => rfl
    | ⟨1, _⟩ => rfl
  exact (refV_eq m c (j 0) (j 1)).trans (congrArg (refV (argX m c) (argG m c) (argW m c)) hj.symm)

theorem refM_all (c : Dev nD) : (fun j : S32768x512.Idx => mRow m c (j 0) (j 1)) = refM (argX m c) (argG m c) (argW m c) (argM m c) := by
  funext j
  have hj : j = ix2 (j 0) (j 1) := by
    funext a
    match a with
    | ⟨0, _⟩ => rfl
    | ⟨1, _⟩ => rfl
  exact (refM_eq m c (j 0) (j 1)).trans (congrArg (refM (argX m c) (argG m c) (argW m c) (argM m c)) hj.symm)

theorem refKc_all (c : Dev nD) : (fun j : S2x32768x4x256.Idx => if ((j 0 : Fin 2) : ℕ) / 1 = 1 then kRow m c (j 1) (lane (j 2) (j 3)) else (V m c main_v5_2 j : EReal)) = refKc (argX m c) (argG m c) (argW m c) (argK m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  refine Eq.trans ?_ ((refKc_eq m c (j 0) (j 1) (j 2) (j 3)).trans (congrArg (refKc (argX m c) (argG m c) (argW m c) (argK m c)) hj.symm))
  exact if_congr Iff.rfl rfl (congrArg (V m c main_v5_2) hj)

theorem refVc_all (c : Dev nD) : (fun j : S2x32768x4x256.Idx => if ((j 0 : Fin 2) : ℕ) / 1 = 1 then vRow m c (j 1) (lane (j 2) (j 3)) else (V m c main_v5_4 j : EReal)) = refVc (argX m c) (argG m c) (argW m c) (argV m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  refine Eq.trans ?_ ((refVc_eq m c (j 0) (j 1) (j 2) (j 3)).trans (congrArg (refVc (argX m c) (argG m c) (argW m c) (argV m c)) hj.symm))
  exact if_congr Iff.rfl rfl (congrArg (V m c main_v5_4) hj)

end Equality

end Cert.StickProj

end
-- ==== Proof.MergeBlock.lean ====
/- What the merge leaves in its block, entry by entry: the attention to the memory, and the product that follows it. -/
module

public import proofs.«01_k».proof.Proof.Gen.Kernel6Ideal.Value
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.Merge
open Cert.Kernel6Ideal Cert.Kernel6Ideal.Gen

theorem negInf : Ideal.ofBits FTy.f32 4286578688#32 = (⊥ : EReal) := by
  simp [Ideal.ofBits, Ideal.ieee]

/-- The score of a query against key `y` of the memory. -/
def scoreOf (q : Fin 128 → EReal) (k : Fin 256 → Fin 128 → EReal) (y : Fin 256) : EReal := ∑ d, q d * k y d

/-- The exponential of a score below the greatest one. -/
def weightOf (q : Fin 128 → EReal) (k : Fin 256 → Fin 128 → EReal) (y : Fin 256) : EReal :=
  Ideal.exp (scoreOf q k y - Finset.univ.fold max ⊥ (scoreOf q k))

/-- A query's attention to the memory: the weighted values, divided at the end by the sum of the weights. -/
def attend (q : Fin 128 → EReal) (k : Fin 256 → Fin 128 → EReal) (v : Fin 256 → EReal) : EReal :=
  Ideal.div (∑ y, weightOf q k y * v y) (∑ y, weightOf q k y)

theorem attend_congr {q q' : Fin 128 → EReal} {k k' : Fin 256 → Fin 128 → EReal} {v v' : Fin 256 → EReal}
    (hq : ∀ d, q d = q' d) (hk : ∀ y d, k y d = k' y d) (hv : ∀ y, v y = v' y) : attend q k v = attend q' k' v' := by
  obtain rfl : q = q' := funext hq
  obtain rfl : k = k' := funext fun y => funext (hk y)
  obtain rfl : v = v' := funext hv
  rfl

theorem head0_at (q : Vec Ideal S1x512x128 .bf16) (k v : Vec Ideal S1x256x128 .bf16) (i : S512x128.Idx) :
    k0_pay3 q k v i = attend (fun d => q (ix3 0 (i 0) d)) (fun y d => k (ix3 0 y d)) (fun y => v (ix3 0 y (i 1))) := by
  pointwise [k0_pay3, attend, weightOf, scoreOf, negInf]
  try rfl

theorem head1_at (q : Vec Ideal S1x512x128 .bf16) (k v : Vec Ideal S1x256x128 .bf16) (i : S512x128.Idx) :
    k0_pay5 (k0_pay2 q k) v i = attend (fun d => q (ix3 0 (i 0) d)) (fun y d => k (ix3 0 y d)) (fun y => v (ix3 0 y (i 1))) := by
  pointwise [k0_pay5, k0_pay2, attend, weightOf, scoreOf, negInf]
  try rfl

theorem head2_at (q : Vec Ideal S1x512x128 .bf16) (k v : Vec Ideal S1x256x128 .bf16) (i : S512x128.Idx) :
    k0_pay10 (k0_pay8 (k0_pay4 q) k v) (k0_pay9 (k0_pay4 q) k) i = attend (fun d => q (ix3 0 (i 0) d)) (fun y d => k (ix3 0 y d)) (fun y => v (ix3 0 y (i 1))) := by
  pointwise [k0_pay10, k0_pay8, k0_pay9, k0_pay7, k0_pay4, attend, weightOf, scoreOf, negInf]
  try rfl

theorem head3_at (q : Vec Ideal S1x512x128 .bf16) (k v : Vec Ideal S1x256x128 .bf16) (i : S512x128.Idx) :
    k0_pay11 (k0_pay6 q k) v i = attend (fun d => q (ix3 0 (i 0) d)) (fun y d => k (ix3 0 y d)) (fun y => v (ix3 0 y (i 1))) := by
  pointwise [k0_pay11, k0_pay6, attend, weightOf, scoreOf, negInf]
  try rfl

theorem idx_eq (i : S1x512x2048.Idx) : i = ix3 0 (i 1) (i 2) := by
  funext a
  match a with
  | ⟨0, _⟩ => exact Subsingleton.elim (α := Fin 1) _ _
  | ⟨1, _⟩ => rfl
  | ⟨2, _⟩ => rfl

theorem sum_at (t : Vec Ideal S1x512x1024 .bf16) (w : Vec Ideal S1x1024x2048 .bf16) (a : Vec Ideal S512x512 .bf16) (w' : Vec Ideal S1x512x2048 .bf16) (x : Vec Ideal S1x512x2048 .f32) (i : S1x512x2048.Idx) :
    k0_pay1 (k0_pay12 t w a w') x i
      = x (ix3 0 (i 1) (i 2)) + ((∑ d : Fin 1024, t (ix3 0 (i 1) d) * w (ix3 0 d (i 2))) + ∑ d : Fin 512, a (ix2 (i 1) d) * w' (ix3 0 d (i 2))) := by
  pointwise [k0_pay1, k0_pay12]
  exact congrArg (fun z => x z + _) (idx_eq i)

section Block
variable (x0 : Vec Ideal S1x512x2048 .f32) (x1 : Vec Ideal S1x512x1024 .bf16) (x2 : Vec Ideal S1x512x512 .bf16) (x3 x4 : Vec Ideal S1x256x512 .bf16) (x5 : Vec Ideal S1x1536x2048 .bf16)

theorem ldx (r : Fin 512) (d : Fin 2048) : View.ld x0 (Rect.unit (s := S1x512x2048) ![0, 0, 0] S1x512x2048.size inb_S1x512x2048_S1x512x2048_0_0_0) (ix3 0 r d) = x0 (ix3 0 r d) := by
  pointwise; try blk_ext
theorem ldt (r : Fin 512) (d : Fin 1024) : View.ld x1 (Rect.unit (s := S1x512x1024) ![0, 0, 0] S1x512x1024.size inb_S1x512x1024_S1x512x1024_0_0_0) (ix3 0 r d) = x1 (ix3 0 r d) := by
  pointwise; try blk_ext
theorem ldw (d : Fin 1024) (n : Fin 2048) : View.ld x5 (Rect.unit (s := S1x1536x2048) ![0, 0, 0] S1x1024x2048.size inb_S1x1536x2048_S1x1024x2048_0_0_0) (ix3 0 d n) = x5 (ix3 0 ⟨(d : ℕ), by omega⟩ n) := by
  pointwise; try blk_ext
theorem ldw' (d : Fin 512) (n : Fin 2048) : View.ld x5 (Rect.unit (s := S1x1536x2048) ![0, 1024, 0] S1x512x2048.size inb_S1x1536x2048_S1x512x2048_0_1024_0) (ix3 0 d n) = x5 (ix3 0 ⟨1024 + (d : ℕ), by omega⟩ n) := by
  pointwise; try blk_ext
theorem ldm (a : Vec Ideal S512x512 .bf16) (r w : Fin 512) : View.ld a (Rect.unit (s := S512x512) ![0, 0] S512x512.size inb_S512x512_S512x512_0_0) (ix2 r w) = a (ix2 r w) := by
  pointwise; try blk_ext
theorem ldq0 (r : Fin 512) (d : Fin 128) : View.ld x2 (Rect.unit (s := S1x512x512) ![0, 0, 0] S1x512x128.size inb_S1x512x512_S1x512x128_0_0_0) (ix3 0 r d) = x2 (ix3 0 r ⟨0 * 128 + (d : ℕ), by omega⟩) := by
  pointwise; try blk_ext
theorem ldk0 (a : Vec Ideal S1x256x512 .bf16) (y : Fin 256) (d : Fin 128) : View.ld a (Rect.unit (s := S1x256x512) ![0, 0, 0] S1x256x128.size inb_S1x256x512_S1x256x128_0_0_0) (ix3 0 y d) = a (ix3 0 y ⟨0 * 128 + (d : ℕ), by omega⟩) := by
  pointwise; try blk_ext
theorem ldq1 (r : Fin 512) (d : Fin 128) : View.ld x2 (Rect.unit (s := S1x512x512) ![0, 0, 128] S1x512x128.size inb_S1x512x512_S1x512x128_0_0_128) (ix3 0 r d) = x2 (ix3 0 r ⟨1 * 128 + (d : ℕ), by omega⟩) := by
  pointwise; try blk_ext
theorem ldk1 (a : Vec Ideal S1x256x512 .bf16) (y : Fin 256) (d : Fin 128) : View.ld a (Rect.unit (s := S1x256x512) ![0, 0, 128] S1x256x128.size inb_S1x256x512_S1x256x128_0_0_128) (ix3 0 y d) = a (ix3 0 y ⟨1 * 128 + (d : ℕ), by omega⟩) := by
  pointwise; try blk_ext
theorem ldq2 (r : Fin 512) (d : Fin 128) : View.ld x2 (Rect.unit (s := S1x512x512) ![0, 0, 256] S1x512x128.size inb_S1x512x512_S1x512x128_0_0_256) (ix3 0 r d) = x2 (ix3 0 r ⟨2 * 128 + (d : ℕ), by omega⟩) := by
  pointwise; try blk_ext
theorem ldk2 (a : Vec Ideal S1x256x512 .bf16) (y : Fin 256) (d : Fin 128) : View.ld a (Rect.unit (s := S1x256x512) ![0, 0, 256] S1x256x128.size inb_S1x256x512_S1x256x128_0_0_256) (ix3 0 y d) = a (ix3 0 y ⟨2 * 128 + (d : ℕ), by omega⟩) := by
  pointwise; try blk_ext
theorem ldq3 (r : Fin 512) (d : Fin 128) : View.ld x2 (Rect.unit (s := S1x512x512) ![0, 0, 384] S1x512x128.size inb_S1x512x512_S1x512x128_0_0_384) (ix3 0 r d) = x2 (ix3 0 r ⟨3 * 128 + (d : ℕ), by omega⟩) := by
  pointwise; try blk_ext
theorem ldk3 (a : Vec Ideal S1x256x512 .bf16) (y : Fin 256) (d : Fin 128) : View.ld a (Rect.unit (s := S1x256x512) ![0, 0, 384] S1x256x128.size inb_S1x256x512_S1x256x128_0_0_384) (ix3 0 y d) = a (ix3 0 y ⟨3 * 128 + (d : ℕ), by omega⟩) := by
  pointwise; try blk_ext

/-- The attention to the memory at row `r` and lane `w` of a block: the head is `w / 128`. -/
def memAt (r w : Fin 512) : EReal :=
  attend (fun d => x2 (ix3 0 r ⟨(w : ℕ) / 128 * 128 + (d : ℕ), by omega⟩)) (fun y d => x3 (ix3 0 y ⟨(w : ℕ) / 128 * 128 + (d : ℕ), by omega⟩))
    (fun y => x4 (ix3 0 y w))

/-- One head's attention is the lanes `128 n … 128 n + 127` of the formula, once its loads are those lanes. -/
theorem head_tile (n : ℕ) (hn : n < 4) (q : Vec Ideal S1x512x128 .bf16) (k v : Vec Ideal S1x256x128 .bf16)
    (hq : ∀ r d, q (ix3 0 r d) = x2 (ix3 0 r ⟨n * 128 + (d : ℕ), by omega⟩))
    (hk : ∀ y d, k (ix3 0 y d) = x3 (ix3 0 y ⟨n * 128 + (d : ℕ), by omega⟩))
    (hv : ∀ y d, v (ix3 0 y d) = x4 (ix3 0 y ⟨n * 128 + (d : ℕ), by omega⟩))
    (x : S512x128.Idx) (r w : Fin 512) (hr : (r : ℕ) = x 0) (hw : (w : ℕ) = n * 128 + (x 1 : ℕ)) :
    attend (fun d => q (ix3 0 (x 0) d)) (fun y d => k (ix3 0 y d)) (fun y => v (ix3 0 y (x 1))) = memAt x2 x3 x4 r w := by
  obtain rfl : r = x 0 := Fin.ext hr
  have hx : (x 1 : ℕ) < 128 := (x 1).isLt
  unfold memAt
  refine attend_congr (fun d => (hq _ _).trans ?_) (fun y d => (hk _ _).trans ?_) (fun y => (hv _ _).trans ?_)
  · exact congrArg (fun z => x2 (ix3 0 (x 0) z)) (Fin.ext (by show n * 128 + (d : ℕ) = (w : ℕ) / 128 * 128 + (d : ℕ); omega))
  · exact congrArg (fun z => x3 (ix3 0 y z)) (Fin.ext (by show n * 128 + (d : ℕ) = (w : ℕ) / 128 * 128 + (d : ℕ); omega))
  · exact congrArg (fun z => x4 (ix3 0 y z)) (Fin.ext hw.symm)

/-- The merged block at row `r` and column `n`. -/
def outAt (r : Fin 512) (n : Fin 2048) : EReal :=
  x0 (ix3 0 r n) + ((∑ d : Fin 1024, x1 (ix3 0 r d) * x5 (ix3 0 ⟨(d : ℕ), by omega⟩ n)) + ∑ d : Fin 512, memAt x2 x3 x4 r d * x5 (ix3 0 ⟨1024 + (d : ℕ), by omega⟩ n))

/-- The four heads' attention as the body reads it back. -/
theorem mem_at (a : Memref sig .tc .vmem S512x512 .bf16) (r w : Fin 512) :
    a.view.readCov (Val := Elt Ideal) [⟨Rect.unit (s := S512x512) ![0, 384] S512x128.size inb_S512x512_S512x128_0_384, k0_pay11 (k0_pay6 (View.ld x2 (Rect.unit (s := S1x512x512) ![0, 0, 384] S1x512x128.size inb_S1x512x512_S1x512x128_0_0_384)) (View.ld x3 (Rect.unit (s := S1x256x512) ![0, 0, 384] S1x256x128.size inb_S1x256x512_S1x256x128_0_0_384))) (View.ld x4 (Rect.unit (s := S1x256x512) ![0, 0, 384] S1x256x128.size inb_S1x256x512_S1x256x128_0_0_384))⟩,
      ⟨Rect.unit (s := S512x512) ![0, 256] S512x128.size inb_S512x512_S512x128_0_256, k0_pay10 (k0_pay8 (k0_pay4 (View.ld x2 (Rect.unit (s := S1x512x512) ![0, 0, 256] S1x512x128.size inb_S1x512x512_S1x512x128_0_0_256))) (View.ld x3 (Rect.unit (s := S1x256x512) ![0, 0, 256] S1x256x128.size inb_S1x256x512_S1x256x128_0_0_256)) (View.ld x4 (Rect.unit (s := S1x256x512) ![0, 0, 256] S1x256x128.size inb_S1x256x512_S1x256x128_0_0_256))) (k0_pay9 (k0_pay4 (View.ld x2 (Rect.unit (s := S1x512x512) ![0, 0, 256] S1x512x128.size inb_S1x512x512_S1x512x128_0_0_256))) (View.ld x3 (Rect.unit (s := S1x256x512) ![0, 0, 256] S1x256x128.size inb_S1x256x512_S1x256x128_0_0_256)))⟩,
      ⟨Rect.unit (s := S512x512) ![0, 128] S512x128.size inb_S512x512_S512x128_0_128, k0_pay5 (k0_pay2 (View.ld x2 (Rect.unit (s := S1x512x512) ![0, 0, 128] S1x512x128.size inb_S1x512x512_S1x512x128_0_0_128)) (View.ld x3 (Rect.unit (s := S1x256x512) ![0, 0, 128] S1x256x128.size inb_S1x256x512_S1x256x128_0_0_128))) (View.ld x4 (Rect.unit (s := S1x256x512) ![0, 0, 128] S1x256x128.size inb_S1x256x512_S1x256x128_0_0_128))⟩,
      ⟨Rect.unit (s := S512x512) ![0, 0] S512x128.size inb_S512x512_S512x128_0_0, k0_pay3 (View.ld x2 (Rect.unit (s := S1x512x512) ![0, 0, 0] S1x512x128.size inb_S1x512x512_S1x512x128_0_0_0)) (View.ld x3 (Rect.unit (s := S1x256x512) ![0, 0, 0] S1x256x128.size inb_S1x256x512_S1x256x128_0_0_0)) (View.ld x4 (Rect.unit (s := S1x256x512) ![0, 0, 0] S1x256x128.size inb_S1x256x512_S1x256x128_0_0_0))⟩]
      (Rect.unit (s := S512x512) ![0, 0] S512x512.size inb_S512x512_S512x512_0_0).toLoadRect (ix2 r w) = memAt x2 x3 x4 r w := by
  refine (congrFun (View.readCov_eq_canon' _ _ _) _).trans ((ldm (View.canon _) r w).trans ?_)
  canon_tiles x e
  · exact (head3_at _ _ _ x).trans (head_tile x2 x3 x4 3 (by omega) _ _ _ (ldq3 x2) (ldk3 x3) (ldk3 x4) x r w e0 (by have e' : (w : ℕ) = _ := e1; omega))
  · exact (head2_at _ _ _ x).trans (head_tile x2 x3 x4 2 (by omega) _ _ _ (ldq2 x2) (ldk2 x3) (ldk2 x4) x r w e0 (by have e' : (w : ℕ) = _ := e1; omega))
  · exact (head1_at _ _ _ x).trans (head_tile x2 x3 x4 1 (by omega) _ _ _ (ldq1 x2) (ldk1 x3) (ldk1 x4) x r w e0 (by have e' : (w : ℕ) = _ := e1; omega))
  · exact (head0_at _ _ _ x).trans (head_tile x2 x3 x4 0 (by omega) _ _ _ (ldq0 x2) (ldk0 x3) (ldk0 x4) x r w e0 (by have e' : (w : ℕ) = _ := e1; omega))

variable (c : Dev nD) (i : grid0.Coords)

theorem out_at a0 h0 a1 h1 a2 h2 a3 h3 a4 h4 a5 h5 a6 h6 a7 h7 (y : S1x512x2048.Idx) :
    out0_A_6 c i a0 h0 a1 h1 a2 h2 a3 h3 a4 h4 a5 h5 a6 h6 a7 h7 x0 x1 x2 x3 x4 x5 y = outAt x0 x1 x2 x3 x4 x5 (y 1) (y 2) := by
  unfold out0_A_6
  rw [View.read_writes_junk_eq_canon]
  unfold kernelRun0_A
  dsimp only
  sl_unfold_words
  simp only [View.readAt_eq_ld, h0.read_unread, h1.read_unread, h2.read_unread, h3.read_unread, h4.read_unread, h5.read_unread]
  canon_tiles x e
  obtain rfl : x = y := by
    funext a
    match a with
    | ⟨0, _⟩ => exact Fin.ext e0.symm
    | ⟨1, _⟩ => exact Fin.ext e1.symm
    | ⟨2, _⟩ => exact Fin.ext e2.symm
  refine (sum_at _ _ _ _ _ x).trans ?_
  unfold outAt
  refine congr (congrArg HAdd.hAdd (ldx x0 _ _)) (congr (congrArg HAdd.hAdd (Finset.sum_congr rfl fun d _ => ?_)) (Finset.sum_congr rfl fun d _ => ?_))
  · exact congr (congrArg HMul.hMul (ldt x1 _ _)) (ldw x5 _ _)
  · exact congr (congrArg HMul.hMul (mem_at x2 x3 x4 a7 _ _)) (ldw' x5 _ _)

end Block

end Cert.Merge

end
-- ==== Proof.MergeArray.lean ====
/- The merge: its whole array after its run, as a formula of the operands in memory. -/
module

public import proofs.«01_k».proof.Proof.MergeBlock
public import Idealize.ShloMosaic.Lib.Pipeline.ValueKit.Partial
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Merge
open Cert.Kernel6Ideal Cert.Kernel6Ideal.Gen

variable (m : (ℓ : Loc nD τ sig) → Buf (Elt Ideal) ℓ)

theorem idx : ∀ t : Fin cfg0.N, t.val < 64 ∧ win0_0.index t = ![t.val / 32, t.val % 32, 0] ∧ win0_1.index t = ![t.val / 32, t.val % 32, 0] ∧ win0_2.index t = ![t.val / 32, t.val % 32, 0]
    ∧ win0_3.index t = ![t.val / 32, 0, 0] ∧ win0_4.index t = ![t.val / 32, 0, 0] ∧ win0_5.index t = ![0, 0, 0] ∧ win0_6.index t = ![t.val / 32, t.val % 32, 0] :=
  (by decide +kernel : ∀ t : Fin grid0.N, _)

theorem blk0 (c : Dev nD) (t : Fin cfg0.N) (b : Fin 2) (hb : (b : ℕ) = t.val / 32) (r : Fin 512) (R : Fin 16384) (hR : (R : ℕ) = t.val % 32 * 512 + (r : ℕ)) (d : Fin 2048) :
    iblk m c 0 t (ix3 0 r d) = V m c main_arg0 (ix3 b R d) := by
  have e : win0_0.index t = _ := (idx t).2.1
  have e0 : win0_0.index t 0 = t.val / 32 := congrFun e 0
  have e1 : win0_0.index t 1 = t.val % 32 := congrFun e 1
  have e2 : win0_0.index t 2 = 0 := congrFun e 2
  blk_simp [iblk]
  blk_ext
  all_goals omega

theorem blk1 (c : Dev nD) (t : Fin cfg0.N) (b : Fin 2) (hb : (b : ℕ) = t.val / 32) (r : Fin 512) (R : Fin 16384) (hR : (R : ℕ) = t.val % 32 * 512 + (r : ℕ)) (d : Fin 1024) :
    iblk m c 1 t (ix3 0 r d) = V m c main_v0 (ix3 b R d) := by
  have e : win0_1.index t = _ := (idx t).2.2.1
  have e0 : win0_1.index t 0 = t.val / 32 := congrFun e 0
  have e1 : win0_1.index t 1 = t.val % 32 := congrFun e 1
  have e2 : win0_1.index t 2 = 0 := congrFun e 2
  blk_simp [iblk]
  blk_ext
  all_goals omega

theorem blk2 (c : Dev nD) (t : Fin cfg0.N) (b : Fin 2) (hb : (b : ℕ) = t.val / 32) (r : Fin 512) (R : Fin 16384) (hR : (R : ℕ) = t.val % 32 * 512 + (r : ℕ)) (d : Fin 512) :
    iblk m c 2 t (ix3 0 r d) = V m c main_v1 (ix3 b R d) := by
  have e : win0_2.index t = _ := (idx t).2.2.2.1
  have e0 : win0_2.index t 0 = t.val / 32 := congrFun e 0
  have e1 : win0_2.index t 1 = t.val % 32 := congrFun e 1
  have e2 : win0_2.index t 2 = 0 := congrFun e 2
  blk_simp [iblk]
  blk_ext
  all_goals omega

theorem blk3 (c : Dev nD) (t : Fin cfg0.N) (b : Fin 2) (hb : (b : ℕ) = t.val / 32) (y : Fin 256) (d : Fin 512) :
    iblk m c 3 t (ix3 0 y d) = V m c main_v2 (ix3 b y d) := by
  have e : win0_3.index t = _ := (idx t).2.2.2.2.1
  have e0 : win0_3.index t 0 = t.val / 32 := congrFun e 0
  have e1 : win0_3.index t 1 = 0 := congrFun e 1
  have e2 : win0_3.index t 2 = 0 := congrFun e 2
  blk_simp [iblk]
  blk_ext
  all_goals omega

theorem blk4 (c : Dev nD) (t : Fin cfg0.N) (b : Fin 2) (hb : (b : ℕ) = t.val / 32) (y : Fin 256) (d : Fin 512) :
    iblk m c 4 t (ix3 0 y d) = V m c main_v3 (ix3 b y d) := by
  have e : win0_4.index t = _ := (idx t).2.2.2.2.2.1
  have e0 : win0_4.index t 0 = t.val / 32 := congrFun e 0
  have e1 : win0_4.index t 1 = 0 := congrFun e 1
  have e2 : win0_4.index t 2 = 0 := congrFun e 2
  blk_simp [iblk]
  blk_ext
  all_goals omega

theorem blk5 (c : Dev nD) (t : Fin cfg0.N) (r : Fin 1536) (d : Fin 2048) :
    iblk m c 5 t (ix3 0 r d) = V m c main_v5 (ix3 0 r d) := by
  have e : win0_5.index t = _ := (idx t).2.2.2.2.2.2.1
  have e0 : win0_5.index t 0 = 0 := congrFun e 0
  have e1 : win0_5.index t 1 = 0 := congrFun e 1
  have e2 : win0_5.index t 2 = 0 := congrFun e 2
  blk_simp [iblk]
  blk_ext
  all_goals omega

/-- The arguments as functions of an index to the extended reals. -/
abbrev argX (c : Dev nD) : S2x16384x2048.Idx → EReal := m ((c : Thread nD τ).loc main_arg0)
abbrev argT (c : Dev nD) : S2x16384x1024.Idx → EReal := m ((c : Thread nD τ).loc main_arg1)
abbrev argQ (c : Dev nD) : S2x16384x512.Idx → EReal := m ((c : Thread nD τ).loc main_arg2)
abbrev argK (c : Dev nD) : S2x256x512.Idx → EReal := m ((c : Thread nD τ).loc main_arg3)
abbrev argV (c : Dev nD) : S2x256x512.Idx → EReal := m ((c : Thread nD τ).loc main_arg4)
abbrev argW (c : Dev nD) : S1536x2048.Idx → EReal := m ((c : Thread nD τ).loc main_arg5)

theorem x_at (c : Dev nD) (b : Fin 2) (r : Fin 16384) (d : Fin 2048) : (V m c main_arg0 (ix3 b r d) : EReal) = argX m c (ix3 b r d) := by
  unfold V
  after_reads_at

theorem t_at (c : Dev nD) (b : Fin 2) (r : Fin 16384) (d : Fin 1024) : (V m c main_v0 (ix3 b r d) : EReal) = argT m c (ix3 b r d) := by
  unfold V
  after_reads_at

theorem q_at (c : Dev nD) (b : Fin 2) (r : Fin 16384) (d : Fin 512) : (V m c main_v1 (ix3 b r d) : EReal) = argQ m c (ix3 b r d) := by
  unfold V
  after_reads_at

theorem k_at (c : Dev nD) (b : Fin 2) (y : Fin 256) (d : Fin 512) : (V m c main_v2 (ix3 b y d) : EReal) = argK m c (ix3 b y d) := by
  unfold V
  after_reads_at

theorem v_at (c : Dev nD) (b : Fin 2) (y : Fin 256) (d : Fin 512) : (V m c main_v3 (ix3 b y d) : EReal) = argV m c (ix3 b y d) := by
  unfold V
  after_reads_at

theorem w_at (c : Dev nD) (d : Fin 1536) (n : Fin 2048) : (V m c main_v5 (ix3 0 d n) : EReal) = argW m c (ix2 d n) := by
  unfold V
  after_reads_at

/-- The attention to the memory at row `r` of batch `b` and lane `w`: the head is `w / 128`. -/
def memRow (c : Dev nD) (b : Fin 2) (r : Fin 16384) (w : Fin 512) : EReal :=
  attend (fun d => argQ m c (ix3 b r ⟨(w : ℕ) / 128 * 128 + (d : ℕ), by omega⟩)) (fun y d => argK m c (ix3 b y ⟨(w : ℕ) / 128 * 128 + (d : ℕ), by omega⟩))
    (fun y => argV m c (ix3 b y w))

/-- The merged row `r` of batch `b` at column `n`. -/
def outRow (c : Dev nD) (b : Fin 2) (r : Fin 16384) (n : Fin 2048) : EReal :=
  argX m c (ix3 b r n) + ((∑ d : Fin 1024, argT m c (ix3 b r d) * argW m c (ix2 ⟨(d : ℕ), by omega⟩ n))
    + ∑ d : Fin 512, memRow m c b r d * argW m c (ix2 ⟨1024 + (d : ℕ), by omega⟩ n))

theorem memAt_eq (c : Dev nD) (t : Fin cfg0.N) (b : Fin 2) (hb : (b : ℕ) = t.val / 32) (r : Fin 512) (R : Fin 16384) (hR : (R : ℕ) = t.val % 32 * 512 + (r : ℕ)) (w : Fin 512) :
    memAt (iblk m c 2 t) (iblk m c 3 t) (iblk m c 4 t) r w = memRow m c b R w :=
  attend_congr (fun d => (blk2 m c t b hb r R hR _).trans (q_at m c _ _ _)) (fun y d => (blk3 m c t b hb y _).trans (k_at m c _ _ _))
    (fun y => (blk4 m c t b hb y _).trans (v_at m c _ _ _))

theorem outAt_eq (c : Dev nD) (t : Fin cfg0.N) (b : Fin 2) (hb : (b : ℕ) = t.val / 32) (r : Fin 512) (R : Fin 16384) (hR : (R : ℕ) = t.val % 32 * 512 + (r : ℕ)) (n : Fin 2048) :
    outAt (iblk m c 0 t) (iblk m c 1 t) (iblk m c 2 t) (iblk m c 3 t) (iblk m c 4 t) (iblk m c 5 t) r n = outRow m c b R n := by
  unfold outAt outRow
  refine congr (congrArg HAdd.hAdd ((blk0 m c t b hb r R hR n).trans (x_at m c _ _ _))) (congr (congrArg HAdd.hAdd (Finset.sum_congr rfl fun d _ => ?_)) (Finset.sum_congr rfl fun d _ => ?_))
  · exact congr (congrArg HMul.hMul ((blk1 m c t b hb r R hR d).trans (t_at m c _ _ _))) ((blk5 m c t _ n).trans (w_at m c _ _))
  · exact congr (congrArg HMul.hMul (memAt_eq m c t b hb r R hR d)) ((blk5 m c t _ n).trans (w_at m c _ _))

theorem emb_0 (t : Fin cfg0.N) (y : S1x512x2048.Idx) : (((win0_6.blk t).view.emb y 0 : Fin 2) : ℕ) = t.val / 32 := by
  have e := (idx t).2.2.2.2.2.2.2
  have h0 : ((y 0 : Fin 1) : ℕ) < 1 := (y 0).isLt
  blk_simp [e]; try omega

theorem emb_1 (t : Fin cfg0.N) (y : S1x512x2048.Idx) : (((win0_6.blk t).view.emb y 1 : Fin 16384) : ℕ) = t.val % 32 * 512 + ((y 1 : Fin 512) : ℕ) := by
  have e := (idx t).2.2.2.2.2.2.2
  have h0 : ((y 0 : Fin 1) : ℕ) < 1 := (y 0).isLt
  blk_simp [e]; try omega

theorem emb_2 (t : Fin cfg0.N) (y : S1x512x2048.Idx) : (((win0_6.blk t).view.emb y 2 : Fin 2048) : ℕ) = ((y 2 : Fin 2048) : ℕ) := by
  have e := (idx t).2.2.2.2.2.2.2
  have h0 : ((y 0 : Fin 1) : ℕ) < 1 := (y 0).isLt
  blk_simp [e]; try omega

theorem left (c : Dev nD) (t : Fin cfg0.N) (y : S1x512x2048.Idx) (b : Fin 2) (hb : (b : ℕ) = t.val / 32) (R : Fin 16384) (hR : (R : ℕ) = t.val % 32 * 512 + ((y 1 : Fin 512) : ℕ)) (n : Fin 2048) (hn : (n : ℕ) = ((y 2 : Fin 2048) : ℕ)) :
    (outsAt0 m c t) y = outRow m c b R n := by
  obtain rfl : n = y 2 := Fin.ext hn
  unfold outsAt0
  rw [out_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) y]
  exact outAt_eq m c t b hb _ R hR _

theorem array (c : Dev nD) : (dats m 0 c).arrAt 6 cfg0.N = fun j : S2x16384x2048.Idx => outRow m c (j 0) (j 1) (j 2) := by
  refine (dats m 0 c).arrAt_eq_of_covers 6 _ (by decide +kernel) fun t hf y => ?_
  blk_simp
  rw [after0_6]
  refine (left m c t y ⟨t.val / 32, by have := (idx t).1; omega⟩ rfl ⟨t.val % 32 * 512 + ((y 1 : Fin 512) : ℕ), by have : ((y 1 : Fin 512) : ℕ) < 512 := (y 1).isLt; omega⟩ rfl (y 2) rfl).trans ?_
  exact congr (congr (congrArg (outRow m c) (Fin.ext (emb_0 t y).symm)) (Fin.ext (emb_1 t y).symm)) (Fin.ext (emb_2 t y).symm)

end Cert.Merge

end
-- ==== Proof.MergeRef.lean ====
/- The merge: the reference's result at an index of the arguments, and its equality with the kernel's, where the memory's
   queries and keys are real numbers. -/
module

public import proofs.«01_k».proof.Pre_finite_memory
public import proofs.«01_k».proof.Proof.Gen.Reference6Ideal.Run
public import proofs.«01_k».proof.Proof.MergeArray
public import proofs.«01_k».proof.Proof.Pre
public import proofs.«01_k».proof.Proof.Ref
public import Idealize.ShloMosaic.Lib.ReduceAll

@[expose] public section

set_option maxRecDepth 16384

noncomputable section

open Idealize.ShloMosaic Idealize.ShloMosaic.TcCoe Idealize.SL.Sem

namespace Cert.Merge
open Cert.Band (real_mul_sum coe_sum fold_max_eq real_of_abs rowMax_at)

instance preFacts : Cert.Pre_finite_memory.Facts where
  bcast_S_S2x16384x512 := by decide
  reducesTo_S2x16384x512_S_d0_1_2 := by decide
  h_S_ := by decide
  bcast_S_S2x256x512 := by decide
  reducesTo_S2x256x512_S_d0_1_2 := by decide

/-- What the precondition says: the memory's queries and keys are real numbers. -/
theorem finite_of_pre (x : FVec Ideal Cert.Pre_finite_memory.S2x16384x2048 .f32) (t : FVec Ideal Cert.Pre_finite_memory.S2x16384x1024 .f32)
    (q : FVec Ideal Cert.Pre_finite_memory.S2x16384x512 .f32) (k v : FVec Ideal Cert.Pre_finite_memory.S2x256x512 .f32)
    (w : FVec Ideal Cert.Pre_finite_memory.S1536x2048 .f32) (h : Cert.Pre_finite_memory.fn (F := Ideal) x t q k v w = fun _ => 1#1) :
    (∀ i, (q i : EReal) = ((EReal.toReal (q i) : ℝ) : EReal)) ∧ (∀ i, (k i : EReal) = ((EReal.toReal (k i) : ℝ) : EReal)) := by
  have h0 := congrFun h ix0
  dsimp only [Cert.Pre_finite_memory.fn] at h0
  have both : ∀ x y : BitVec 1, x &&& y = 1#1 → x = 1#1 ∧ y = 1#1 := by decide
  obtain ⟨hq, hk⟩ := both _ _ h0
  refine ⟨fun i => real_of_abs _ ?_, fun i => real_of_abs _ ?_⟩
  · exact Host.reduce_andi_all _ _ _ _ _ hq i
  · exact Host.reduce_andi_all _ _ _ _ _ hk i

/-- Of real queries and keys, dividing at the end is weighting by the softmax. -/
theorem attend_eq (q : Fin 128 → EReal) (k : Fin 256 → Fin 128 → EReal) (v : Fin 256 → EReal)
    (hq : ∀ d, q d = ((EReal.toReal (q d) : ℝ) : EReal)) (hk : ∀ y d, k y d = ((EReal.toReal (k y d) : ℝ) : EReal)) :
    attend q k v = ∑ y, v y * Ideal.div (weightOf q k y) (∑ y, weightOf q k y) := by
  obtain ⟨a, ha⟩ : ∃ a : Fin 256 → ℝ, ∀ y, scoreOf q k y = (a y : EReal) :=
    ⟨fun y => ∑ d, (q d).toReal * (k y d).toReal, fun y => by
      unfold scoreOf
      rw [← coe_sum]
      refine Finset.sum_congr rfl fun d _ => ?_
      rw [EReal.coe_mul, ← hq, ← hk]⟩
  obtain ⟨y₀, -, hM⟩ := Finset.univ.exists_max_image a ⟨0, Finset.mem_univ _⟩
  have hmax : Finset.univ.fold max ⊥ (scoreOf q k) = ((a y₀ : ℝ) : EReal) :=
    fold_max_eq _ _ y₀ (ha _) fun y => by rw [ha y]; exact_mod_cast hM y (Finset.mem_univ _)
  have hw : ∀ y, weightOf q k y = ((Real.exp (a y - a y₀) : ℝ) : EReal) := fun y => by
    unfold weightOf
    rw [hmax, ha y, ← EReal.coe_sub]; rfl
  set D : ℝ := ∑ y, Real.exp (a y - a y₀) with hD
  have hDpos : 0 < D := Finset.sum_pos (fun _ _ => Real.exp_pos _) ⟨y₀, Finset.mem_univ _⟩
  have hden : ∑ y, weightOf q k y = (D : EReal) := by rw [Finset.sum_congr rfl fun y _ => hw y, coe_sum]
  have hdiv : ∀ x : EReal, Ideal.div x (D : EReal) = ((D⁻¹ : ℝ) : EReal) * x := fun x => by
    rw [Ideal.div_coe hDpos.ne', one_div, mul_comm]
  unfold attend
  rw [hden, hdiv, real_mul_sum _ _ _ (inv_pos.2 hDpos).le]
  refine Finset.sum_congr rfl fun y _ => ?_
  rw [hdiv, ← mul_assoc, mul_comm]

section Value
open Cert.Reference6Ideal Cert.Reference6Ideal.Gen Cert.Reference6Ideal.Facts

variable (x : FVec Ideal S2x16384x2048 .f32) (t : FVec Ideal S2x16384x1024 .f32) (q : FVec Ideal S2x16384x512 .f32) (k v : FVec Ideal S2x256x512 .f32) (w : FVec Ideal S1536x2048 .f32)

/-- The scores of every head. -/
def refScores : FVec Ideal S2x4x16384x256 .f32 :=
  Host.dotGeneral dot_S2x16384x4x128_S2x256x4x128_S2x4x16384x256_3_3_1_1_02_02 none (shapeCast _ q shapeCasts_S2x16384x512_S2x16384x4x128) (shapeCast _ k shapeCasts_S2x256x512_S2x256x4x128)

/-- The largest score of every head and query. -/
def refMax (s : FVec Ideal S2x4x16384x256 .f32) : FVec Ideal S2x4x16384 .f32 :=
  Host.reduce FloatOps.maximumf s (constant S_ .f32 0xFF800000#32) reducesTo_S2x4x16384x256_S2x4x16384_d3 h_S_

/-- The same, no smaller than `-∞`. -/
def refTop (s : FVec Ideal S2x4x16384x256 .f32) : FVec Ideal S2x4x16384 .f32 :=
  maximumf (broadcastInDim S2x4x16384 ![] bcast_S_S2x4x16384 (constant S_ .f32 0xFF800000#32)) (refMax s)

/-- The exponentials of the scores below the largest one. -/
def refMass (s : FVec Ideal S2x4x16384x256 .f32) : FVec Ideal S2x4x16384x256 .f32 :=
  Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (refTop s))))

/-- The softmax of the scores. -/
def refSoft (s : FVec Ideal S2x4x16384x256 .f32) : FVec Ideal S2x4x16384x256 .f32 :=
  Host.divf (refMass s) (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd (refMass s) (constant S_ .f32 0x00000000#32) reducesTo_S2x4x16384x256_S2x4x16384_d3 h_S_)))

/-- The values weighted by the softmax, the heads side by side. -/
def refMem : FVec Ideal S2x16384x512 .f32 :=
  shapeCast _ (transpose S2x16384x4x128 [0, 3, 1, 2] (Host.dotGeneral dot_S2x256x4x128_S2x4x16384x256_S2x4x128x16384_1_3_3_2_02_01 none (shapeCast _ v shapeCasts_S2x256x512_S2x256x4x128) (refSoft (refScores q k))) transposes_S2x4x128x16384_S2x16384x4x128_0_3_1_2) shapeCasts_S2x16384x4x128_S2x16384x512

/-- The reference's result. -/
def refAll : FVec Ideal S2x16384x2048 .f32 :=
  addf x (Host.dotGeneral dot_S2x16384x1536_S1536x2048_S2x16384x2048_2_0_01_1_n_n none (concatenate S2x16384x1536 2 [⟨S2x16384x1024, t⟩, ⟨S2x16384x512, refMem q k v⟩] concatenates_S2x16384x1024_S2x16384x512_S2x16384x1536_d2) w)

theorem refScores_at (b : Fin 2) (h : Fin 4) (r : Fin 16384) (y : Fin 256) :
    (refScores q k (ix4 b h r y) : EReal) = scoreOf (fun d => q (ix3 b r ⟨(h : ℕ) * 128 + (d : ℕ), by omega⟩)) (fun y d => k (ix3 b y ⟨(h : ℕ) * 128 + (d : ℕ), by omega⟩)) y := by
  unfold refScores scoreOf
  pointwise

theorem refMax_at (s : FVec Ideal S2x4x16384x256 .f32) (b : Fin 2) (h : Fin 4) (r : Fin 16384) :
    (refMax s (ix3 b h r) : EReal) = Finset.univ.fold max ⊥ (fun y => (s (ix4 b h r y) : EReal)) := by
  have e : (constant (F := Ideal) S_ .f32 0xFF800000#32 : FVec Ideal S_ .f32) (Shape.Idx.first h_S_) = (⊥ : EReal) := by
    show Ideal.ofBits .f32 0xFF800000#32 = ⊥
    simp [Ideal.ofBits, Ideal.ieee]
  refine (rowMax_at s (constant S_ .f32 0xFF800000#32) reducesTo_S2x4x16384x256_S2x4x16384_d3 h_S_ b h r).trans ?_
  rw [e]

theorem top_floor (y : FVec Ideal S2x4x16384 .f32) (hb) (i : S2x4x16384.Idx) :
    maximumf (broadcastInDim S2x4x16384 ![] hb (constant (F := Ideal) S_ .f32 0xFF800000#32)) y i = y i := by
  show max (Ideal.ofBits .f32 0xFF800000#32) (y i : EReal) = y i
  rw [negInf]
  exact max_eq_right bot_le

theorem refTop_at (s : FVec Ideal S2x4x16384x256 .f32) (b : Fin 2) (h : Fin 4) (r : Fin 16384) :
    (refTop s (ix3 b h r) : EReal) = Finset.univ.fold max ⊥ (fun y => (s (ix4 b h r y) : EReal)) := by
  rw [← refMax_at]
  exact top_floor (refMax s) _ _

theorem refMass_at (s : FVec Ideal S2x4x16384x256 .f32) (b : Fin 2) (h : Fin 4) (r : Fin 16384) (y : Fin 256) :
    (refMass s (ix4 b h r y) : EReal) = Ideal.exp (s (ix4 b h r y) - Finset.univ.fold max ⊥ (fun y => (s (ix4 b h r y) : EReal))) := by
  unfold refMass
  pointwise
  rw [refTop_at]

theorem refSoft_at (s : FVec Ideal S2x4x16384x256 .f32) (b : Fin 2) (h : Fin 4) (r : Fin 16384) (y : Fin 256) :
    (refSoft s (ix4 b h r y) : EReal) = Ideal.div (refMass s (ix4 b h r y)) (∑ y : Fin 256, (refMass s (ix4 b h r y) : EReal)) := by
  unfold refSoft
  pointwise

theorem refMem_at (b : Fin 2) (r : Fin 16384) (j : Fin 512) :
    (refMem q k v (ix3 b r j) : EReal) = ∑ y : Fin 256, (v (ix3 b y j) * refSoft (refScores q k) (ix4 b ⟨(j : ℕ) / 128, by omega⟩ r y) : EReal) := by
  unfold refMem
  pointwise

theorem refAll_at (b : Fin 2) (r : Fin 16384) (n : Fin 2048) :
    (refAll x t q k v w (ix3 b r n) : EReal) = x (ix3 b r n) + ((∑ d : Fin 1024, (t (ix3 b r d) * w (ix2 ⟨(d : ℕ), by omega⟩ n) : EReal))
      + ∑ d : Fin 512, (refMem q k v (ix3 b r d) * w (ix2 ⟨1024 + (d : ℕ), by omega⟩ n) : EReal)) := by
  unfold refAll
  pointwise

/-- The softmax of the scores, an entry. -/
theorem refSoft_scores (b : Fin 2) (h : Fin 4) (r : Fin 16384) (y : Fin 256) :
    (refSoft (refScores q k) (ix4 b h r y) : EReal)
      = Ideal.div (weightOf (fun d => q (ix3 b r ⟨(h : ℕ) * 128 + (d : ℕ), by omega⟩)) (fun y d => k (ix3 b y ⟨(h : ℕ) * 128 + (d : ℕ), by omega⟩)) y)
          (∑ y, weightOf (fun d => q (ix3 b r ⟨(h : ℕ) * 128 + (d : ℕ), by omega⟩)) (fun y d => k (ix3 b y ⟨(h : ℕ) * 128 + (d : ℕ), by omega⟩)) y) := by
  have e : ∀ y, (refMass (refScores q k) (ix4 b h r y) : EReal)
      = weightOf (fun d => q (ix3 b r ⟨(h : ℕ) * 128 + (d : ℕ), by omega⟩)) (fun y d => k (ix3 b y ⟨(h : ℕ) * 128 + (d : ℕ), by omega⟩)) y := fun y => by
    rw [refMass_at]
    simp only [refScores_at]
    rfl
  rw [refSoft_at, e y, Finset.sum_congr rfl fun y _ => e y]

/-- Of real queries and keys, the memory's reading is the kernel's. -/
theorem refMem_eq (hq : ∀ i, (q i : EReal) = ((EReal.toReal (q i) : ℝ) : EReal)) (hk : ∀ i, (k i : EReal) = ((EReal.toReal (k i) : ℝ) : EReal))
    (b : Fin 2) (r : Fin 16384) (j : Fin 512) :
    attend (fun d => q (ix3 b r ⟨(j : ℕ) / 128 * 128 + (d : ℕ), by omega⟩)) (fun y d => k (ix3 b y ⟨(j : ℕ) / 128 * 128 + (d : ℕ), by omega⟩)) (fun y => v (ix3 b y j))
      = refMem q k v (ix3 b r j) := by
  rw [attend_eq _ _ _ (fun d => hq _) (fun y d => hk _), refMem_at]
  exact Finset.sum_congr rfl fun y _ => by rw [refSoft_scores]

/-- Of real queries and keys, the kernel's result is the reference's. -/
theorem refAll_all (m : (ℓ : Loc Cert.Kernel6Ideal.nD Cert.Kernel6Ideal.τ Cert.Kernel6Ideal.sig) → Buf (Elt Ideal) ℓ) (c : Dev Cert.Kernel6Ideal.nD)
    (hq : ∀ i, (argQ m c i : EReal) = ((EReal.toReal (argQ m c i) : ℝ) : EReal)) (hk : ∀ i, (argK m c i : EReal) = ((EReal.toReal (argK m c i) : ℝ) : EReal)) :
    (fun j : S2x16384x2048.Idx => outRow m c (j 0) (j 1) (j 2)) = refAll (argX m c) (argT m c) (argQ m c) (argK m c) (argV m c) (argW m c) := by
  funext j
  have hj : j = ix3 (j 0) (j 1) (j 2) := by
    funext a
    match a with
    | ⟨0, _⟩ => rfl
    | ⟨1, _⟩ => rfl
    | ⟨2, _⟩ => rfl
  refine Eq.trans ?_ (congrArg (refAll (argX m c) (argT m c) (argQ m c) (argK m c) (argV m c) (argW m c)) hj.symm)
  refine Eq.trans ?_ (refAll_at (argX m c) (argT m c) (argQ m c) (argK m c) (argV m c) (argW m c) (j 0) (j 1) (j 2)).symm
  unfold outRow
  refine congrArg (_ + ·) (congrArg (_ + ·) (Finset.sum_congr rfl fun d _ => congrArg (· * _) ?_))
  exact refMem_eq (argQ m c) (argK m c) (argV m c) hq hk _ _ d

end Value

end Cert.Merge

end
-- ==== Proof.LayerSample.lean ====
/- The pieces of a layer's projection of the sample's rows in the reference, at an index: the scaled rows, the four products, the heads and the rows. -/
module

public import proofs.«01_k».proof.Proof.Gen.Reference9Ideal.Run
public import proofs.«01_k».proof.Proof.LayerMath
public import proofs.«01_k».proof.Proof.LayerRef

@[expose] public section

set_option maxRecDepth 16384

noncomputable section

open Idealize.ShloMosaic Idealize.ShloMosaic.TcCoe Idealize.SL.Sem
open Idealize.ShloMosaic.Pipeline (Dat)

namespace Cert.LayerSample
open Cert.Proj
open Cert.Ffn (scale)
open Cert.Layer (weights weights_at)
open Cert.Reference9Ideal Cert.Reference9Ideal.Gen Cert.Reference9Ideal.Facts

/-- The reference's scaled rows. -/
def refScaled (x : FVec Ideal S32x16x2048 .f32) : FVec Ideal S32x16x2048 .f32 :=
  mulf x (broadcastInDim S32x16x2048 ![0, 1, 2] bcast_S32x16x1_S32x16x2048_0_1_2 (Host.rsqrt (addf (Host.divf (broadcastInDim S32x16x1 ![0, 1] bcast_S32x16_S32x16x1_0_1 (Host.reduceAdd (mulf x x) (constant S_ .f32 0x00000000#32) reducesTo_S32x16x2048_S32x16_d2 h_S_)) (broadcastInDim S32x16x1 ![] bcast_S_S32x16x1 (constant S_ .f32 0x45000000#32))) (broadcastInDim S32x16x1 ![] bcast_S_S32x16x1 (constant S_ .f32 0x358637BD#32)))))

theorem refScaled_at (x : FVec Ideal S32x16x2048 .f32) (b : Fin 32) (p : Fin 16) (d : Fin 2048) :
    refScaled x (ix3 b p d) = x (ix3 b p d) * scale (fun e => x (ix3 b p e)) := by
  unfold refScaled scale
  pointwise

/-- The queries' columns of the product. -/
def prodQ (x : FVec Ideal S32x16x2048 .f32) (g : FVec Ideal S2048 .f32) (w : FVec Ideal S2048x3584 .f32) : FVec Ideal S32x16x1024 .f32 :=
  Host.dotGeneral dot_S32x16x2048_S2048x1024_S32x16x1024_2_0_01_1_n_n none (refScaled x) (extractStridedSlice S2048x1024 ![0, 0] (weights g w) slices_S2048x3584_S2048x1024_0_0)

theorem prodQ_at (x : FVec Ideal S32x16x2048 .f32) (g : FVec Ideal S2048 .f32) (w : FVec Ideal S2048x3584 .f32) (b : Fin 32) (p : Fin 16) (k : Fin 1024) :
    prodQ x g w (ix3 b p k) = column (fun d => x (ix3 b p d)) (fun d => g (ix1 d)) (fun d k => w (ix2 d k)) (0 + (k : ℕ)) (by omega) := by
  unfold column
  rw [proj_eq]
  unfold prodQ projPlain
  pointwise [refScaled_at, weights_at]
  try simp only [Nat.zero_add, Nat.add_comm, zero_add]

/-- The keys' columns of the product. -/
def prodK (x : FVec Ideal S32x16x2048 .f32) (g : FVec Ideal S2048 .f32) (w : FVec Ideal S2048x3584 .f32) : FVec Ideal S32x16x1024 .f32 :=
  Host.dotGeneral dot_S32x16x2048_S2048x1024_S32x16x1024_2_0_01_1_n_n none (refScaled x) (extractStridedSlice S2048x1024 ![0, 1024] (weights g w) slices_S2048x3584_S2048x1024_0_1024)

theorem prodK_at (x : FVec Ideal S32x16x2048 .f32) (g : FVec Ideal S2048 .f32) (w : FVec Ideal S2048x3584 .f32) (b : Fin 32) (p : Fin 16) (k : Fin 1024) :
    prodK x g w (ix3 b p k) = column (fun d => x (ix3 b p d)) (fun d => g (ix1 d)) (fun d k => w (ix2 d k)) (1024 + (k : ℕ)) (by omega) := by
  unfold column
  rw [proj_eq]
  unfold prodK projPlain
  pointwise [refScaled_at, weights_at]
  try simp only [Nat.zero_add, Nat.add_comm, zero_add]

/-- The values' columns of the product. -/
def prodV (x : FVec Ideal S32x16x2048 .f32) (g : FVec Ideal S2048 .f32) (w : FVec Ideal S2048x3584 .f32) : FVec Ideal S32x16x1024 .f32 :=
  Host.dotGeneral dot_S32x16x2048_S2048x1024_S32x16x1024_2_0_01_1_n_n none (refScaled x) (extractStridedSlice S2048x1024 ![0, 2048] (weights g w) slices_S2048x3584_S2048x1024_0_2048)

theorem prodV_at (x : FVec Ideal S32x16x2048 .f32) (g : FVec Ideal S2048 .f32) (w : FVec Ideal S2048x3584 .f32) (b : Fin 32) (p : Fin 16) (k : Fin 1024) :
    prodV x g w (ix3 b p k) = column (fun d => x (ix3 b p d)) (fun d => g (ix1 d)) (fun d k => w (ix2 d k)) (2048 + (k : ℕ)) (by omega) := by
  unfold column
  rw [proj_eq]
  unfold prodV projPlain
  pointwise [refScaled_at, weights_at]
  try simp only [Nat.zero_add, Nat.add_comm, zero_add]

/-- The memory queries' columns of the product. -/
def prodM (x : FVec Ideal S32x16x2048 .f32) (g : FVec Ideal S2048 .f32) (w : FVec Ideal S2048x3584 .f32) : FVec Ideal S32x16x512 .f32 :=
  Host.dotGeneral dot_S32x16x2048_S2048x512_S32x16x512_2_0_01_1_n_n none (refScaled x) (extractStridedSlice S2048x512 ![0, 3072] (weights g w) slices_S2048x3584_S2048x512_0_3072)

theorem prodM_at (x : FVec Ideal S32x16x2048 .f32) (g : FVec Ideal S2048 .f32) (w : FVec Ideal S2048x3584 .f32) (b : Fin 32) (p : Fin 16) (k : Fin 512) :
    prodM x g w (ix3 b p k) = column (fun d => x (ix3 b p d)) (fun d => g (ix1 d)) (fun d k => w (ix2 d k)) (3072 + (k : ℕ)) (by omega) := by
  unfold column
  rw [proj_eq]
  unfold prodM projPlain
  pointwise [refScaled_at, weights_at]
  try simp only [Nat.zero_add, Nat.add_comm, zero_add]

/-- Heads of 128 lanes, scaled and weighted. -/
def rms8 (a : FVec Ideal S32x16x8x128 .f32) (g : FVec Ideal S128 .f32) : FVec Ideal S32x16x8x128 .f32 :=
  mulf (mulf a (broadcastInDim S32x16x8x128 ![0, 1, 2, 3] bcast_S32x16x8x1_S32x16x8x128_0_1_2_3 (Host.rsqrt (addf (Host.divf (broadcastInDim S32x16x8x1 ![0, 1, 2] bcast_S32x16x8_S32x16x8x1_0_1_2 (Host.reduceAdd (mulf a a) (constant S_ .f32 0x00000000#32) reducesTo_S32x16x8x128_S32x16x8_d3 h_S_)) (broadcastInDim S32x16x8x1 ![] bcast_S_S32x16x8x1 (constant S_ .f32 0x43000000#32))) (broadcastInDim S32x16x8x1 ![] bcast_S_S32x16x8x1 (constant S_ .f32 0x358637BD#32))))))
    (broadcastInDim S32x16x8x128 ![0, 1, 2, 3] bcast_S1x1x1x128_S32x16x8x128_0_1_2_3 (broadcastInDim S1x1x1x128 ![3] bcast_S128_S1x1x1x128_3 g))

theorem rms8_at (a : FVec Ideal S32x16x8x128 .f32) (g : FVec Ideal S128 .f32) (b : Fin 32) (p : Fin 16) (h : Fin 8) (j : Fin 128) :
    rms8 a g (ix4 b p h j) = headed (fun d => a (ix4 b p h d)) (fun d => g (ix1 d)) j := by
  unfold rms8 headed headScale
  pointwise

/-- The same times the queries' factor. -/
def scaled8 (a : FVec Ideal S32x16x8x128 .f32) (g : FVec Ideal S128 .f32) : FVec Ideal S32x16x8x128 .f32 :=
  mulf (rms8 a g) (broadcastInDim S32x16x8x128 ![] bcast_S_S32x16x8x128 (constant S_ .f32 0x3DB504F3#32))

theorem scaled8_at (a : FVec Ideal S32x16x8x128 .f32) (g : FVec Ideal S128 .f32) (b : Fin 32) (p : Fin 16) (h : Fin 8) (j : Fin 128) :
    scaled8 a g (ix4 b p h j) = headed (fun d => a (ix4 b p h d)) (fun d => g (ix1 d)) j * Ideal.ofBits FTy.f32 0x3DB504F3#32 := by
  unfold scaled8
  pointwise [rms8_at]

theorem split8_at (y : FVec Ideal S32x16x1024 .f32) (b : Fin 32) (p : Fin 16) (h : Fin 8) (j : Fin 128) :
    shapeCast S32x16x8x128 y shapeCasts_S32x16x1024_S32x16x8x128 (ix4 b p h j) = y (ix3 b p ⟨(h : ℕ) * 128 + (j : ℕ), by omega⟩) := by
  pointwise
  try blk_ext
  all_goals omega

theorem rows8_at (a : FVec Ideal S32x16x8x128 .f32) (r : Fin 512) (w : Fin 1024) :
    shapeCast S512x1024 a shapeCasts_S32x16x8x128_S512x1024 (ix2 r w)
      = a (ix4 ⟨(r : ℕ) / 16, by omega⟩ ⟨(r : ℕ) % 16, by omega⟩ ⟨(w : ℕ) / 128, by omega⟩ ⟨(w : ℕ) % 128, by omega⟩) := by
  pointwise
  try blk_ext
  all_goals omega

/-- Heads of 128 lanes, scaled and weighted. -/
def rms4 (a : FVec Ideal S32x16x4x128 .f32) (g : FVec Ideal S128 .f32) : FVec Ideal S32x16x4x128 .f32 :=
  mulf (mulf a (broadcastInDim S32x16x4x128 ![0, 1, 2, 3] bcast_S32x16x4x1_S32x16x4x128_0_1_2_3 (Host.rsqrt (addf (Host.divf (broadcastInDim S32x16x4x1 ![0, 1, 2] bcast_S32x16x4_S32x16x4x1_0_1_2 (Host.reduceAdd (mulf a a) (constant S_ .f32 0x00000000#32) reducesTo_S32x16x4x128_S32x16x4_d3 h_S_)) (broadcastInDim S32x16x4x1 ![] bcast_S_S32x16x4x1 (constant S_ .f32 0x43000000#32))) (broadcastInDim S32x16x4x1 ![] bcast_S_S32x16x4x1 (constant S_ .f32 0x358637BD#32))))))
    (broadcastInDim S32x16x4x128 ![0, 1, 2, 3] bcast_S1x1x1x128_S32x16x4x128_0_1_2_3 (broadcastInDim S1x1x1x128 ![3] bcast_S128_S1x1x1x128_3 g))

theorem rms4_at (a : FVec Ideal S32x16x4x128 .f32) (g : FVec Ideal S128 .f32) (b : Fin 32) (p : Fin 16) (h : Fin 4) (j : Fin 128) :
    rms4 a g (ix4 b p h j) = headed (fun d => a (ix4 b p h d)) (fun d => g (ix1 d)) j := by
  unfold rms4 headed headScale
  pointwise

/-- The same times the queries' factor. -/
def scaled4 (a : FVec Ideal S32x16x4x128 .f32) (g : FVec Ideal S128 .f32) : FVec Ideal S32x16x4x128 .f32 :=
  mulf (rms4 a g) (broadcastInDim S32x16x4x128 ![] bcast_S_S32x16x4x128 (constant S_ .f32 0x3DB504F3#32))

theorem scaled4_at (a : FVec Ideal S32x16x4x128 .f32) (g : FVec Ideal S128 .f32) (b : Fin 32) (p : Fin 16) (h : Fin 4) (j : Fin 128) :
    scaled4 a g (ix4 b p h j) = headed (fun d => a (ix4 b p h d)) (fun d => g (ix1 d)) j * Ideal.ofBits FTy.f32 0x3DB504F3#32 := by
  unfold scaled4
  pointwise [rms4_at]

theorem split4_at (y : FVec Ideal S32x16x512 .f32) (b : Fin 32) (p : Fin 16) (h : Fin 4) (j : Fin 128) :
    shapeCast S32x16x4x128 y shapeCasts_S32x16x512_S32x16x4x128 (ix4 b p h j) = y (ix3 b p ⟨(h : ℕ) * 128 + (j : ℕ), by omega⟩) := by
  pointwise
  try blk_ext
  all_goals omega

theorem rows4_at (a : FVec Ideal S32x16x4x128 .f32) (r : Fin 512) (w : Fin 512) :
    shapeCast S512x512 a shapeCasts_S32x16x4x128_S512x512 (ix2 r w)
      = a (ix4 ⟨(r : ℕ) / 16, by omega⟩ ⟨(r : ℕ) % 16, by omega⟩ ⟨(w : ℕ) / 128, by omega⟩ ⟨(w : ℕ) % 128, by omega⟩) := by
  pointwise
  try blk_ext
  all_goals omega

end Cert.LayerSample

end
-- ==== Proof.StickSampleBlock.lean ====
/- The stick-breaking layer's projection of the sample's rows: what it leaves in its blocks, as for the prompt's rows. -/
module

public import proofs.«01_k».proof.Proof.Gen.Kernel8Ideal.Value
public import proofs.«01_k».proof.Proof.StickProjBlock

@[expose] public section

set_option maxRecDepth 16384

noncomputable section

open Idealize.ShloMosaic Idealize.ShloMosaic.TcCoe Idealize.SL.Sem
open Idealize.ShloMosaic.Pipeline (Dat)

namespace Cert.StickSample
open Cert.Kernel8Ideal Cert.Kernel8Ideal.Gen
open Cert.Proj Cert.Ffn
open Cert.StickProj (colAt group0_at group1_at group2_at group3_at group4_at group5_at group6_at head1_at head2_at head41_at head42_at headAt headFactor head_tile lane10_at lane13_at lane14_at lane16_at lane17_at lane20_at lane21_at lane23_at lane24_at lane27_at lane28_at lane30_at lane31_at lane34_at lane35_at lane37_at lane38_at lane6_at lane7_at lane9_at laneFactor lane_tile)

section Block
variable (x0 : Vec Ideal S512x2048 .f32) (x1 : Vec Ideal S1x2048 .f32) (x2 : Vec Ideal S1x2048x3584 .bf16) (x3 : Vec Ideal S1x128 .f32)

variable (c : Dev nD) (i : grid0.Coords)

theorem out4_at a1 h1 a2 h2 a3 h3 a4 h4 a7 h7 a8 h8 a9 h9 a10 h10 a11 h11 a12 h12 (y : S512x1024.Idx) :
    out0_A_4 c i a1 h1 a2 h2 a3 h3 a4 h4 a7 h7 a8 h8 a9 h9 a10 h10 a11 h11 a12 h12 x0 x1 x2 x3 y = colAt x0 x1 x2 (y 0) (0 + ((y 1 : Fin 1024) : ℕ)) (by have : ((y 1 : Fin 1024) : ℕ) < 1024 := (y 1).isLt; omega) * laneFactor := by
  unfold out0_A_4
  rw [View.read_writes_junk_eq_canon]
  unfold kernelRun0_A
  dsimp only
  sl_unfold_words
  simp only [View.readAt_eq_ld, h1.read_unread, h2.read_unread, h3.read_unread, h4.read_unread]
  canon_tiles x e
  · exact (lane10_at _ x).trans (congrArg (· * laneFactor) (lane_tile x0 x1 x2 _ 512 (by omega) (group1_at x0 x1 x2) _ _ _ _ _ _ (by omega) (by omega)))
  · exact (lane9_at _ x).trans (congrArg (· * laneFactor) (lane_tile x0 x1 x2 _ 512 (by omega) (group1_at x0 x1 x2) _ _ _ _ _ _ (by omega) (by omega)))
  · exact (lane7_at _ _ _ x).trans (congrArg (· * laneFactor) (lane_tile x0 x1 x2 _ 0 (by omega) (group0_at x0 x1 x2) _ _ _ _ _ _ (by omega) (by omega)))
  · exact (lane6_at _ _ _ x).trans (congrArg (· * laneFactor) (lane_tile x0 x1 x2 _ 0 (by omega) (group0_at x0 x1 x2) _ _ _ _ _ _ (by omega) (by omega)))

theorem out5_at a1 h1 a2 h2 a3 h3 a4 h4 a7 h7 a8 h8 a9 h9 a10 h10 a11 h11 a12 h12 (y : S512x1024.Idx) :
    out0_A_5 c i a1 h1 a2 h2 a3 h3 a4 h4 a7 h7 a8 h8 a9 h9 a10 h10 a11 h11 a12 h12 x0 x1 x2 x3 y = colAt x0 x1 x2 (y 0) (1024 + ((y 1 : Fin 1024) : ℕ)) (by have : ((y 1 : Fin 1024) : ℕ) < 1024 := (y 1).isLt; omega) := by
  unfold out0_A_5
  rw [View.read_writes_junk_eq_canon]
  unfold kernelRun0_A
  dsimp only
  sl_unfold_words
  simp only [View.readAt_eq_ld, h1.read_unread, h2.read_unread, h3.read_unread, h4.read_unread]
  canon_tiles x e
  · exact (lane23_at _ x).trans (lane_tile x0 x1 x2 _ 1536 (by omega) (group3_at x0 x1 x2) _ _ _ _ _ _ (by omega) (by omega))
  · exact (lane20_at _ x).trans (lane_tile x0 x1 x2 _ 1536 (by omega) (group3_at x0 x1 x2) _ _ _ _ _ _ (by omega) (by omega))
  · exact (lane16_at _ _ x).trans (lane_tile x0 x1 x2 _ 1024 (by omega) (group2_at x0 x1 x2) _ _ _ _ _ _ (by omega) (by omega))
  · exact (lane13_at _ _ x).trans (lane_tile x0 x1 x2 _ 1024 (by omega) (group2_at x0 x1 x2) _ _ _ _ _ _ (by omega) (by omega))

theorem out6_at a1 h1 a2 h2 a3 h3 a4 h4 a7 h7 a8 h8 a9 h9 a10 h10 a11 h11 a12 h12 (y : S1x512x4x256.Idx) :
    out0_A_6 c i a1 h1 a2 h2 a3 h3 a4 h4 a7 h7 a8 h8 a9 h9 a10 h10 a11 h11 a12 h12 x0 x1 x2 x3 y = colAt x0 x1 x2 (y 1) (1024 + (((y 2 : Fin 4) : ℕ) * 256 + ((y 3 : Fin 256) : ℕ))) (by have : ((y 2 : Fin 4) : ℕ) < 4 := (y 2).isLt; have : ((y 3 : Fin 256) : ℕ) < 256 := (y 3).isLt; omega) := by
  unfold out0_A_6
  rw [View.read_writes_junk_eq_canon]
  unfold kernelRun0_A
  dsimp only
  sl_unfold_words
  simp only [View.readAt_eq_ld, h1.read_unread, h2.read_unread, h3.read_unread, h4.read_unread]
  canon_tiles x e
  · exact (lane24_at _ x).trans (lane_tile x0 x1 x2 _ 1536 (by omega) (group3_at x0 x1 x2) _ _ _ _ _ _ (by omega) (by omega))
  · exact (lane21_at _ x).trans (lane_tile x0 x1 x2 _ 1536 (by omega) (group3_at x0 x1 x2) _ _ _ _ _ _ (by omega) (by omega))
  · exact (lane17_at _ _ x).trans (lane_tile x0 x1 x2 _ 1024 (by omega) (group2_at x0 x1 x2) _ _ _ _ _ _ (by omega) (by omega))
  · exact (lane14_at _ _ x).trans (lane_tile x0 x1 x2 _ 1024 (by omega) (group2_at x0 x1 x2) _ _ _ _ _ _ (by omega) (by omega))

theorem out7_at a1 h1 a2 h2 a3 h3 a4 h4 a7 h7 a8 h8 a9 h9 a10 h10 a11 h11 a12 h12 (y : S512x1024.Idx) :
    out0_A_7 c i a1 h1 a2 h2 a3 h3 a4 h4 a7 h7 a8 h8 a9 h9 a10 h10 a11 h11 a12 h12 x0 x1 x2 x3 y = colAt x0 x1 x2 (y 0) (2048 + ((y 1 : Fin 1024) : ℕ)) (by have : ((y 1 : Fin 1024) : ℕ) < 1024 := (y 1).isLt; omega) := by
  unfold out0_A_7
  rw [View.read_writes_junk_eq_canon]
  unfold kernelRun0_A
  dsimp only
  sl_unfold_words
  simp only [View.readAt_eq_ld, h1.read_unread, h2.read_unread, h3.read_unread, h4.read_unread]
  canon_tiles x e
  · exact (lane37_at _ x).trans (lane_tile x0 x1 x2 _ 2560 (by omega) (group5_at x0 x1 x2) _ _ _ _ _ _ (by omega) (by omega))
  · exact (lane34_at _ x).trans (lane_tile x0 x1 x2 _ 2560 (by omega) (group5_at x0 x1 x2) _ _ _ _ _ _ (by omega) (by omega))
  · exact (lane30_at _ _ x).trans (lane_tile x0 x1 x2 _ 2048 (by omega) (group4_at x0 x1 x2) _ _ _ _ _ _ (by omega) (by omega))
  · exact (lane27_at _ _ x).trans (lane_tile x0 x1 x2 _ 2048 (by omega) (group4_at x0 x1 x2) _ _ _ _ _ _ (by omega) (by omega))

theorem out8_at a1 h1 a2 h2 a3 h3 a4 h4 a7 h7 a8 h8 a9 h9 a10 h10 a11 h11 a12 h12 (y : S1x512x4x256.Idx) :
    out0_A_8 c i a1 h1 a2 h2 a3 h3 a4 h4 a7 h7 a8 h8 a9 h9 a10 h10 a11 h11 a12 h12 x0 x1 x2 x3 y = colAt x0 x1 x2 (y 1) (2048 + (((y 2 : Fin 4) : ℕ) * 256 + ((y 3 : Fin 256) : ℕ))) (by have : ((y 2 : Fin 4) : ℕ) < 4 := (y 2).isLt; have : ((y 3 : Fin 256) : ℕ) < 256 := (y 3).isLt; omega) := by
  unfold out0_A_8
  rw [View.read_writes_junk_eq_canon]
  unfold kernelRun0_A
  dsimp only
  sl_unfold_words
  simp only [View.readAt_eq_ld, h1.read_unread, h2.read_unread, h3.read_unread, h4.read_unread]
  canon_tiles x e
  · exact (lane38_at _ x).trans (lane_tile x0 x1 x2 _ 2560 (by omega) (group5_at x0 x1 x2) _ _ _ _ _ _ (by omega) (by omega))
  · exact (lane35_at _ x).trans (lane_tile x0 x1 x2 _ 2560 (by omega) (group5_at x0 x1 x2) _ _ _ _ _ _ (by omega) (by omega))
  · exact (lane31_at _ _ x).trans (lane_tile x0 x1 x2 _ 2048 (by omega) (group4_at x0 x1 x2) _ _ _ _ _ _ (by omega) (by omega))
  · exact (lane28_at _ _ x).trans (lane_tile x0 x1 x2 _ 2048 (by omega) (group4_at x0 x1 x2) _ _ _ _ _ _ (by omega) (by omega))

theorem out9_at a1 h1 a2 h2 a3 h3 a4 h4 a7 h7 a8 h8 a9 h9 a10 h10 a11 h11 a12 h12 (y : S512x512.Idx) :
    out0_A_9 c i a1 h1 a2 h2 a3 h3 a4 h4 a7 h7 a8 h8 a9 h9 a10 h10 a11 h11 a12 h12 x0 x1 x2 x3 y = headAt x0 x1 x2 x3 (y 0) (3072 + ((y 1 : Fin 512) : ℕ) / 128 * 128) (by have : ((y 1 : Fin 512) : ℕ) < 512 := (y 1).isLt; omega) ⟨((y 1 : Fin 512) : ℕ) % 128, by omega⟩ * headFactor := by
  unfold out0_A_9
  rw [View.read_writes_junk_eq_canon]
  unfold kernelRun0_A
  dsimp only
  sl_unfold_words
  simp only [View.readAt_eq_ld, h1.read_unread, h2.read_unread, h3.read_unread, h4.read_unread]
  canon_tiles x e
  · exact (head2_at _ _ x).trans (congrArg (· * headFactor) (head_tile x0 x1 x2 _ 3072 384 (by omega) (by omega) (group6_at x0 x1 x2) x3 x _ _ _ _ (by omega) (by omega) (by show _ % 128 = _; omega)))
  · exact (head1_at _ _ x).trans (congrArg (· * headFactor) (head_tile x0 x1 x2 _ 3072 256 (by omega) (by omega) (group6_at x0 x1 x2) x3 x _ _ _ _ (by omega) (by omega) (by show _ % 128 = _; omega)))
  · exact (head42_at _ _ x).trans (congrArg (· * headFactor) (head_tile x0 x1 x2 _ 3072 128 (by omega) (by omega) (group6_at x0 x1 x2) x3 x _ _ _ _ (by omega) (by omega) (by show _ % 128 = _; omega)))
  · exact (head41_at _ _ _ x).trans (congrArg (· * headFactor) (head_tile x0 x1 x2 _ 3072 0 (by omega) (by omega) (group6_at x0 x1 x2) x3 x _ _ _ _ (by omega) (by omega) (by show _ % 128 = _; omega)))

end Block

end Cert.StickSample

end
-- ==== Proof.StickSampleArray.lean ====
/- The stick-breaking layer's projection of the sample's rows: its whole arrays after its run, as formulas of the operands in memory. -/
module

public import proofs.«01_k».proof.Proof.StickSampleBlock
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.StickSample
open Cert.Kernel8Ideal Cert.Kernel8Ideal.Gen
open Cert.Proj
open Cert.StickProj (colAt headAt laneFactor headFactor)

variable (m : (ℓ : Loc nD τ sig) → Buf (Elt Ideal) ℓ)

theorem idx : ∀ t : Fin cfg0.N, t.val < 1 ∧ win0_0.index t = ![t.val, 0] ∧ win0_1.index t = ![0, 0] ∧ win0_2.index t = ![0, 0, 0] ∧ win0_3.index t = ![0, 0] :=
  (by decide +kernel : ∀ t : Fin grid0.N, _)
theorem idxOut : ∀ t : Fin cfg0.N, win0_4.index t = ![t.val, 0] ∧ win0_5.index t = ![t.val, 0] ∧ win0_6.index t = ![1, t.val, 0, 0]
    ∧ win0_7.index t = ![t.val, 0] ∧ win0_8.index t = ![1, t.val, 0, 0] ∧ win0_9.index t = ![t.val, 0] :=
  (by decide +kernel : ∀ t : Fin grid0.N, _)

theorem blk0 (c : Dev nD) (t : Fin cfg0.N) (r : Fin 512) (R : Fin 512) (hR : (R : ℕ) = t.val * 512 + (r : ℕ)) (d : Fin 2048) :
    iblk m c 0 t (ix2 r d) = V m c main_v0 (ix2 R d) := by
  have e : win0_0.index t = _ := (idx t).2.1
  have e0 : win0_0.index t 0 = t.val := congrFun e 0
  have e1 : win0_0.index t 1 = 0 := congrFun e 1
  blk_simp [iblk]
  blk_ext
  all_goals omega

theorem blk1 (c : Dev nD) (t : Fin cfg0.N) (d : Fin 2048) : iblk m c 1 t (ix2 0 d) = V m c main_v3 (ix2 0 d) := by
  have e : win0_1.index t = _ := (idx t).2.2.1
  have e0 : win0_1.index t 0 = 0 := congrFun e 0
  have e1 : win0_1.index t 1 = 0 := congrFun e 1
  blk_simp [iblk]
  blk_ext
  all_goals omega

theorem blk2 (c : Dev nD) (t : Fin cfg0.N) (d : Fin 2048) (k : Fin 3584) : iblk m c 2 t (ix3 0 d k) = V m c main_v2 (ix3 0 d k) := by
  have e : win0_2.index t = _ := (idx t).2.2.2.1
  have e0 : win0_2.index t 0 = 0 := congrFun e 0
  have e1 : win0_2.index t 1 = 0 := congrFun e 1
  have e2 : win0_2.index t 2 = 0 := congrFun e 2
  blk_simp [iblk]
  blk_ext
  all_goals omega

theorem blk3 (c : Dev nD) (t : Fin cfg0.N) (d : Fin 128) : iblk m c 3 t (ix2 0 d) = V m c main_v4 (ix2 0 d) := by
  have e : win0_3.index t = _ := (idx t).2.2.2.2
  have e0 : win0_3.index t 0 = 0 := congrFun e 0
  have e1 : win0_3.index t 1 = 0 := congrFun e 1
  blk_simp [iblk]
  blk_ext
  all_goals omega

/-- Column `j` of row `r` of the projection, from the operands in memory. -/
def col (c : Dev nD) (r : Fin 512) (j : ℕ) (h : j < 3584) : EReal :=
  column (fun d => V m c main_v0 (ix2 r d)) (fun d => V m c main_v3 (ix2 0 d)) (fun d k => V m c main_v2 (ix3 0 d k)) j h

/-- Lane `j` of the head of row `r` that starts at column `b`. -/
def head (c : Dev nD) (gk : Fin 128 → EReal) (r : Fin 512) (b : ℕ) (h : b + 128 ≤ 3584) (j : Fin 128) : EReal :=
  headOf (fun d => V m c main_v0 (ix2 r d)) (fun d => V m c main_v3 (ix2 0 d)) (fun d k => V m c main_v2 (ix3 0 d k)) gk b h j

/-- The queries, keys, values and memory queries of a row. -/
def qRow (c : Dev nD) (r : Fin 512) (w : Fin 1024) : EReal := col m c r (0 + (w : ℕ)) (by omega) * laneFactor
def kRow (c : Dev nD) (r : Fin 512) (w : Fin 1024) : EReal := col m c r (1024 + (w : ℕ)) (by omega)
def vRow (c : Dev nD) (r : Fin 512) (w : Fin 1024) : EReal := col m c r (2048 + (w : ℕ)) (by omega)
def mRow (c : Dev nD) (r : Fin 512) (w : Fin 512) : EReal :=
  head m c (fun d => V m c main_v4 (ix2 0 d)) r (3072 + (w : ℕ) / 128 * 128) (by omega) ⟨(w : ℕ) % 128, by omega⟩ * headFactor

/-- The column of lane `d` of head `h`. -/
def lane (h : Fin 4) (d : Fin 256) : Fin 1024 := ⟨(h : ℕ) * 256 + (d : ℕ), by omega⟩

theorem colAt_eq (c : Dev nD) (t : Fin cfg0.N) (r : Fin 512) (R : Fin 512) (hR : (R : ℕ) = t.val * 512 + (r : ℕ)) (j j' : ℕ) (h : j < 3584) (h' : j' < 3584) (e : j = j') :
    colAt (iblk m c 0 t) (iblk m c 1 t) (iblk m c 2 t) r j h = col m c R j' h' := by
  exact column_congr (fun d => blk0 m c t r R hR d) (fun d => blk1 m c t d) (fun d k => blk2 m c t d k) e

theorem headAt_eq (c : Dev nD) (t : Fin cfg0.N) (gk : Vec Ideal S1x128 .f32) (gk' : Fin 128 → EReal) (hg : ∀ d, gk (ix2 0 d) = gk' d)
    (r : Fin 512) (R : Fin 512) (hR : (R : ℕ) = t.val * 512 + (r : ℕ)) (b b' : ℕ) (h : b + 128 ≤ 3584) (h' : b' + 128 ≤ 3584) (e : b = b') (j j' : Fin 128) (ej : (j : ℕ) = j') :
    headAt (iblk m c 0 t) (iblk m c 1 t) (iblk m c 2 t) gk r b h j = head m c gk' R b' h' j' := by
  exact headOf_congr (fun d => blk0 m c t r R hR d) (fun d => blk1 m c t d) (fun d k => blk2 m c t d k) hg e (Fin.ext ej)

theorem emb4_0 (t : Fin cfg0.N) (y : S512x1024.Idx) : (((win0_4.blk t).view.emb y 0 : Fin 512) : ℕ) = t.val * 512 + ((y 0 : Fin 512) : ℕ) := by
  have e := (idxOut t).1
  blk_simp [e]; try omega
theorem emb4_1 (t : Fin cfg0.N) (y : S512x1024.Idx) : (((win0_4.blk t).view.emb y 1 : Fin 1024) : ℕ) = ((y 1 : Fin 1024) : ℕ) := by
  have e := (idxOut t).1
  blk_simp [e]; try omega

theorem left4 (c : Dev nD) (t : Fin cfg0.N) (y : S512x1024.Idx) (R : Fin 512) (w : Fin 1024) (hR : (R : ℕ) = t.val * 512 + ((y 0 : Fin 512) : ℕ)) (hw : (w : ℕ) = ((y 1 : Fin 1024) : ℕ)) :
    (outsAt0 m c t).1 y = qRow m c R w := by
  unfold outsAt0
  dsimp only
  rw [out4_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold qRow
  exact congrArg (· * laneFactor) (colAt_eq m c t _ _ hR _ _ _ _ (by omega))

theorem array4 (c : Dev nD) : (dats m 0 c).arrAt 4 cfg0.N = fun j : S512x1024.Idx => qRow m c (j 0) (j 1) := by
  refine (dats m 0 c).arrAt_eq_of_covers 4 _ (by decide +kernel) fun t hf y => ?_
  rw [after0_4]
  refine (left4 m c t y ⟨t.val * 512 + ((y 0 : Fin 512) : ℕ), by have := (idx t).1; have : ((y 0 : Fin 512) : ℕ) < 512 := (y 0).isLt; omega⟩ (y 1) rfl rfl).trans ?_
  exact congr (congrArg (qRow m c) (Fin.ext (emb4_0 t y).symm)) (Fin.ext (emb4_1 t y).symm)

theorem emb5_0 (t : Fin cfg0.N) (y : S512x1024.Idx) : (((win0_5.blk t).view.emb y 0 : Fin 512) : ℕ) = t.val * 512 + ((y 0 : Fin 512) : ℕ) := by
  have e := (idxOut t).2.1
  blk_simp [e]; try omega
theorem emb5_1 (t : Fin cfg0.N) (y : S512x1024.Idx) : (((win0_5.blk t).view.emb y 1 : Fin 1024) : ℕ) = ((y 1 : Fin 1024) : ℕ) := by
  have e := (idxOut t).2.1
  blk_simp [e]; try omega

theorem left5 (c : Dev nD) (t : Fin cfg0.N) (y : S512x1024.Idx) (R : Fin 512) (w : Fin 1024) (hR : (R : ℕ) = t.val * 512 + ((y 0 : Fin 512) : ℕ)) (hw : (w : ℕ) = ((y 1 : Fin 1024) : ℕ)) :
    (outsAt0 m c t).2.1 y = kRow m c R w := by
  unfold outsAt0
  dsimp only
  rw [out5_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold kRow
  exact colAt_eq m c t _ _ hR _ _ _ _ (by omega)

theorem array5 (c : Dev nD) : (dats m 0 c).arrAt 5 cfg0.N = fun j : S512x1024.Idx => kRow m c (j 0) (j 1) := by
  refine (dats m 0 c).arrAt_eq_of_covers 5 _ (by decide +kernel) fun t hf y => ?_
  rw [after0_5]
  refine (left5 m c t y ⟨t.val * 512 + ((y 0 : Fin 512) : ℕ), by have := (idx t).1; have : ((y 0 : Fin 512) : ℕ) < 512 := (y 0).isLt; omega⟩ (y 1) rfl rfl).trans ?_
  exact congr (congrArg (kRow m c) (Fin.ext (emb5_0 t y).symm)) (Fin.ext (emb5_1 t y).symm)

theorem emb7_0 (t : Fin cfg0.N) (y : S512x1024.Idx) : (((win0_7.blk t).view.emb y 0 : Fin 512) : ℕ) = t.val * 512 + ((y 0 : Fin 512) : ℕ) := by
  have e := (idxOut t).2.2.2.1
  blk_simp [e]; try omega
theorem emb7_1 (t : Fin cfg0.N) (y : S512x1024.Idx) : (((win0_7.blk t).view.emb y 1 : Fin 1024) : ℕ) = ((y 1 : Fin 1024) : ℕ) := by
  have e := (idxOut t).2.2.2.1
  blk_simp [e]; try omega

theorem left7 (c : Dev nD) (t : Fin cfg0.N) (y : S512x1024.Idx) (R : Fin 512) (w : Fin 1024) (hR : (R : ℕ) = t.val * 512 + ((y 0 : Fin 512) : ℕ)) (hw : (w : ℕ) = ((y 1 : Fin 1024) : ℕ)) :
    (outsAt0 m c t).2.2.2.1 y = vRow m c R w := by
  unfold outsAt0
  dsimp only
  rw [out7_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold vRow
  exact colAt_eq m c t _ _ hR _ _ _ _ (by omega)

theorem array7 (c : Dev nD) : (dats m 0 c).arrAt 7 cfg0.N = fun j : S512x1024.Idx => vRow m c (j 0) (j 1) := by
  refine (dats m 0 c).arrAt_eq_of_covers 7 _ (by decide +kernel) fun t hf y => ?_
  rw [after0_7]
  refine (left7 m c t y ⟨t.val * 512 + ((y 0 : Fin 512) : ℕ), by have := (idx t).1; have : ((y 0 : Fin 512) : ℕ) < 512 := (y 0).isLt; omega⟩ (y 1) rfl rfl).trans ?_
  exact congr (congrArg (vRow m c) (Fin.ext (emb7_0 t y).symm)) (Fin.ext (emb7_1 t y).symm)

theorem emb9_0 (t : Fin cfg0.N) (y : S512x512.Idx) : (((win0_9.blk t).view.emb y 0 : Fin 512) : ℕ) = t.val * 512 + ((y 0 : Fin 512) : ℕ) := by
  have e := (idxOut t).2.2.2.2.2
  blk_simp [e]; try omega
theorem emb9_1 (t : Fin cfg0.N) (y : S512x512.Idx) : (((win0_9.blk t).view.emb y 1 : Fin 512) : ℕ) = ((y 1 : Fin 512) : ℕ) := by
  have e := (idxOut t).2.2.2.2.2
  blk_simp [e]; try omega

theorem left9 (c : Dev nD) (t : Fin cfg0.N) (y : S512x512.Idx) (R : Fin 512) (w : Fin 512) (hR : (R : ℕ) = t.val * 512 + ((y 0 : Fin 512) : ℕ)) (hw : (w : ℕ) = ((y 1 : Fin 512) : ℕ)) :
    (outsAt0 m c t).2.2.2.2.2 y = mRow m c R w := by
  unfold outsAt0
  dsimp only
  rw [out9_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold mRow
  exact congrArg (· * headFactor) (headAt_eq m c t _ _ (blk3 m c t) _ _ hR _ _ _ _ (by omega) _ _ (by show _ % 128 = _ % 128; omega))

theorem array9 (c : Dev nD) : (dats m 0 c).arrAt 9 cfg0.N = fun j : S512x512.Idx => mRow m c (j 0) (j 1) := by
  refine (dats m 0 c).arrAt_eq_of_covers 9 _ (by decide +kernel) fun t hf y => ?_
  rw [after0_9]
  refine (left9 m c t y ⟨t.val * 512 + ((y 0 : Fin 512) : ℕ), by have := (idx t).1; have : ((y 0 : Fin 512) : ℕ) < 512 := (y 0).isLt; omega⟩ (y 1) rfl rfl).trans ?_
  exact congr (congrArg (mRow m c) (Fin.ext (emb9_0 t y).symm)) (Fin.ext (emb9_1 t y).symm)

theorem emb6_1 (t : Fin cfg0.N) (y : S1x512x4x256.Idx) : (((win0_6.blk t).view.emb y 1 : Fin 512) : ℕ) = t.val * 512 + ((y 1 : Fin 512) : ℕ) := by
  have e := (idxOut t).2.2.1
  blk_simp [e]; try omega
theorem emb6_2 (t : Fin cfg0.N) (y : S1x512x4x256.Idx) : (((win0_6.blk t).view.emb y 2 : Fin 4) : ℕ) = ((y 2 : Fin 4) : ℕ) := by
  have e := (idxOut t).2.2.1
  blk_simp [e]; try omega
theorem emb6_3 (t : Fin cfg0.N) (y : S1x512x4x256.Idx) : (((win0_6.blk t).view.emb y 3 : Fin 256) : ℕ) = ((y 3 : Fin 256) : ℕ) := by
  have e := (idxOut t).2.2.1
  blk_simp [e]; try omega

theorem left6 (c : Dev nD) (t : Fin cfg0.N) (y : S1x512x4x256.Idx) (R : Fin 512) (hR : (R : ℕ) = t.val * 512 + ((y 1 : Fin 512) : ℕ)) :
    (outsAt0 m c t).2.2.1 y = kRow m c R (lane (y 2) (y 3)) := by
  unfold outsAt0
  dsimp only
  rw [out6_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold kRow lane
  exact colAt_eq m c t _ _ hR _ _ _ _ rfl

/-- The cache after the run: its second slot written, the rest as it stood before. -/
theorem array6 (c : Dev nD) : (dats m 0 c).arrAt 6 cfg0.N
    = fun j : S2x512x4x256.Idx => if ((j 0 : Fin 2) : ℕ) / 1 = 1 then kRow m c (j 1) (lane (j 2) (j 3)) else V m c main_v5_2 j := by
  refine (dats m 0 c).arrAt_eq_of_coversWhere 6 (fun j : S2x512x4x256.Idx => kRow m c (j 1) (lane (j 2) (j 3))) (fun β => β (0 : Fin _) = 1) (by decide +kernel) (fun t hf y => ?_) (fun j => Iff.rfl)
  rw [after0_6]
  refine (left6 m c t y ⟨t.val * 512 + ((y 1 : Fin 512) : ℕ), by have := (idx t).1; have : ((y 1 : Fin 512) : ℕ) < 512 := (y 1).isLt; omega⟩ rfl).trans ?_
  exact congr (congrArg (kRow m c) (Fin.ext (emb6_1 t y).symm)) (congr (congrArg lane (Fin.ext (emb6_2 t y).symm)) (Fin.ext (emb6_3 t y).symm))

theorem emb8_1 (t : Fin cfg0.N) (y : S1x512x4x256.Idx) : (((win0_8.blk t).view.emb y 1 : Fin 512) : ℕ) = t.val * 512 + ((y 1 : Fin 512) : ℕ) := by
  have e := (idxOut t).2.2.2.2.1
  blk_simp [e]; try omega
theorem emb8_2 (t : Fin cfg0.N) (y : S1x512x4x256.Idx) : (((win0_8.blk t).view.emb y 2 : Fin 4) : ℕ) = ((y 2 : Fin 4) : ℕ) := by
  have e := (idxOut t).2.2.2.2.1
  blk_simp [e]; try omega
theorem emb8_3 (t : Fin cfg0.N) (y : S1x512x4x256.Idx) : (((win0_8.blk t).view.emb y 3 : Fin 256) : ℕ) = ((y 3 : Fin 256) : ℕ) := by
  have e := (idxOut t).2.2.2.2.1
  blk_simp [e]; try omega

theorem left8 (c : Dev nD) (t : Fin cfg0.N) (y : S1x512x4x256.Idx) (R : Fin 512) (hR : (R : ℕ) = t.val * 512 + ((y 1 : Fin 512) : ℕ)) :
    (outsAt0 m c t).2.2.2.2.1 y = vRow m c R (lane (y 2) (y 3)) := by
  unfold outsAt0
  dsimp only
  rw [out8_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) y]
  unfold vRow lane
  exact colAt_eq m c t _ _ hR _ _ _ _ rfl

/-- The cache after the run: its second slot written, the rest as it stood before. -/
theorem array8 (c : Dev nD) : (dats m 0 c).arrAt 8 cfg0.N
    = fun j : S2x512x4x256.Idx => if ((j 0 : Fin 2) : ℕ) / 1 = 1 then vRow m c (j 1) (lane (j 2) (j 3)) else V m c main_v5_4 j := by
  refine (dats m 0 c).arrAt_eq_of_coversWhere 8 (fun j : S2x512x4x256.Idx => vRow m c (j 1) (lane (j 2) (j 3))) (fun β => β (0 : Fin _) = 1) (by decide +kernel) (fun t hf y => ?_) (fun j => Iff.rfl)
  rw [after0_8]
  refine (left8 m c t y ⟨t.val * 512 + ((y 1 : Fin 512) : ℕ), by have := (idx t).1; have : ((y 1 : Fin 512) : ℕ) < 512 := (y 1).isLt; omega⟩ rfl).trans ?_
  exact congr (congrArg (vRow m c) (Fin.ext (emb8_1 t y).symm)) (congr (congrArg lane (Fin.ext (emb8_2 t y).symm)) (Fin.ext (emb8_3 t y).symm))

end Cert.StickSample

end
-- ==== Proof.StickSampleRef.lean ====
/- The stick-breaking layer's projection of the sample's rows: the kernel's operands and the reference's results at an index of the arguments, and their equality. -/
module

public import proofs.«01_k».proof.Proof.Gen.Reference8Ideal.Run
public import proofs.«01_k».proof.Proof.LayerSample
public import proofs.«01_k».proof.Proof.StickSampleArray
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.StickSample
open Cert.Proj Cert.Ffn Cert.LayerSample
open Cert.StickProj (laneFactor headFactor)

section Operands
open Cert.Kernel8Ideal Cert.Kernel8Ideal.Gen

variable (m : (ℓ : Loc nD τ sig) → Buf (Elt Ideal) ℓ)

/-- The arguments as functions of an index to the extended reals. -/
abbrev argX (c : Dev nD) : S32x16x2048.Idx → EReal := m ((c : Thread nD τ).loc main_arg0)
abbrev argG (c : Dev nD) : S2048.Idx → EReal := m ((c : Thread nD τ).loc main_arg1)
abbrev argW (c : Dev nD) : S2048x3584.Idx → EReal := m ((c : Thread nD τ).loc main_arg2)
abbrev argM (c : Dev nD) : S128.Idx → EReal := m ((c : Thread nD τ).loc main_arg3)
abbrev argK (c : Dev nD) : S2x512x4x256.Idx → EReal := m ((c : Thread nD τ).loc main_arg4)
abbrev argV (c : Dev nD) : S2x512x4x256.Idx → EReal := m ((c : Thread nD τ).loc main_arg5)

theorem x_at (c : Dev nD) (r : Fin 512) (d : Fin 2048) :
    (V m c main_v0 (ix2 r d) : EReal) = argX m c (ix3 ⟨(r : ℕ) / 16, by omega⟩ ⟨(r : ℕ) % 16, by omega⟩ d) := by
  unfold V
  after_reads_at

theorem g_at (c : Dev nD) (d : Fin 2048) : (V m c main_v3 (ix2 0 d) : EReal) = argG m c (ix1 d) := by
  unfold V
  after_reads_at

theorem w_at (c : Dev nD) (d : Fin 2048) (k : Fin 3584) : (V m c main_v2 (ix3 0 d k) : EReal) = argW m c (ix2 d k) := by
  unfold V
  after_reads_at

theorem m_at (c : Dev nD) (d : Fin 128) : (V m c main_v4 (ix2 0 d) : EReal) = argM m c (ix1 d) := by
  unfold V
  after_reads_at

/-- The caches before the run are the arguments'. -/
theorem kc_at (c : Dev nD) (s : Fin 2) (r : Fin 512) (h : Fin 4) (d : Fin 256) : (V m c main_v5_2 (ix4 s r h d) : EReal) = argK m c (ix4 s r h d) := by
  unfold V
  after_reads_at
  rfl

theorem vc_at (c : Dev nD) (s : Fin 2) (r : Fin 512) (h : Fin 4) (d : Fin 256) : (V m c main_v5_4 (ix4 s r h d) : EReal) = argV m c (ix4 s r h d) := by
  unfold V
  after_reads_at
  rfl

/-- Column `j` of row `r`, from the arguments. -/
def colRef (c : Dev nD) (r : Fin 512) (j : ℕ) (h : j < 3584) : EReal :=
  column (fun d => argX m c (ix3 ⟨(r : ℕ) / 16, by omega⟩ ⟨(r : ℕ) % 16, by omega⟩ d)) (fun d => argG m c (ix1 d)) (fun d k => argW m c (ix2 d k)) j h

theorem col_eq (c : Dev nD) (r : Fin 512) (j j' : ℕ) (h : j < 3584) (h' : j' < 3584) (e : j = j') : col m c r j h = colRef m c r j' h' :=
  column_congr (fun d => x_at m c r d) (fun d => g_at m c d) (fun d k => w_at m c d k) e

theorem head_eq (c : Dev nD) (gk gk' : Fin 128 → EReal) (hg : ∀ d, gk d = gk' d) (r : Fin 512)
    (o : ℕ) (ho : o + 128 ≤ 3584) (y : Fin 128 → EReal) (j : Fin 128) (hy : ∀ d : Fin 128, y d = colRef m c r (o + (d : ℕ)) (by omega)) :
    head m c gk r o ho j = headed y gk' j :=
  headed_congr (fun d => (col_eq m c r _ _ _ _ rfl).trans (hy d).symm) hg rfl

end Operands

section Value
open Cert.Reference8Ideal Cert.Reference8Ideal.Gen Cert.Reference8Ideal.Facts

variable (x : FVec Ideal S32x16x2048 .f32) (g : FVec Ideal S2048 .f32) (w : FVec Ideal S2048x3584 .f32) (gm : FVec Ideal S128 .f32) (kc : FVec Ideal S2x512x4x256 .f32)

/-- Four heads of 256 lanes times the queries' factor. -/
def scaled256 (a : FVec Ideal S32x16x4x256 .f32) : FVec Ideal S32x16x4x256 .f32 :=
  mulf a (broadcastInDim S32x16x4x256 ![] bcast_S_S32x16x4x256 (constant S_ .f32 0x3D800000#32))

theorem scaled256_at (a : FVec Ideal S32x16x4x256 .f32) (b : Fin 32) (p : Fin 16) (h : Fin 4) (j : Fin 256) :
    scaled256 a (ix4 b p h j) = a (ix4 b p h j) * laneFactor := by
  unfold scaled256 laneFactor
  pointwise

/-- A layer's keys or values behind the earlier layer's in a cache. -/
def stacked (kc : FVec Ideal S2x512x4x256 .f32) (a : FVec Ideal S32x16x4x256 .f32) : FVec Ideal S2x512x4x256 .f32 :=
  concatenate S2x512x4x256 0
    [⟨S1x512x4x256, broadcastInDim S1x512x4x256 ![1, 2, 3] bcast_S512x4x256_S1x512x4x256_1_2_3 (shapeCast S512x4x256 (extractStridedSlice S1x512x4x256 ![0, 0, 0, 0] kc slices_S2x512x4x256_S1x512x4x256_0_0_0_0) shapeCasts_S1x512x4x256_S512x4x256)⟩,
     ⟨S1x512x4x256, broadcastInDim S1x512x4x256 ![1, 2, 3] bcast_S512x4x256_S1x512x4x256_1_2_3 (shapeCast S512x4x256 a shapeCasts_S32x16x4x256_S512x4x256)⟩]
    concatenates_S1x512x4x256_S1x512x4x256_S2x512x4x256_d0

theorem first_at (kc : FVec Ideal S2x512x4x256 .f32) (r : Fin 512) (h : Fin 4) (d : Fin 256) :
    shapeCast S512x4x256 (extractStridedSlice S1x512x4x256 ![0, 0, 0, 0] kc slices_S2x512x4x256_S1x512x4x256_0_0_0_0) shapeCasts_S1x512x4x256_S512x4x256 (ix3 r h d) = kc (ix4 0 r h d) := by
  pointwise
  try blk_ext
  all_goals omega

theorem second_at (a : FVec Ideal S32x16x4x256 .f32) (r : Fin 512) (h : Fin 4) (d : Fin 256) :
    shapeCast S512x4x256 a shapeCasts_S32x16x4x256_S512x4x256 (ix3 r h d) = a (ix4 ⟨(r : ℕ) / 16, by omega⟩ ⟨(r : ℕ) % 16, by omega⟩ h d) := by
  pointwise
  try blk_ext
  all_goals omega

theorem stacked_at (kc : FVec Ideal S2x512x4x256 .f32) (a : FVec Ideal S32x16x4x256 .f32) (s : Fin 2) (r : Fin 512) (h : Fin 4) (d : Fin 256) :
    stacked kc a (ix4 s r h d) = if (s : ℕ) < 1 then kc (ix4 0 r h d) else a (ix4 ⟨(r : ℕ) / 16, by omega⟩ ⟨(r : ℕ) % 16, by omega⟩ h d) := by
  unfold stacked
  pointwise [first_at, second_at]
  exact dite_eq_ite

theorem split256_at (y : FVec Ideal S32x16x1024 .f32) (b : Fin 32) (p : Fin 16) (h : Fin 4) (j : Fin 256) :
    shapeCast S32x16x4x256 y shapeCasts_S32x16x1024_S32x16x4x256 (ix4 b p h j) = y (ix3 b p ⟨(h : ℕ) * 256 + (j : ℕ), by omega⟩) := by
  pointwise
  try blk_ext
  all_goals omega

theorem rows256_at (a : FVec Ideal S32x16x4x256 .f32) (r : Fin 512) (w : Fin 1024) :
    shapeCast S512x1024 a shapeCasts_S32x16x4x256_S512x1024 (ix2 r w)
      = a (ix4 ⟨(r : ℕ) / 16, by omega⟩ ⟨(r : ℕ) % 16, by omega⟩ ⟨(w : ℕ) / 256, by omega⟩ ⟨(w : ℕ) % 256, by omega⟩) := by
  pointwise
  try blk_ext
  all_goals omega

/-- The reference's queries, keys, values and memory queries, and its caches. -/
def refQ : FVec Ideal S512x1024 .f32 := shapeCast _ (scaled256 (shapeCast _ (prodQ x g w) shapeCasts_S32x16x1024_S32x16x4x256)) shapeCasts_S32x16x4x256_S512x1024
def refK : FVec Ideal S512x1024 .f32 := shapeCast _ (shapeCast S32x16x4x256 (prodK x g w) shapeCasts_S32x16x1024_S32x16x4x256) shapeCasts_S32x16x4x256_S512x1024
def refKc : FVec Ideal S2x512x4x256 .f32 := stacked kc (shapeCast S32x16x4x256 (prodK x g w) shapeCasts_S32x16x1024_S32x16x4x256)
def refV : FVec Ideal S512x1024 .f32 := shapeCast _ (shapeCast S32x16x4x256 (prodV x g w) shapeCasts_S32x16x1024_S32x16x4x256) shapeCasts_S32x16x4x256_S512x1024
def refVc : FVec Ideal S2x512x4x256 .f32 := stacked kc (shapeCast S32x16x4x256 (prodV x g w) shapeCasts_S32x16x1024_S32x16x4x256)
def refM : FVec Ideal S512x512 .f32 := shapeCast _ (scaled4 (shapeCast _ (prodM x g w) shapeCasts_S32x16x512_S32x16x4x128) gm) shapeCasts_S32x16x4x128_S512x512

end Value

section Equality
open Cert.Kernel8Ideal Cert.Kernel8Ideal.Gen

variable (m : (ℓ : Loc nD τ sig) → Buf (Elt Ideal) ℓ)

theorem refQ_eq (c : Dev nD) (r : Fin 512) (w : Fin 1024) : qRow m c r w = refQ (argX m c) (argG m c) (argW m c) (ix2 r w) := by
  unfold refQ qRow
  rw [rows256_at, scaled256_at, split256_at, prodQ_at]
  exact congrArg (· * laneFactor) (col_eq m c r _ _ _ _ (by show _ = 0 + ((w : ℕ) / 256 * 256 + (w : ℕ) % 256); omega))

theorem refK_eq (c : Dev nD) (r : Fin 512) (w : Fin 1024) : kRow m c r w = refK (argX m c) (argG m c) (argW m c) (ix2 r w) := by
  unfold refK kRow
  rw [rows256_at, split256_at, prodK_at]
  exact col_eq m c r _ _ _ _ (by show _ = 1024 + ((w : ℕ) / 256 * 256 + (w : ℕ) % 256); omega)

theorem refV_eq (c : Dev nD) (r : Fin 512) (w : Fin 1024) : vRow m c r w = refV (argX m c) (argG m c) (argW m c) (ix2 r w) := by
  unfold refV vRow
  rw [rows256_at, split256_at, prodV_at]
  exact col_eq m c r _ _ _ _ (by show _ = 2048 + ((w : ℕ) / 256 * 256 + (w : ℕ) % 256); omega)

theorem refM_eq (c : Dev nD) (r : Fin 512) (w : Fin 512) : mRow m c r w = refM (argX m c) (argG m c) (argW m c) (argM m c) (ix2 r w) := by
  unfold refM mRow
  rw [rows4_at, scaled4_at]
  refine congrArg (· * headFactor) ?_
  refine head_eq m c _ _ (m_at m c) r _ _ _ _ fun d => ?_
  rw [split4_at, prodM_at]
  exact column_congr (fun _ => rfl) (fun _ => rfl) (fun _ _ => rfl) (by show _ + ((w : ℕ) / 128 * 128 + (d : ℕ)) = _; omega)

theorem refKc_eq (c : Dev nD) (s : Fin 2) (r : Fin 512) (h : Fin 4) (d : Fin 256) :
    (if (s : ℕ) / 1 = 1 then kRow m c r (lane h d) else (V m c main_v5_2 (ix4 s r h d) : EReal)) = refKc (argX m c) (argG m c) (argW m c) (argK m c) (ix4 s r h d) := by
  unfold refKc
  rw [stacked_at]
  by_cases hs : (s : ℕ) < 1
  · obtain rfl : s = 0 := Fin.ext (by show (s : ℕ) = 0; omega)
    rw [if_neg (by omega), if_pos hs]
    exact kc_at m c 0 r h d
  · rw [if_pos (by omega), if_neg hs, split256_at, prodK_at]
    exact col_eq m c r _ _ _ _ rfl

theorem refVc_eq (c : Dev nD) (s : Fin 2) (r : Fin 512) (h : Fin 4) (d : Fin 256) :
    (if (s : ℕ) / 1 = 1 then vRow m c r (lane h d) else (V m c main_v5_4 (ix4 s r h d) : EReal)) = refVc (argX m c) (argG m c) (argW m c) (argV m c) (ix4 s r h d) := by
  unfold refVc
  rw [stacked_at]
  by_cases hs : (s : ℕ) < 1
  · obtain rfl : s = 0 := Fin.ext (by show (s : ℕ) = 0; omega)
    rw [if_neg (by omega), if_pos hs]
    exact vc_at m c 0 r h d
  · rw [if_pos (by omega), if_neg hs, split256_at, prodV_at]
    exact col_eq m c r _ _ _ _ rfl

theorem refQ_all (c : Dev nD) : (fun j : S512x1024.Idx => qRow m c (j 0) (j 1)) = refQ (argX m c) (argG m c) (argW m c) := by
  funext j
  have hj : j = ix2 (j 0) (j 1) := by
    funext a
    match a with
    | ⟨0, _⟩ => rfl
    | ⟨1, _⟩ => rfl
  exact (refQ_eq m c (j 0) (j 1)).trans (congrArg (refQ (argX m c) (argG m c) (argW m c)) hj.symm)

theorem refK_all (c : Dev nD) : (fun j : S512x1024.Idx => kRow m c (j 0) (j 1)) = refK (argX m c) (argG m c) (argW m c) := by
  funext j
  have hj : j = ix2 (j 0) (j 1) := by
    funext a
    match a with
    | ⟨0, _⟩ => rfl
    | ⟨1, _⟩ => rfl
  exact (refK_eq m c (j 0) (j 1)).trans (congrArg (refK (argX m c) (argG m c) (argW m c)) hj.symm)

theorem refV_all (c : Dev nD) : (fun j : S512x1024.Idx => vRow m c (j 0) (j 1)) = refV (argX m c) (argG m c) (argW m c) := by
  funext j
  have hj : j = ix2 (j 0) (j 1) := by
    funext a
    match a with
    | ⟨0, _⟩ => rfl
    | ⟨1, _⟩ => rfl
  exact (refV_eq m c (j 0) (j 1)).trans (congrArg (refV (argX m c) (argG m c) (argW m c)) hj.symm)

theorem refM_all (c : Dev nD) : (fun j : S512x512.Idx => mRow m c (j 0) (j 1)) = refM (argX m c) (argG m c) (argW m c) (argM m c) := by
  funext j
  have hj : j = ix2 (j 0) (j 1) := by
    funext a
    match a with
    | ⟨0, _⟩ => rfl
    | ⟨1, _⟩ => rfl
  exact (refM_eq m c (j 0) (j 1)).trans (congrArg (refM (argX m c) (argG m c) (argW m c) (argM m c)) hj.symm)

theorem refKc_all (c : Dev nD) : (fun j : S2x512x4x256.Idx => if ((j 0 : Fin 2) : ℕ) / 1 = 1 then kRow m c (j 1) (lane (j 2) (j 3)) else (V m c main_v5_2 j : EReal)) = refKc (argX m c) (argG m c) (argW m c) (argK m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  refine Eq.trans ?_ ((refKc_eq m c (j 0) (j 1) (j 2) (j 3)).trans (congrArg (refKc (argX m c) (argG m c) (argW m c) (argK m c)) hj.symm))
  exact if_congr Iff.rfl rfl (congrArg (V m c main_v5_2) hj)

theorem refVc_all (c : Dev nD) : (fun j : S2x512x4x256.Idx => if ((j 0 : Fin 2) : ℕ) / 1 = 1 then vRow m c (j 1) (lane (j 2) (j 3)) else (V m c main_v5_4 j : EReal)) = refVc (argX m c) (argG m c) (argW m c) (argV m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  refine Eq.trans ?_ ((refVc_eq m c (j 0) (j 1) (j 2) (j 3)).trans (congrArg (refVc (argX m c) (argG m c) (argW m c) (argV m c)) hj.symm))
  exact if_congr Iff.rfl rfl (congrArg (V m c main_v5_4) hj)

end Equality

end Cert.StickSample

end
-- ==== Proof.BandSampleBlock.lean ====
/- The band layer's projection of the sample's rows: what it leaves in its blocks, entry by entry. -/
module

public import proofs.«01_k».proof.Proof.Gen.Kernel9Ideal.Value
public import proofs.«01_k».proof.Proof.BandProjBlock
public import proofs.«01_k».proof.Proof.StickProjBlock

@[expose] public section

set_option maxRecDepth 16384

noncomputable section

open Idealize.ShloMosaic Idealize.ShloMosaic.TcCoe Idealize.SL.Sem
open Idealize.ShloMosaic.Pipeline (Dat)

namespace Cert.BandSample
open Cert.Kernel9Ideal Cert.Kernel9Ideal.Gen
open Cert.Proj Cert.Ffn
open Cert.BandProj (head5_at head6_at head7_at head8_at head12_at head13_at head14_at head15_at)
open Cert.StickProj (colAt headAt headFactor head_tile lane_tile group0_at group1_at group2_at group3_at group4_at group5_at group6_at)

theorem key19_at (y : FVec Ideal S512x512 .f32) (gk : Vec Ideal S1x128 .f32) (i : S512x128.Idx) :
    k0_pay19 y gk i = headed (fun d => y (ix2 (i 0) ⟨0 + (d : ℕ), by omega⟩)) (fun d => gk (ix2 0 d)) (i 1) := by
  pointwise [k0_pay19, k0_pay18, headed, headScale, headFactor]

theorem key22_at (y : FVec Ideal S512x512 .f32) (gk : Vec Ideal S1x128 .f32) (i : S512x128.Idx) :
    k0_pay22 y gk i = headed (fun d => y (ix2 (i 0) ⟨128 + (d : ℕ), by omega⟩)) (fun d => gk (ix2 0 d)) (i 1) := by
  pointwise [k0_pay22, k0_pay21, headed, headScale, headFactor]

theorem key26_at (y : FVec Ideal S512x512 .f32) (gk : Vec Ideal S1x128 .f32) (i : S512x128.Idx) :
    k0_pay26 (k0_pay24 y) gk i = headed (fun d => y (ix2 (i 0) ⟨256 + (d : ℕ), by omega⟩)) (fun d => gk (ix2 0 d)) (i 1) := by
  pointwise [k0_pay26, k0_pay25, k0_pay24, headed, headScale, headFactor]

theorem key29_at (y : FVec Ideal S512x512 .f32) (gk : Vec Ideal S1x128 .f32) (i : S512x128.Idx) :
    k0_pay29 y gk i = headed (fun d => y (ix2 (i 0) ⟨384 + (d : ℕ), by omega⟩)) (fun d => gk (ix2 0 d)) (i 1) := by
  pointwise [k0_pay29, k0_pay28, headed, headScale, headFactor]

theorem key35_at (y : FVec Ideal S512x512 .f32) (gk : Vec Ideal S1x128 .f32) (i : S512x128.Idx) :
    k0_pay35 (k0_pay32 y) (k0_pay33 y) gk i = headed (fun d => y (ix2 (i 0) ⟨0 + (d : ℕ), by omega⟩)) (fun d => gk (ix2 0 d)) (i 1) := by
  pointwise [k0_pay35, k0_pay34, k0_pay33, k0_pay32, headed, headScale, headFactor]

theorem key38_at (y : FVec Ideal S512x512 .f32) (gk : Vec Ideal S1x128 .f32) (i : S512x128.Idx) :
    k0_pay38 y gk i = headed (fun d => y (ix2 (i 0) ⟨128 + (d : ℕ), by omega⟩)) (fun d => gk (ix2 0 d)) (i 1) := by
  pointwise [k0_pay38, k0_pay37, headed, headScale, headFactor]

theorem key41_at (y : FVec Ideal S512x512 .f32) (gk : Vec Ideal S1x128 .f32) (i : S512x128.Idx) :
    k0_pay41 y gk i = headed (fun d => y (ix2 (i 0) ⟨256 + (d : ℕ), by omega⟩)) (fun d => gk (ix2 0 d)) (i 1) := by
  pointwise [k0_pay41, k0_pay40, headed, headScale, headFactor]

theorem key44_at (y : FVec Ideal S512x512 .f32) (gk : Vec Ideal S1x128 .f32) (i : S512x128.Idx) :
    k0_pay44 y gk i = headed (fun d => y (ix2 (i 0) ⟨384 + (d : ℕ), by omega⟩)) (fun d => gk (ix2 0 d)) (i 1) := by
  pointwise [k0_pay44, k0_pay43, headed, headScale, headFactor]

theorem key20_at (y : FVec Ideal S512x512 .f32) (gk : Vec Ideal S1x128 .f32) (i : S1x512x1x128.Idx) :
    k0_pay20 (k0_pay18 y gk) i = headed (fun d => y (ix2 (i 1) ⟨0 + (d : ℕ), by omega⟩)) (fun d => gk (ix2 0 d)) (i 3) := by
  pointwise [k0_pay20, k0_pay18, headed, headScale, headFactor]

theorem key23_at (y : FVec Ideal S512x512 .f32) (gk : Vec Ideal S1x128 .f32) (i : S1x512x1x128.Idx) :
    k0_pay23 y gk i = headed (fun d => y (ix2 (i 1) ⟨128 + (d : ℕ), by omega⟩)) (fun d => gk (ix2 0 d)) (i 3) := by
  pointwise [k0_pay23, k0_pay21, headed, headScale, headFactor]

theorem key27_at (y : FVec Ideal S512x512 .f32) (gk : Vec Ideal S1x128 .f32) (i : S1x512x1x128.Idx) :
    k0_pay27 (k0_pay24 y) gk i = headed (fun d => y (ix2 (i 1) ⟨256 + (d : ℕ), by omega⟩)) (fun d => gk (ix2 0 d)) (i 3) := by
  pointwise [k0_pay27, k0_pay25, k0_pay24, headed, headScale, headFactor]

theorem key30_at (y : FVec Ideal S512x512 .f32) (gk : Vec Ideal S1x128 .f32) (i : S1x512x1x128.Idx) :
    k0_pay30 y gk i = headed (fun d => y (ix2 (i 1) ⟨384 + (d : ℕ), by omega⟩)) (fun d => gk (ix2 0 d)) (i 3) := by
  pointwise [k0_pay30, k0_pay28, headed, headScale, headFactor]

theorem key36_at (y : FVec Ideal S512x512 .f32) (gk : Vec Ideal S1x128 .f32) (i : S1x512x1x128.Idx) :
    k0_pay36 (k0_pay32 y) (k0_pay33 y) gk i = headed (fun d => y (ix2 (i 1) ⟨0 + (d : ℕ), by omega⟩)) (fun d => gk (ix2 0 d)) (i 3) := by
  pointwise [k0_pay36, k0_pay34, k0_pay33, k0_pay32, headed, headScale, headFactor]

theorem key39_at (y : FVec Ideal S512x512 .f32) (gk : Vec Ideal S1x128 .f32) (i : S1x512x1x128.Idx) :
    k0_pay39 (k0_pay37 y gk) i = headed (fun d => y (ix2 (i 1) ⟨128 + (d : ℕ), by omega⟩)) (fun d => gk (ix2 0 d)) (i 3) := by
  pointwise [k0_pay39, k0_pay37, headed, headScale, headFactor]

theorem key42_at (y : FVec Ideal S512x512 .f32) (gk : Vec Ideal S1x128 .f32) (i : S1x512x1x128.Idx) :
    k0_pay42 y gk i = headed (fun d => y (ix2 (i 1) ⟨256 + (d : ℕ), by omega⟩)) (fun d => gk (ix2 0 d)) (i 3) := by
  pointwise [k0_pay42, k0_pay40, headed, headScale, headFactor]

theorem key45_at (y : FVec Ideal S512x512 .f32) (gk : Vec Ideal S1x128 .f32) (i : S1x512x1x128.Idx) :
    k0_pay45 (k0_pay43 y gk) i = headed (fun d => y (ix2 (i 1) ⟨384 + (d : ℕ), by omega⟩)) (fun d => gk (ix2 0 d)) (i 3) := by
  pointwise [k0_pay45, k0_pay43, headed, headScale, headFactor]

theorem mem72_at (y : FVec Ideal S512x512 .f32) (gk : Vec Ideal S1x128 .f32) (i : S512x128.Idx) :
    k0_pay72 y gk i = headed (fun d => y (ix2 (i 0) ⟨0 + (d : ℕ), by omega⟩)) (fun d => gk (ix2 0 d)) (i 1) * headFactor := by
  pointwise [k0_pay72, headed, headScale, headFactor]

theorem mem75_at (y : FVec Ideal S512x512 .f32) (gk : Vec Ideal S1x128 .f32) (i : S512x128.Idx) :
    k0_pay75 (k0_pay73 y) (k0_pay74 gk) i = headed (fun d => y (ix2 (i 0) ⟨128 + (d : ℕ), by omega⟩)) (fun d => gk (ix2 0 d)) (i 1) * headFactor := by
  pointwise [k0_pay75, k0_pay73, k0_pay74, headed, headScale, headFactor]

theorem mem76_at (y : FVec Ideal S512x512 .f32) (gk : Vec Ideal S1x128 .f32) (i : S512x128.Idx) :
    k0_pay76 y gk i = headed (fun d => y (ix2 (i 0) ⟨256 + (d : ℕ), by omega⟩)) (fun d => gk (ix2 0 d)) (i 1) * headFactor := by
  pointwise [k0_pay76, headed, headScale, headFactor]

theorem mem1_at (y : FVec Ideal S512x512 .f32) (gk : Vec Ideal S1x128 .f32) (i : S512x128.Idx) :
    k0_pay1 (k0_pay77 y gk) (k0_pay78 (F := Ideal)) i = headed (fun d => y (ix2 (i 0) ⟨384 + (d : ℕ), by omega⟩)) (fun d => gk (ix2 0 d)) (i 1) * headFactor := by
  pointwise [k0_pay1, k0_pay77, k0_pay78, headed, headScale, headFactor]

theorem lane48_at (y : FVec Ideal S512x512 .f32) (i : S512x128.Idx) :
    k0_pay48 y i = y (ix2 (i 0) ⟨0 + ((i 1 : Fin 128) : ℕ), by have : ((i 1 : Fin 128) : ℕ) < 128 := (i 1).isLt; omega⟩) := by
  pointwise [k0_pay48, k0_pay47]

theorem lane51_at (y : FVec Ideal S512x512 .f32) (i : S512x128.Idx) :
    k0_pay51 y i = y (ix2 (i 0) ⟨128 + ((i 1 : Fin 128) : ℕ), by have : ((i 1 : Fin 128) : ℕ) < 128 := (i 1).isLt; omega⟩) := by
  pointwise [k0_pay51, k0_pay50]

theorem lane54_at (y : FVec Ideal S512x512 .f32) (i : S512x128.Idx) :
    k0_pay54 y i = y (ix2 (i 0) ⟨256 + ((i 1 : Fin 128) : ℕ), by have : ((i 1 : Fin 128) : ℕ) < 128 := (i 1).isLt; omega⟩) := by
  pointwise [k0_pay54, k0_pay53]

theorem lane57_at (y : FVec Ideal S512x512 .f32) (i : S512x128.Idx) :
    k0_pay57 y i = y (ix2 (i 0) ⟨384 + ((i 1 : Fin 128) : ℕ), by have : ((i 1 : Fin 128) : ℕ) < 128 := (i 1).isLt; omega⟩) := by
  pointwise [k0_pay57, k0_pay56]

theorem lane61_at (y : FVec Ideal S512x512 .f32) (i : S512x128.Idx) :
    k0_pay61 y i = y (ix2 (i 0) ⟨0 + ((i 1 : Fin 128) : ℕ), by have : ((i 1 : Fin 128) : ℕ) < 128 := (i 1).isLt; omega⟩) := by
  pointwise [k0_pay61, k0_pay60]

theorem lane64_at (y : FVec Ideal S512x512 .f32) (i : S512x128.Idx) :
    k0_pay64 y i = y (ix2 (i 0) ⟨128 + ((i 1 : Fin 128) : ℕ), by have : ((i 1 : Fin 128) : ℕ) < 128 := (i 1).isLt; omega⟩) := by
  pointwise [k0_pay64, k0_pay63]

theorem lane67_at (y : FVec Ideal S512x512 .f32) (i : S512x128.Idx) :
    k0_pay67 y i = y (ix2 (i 0) ⟨256 + ((i 1 : Fin 128) : ℕ), by have : ((i 1 : Fin 128) : ℕ) < 128 := (i 1).isLt; omega⟩) := by
  pointwise [k0_pay67, k0_pay66]

theorem lane70_at (y : FVec Ideal S512x512 .f32) (i : S512x128.Idx) :
    k0_pay70 y i = y (ix2 (i 0) ⟨384 + ((i 1 : Fin 128) : ℕ), by have : ((i 1 : Fin 128) : ℕ) < 128 := (i 1).isLt; omega⟩) := by
  pointwise [k0_pay70, k0_pay69]

theorem lane49_at (y : FVec Ideal S512x512 .f32) (i : S1x512x1x128.Idx) :
    k0_pay49 y i = y (ix2 (i 1) ⟨0 + ((i 3 : Fin 128) : ℕ), by have : ((i 3 : Fin 128) : ℕ) < 128 := (i 3).isLt; omega⟩) := by
  pointwise [k0_pay49, k0_pay47]

theorem lane52_at (y : FVec Ideal S512x512 .f32) (i : S1x512x1x128.Idx) :
    k0_pay52 y i = y (ix2 (i 1) ⟨128 + ((i 3 : Fin 128) : ℕ), by have : ((i 3 : Fin 128) : ℕ) < 128 := (i 3).isLt; omega⟩) := by
  pointwise [k0_pay52, k0_pay50]

theorem lane55_at (y : FVec Ideal S512x512 .f32) (i : S1x512x1x128.Idx) :
    k0_pay55 y i = y (ix2 (i 1) ⟨256 + ((i 3 : Fin 128) : ℕ), by have : ((i 3 : Fin 128) : ℕ) < 128 := (i 3).isLt; omega⟩) := by
  pointwise [k0_pay55, k0_pay53]

theorem lane58_at (y : FVec Ideal S512x512 .f32) (i : S1x512x1x128.Idx) :
    k0_pay58 (k0_pay56 y) i = y (ix2 (i 1) ⟨384 + ((i 3 : Fin 128) : ℕ), by have : ((i 3 : Fin 128) : ℕ) < 128 := (i 3).isLt; omega⟩) := by
  pointwise [k0_pay58, k0_pay56]

theorem lane62_at (y : FVec Ideal S512x512 .f32) (i : S1x512x1x128.Idx) :
    k0_pay62 y i = y (ix2 (i 1) ⟨0 + ((i 3 : Fin 128) : ℕ), by have : ((i 3 : Fin 128) : ℕ) < 128 := (i 3).isLt; omega⟩) := by
  pointwise [k0_pay62, k0_pay60]

theorem lane65_at (y : FVec Ideal S512x512 .f32) (i : S1x512x1x128.Idx) :
    k0_pay65 y i = y (ix2 (i 1) ⟨128 + ((i 3 : Fin 128) : ℕ), by have : ((i 3 : Fin 128) : ℕ) < 128 := (i 3).isLt; omega⟩) := by
  pointwise [k0_pay65, k0_pay63]

theorem lane68_at (y : FVec Ideal S512x512 .f32) (i : S1x512x1x128.Idx) :
    k0_pay68 y i = y (ix2 (i 1) ⟨256 + ((i 3 : Fin 128) : ℕ), by have : ((i 3 : Fin 128) : ℕ) < 128 := (i 3).isLt; omega⟩) := by
  pointwise [k0_pay68, k0_pay66]

theorem lane71_at (y : FVec Ideal S512x512 .f32) (i : S1x512x1x128.Idx) :
    k0_pay71 y i = y (ix2 (i 1) ⟨384 + ((i 3 : Fin 128) : ℕ), by have : ((i 3 : Fin 128) : ℕ) < 128 := (i 3).isLt; omega⟩) := by
  pointwise [k0_pay71, k0_pay69]

section Block
variable (x0 : Vec Ideal S512x2048 .f32) (x1 : Vec Ideal S1x2048 .f32) (x2 : Vec Ideal S1x2048x3584 .bf16) (x3 x4 x5 : Vec Ideal S1x128 .f32)

/-- A head of a tile, its row and lane given by themselves and not as coordinates of the tile. -/
theorem cache_tile (y : S512x512.Idx → EReal) (n off : ℕ) (hn : n + 512 ≤ 3584) (ho : off + 128 ≤ 512) (hy : ∀ r k : Fin 512, y (ix2 r k) = colAt x0 x1 x2 r (n + (k : ℕ)) (by omega))
    (gk : Vec Ideal S1x128 .f32) (q : Fin 512) (l : Fin 128) (r : Fin 512) (b : ℕ) (hb : b + 128 ≤ 3584) (j : Fin 128)
    (hr : (r : ℕ) = q) (e : b = n + off) (hj : (j : ℕ) = l) :
    headed (fun d => y (ix2 q ⟨off + (d : ℕ), by omega⟩)) (fun d => View.ld gk (Rect.unit (s := S1x128) ![0, 0] S1x128.size inb_S1x128_S1x128_0_0) (ix2 0 d)) l = headAt x0 x1 x2 gk r b hb j :=
  head_tile x0 x1 x2 y n off hn ho hy gk (ix2 q l) r b hb j hr e hj

variable (c : Dev nD) (i : grid0.Coords)

theorem out6_at a1 h1 a2 h2 a3 h3 a4 h4 a5 h5 a6 h6 a9 h9 a10 h10 a11 h11 a12 h12 a13 h13 a14 h14 (y : S512x1024.Idx) :
    out0_A_6 c i a1 h1 a2 h2 a3 h3 a4 h4 a5 h5 a6 h6 a9 h9 a10 h10 a11 h11 a12 h12 a13 h13 a14 h14 x0 x1 x2 x3 x4 x5 y = headAt x0 x1 x2 x3 (y 0) (0 + ((y 1 : Fin 1024) : ℕ) / 128 * 128) (by have : ((y 1 : Fin 1024) : ℕ) < 1024 := (y 1).isLt; omega) ⟨((y 1 : Fin 1024) : ℕ) % 128, by omega⟩ * headFactor := by
  unfold out0_A_6
  rw [View.read_writes_junk_eq_canon]
  unfold kernelRun0_A
  dsimp only
  sl_unfold_words
  simp only [View.readAt_eq_ld, h1.read_unread, h2.read_unread, h3.read_unread, h4.read_unread, h5.read_unread, h6.read_unread]
  canon_tiles x e
  · exact (head15_at _ _ x).trans (congrArg (· * headFactor) (head_tile x0 x1 x2 _ 512 384 (by omega) (by omega) (group1_at x0 x1 x2) x3 x _ _ _ _ (by omega) (by omega) (by show _ % 128 = _; omega)))
  · exact (head14_at _ _ x).trans (congrArg (· * headFactor) (head_tile x0 x1 x2 _ 512 256 (by omega) (by omega) (group1_at x0 x1 x2) x3 x _ _ _ _ (by omega) (by omega) (by show _ % 128 = _; omega)))
  · exact (head13_at _ _ x).trans (congrArg (· * headFactor) (head_tile x0 x1 x2 _ 512 128 (by omega) (by omega) (group1_at x0 x1 x2) x3 x _ _ _ _ (by omega) (by omega) (by show _ % 128 = _; omega)))
  · exact (head12_at _ _ x).trans (congrArg (· * headFactor) (head_tile x0 x1 x2 _ 512 0 (by omega) (by omega) (group1_at x0 x1 x2) x3 x _ _ _ _ (by omega) (by omega) (by show _ % 128 = _; omega)))
  · exact (head8_at _ _ x).trans (congrArg (· * headFactor) (head_tile x0 x1 x2 _ 0 384 (by omega) (by omega) (group0_at x0 x1 x2) x3 x _ _ _ _ (by omega) (by omega) (by show _ % 128 = _; omega)))
  · exact (head7_at _ _ x).trans (congrArg (· * headFactor) (head_tile x0 x1 x2 _ 0 256 (by omega) (by omega) (group0_at x0 x1 x2) x3 x _ _ _ _ (by omega) (by omega) (by show _ % 128 = _; omega)))
  · exact (head6_at _ _ x).trans (congrArg (· * headFactor) (head_tile x0 x1 x2 _ 0 128 (by omega) (by omega) (group0_at x0 x1 x2) x3 x _ _ _ _ (by omega) (by omega) (by show _ % 128 = _; omega)))
  · exact (head5_at _ _ _ _ x).trans (congrArg (· * headFactor) (head_tile x0 x1 x2 _ 0 0 (by omega) (by omega) (group0_at x0 x1 x2) x3 x _ _ _ _ (by omega) (by omega) (by show _ % 128 = _; omega)))

theorem out7_at a1 h1 a2 h2 a3 h3 a4 h4 a5 h5 a6 h6 a9 h9 a10 h10 a11 h11 a12 h12 a13 h13 a14 h14 (y : S512x1024.Idx) :
    out0_A_7 c i a1 h1 a2 h2 a3 h3 a4 h4 a5 h5 a6 h6 a9 h9 a10 h10 a11 h11 a12 h12 a13 h13 a14 h14 x0 x1 x2 x3 x4 x5 y = headAt x0 x1 x2 x4 (y 0) (1024 + ((y 1 : Fin 1024) : ℕ) / 128 * 128) (by have : ((y 1 : Fin 1024) : ℕ) < 1024 := (y 1).isLt; omega) ⟨((y 1 : Fin 1024) : ℕ) % 128, by omega⟩ := by
  unfold out0_A_7
  rw [View.read_writes_junk_eq_canon]
  unfold kernelRun0_A
  dsimp only
  sl_unfold_words
  simp only [View.readAt_eq_ld, h1.read_unread, h2.read_unread, h3.read_unread, h4.read_unread, h5.read_unread, h6.read_unread]
  canon_tiles x e
  · exact (key44_at _ _ x).trans (head_tile x0 x1 x2 _ 1536 384 (by omega) (by omega) (group3_at x0 x1 x2) x4 x _ _ _ _ (by omega) (by omega) (by show _ % 128 = _; omega))
  · exact (key41_at _ _ x).trans (head_tile x0 x1 x2 _ 1536 256 (by omega) (by omega) (group3_at x0 x1 x2) x4 x _ _ _ _ (by omega) (by omega) (by show _ % 128 = _; omega))
  · exact (key38_at _ _ x).trans (head_tile x0 x1 x2 _ 1536 128 (by omega) (by omega) (group3_at x0 x1 x2) x4 x _ _ _ _ (by omega) (by omega) (by show _ % 128 = _; omega))
  · exact (key35_at _ _ x).trans (head_tile x0 x1 x2 _ 1536 0 (by omega) (by omega) (group3_at x0 x1 x2) x4 x _ _ _ _ (by omega) (by omega) (by show _ % 128 = _; omega))
  · exact (key29_at _ _ x).trans (head_tile x0 x1 x2 _ 1024 384 (by omega) (by omega) (group2_at x0 x1 x2) x4 x _ _ _ _ (by omega) (by omega) (by show _ % 128 = _; omega))
  · exact (key26_at _ _ x).trans (head_tile x0 x1 x2 _ 1024 256 (by omega) (by omega) (group2_at x0 x1 x2) x4 x _ _ _ _ (by omega) (by omega) (by show _ % 128 = _; omega))
  · exact (key22_at _ _ x).trans (head_tile x0 x1 x2 _ 1024 128 (by omega) (by omega) (group2_at x0 x1 x2) x4 x _ _ _ _ (by omega) (by omega) (by show _ % 128 = _; omega))
  · exact (key19_at _ _ x).trans (head_tile x0 x1 x2 _ 1024 0 (by omega) (by omega) (group2_at x0 x1 x2) x4 x _ _ _ _ (by omega) (by omega) (by show _ % 128 = _; omega))

theorem out8_at a1 h1 a2 h2 a3 h3 a4 h4 a5 h5 a6 h6 a9 h9 a10 h10 a11 h11 a12 h12 a13 h13 a14 h14 (y : S1x512x8x128.Idx) :
    out0_A_8 c i a1 h1 a2 h2 a3 h3 a4 h4 a5 h5 a6 h6 a9 h9 a10 h10 a11 h11 a12 h12 a13 h13 a14 h14 x0 x1 x2 x3 x4 x5 y = headAt x0 x1 x2 x4 (y 1) (1024 + ((y 2 : Fin 8) : ℕ) * 128) (by have : ((y 2 : Fin 8) : ℕ) < 8 := (y 2).isLt; omega) (y 3) := by
  unfold out0_A_8
  rw [View.read_writes_junk_eq_canon]
  unfold kernelRun0_A
  dsimp only
  sl_unfold_words
  simp only [View.readAt_eq_ld, h1.read_unread, h2.read_unread, h3.read_unread, h4.read_unread, h5.read_unread, h6.read_unread]
  canon_tiles x e
  · exact (key45_at _ _ x).trans (cache_tile x0 x1 x2 _ 1536 384 (by omega) (by omega) (group3_at x0 x1 x2) x4 _ _ _ _ _ _ (by omega) (by omega) (by omega))
  · exact (key42_at _ _ x).trans (cache_tile x0 x1 x2 _ 1536 256 (by omega) (by omega) (group3_at x0 x1 x2) x4 _ _ _ _ _ _ (by omega) (by omega) (by omega))
  · exact (key39_at _ _ x).trans (cache_tile x0 x1 x2 _ 1536 128 (by omega) (by omega) (group3_at x0 x1 x2) x4 _ _ _ _ _ _ (by omega) (by omega) (by omega))
  · exact (key36_at _ _ x).trans (cache_tile x0 x1 x2 _ 1536 0 (by omega) (by omega) (group3_at x0 x1 x2) x4 _ _ _ _ _ _ (by omega) (by omega) (by omega))
  · exact (key30_at _ _ x).trans (cache_tile x0 x1 x2 _ 1024 384 (by omega) (by omega) (group2_at x0 x1 x2) x4 _ _ _ _ _ _ (by omega) (by omega) (by omega))
  · exact (key27_at _ _ x).trans (cache_tile x0 x1 x2 _ 1024 256 (by omega) (by omega) (group2_at x0 x1 x2) x4 _ _ _ _ _ _ (by omega) (by omega) (by omega))
  · exact (key23_at _ _ x).trans (cache_tile x0 x1 x2 _ 1024 128 (by omega) (by omega) (group2_at x0 x1 x2) x4 _ _ _ _ _ _ (by omega) (by omega) (by omega))
  · exact (key20_at _ _ x).trans (cache_tile x0 x1 x2 _ 1024 0 (by omega) (by omega) (group2_at x0 x1 x2) x4 _ _ _ _ _ _ (by omega) (by omega) (by omega))

theorem out9_at a1 h1 a2 h2 a3 h3 a4 h4 a5 h5 a6 h6 a9 h9 a10 h10 a11 h11 a12 h12 a13 h13 a14 h14 (y : S512x1024.Idx) :
    out0_A_9 c i a1 h1 a2 h2 a3 h3 a4 h4 a5 h5 a6 h6 a9 h9 a10 h10 a11 h11 a12 h12 a13 h13 a14 h14 x0 x1 x2 x3 x4 x5 y = colAt x0 x1 x2 (y 0) (2048 + ((y 1 : Fin 1024) : ℕ)) (by have : ((y 1 : Fin 1024) : ℕ) < 1024 := (y 1).isLt; omega) := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread]
  canon_tiles x e
  · exact (lane70_at _ x).trans (lane_tile x0 x1 x2 _ 2560 (by omega) (group5_at x0 x1 x2) _ _ _ _ _ _ (by omega) (by omega))
  · exact (lane67_at _ x).trans (lane_tile x0 x1 x2 _ 2560 (by omega) (group5_at x0 x1 x2) _ _ _ _ _ _ (by omega) (by omega))
  · exact (lane64_at _ x).trans (lane_tile x0 x1 x2 _ 2560 (by omega) (group5_at x0 x1 x2) _ _ _ _ _ _ (by omega) (by omega))
  · exact (lane61_at _ x).trans (lane_tile x0 x1 x2 _ 2560 (by omega) (group5_at x0 x1 x2) _ _ _ _ _ _ (by omega) (by omega))
  · exact (lane57_at _ x).trans (lane_tile x0 x1 x2 _ 2048 (by omega) (group4_at x0 x1 x2) _ _ _ _ _ _ (by omega) (by omega))
  · exact (lane54_at _ x).trans (lane_tile x0 x1 x2 _ 2048 (by omega) (group4_at x0 x1 x2) _ _ _ _ _ _ (by omega) (by omega))
  · exact (lane51_at _ x).trans (lane_tile x0 x1 x2 _ 2048 (by omega) (group4_at x0 x1 x2) _ _ _ _ _ _ (by omega) (by omega))
  · exact (lane48_at _ x).trans (lane_tile x0 x1 x2 _ 2048 (by omega) (group4_at x0 x1 x2) _ _ _ _ _ _ (by omega) (by omega))

theorem out10_at a1 h1 a2 h2 a3 h3 a4 h4 a5 h5 a6 h6 a9 h9 a10 h10 a11 h11 a12 h12 a13 h13 a14 h14 (y : S1x512x8x128.Idx) :
    out0_A_10 c i a1 h1 a2 h2 a3 h3 a4 h4 a5 h5 a6 h6 a9 h9 a10 h10 a11 h11 a12 h12 a13 h13 a14 h14 x0 x1 x2 x3 x4 x5 y = colAt x0 x1 x2 (y 1) (2048 + (((y 2 : Fin 8) : ℕ) * 128 + ((y 3 : Fin 128) : ℕ))) (by have : ((y 2 : Fin 8) : ℕ) < 8 := (y 2).isLt; have : ((y 3 : Fin 128) : ℕ) < 128 := (y 3).isLt; omega) := by
  unfold out0_A_10
  rw [View.read_writes_junk_eq_canon]
  unfold kernelRun0_A
  dsimp only
  sl_unfold_words
  simp only [View.readAt_eq_ld, h1.read_unread, h2.read_unread, h3.read_unread, h4.read_unread, h5.read_unread, h6.read_unread]
  canon_tiles x e
  · exact (lane71_at _ x).trans (lane_tile x0 x1 x2 _ 2560 (by omega) (group5_at x0 x1 x2) _ _ _ _ _ _ (by omega) (by omega))
  · exact (lane68_at _ x).trans (lane_tile x0 x1 x2 _ 2560 (by omega) (group5_at x0 x1 x2) _ _ _ _ _ _ (by omega) (by omega))
  · exact (lane65_at _ x).trans (lane_tile x0 x1 x2 _ 2560 (by omega) (group5_at x0 x1 x2) _ _ _ _ _ _ (by omega) (by omega))
  · exact (lane62_at _ x).trans (lane_tile x0 x1 x2 _ 2560 (by omega) (group5_at x0 x1 x2) _ _ _ _ _ _ (by omega) (by omega))
  · exact (lane58_at _ x).trans (lane_tile x0 x1 x2 _ 2048 (by omega) (group4_at x0 x1 x2) _ _ _ _ _ _ (by omega) (by omega))
  · exact (lane55_at _ x).trans (lane_tile x0 x1 x2 _ 2048 (by omega) (group4_at x0 x1 x2) _ _ _ _ _ _ (by omega) (by omega))
  · exact (lane52_at _ x).trans (lane_tile x0 x1 x2 _ 2048 (by omega) (group4_at x0 x1 x2) _ _ _ _ _ _ (by omega) (by omega))
  · exact (lane49_at _ x).trans (lane_tile x0 x1 x2 _ 2048 (by omega) (group4_at x0 x1 x2) _ _ _ _ _ _ (by omega) (by omega))

theorem out11_at a1 h1 a2 h2 a3 h3 a4 h4 a5 h5 a6 h6 a9 h9 a10 h10 a11 h11 a12 h12 a13 h13 a14 h14 (y : S512x512.Idx) :
    out0_A_11 c i a1 h1 a2 h2 a3 h3 a4 h4 a5 h5 a6 h6 a9 h9 a10 h10 a11 h11 a12 h12 a13 h13 a14 h14 x0 x1 x2 x3 x4 x5 y = headAt x0 x1 x2 x5 (y 0) (3072 + ((y 1 : Fin 512) : ℕ) / 128 * 128) (by have : ((y 1 : Fin 512) : ℕ) < 512 := (y 1).isLt; omega) ⟨((y 1 : Fin 512) : ℕ) % 128, by omega⟩ * headFactor := by
  unfold out0_A_11
  rw [View.read_writes_junk_eq_canon]
  unfold kernelRun0_A
  dsimp only
  sl_unfold_words
  simp only [View.readAt_eq_ld, h1.read_unread, h2.read_unread, h3.read_unread, h4.read_unread, h5.read_unread, h6.read_unread]
  canon_tiles x e
  · exact (mem1_at _ _ x).trans (congrArg (· * headFactor) (head_tile x0 x1 x2 _ 3072 384 (by omega) (by omega) (group6_at x0 x1 x2) x5 x _ _ _ _ (by omega) (by omega) (by show _ % 128 = _; omega)))
  · exact (mem76_at _ _ x).trans (congrArg (· * headFactor) (head_tile x0 x1 x2 _ 3072 256 (by omega) (by omega) (group6_at x0 x1 x2) x5 x _ _ _ _ (by omega) (by omega) (by show _ % 128 = _; omega)))
  · exact (mem75_at _ _ x).trans (congrArg (· * headFactor) (head_tile x0 x1 x2 _ 3072 128 (by omega) (by omega) (group6_at x0 x1 x2) x5 x _ _ _ _ (by omega) (by omega) (by show _ % 128 = _; omega)))
  · exact (mem72_at _ _ x).trans (congrArg (· * headFactor) (head_tile x0 x1 x2 _ 3072 0 (by omega) (by omega) (group6_at x0 x1 x2) x5 x _ _ _ _ (by omega) (by omega) (by show _ % 128 = _; omega)))

end Block

end Cert.BandSample

end
-- ==== Proof.BandSampleArray.lean ====
/- The band layer's projection of the sample's rows: its whole arrays after its run, as formulas of the operands in memory. -/
module

public import proofs.«01_k».proof.Proof.BandSampleBlock
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.BandSample
open Cert.Kernel9Ideal Cert.Kernel9Ideal.Gen
open Cert.Proj
open Cert.StickProj (colAt headAt headFactor)

variable (m : (ℓ : Loc nD τ sig) → Buf (Elt Ideal) ℓ)

theorem idx : ∀ t : Fin cfg0.N, t.val < 1 ∧ win0_0.index t = ![t.val, 0] ∧ win0_1.index t = ![0, 0] ∧ win0_2.index t = ![0, 0, 0] ∧ win0_3.index t = ![0, 0]
    ∧ win0_4.index t = ![0, 0] ∧ win0_5.index t = ![0, 0] :=
  (by decide +kernel : ∀ t : Fin grid0.N, _)
theorem idxOut : ∀ t : Fin cfg0.N, win0_6.index t = ![t.val, 0] ∧ win0_7.index t = ![t.val, 0] ∧ win0_8.index t = ![1, t.val, 0, 0]
    ∧ win0_9.index t = ![t.val, 0] ∧ win0_10.index t = ![1, t.val, 0, 0] ∧ win0_11.index t = ![t.val, 0] :=
  (by decide +kernel : ∀ t : Fin grid0.N, _)
theorem blk0 (c : Dev nD) (t : Fin cfg0.N) (r : Fin 512) (R : Fin 512) (hR : (R : ℕ) = t.val * 512 + (r : ℕ)) (d : Fin 2048) :
    iblk m c 0 t (ix2 r d) = V m c main_v0 (ix2 R d) := by
  have e : win0_0.index t = _ := (idx t).2.1
  have e0 : win0_0.index t 0 = t.val := congrFun e 0
  have e1 : win0_0.index t 1 = 0 := congrFun e 1
  blk_simp [iblk]
  blk_ext
  all_goals omega

theorem blk1 (c : Dev nD) (t : Fin cfg0.N) (d : Fin 2048) : iblk m c 1 t (ix2 0 d) = V m c main_v3 (ix2 0 d) := by
  have e : win0_1.index t = _ := (idx t).2.2.1
  have e0 : win0_1.index t 0 = 0 := congrFun e 0
  have e1 : win0_1.index t 1 = 0 := congrFun e 1
  blk_simp [iblk]
  blk_ext
  all_goals omega

theorem blk2 (c : Dev nD) (t : Fin cfg0.N) (d : Fin 2048) (k : Fin 3584) : iblk m c 2 t (ix3 0 d k) = V m c main_v2 (ix3 0 d k) := by
  have e : win0_2.index t = _ := (idx t).2.2.2.1
  have e0 : win0_2.index t 0 = 0 := congrFun e 0
  have e1 : win0_2.index t 1 = 0 := congrFun e 1
  have e2 : win0_2.index t 2 = 0 := congrFun e 2
  blk_simp [iblk]
  blk_ext
  all_goals omega

theorem blk3 (c : Dev nD) (t : Fin cfg0.N) (d : Fin 128) : iblk m c 3 t (ix2 0 d) = V m c main_v4 (ix2 0 d) := by
  have e : win0_3.index t = _ := (idx t).2.2.2.2.1
  have e0 : win0_3.index t 0 = 0 := congrFun e 0
  have e1 : win0_3.index t 1 = 0 := congrFun e 1
  blk_simp [iblk]
  blk_ext
  all_goals omega

theorem blk4 (c : Dev nD) (t : Fin cfg0.N) (d : Fin 128) : iblk m c 4 t (ix2 0 d) = V m c main_v5 (ix2 0 d) := by
  have e : win0_4.index t = _ := (idx t).2.2.2.2.2.1
  have e0 : win0_4.index t 0 = 0 := congrFun e 0
  have e1 : win0_4.index t 1 = 0 := congrFun e 1
  blk_simp [iblk]
  blk_ext
  all_goals omega

theorem blk5 (c : Dev nD) (t : Fin cfg0.N) (d : Fin 128) : iblk m c 5 t (ix2 0 d) = V m c main_v6 (ix2 0 d) := by
  have e : win0_5.index t = _ := (idx t).2.2.2.2.2.2
  have e0 : win0_5.index t 0 = 0 := congrFun e 0
  have e1 : win0_5.index t 1 = 0 := congrFun e 1
  blk_simp [iblk]
  blk_ext
  all_goals omega

/-- Column `j` of row `r` of the projection, from the operands in memory. -/
def col (c : Dev nD) (r : Fin 512) (j : ℕ) (h : j < 3584) : EReal :=
  column (fun d => V m c main_v0 (ix2 r d)) (fun d => V m c main_v3 (ix2 0 d)) (fun d k => V m c main_v2 (ix3 0 d k)) j h

/-- Lane `j` of the head of row `r` that starts at column `b`. -/
def head (c : Dev nD) (gk : Fin 128 → EReal) (r : Fin 512) (b : ℕ) (h : b + 128 ≤ 3584) (j : Fin 128) : EReal :=
  headOf (fun d => V m c main_v0 (ix2 r d)) (fun d => V m c main_v3 (ix2 0 d)) (fun d k => V m c main_v2 (ix3 0 d k)) gk b h j

/-- The queries, keys, values and memory queries of a row. -/
def qRow (c : Dev nD) (r : Fin 512) (w : Fin 1024) : EReal :=
  head m c (fun d => V m c main_v4 (ix2 0 d)) r (0 + (w : ℕ) / 128 * 128) (by omega) ⟨(w : ℕ) % 128, by omega⟩ * headFactor
def kRow (c : Dev nD) (r : Fin 512) (w : Fin 1024) : EReal :=
  head m c (fun d => V m c main_v5 (ix2 0 d)) r (1024 + (w : ℕ) / 128 * 128) (by omega) ⟨(w : ℕ) % 128, by omega⟩
def vRow (c : Dev nD) (r : Fin 512) (w : Fin 1024) : EReal := col m c r (2048 + (w : ℕ)) (by omega)
def mRow (c : Dev nD) (r : Fin 512) (w : Fin 512) : EReal :=
  head m c (fun d => V m c main_v6 (ix2 0 d)) r (3072 + (w : ℕ) / 128 * 128) (by omega) ⟨(w : ℕ) % 128, by omega⟩ * headFactor

/-- The column of lane `d` of head `h`. -/
def lane (h : Fin 8) (d : Fin 128) : Fin 1024 := ⟨(h : ℕ) * 128 + (d : ℕ), by omega⟩

theorem colAt_eq (c : Dev nD) (t : Fin cfg0.N) (r : Fin 512) (R : Fin 512) (hR : (R : ℕ) = t.val * 512 + (r : ℕ)) (j j' : ℕ) (h : j < 3584) (h' : j' < 3584) (e : j = j') :
    colAt (iblk m c 0 t) (iblk m c 1 t) (iblk m c 2 t) r j h = col m c R j' h' := by
  exact column_congr (fun d => blk0 m c t r R hR d) (fun d => blk1 m c t d) (fun d k => blk2 m c t d k) e

theorem headAt_eq (c : Dev nD) (t : Fin cfg0.N) (gk : Vec Ideal S1x128 .f32) (gk' : Fin 128 → EReal) (hg : ∀ d, gk (ix2 0 d) = gk' d)
    (r : Fin 512) (R : Fin 512) (hR : (R : ℕ) = t.val * 512 + (r : ℕ)) (b b' : ℕ) (h : b + 128 ≤ 3584) (h' : b' + 128 ≤ 3584) (e : b = b') (j j' : Fin 128) (ej : (j : ℕ) = j') :
    headAt (iblk m c 0 t) (iblk m c 1 t) (iblk m c 2 t) gk r b h j = head m c gk' R b' h' j' := by
  exact headOf_congr (fun d => blk0 m c t r R hR d) (fun d => blk1 m c t d) (fun d k => blk2 m c t d k) hg e (Fin.ext ej)

theorem emb6_0 (t : Fin cfg0.N) (y : S512x1024.Idx) : (((win0_6.blk t).view.emb y 0 : Fin 512) : ℕ) = t.val * 512 + ((y 0 : Fin 512) : ℕ) := by
  have e := (idxOut t).1
  blk_simp [e]; try omega
theorem emb6_1 (t : Fin cfg0.N) (y : S512x1024.Idx) : (((win0_6.blk t).view.emb y 1 : Fin 1024) : ℕ) = ((y 1 : Fin 1024) : ℕ) := by
  have e := (idxOut t).1
  blk_simp [e]; try omega

theorem left6 (c : Dev nD) (t : Fin cfg0.N) (y : S512x1024.Idx) (R : Fin 512) (w : Fin 1024) (hR : (R : ℕ) = t.val * 512 + ((y 0 : Fin 512) : ℕ)) (hw : (w : ℕ) = ((y 1 : Fin 1024) : ℕ)) :
    (outsAt0 m c t).1 y = qRow m c R w := by
  unfold outsAt0
  dsimp only
  rw [out6_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)]
  unfold qRow
  exact congrArg (· * headFactor) (headAt_eq m c t _ _ (blk3 m c t) _ _ hR _ _ _ _ (by omega) _ _ (by show _ % 128 = _ % 128; omega))

theorem array6 (c : Dev nD) : (dats m 0 c).arrAt 6 cfg0.N = fun j : S512x1024.Idx => qRow m c (j 0) (j 1) := by
  refine (dats m 0 c).arrAt_eq_of_covers 6 _ (by decide +kernel) fun t hf y => ?_
  rw [after0_6]
  refine (left6 m c t y ⟨t.val * 512 + ((y 0 : Fin 512) : ℕ), by have := (idx t).1; have : ((y 0 : Fin 512) : ℕ) < 512 := (y 0).isLt; omega⟩ (y 1) rfl rfl).trans ?_
  exact congr (congrArg (qRow m c) (Fin.ext (emb6_0 t y).symm)) (Fin.ext (emb6_1 t y).symm)

theorem emb7_0 (t : Fin cfg0.N) (y : S512x1024.Idx) : (((win0_7.blk t).view.emb y 0 : Fin 512) : ℕ) = t.val * 512 + ((y 0 : Fin 512) : ℕ) := by
  have e := (idxOut t).2.1
  blk_simp [e]; try omega
theorem emb7_1 (t : Fin cfg0.N) (y : S512x1024.Idx) : (((win0_7.blk t).view.emb y 1 : Fin 1024) : ℕ) = ((y 1 : Fin 1024) : ℕ) := by
  have e := (idxOut t).2.1
  blk_simp [e]; try omega

theorem left7 (c : Dev nD) (t : Fin cfg0.N) (y : S512x1024.Idx) (R : Fin 512) (w : Fin 1024) (hR : (R : ℕ) = t.val * 512 + ((y 0 : Fin 512) : ℕ)) (hw : (w : ℕ) = ((y 1 : Fin 1024) : ℕ)) :
    (outsAt0 m c t).2.1 y = kRow m c R w := by
  unfold outsAt0
  dsimp only
  rw [out7_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)]
  unfold kRow
  exact headAt_eq m c t _ _ (blk4 m c t) _ _ hR _ _ _ _ (by omega) _ _ (by show _ % 128 = _ % 128; omega)

theorem array7 (c : Dev nD) : (dats m 0 c).arrAt 7 cfg0.N = fun j : S512x1024.Idx => kRow m c (j 0) (j 1) := by
  refine (dats m 0 c).arrAt_eq_of_covers 7 _ (by decide +kernel) fun t hf y => ?_
  rw [after0_7]
  refine (left7 m c t y ⟨t.val * 512 + ((y 0 : Fin 512) : ℕ), by have := (idx t).1; have : ((y 0 : Fin 512) : ℕ) < 512 := (y 0).isLt; omega⟩ (y 1) rfl rfl).trans ?_
  exact congr (congrArg (kRow m c) (Fin.ext (emb7_0 t y).symm)) (Fin.ext (emb7_1 t y).symm)

theorem emb8_1 (t : Fin cfg0.N) (y : S1x512x8x128.Idx) : (((win0_8.blk t).view.emb y 1 : Fin 512) : ℕ) = t.val * 512 + ((y 1 : Fin 512) : ℕ) := by
  have e := (idxOut t).2.2.1
  blk_simp [e]; try omega
theorem emb8_2 (t : Fin cfg0.N) (y : S1x512x8x128.Idx) : (((win0_8.blk t).view.emb y 2 : Fin 8) : ℕ) = ((y 2 : Fin 8) : ℕ) := by
  have e := (idxOut t).2.2.1
  blk_simp [e]; try omega
theorem emb8_3 (t : Fin cfg0.N) (y : S1x512x8x128.Idx) : (((win0_8.blk t).view.emb y 3 : Fin 128) : ℕ) = ((y 3 : Fin 128) : ℕ) := by
  have e := (idxOut t).2.2.1
  blk_simp [e]; try omega

theorem left8 (c : Dev nD) (t : Fin cfg0.N) (y : S1x512x8x128.Idx) (R : Fin 512) (hR : (R : ℕ) = t.val * 512 + ((y 1 : Fin 512) : ℕ)) :
    (outsAt0 m c t).2.2.1 y = kRow m c R (lane (y 2) (y 3)) := by
  unfold outsAt0
  dsimp only
  rw [out8_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)]
  unfold kRow lane
  have h2 : ((y 2 : Fin 8) : ℕ) < 8 := (y 2).isLt
  have h3 : ((y 3 : Fin 128) : ℕ) < 128 := (y 3).isLt
  exact headAt_eq m c t _ _ (blk4 m c t) _ _ hR _ _ _ _ (by show 1024 + ((y 2 : Fin 8) : ℕ) * 128 = 1024 + (((y 2 : Fin 8) : ℕ) * 128 + ((y 3 : Fin 128) : ℕ)) / 128 * 128; omega) _ _ (by show ((y 3 : Fin 128) : ℕ) = (((y 2 : Fin 8) : ℕ) * 128 + ((y 3 : Fin 128) : ℕ)) % 128; omega)

/-- The cache after the run: its second slot written, the rest as it stood before. -/
theorem array8 (c : Dev nD) : (dats m 0 c).arrAt 8 cfg0.N
    = fun j : S2x512x8x128.Idx => if ((j 0 : Fin 2) : ℕ) / 1 = 1 then kRow m c (j 1) (lane (j 2) (j 3)) else V m c main_v7_2 j := by
  refine (dats m 0 c).arrAt_eq_of_coversWhere 8 (fun j : S2x512x8x128.Idx => kRow m c (j 1) (lane (j 2) (j 3))) (fun β => β (0 : Fin _) = 1) (by decide +kernel) (fun t hf y => ?_) (fun j => Iff.rfl)
  rw [after0_8]
  refine (left8 m c t y ⟨t.val * 512 + ((y 1 : Fin 512) : ℕ), by have := (idx t).1; have : ((y 1 : Fin 512) : ℕ) < 512 := (y 1).isLt; omega⟩ rfl).trans ?_
  exact congr (congrArg (kRow m c) (Fin.ext (emb8_1 t y).symm)) (congr (congrArg lane (Fin.ext (emb8_2 t y).symm)) (Fin.ext (emb8_3 t y).symm))

theorem emb9_0 (t : Fin cfg0.N) (y : S512x1024.Idx) : (((win0_9.blk t).view.emb y 0 : Fin 512) : ℕ) = t.val * 512 + ((y 0 : Fin 512) : ℕ) := by
  have e := (idxOut t).2.2.2.1
  blk_simp [e]; try omega
theorem emb9_1 (t : Fin cfg0.N) (y : S512x1024.Idx) : (((win0_9.blk t).view.emb y 1 : Fin 1024) : ℕ) = ((y 1 : Fin 1024) : ℕ) := by
  have e := (idxOut t).2.2.2.1
  blk_simp [e]; try omega

theorem left9 (c : Dev nD) (t : Fin cfg0.N) (y : S512x1024.Idx) (R : Fin 512) (w : Fin 1024) (hR : (R : ℕ) = t.val * 512 + ((y 0 : Fin 512) : ℕ)) (hw : (w : ℕ) = ((y 1 : Fin 1024) : ℕ)) :
    (outsAt0 m c t).2.2.2.1 y = vRow m c R w := by
  unfold outsAt0
  dsimp only
  rw [out9_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)]
  unfold vRow
  exact colAt_eq m c t _ _ hR _ _ _ _ (by omega)

theorem array9 (c : Dev nD) : (dats m 0 c).arrAt 9 cfg0.N = fun j : S512x1024.Idx => vRow m c (j 0) (j 1) := by
  refine (dats m 0 c).arrAt_eq_of_covers 9 _ (by decide +kernel) fun t hf y => ?_
  rw [after0_9]
  refine (left9 m c t y ⟨t.val * 512 + ((y 0 : Fin 512) : ℕ), by have := (idx t).1; have : ((y 0 : Fin 512) : ℕ) < 512 := (y 0).isLt; omega⟩ (y 1) rfl rfl).trans ?_
  exact congr (congrArg (vRow m c) (Fin.ext (emb9_0 t y).symm)) (Fin.ext (emb9_1 t y).symm)

theorem emb10_1 (t : Fin cfg0.N) (y : S1x512x8x128.Idx) : (((win0_10.blk t).view.emb y 1 : Fin 512) : ℕ) = t.val * 512 + ((y 1 : Fin 512) : ℕ) := by
  have e := (idxOut t).2.2.2.2.1
  blk_simp [e]; try omega
theorem emb10_2 (t : Fin cfg0.N) (y : S1x512x8x128.Idx) : (((win0_10.blk t).view.emb y 2 : Fin 8) : ℕ) = ((y 2 : Fin 8) : ℕ) := by
  have e := (idxOut t).2.2.2.2.1
  blk_simp [e]; try omega
theorem emb10_3 (t : Fin cfg0.N) (y : S1x512x8x128.Idx) : (((win0_10.blk t).view.emb y 3 : Fin 128) : ℕ) = ((y 3 : Fin 128) : ℕ) := by
  have e := (idxOut t).2.2.2.2.1
  blk_simp [e]; try omega

theorem left10 (c : Dev nD) (t : Fin cfg0.N) (y : S1x512x8x128.Idx) (R : Fin 512) (hR : (R : ℕ) = t.val * 512 + ((y 1 : Fin 512) : ℕ)) :
    (outsAt0 m c t).2.2.2.2.1 y = vRow m c R (lane (y 2) (y 3)) := by
  unfold outsAt0
  dsimp only
  rw [out10_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)]
  unfold vRow lane
  exact colAt_eq m c t _ _ hR _ _ _ _ rfl

/-- The cache after the run: its second slot written, the rest as it stood before. -/
theorem array10 (c : Dev nD) : (dats m 0 c).arrAt 10 cfg0.N
    = fun j : S2x512x8x128.Idx => if ((j 0 : Fin 2) : ℕ) / 1 = 1 then vRow m c (j 1) (lane (j 2) (j 3)) else V m c main_v7_4 j := by
  refine (dats m 0 c).arrAt_eq_of_coversWhere 10 (fun j : S2x512x8x128.Idx => vRow m c (j 1) (lane (j 2) (j 3))) (fun β => β (0 : Fin _) = 1) (by decide +kernel) (fun t hf y => ?_) (fun j => Iff.rfl)
  rw [after0_10]
  refine (left10 m c t y ⟨t.val * 512 + ((y 1 : Fin 512) : ℕ), by have := (idx t).1; have : ((y 1 : Fin 512) : ℕ) < 512 := (y 1).isLt; omega⟩ rfl).trans ?_
  exact congr (congrArg (vRow m c) (Fin.ext (emb10_1 t y).symm)) (congr (congrArg lane (Fin.ext (emb10_2 t y).symm)) (Fin.ext (emb10_3 t y).symm))

theorem emb11_0 (t : Fin cfg0.N) (y : S512x512.Idx) : (((win0_11.blk t).view.emb y 0 : Fin 512) : ℕ) = t.val * 512 + ((y 0 : Fin 512) : ℕ) := by
  have e := (idxOut t).2.2.2.2.2
  blk_simp [e]; try omega
theorem emb11_1 (t : Fin cfg0.N) (y : S512x512.Idx) : (((win0_11.blk t).view.emb y 1 : Fin 512) : ℕ) = ((y 1 : Fin 512) : ℕ) := by
  have e := (idxOut t).2.2.2.2.2
  blk_simp [e]; try omega

theorem left11 (c : Dev nD) (t : Fin cfg0.N) (y : S512x512.Idx) (R : Fin 512) (w : Fin 512) (hR : (R : ℕ) = t.val * 512 + ((y 0 : Fin 512) : ℕ)) (hw : (w : ℕ) = ((y 1 : Fin 512) : ℕ)) :
    (outsAt0 m c t).2.2.2.2.2 y = mRow m c R w := by
  unfold outsAt0
  dsimp only
  rw [out11_at (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)]
  unfold mRow
  exact congrArg (· * headFactor) (headAt_eq m c t _ _ (blk5 m c t) _ _ hR _ _ _ _ (by omega) _ _ (by show _ % 128 = _ % 128; omega))

theorem array11 (c : Dev nD) : (dats m 0 c).arrAt 11 cfg0.N = fun j : S512x512.Idx => mRow m c (j 0) (j 1) := by
  refine (dats m 0 c).arrAt_eq_of_covers 11 _ (by decide +kernel) fun t hf y => ?_
  rw [after0_11]
  refine (left11 m c t y ⟨t.val * 512 + ((y 0 : Fin 512) : ℕ), by have := (idx t).1; have : ((y 0 : Fin 512) : ℕ) < 512 := (y 0).isLt; omega⟩ (y 1) rfl rfl).trans ?_
  exact congr (congrArg (mRow m c) (Fin.ext (emb11_0 t y).symm)) (Fin.ext (emb11_1 t y).symm)

end Cert.BandSample

end
-- ==== Proof.BandSampleRef.lean ====
/- The band layer's projection of the sample's rows: the kernel's operands and the reference's results at an index of the arguments, and their equality. -/
module

public import proofs.«01_k».proof.Proof.Gen.Reference9Ideal.Run
public import proofs.«01_k».proof.Proof.LayerSample
public import proofs.«01_k».proof.Proof.BandSampleArray
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BandSample
open Cert.Proj Cert.Ffn Cert.LayerSample
open Cert.StickProj (headFactor)

section Operands
open Cert.Kernel9Ideal Cert.Kernel9Ideal.Gen

variable (m : (ℓ : Loc nD τ sig) → Buf (Elt Ideal) ℓ)

/-- The arguments as functions of an index to the extended reals. -/
abbrev argX (c : Dev nD) : S32x16x2048.Idx → EReal := m ((c : Thread nD τ).loc main_arg0)
abbrev argG (c : Dev nD) : S2048.Idx → EReal := m ((c : Thread nD τ).loc main_arg1)
abbrev argW (c : Dev nD) : S2048x3584.Idx → EReal := m ((c : Thread nD τ).loc main_arg2)
abbrev argQ (c : Dev nD) : S128.Idx → EReal := m ((c : Thread nD τ).loc main_arg3)
abbrev argH (c : Dev nD) : S128.Idx → EReal := m ((c : Thread nD τ).loc main_arg4)
abbrev argM (c : Dev nD) : S128.Idx → EReal := m ((c : Thread nD τ).loc main_arg5)
abbrev argK (c : Dev nD) : S2x512x8x128.Idx → EReal := m ((c : Thread nD τ).loc main_arg6)
abbrev argV (c : Dev nD) : S2x512x8x128.Idx → EReal := m ((c : Thread nD τ).loc main_arg7)

theorem x_at (c : Dev nD) (r : Fin 512) (d : Fin 2048) :
    (V m c main_v0 (ix2 r d) : EReal) = argX m c (ix3 ⟨(r : ℕ) / 16, by omega⟩ ⟨(r : ℕ) % 16, by omega⟩ d) := by
  unfold V
  after_reads_at

theorem g_at (c : Dev nD) (d : Fin 2048) : (V m c main_v3 (ix2 0 d) : EReal) = argG m c (ix1 d) := by
  unfold V
  after_reads_at

theorem w_at (c : Dev nD) (d : Fin 2048) (k : Fin 3584) : (V m c main_v2 (ix3 0 d k) : EReal) = argW m c (ix2 d k) := by
  unfold V
  after_reads_at

theorem q_at (c : Dev nD) (d : Fin 128) : (V m c main_v4 (ix2 0 d) : EReal) = argQ m c (ix1 d) := by
  unfold V
  after_reads_at

theorem k_at (c : Dev nD) (d : Fin 128) : (V m c main_v5 (ix2 0 d) : EReal) = argH m c (ix1 d) := by
  unfold V
  after_reads_at

theorem m_at (c : Dev nD) (d : Fin 128) : (V m c main_v6 (ix2 0 d) : EReal) = argM m c (ix1 d) := by
  unfold V
  after_reads_at

/-- The caches before the run are the arguments'. -/
theorem kc_at (c : Dev nD) (s : Fin 2) (r : Fin 512) (h : Fin 8) (d : Fin 128) : (V m c main_v7_2 (ix4 s r h d) : EReal) = argK m c (ix4 s r h d) := by
  unfold V
  after_reads_at
  rfl

theorem vc_at (c : Dev nD) (s : Fin 2) (r : Fin 512) (h : Fin 8) (d : Fin 128) : (V m c main_v7_4 (ix4 s r h d) : EReal) = argV m c (ix4 s r h d) := by
  unfold V
  after_reads_at
  rfl

/-- Column `j` of row `r`, from the arguments. -/
def colRef (c : Dev nD) (r : Fin 512) (j : ℕ) (h : j < 3584) : EReal :=
  column (fun d => argX m c (ix3 ⟨(r : ℕ) / 16, by omega⟩ ⟨(r : ℕ) % 16, by omega⟩ d)) (fun d => argG m c (ix1 d)) (fun d k => argW m c (ix2 d k)) j h

theorem col_eq (c : Dev nD) (r : Fin 512) (j j' : ℕ) (h : j < 3584) (h' : j' < 3584) (e : j = j') : col m c r j h = colRef m c r j' h' :=
  column_congr (fun d => x_at m c r d) (fun d => g_at m c d) (fun d k => w_at m c d k) e

theorem head_eq (c : Dev nD) (gk gk' : Fin 128 → EReal) (hg : ∀ d, gk d = gk' d) (r : Fin 512)
    (o : ℕ) (ho : o + 128 ≤ 3584) (y : Fin 128 → EReal) (j : Fin 128) (hy : ∀ d : Fin 128, y d = colRef m c r (o + (d : ℕ)) (by omega)) :
    head m c gk r o ho j = headed y gk' j :=
  headed_congr (fun d => (col_eq m c r _ _ _ _ rfl).trans (hy d).symm) hg rfl

end Operands

section Value
open Cert.Reference9Ideal Cert.Reference9Ideal.Gen Cert.Reference9Ideal.Facts

variable (x : FVec Ideal S32x16x2048 .f32) (g : FVec Ideal S2048 .f32) (w : FVec Ideal S2048x3584 .f32) (gk : FVec Ideal S128 .f32) (kc : FVec Ideal S2x512x8x128 .f32)

/-- A layer's keys or values behind the earlier layer's in a cache. -/
def stacked (kc : FVec Ideal S2x512x8x128 .f32) (a : FVec Ideal S32x16x8x128 .f32) : FVec Ideal S2x512x8x128 .f32 :=
  concatenate S2x512x8x128 0
    [⟨S1x512x8x128, broadcastInDim S1x512x8x128 ![1, 2, 3] bcast_S512x8x128_S1x512x8x128_1_2_3 (shapeCast S512x8x128 (extractStridedSlice S1x512x8x128 ![0, 0, 0, 0] kc slices_S2x512x8x128_S1x512x8x128_0_0_0_0) shapeCasts_S1x512x8x128_S512x8x128)⟩,
     ⟨S1x512x8x128, broadcastInDim S1x512x8x128 ![1, 2, 3] bcast_S512x8x128_S1x512x8x128_1_2_3 (shapeCast S512x8x128 a shapeCasts_S32x16x8x128_S512x8x128)⟩]
    concatenates_S1x512x8x128_S1x512x8x128_S2x512x8x128_d0

theorem first_at (kc : FVec Ideal S2x512x8x128 .f32) (r : Fin 512) (h : Fin 8) (d : Fin 128) :
    shapeCast S512x8x128 (extractStridedSlice S1x512x8x128 ![0, 0, 0, 0] kc slices_S2x512x8x128_S1x512x8x128_0_0_0_0) shapeCasts_S1x512x8x128_S512x8x128 (ix3 r h d) = kc (ix4 0 r h d) := by
  pointwise
  try blk_ext
  all_goals omega

theorem second_at (a : FVec Ideal S32x16x8x128 .f32) (r : Fin 512) (h : Fin 8) (d : Fin 128) :
    shapeCast S512x8x128 a shapeCasts_S32x16x8x128_S512x8x128 (ix3 r h d) = a (ix4 ⟨(r : ℕ) / 16, by omega⟩ ⟨(r : ℕ) % 16, by omega⟩ h d) := by
  pointwise
  try blk_ext
  all_goals omega

theorem stacked_at (kc : FVec Ideal S2x512x8x128 .f32) (a : FVec Ideal S32x16x8x128 .f32) (s : Fin 2) (r : Fin 512) (h : Fin 8) (d : Fin 128) :
    stacked kc a (ix4 s r h d) = if (s : ℕ) < 1 then kc (ix4 0 r h d) else a (ix4 ⟨(r : ℕ) / 16, by omega⟩ ⟨(r : ℕ) % 16, by omega⟩ h d) := by
  unfold stacked
  pointwise [first_at, second_at]
  exact dite_eq_ite

/-- The reference's queries, keys, values and memory queries, and its caches. -/
def refQ : FVec Ideal S512x1024 .f32 := shapeCast _ (scaled8 (shapeCast _ (prodQ x g w) shapeCasts_S32x16x1024_S32x16x8x128) gk) shapeCasts_S32x16x8x128_S512x1024
def refK : FVec Ideal S512x1024 .f32 := shapeCast _ (rms8 (shapeCast _ (prodK x g w) shapeCasts_S32x16x1024_S32x16x8x128) gk) shapeCasts_S32x16x8x128_S512x1024
def refKc : FVec Ideal S2x512x8x128 .f32 := stacked kc (rms8 (shapeCast _ (prodK x g w) shapeCasts_S32x16x1024_S32x16x8x128) gk)
def refV : FVec Ideal S512x1024 .f32 := shapeCast _ (shapeCast S32x16x8x128 (prodV x g w) shapeCasts_S32x16x1024_S32x16x8x128) shapeCasts_S32x16x8x128_S512x1024
def refVc : FVec Ideal S2x512x8x128 .f32 := stacked kc (shapeCast S32x16x8x128 (prodV x g w) shapeCasts_S32x16x1024_S32x16x8x128)
def refM : FVec Ideal S512x512 .f32 := shapeCast _ (scaled4 (shapeCast _ (prodM x g w) shapeCasts_S32x16x512_S32x16x4x128) gk) shapeCasts_S32x16x4x128_S512x512

end Value

section Equality
open Cert.Kernel9Ideal Cert.Kernel9Ideal.Gen

variable (m : (ℓ : Loc nD τ sig) → Buf (Elt Ideal) ℓ)

theorem refQ_eq (c : Dev nD) (r : Fin 512) (w : Fin 1024) : qRow m c r w = refQ (argX m c) (argG m c) (argW m c) (argQ m c) (ix2 r w) := by
  unfold refQ qRow
  rw [rows8_at, scaled8_at]
  refine congrArg (· * headFactor) ?_
  refine head_eq m c _ _ (q_at m c) r _ _ _ _ fun d => ?_
  rw [split8_at, prodQ_at]
  exact column_congr (fun _ => rfl) (fun _ => rfl) (fun _ _ => rfl) (by show _ + ((w : ℕ) / 128 * 128 + (d : ℕ)) = _; omega)

theorem refK_eq (c : Dev nD) (r : Fin 512) (w : Fin 1024) : kRow m c r w = refK (argX m c) (argG m c) (argW m c) (argH m c) (ix2 r w) := by
  unfold refK kRow
  rw [rows8_at, rms8_at]
  refine head_eq m c _ _ (k_at m c) r _ _ _ _ fun d => ?_
  rw [split8_at, prodK_at]
  exact column_congr (fun _ => rfl) (fun _ => rfl) (fun _ _ => rfl) (by show _ + ((w : ℕ) / 128 * 128 + (d : ℕ)) = _; omega)

theorem refV_eq (c : Dev nD) (r : Fin 512) (w : Fin 1024) : vRow m c r w = refV (argX m c) (argG m c) (argW m c) (ix2 r w) := by
  unfold refV vRow
  rw [rows8_at, split8_at, prodV_at]
  exact col_eq m c r _ _ _ _ (by show _ = 2048 + ((w : ℕ) / 128 * 128 + (w : ℕ) % 128); omega)

theorem refM_eq (c : Dev nD) (r : Fin 512) (w : Fin 512) : mRow m c r w = refM (argX m c) (argG m c) (argW m c) (argM m c) (ix2 r w) := by
  unfold refM mRow
  rw [rows4_at, scaled4_at]
  refine congrArg (· * headFactor) ?_
  refine head_eq m c _ _ (m_at m c) r _ _ _ _ fun d => ?_
  rw [split4_at, prodM_at]
  exact column_congr (fun _ => rfl) (fun _ => rfl) (fun _ _ => rfl) (by show _ + ((w : ℕ) / 128 * 128 + (d : ℕ)) = _; omega)

theorem refKc_eq (c : Dev nD) (s : Fin 2) (r : Fin 512) (h : Fin 8) (d : Fin 128) :
    (if (s : ℕ) / 1 = 1 then kRow m c r (lane h d) else (V m c main_v7_2 (ix4 s r h d) : EReal)) = refKc (argX m c) (argG m c) (argW m c) (argH m c) (argK m c) (ix4 s r h d) := by
  unfold refKc
  rw [stacked_at]
  by_cases hs : (s : ℕ) < 1
  · obtain rfl : s = 0 := Fin.ext (by show (s : ℕ) = 0; omega)
    rw [if_neg (by omega), if_pos hs]
    exact kc_at m c 0 r h d
  · rw [if_pos (by omega), if_neg hs, rms8_at]
    unfold kRow
    have e : (⟨((lane h d : Fin 1024) : ℕ) % 128, by omega⟩ : Fin 128) = d := Fin.ext (by show ((h : ℕ) * 128 + (d : ℕ)) % 128 = (d : ℕ); omega)
    rw [e]
    refine head_eq m c _ _ (k_at m c) r _ _ _ _ fun l => ?_
    rw [split8_at, prodK_at]
    exact column_congr (fun _ => rfl) (fun _ => rfl) (fun _ _ => rfl) (by show 1024 + ((h : ℕ) * 128 + (l : ℕ)) = 1024 + ((h : ℕ) * 128 + (d : ℕ)) / 128 * 128 + (l : ℕ); omega)

theorem refVc_eq (c : Dev nD) (s : Fin 2) (r : Fin 512) (h : Fin 8) (d : Fin 128) :
    (if (s : ℕ) / 1 = 1 then vRow m c r (lane h d) else (V m c main_v7_4 (ix4 s r h d) : EReal)) = refVc (argX m c) (argG m c) (argW m c) (argV m c) (ix4 s r h d) := by
  unfold refVc
  rw [stacked_at]
  by_cases hs : (s : ℕ) < 1
  · obtain rfl : s = 0 := Fin.ext (by show (s : ℕ) = 0; omega)
    rw [if_neg (by omega), if_pos hs]
    exact vc_at m c 0 r h d
  · rw [if_pos (by omega), if_neg hs, split8_at, prodV_at]
    exact col_eq m c r _ _ _ _ rfl

theorem refQ_all (c : Dev nD) : (fun j : S512x1024.Idx => qRow m c (j 0) (j 1)) = refQ (argX m c) (argG m c) (argW m c) (argQ m c) := by
  funext j
  have hj : j = ix2 (j 0) (j 1) := by
    funext a
    match a with
    | ⟨0, _⟩ => rfl
    | ⟨1, _⟩ => rfl
  exact (refQ_eq m c (j 0) (j 1)).trans (congrArg (refQ (argX m c) (argG m c) (argW m c) (argQ m c)) hj.symm)

theorem refK_all (c : Dev nD) : (fun j : S512x1024.Idx => kRow m c (j 0) (j 1)) = refK (argX m c) (argG m c) (argW m c) (argH m c) := by
  funext j
  have hj : j = ix2 (j 0) (j 1) := by
    funext a
    match a with
    | ⟨0, _⟩ => rfl
    | ⟨1, _⟩ => rfl
  exact (refK_eq m c (j 0) (j 1)).trans (congrArg (refK (argX m c) (argG m c) (argW m c) (argH m c)) hj.symm)

theorem refV_all (c : Dev nD) : (fun j : S512x1024.Idx => vRow m c (j 0) (j 1)) = refV (argX m c) (argG m c) (argW m c) := by
  funext j
  have hj : j = ix2 (j 0) (j 1) := by
    funext a
    match a with
    | ⟨0, _⟩ => rfl
    | ⟨1, _⟩ => rfl
  exact (refV_eq m c (j 0) (j 1)).trans (congrArg (refV (argX m c) (argG m c) (argW m c)) hj.symm)

theorem refM_all (c : Dev nD) : (fun j : S512x512.Idx => mRow m c (j 0) (j 1)) = refM (argX m c) (argG m c) (argW m c) (argM m c) := by
  funext j
  have hj : j = ix2 (j 0) (j 1) := by
    funext a
    match a with
    | ⟨0, _⟩ => rfl
    | ⟨1, _⟩ => rfl
  exact (refM_eq m c (j 0) (j 1)).trans (congrArg (refM (argX m c) (argG m c) (argW m c) (argM m c)) hj.symm)

theorem refKc_all (c : Dev nD) : (fun j : S2x512x8x128.Idx => if ((j 0 : Fin 2) : ℕ) / 1 = 1 then kRow m c (j 1) (lane (j 2) (j 3)) else (V m c main_v7_2 j : EReal)) = refKc (argX m c) (argG m c) (argW m c) (argH m c) (argK m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  refine Eq.trans ?_ ((refKc_eq m c (j 0) (j 1) (j 2) (j 3)).trans (congrArg (refKc (argX m c) (argG m c) (argW m c) (argH m c) (argK m c)) hj.symm))
  exact if_congr Iff.rfl rfl (congrArg (V m c main_v7_2) hj)

theorem refVc_all (c : Dev nD) : (fun j : S2x512x8x128.Idx => if ((j 0 : Fin 2) : ℕ) / 1 = 1 then vRow m c (j 1) (lane (j 2) (j 3)) else (V m c main_v7_4 j : EReal)) = refVc (argX m c) (argG m c) (argW m c) (argV m c) := by
  funext j
  have hj : j = ix4 (j 0) (j 1) (j 2) (j 3) := by
    funext a
    match a with
    | ⟨0, _⟩ => rfl
    | ⟨1, _⟩ => rfl
    | ⟨2, _⟩ => rfl
    | ⟨3, _⟩ => rfl
  refine Eq.trans ?_ ((refVc_eq m c (j 0) (j 1) (j 2) (j 3)).trans (congrArg (refVc (argX m c) (argG m c) (argW m c) (argV m c)) hj.symm))
  exact if_congr Iff.rfl rfl (congrArg (V m c main_v7_4) hj)

end Equality

end Cert.BandSample

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.KernelIdeal.Value
public import proofs.«01_k».proof.Proof.Gen.ReferenceIdeal.Run
public import proofs.«01_k».proof.Proof.Equation
public import proofs.«01_k».proof.Proof.FfnRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.MemRef
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.BandProjRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.StickProjRef
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.MergeRef
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.StickSampleRef
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.BandSampleRef
public import Idealize.ShloMosaic.Adequacy
public import Idealize.ShloMosaic.Init

@[expose] public section

noncomputable section

namespace Cert.Proof

open Idealize.ShloMosaic Idealize.ShloMosaic.TcCoe Idealize.SL.Sem

/-- The reference runs and keeps its arguments; it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run (Cert.ReferenceIdeal.defs (F := Ideal)) _ _).mono
    (fun r h => ⟨fun c => (h c).2, sem_eq_zero_of_no_sems (by decide) r.2⟩) (Cert.ReferenceIdeal.Value.run (F := Ideal) m g)

/-- The kernel's array is the reference's term of the same arguments. -/
theorem value (m : (ℓ : Loc Cert.KernelIdeal.nD Cert.KernelIdeal.τ Cert.KernelIdeal.sig) → Buf (Elt Ideal) ℓ)
    (hpre : Cert.Pre_KernelIdeal_finite_scores m) (c : Dev Cert.KernelIdeal.nD) :
    (Cert.KernelIdeal.Gen.dats m 0 c).arrAt 8 Cert.KernelIdeal.cfg0.N
      = Cert.Band.refTail (Cert.Band.refScores (Cert.Band.argQ m c) (Cert.Band.argK m c) (Cert.Band.argB m c)) (Cert.Band.argV m c) := by
  obtain ⟨hq, hk, hb⟩ := Cert.Band.finite_of_pre _ _ _ _ (hpre c)
  refine (Cert.Band.array_eq m c).trans ?_
  funext j
  have hj : j = ix3 (j 0) (j 1) (j 2) := by
    funext a
    match a with
    | ⟨0, _⟩ => rfl
    | ⟨1, _⟩ => rfl
    | ⟨2, _⟩ => rfl
  exact (Cert.Band.band_eq m c (j 0) (j 1) (j 2) hq hk hb).trans
    (congrArg (Cert.Band.refTail (Cert.Band.refScores (Cert.Band.argQ m c) (Cert.Band.argK m c) (Cert.Band.argB m c)) (Cert.Band.argV m c)) hj.symm)

theorem algebraic : Cert.algebraic_KernelIdeal_ReferenceIdeal_pre_finite_scores := by
  intro m g m' g' hpre hagree
  refine ⟨fun c => Cert.Band.refTail (Cert.Band.refScores (Cert.Band.argQ m c) (Cert.Band.argK m c) (Cert.Band.argB m c)) (Cert.Band.argV m c), ?_, ?_⟩
  · refine (θ_run (Cert.KernelIdeal.defs (F := Ideal)) _ _).mono (fun r h c => ?_) (Cert.KernelIdeal.Value.run_blocks (F := Ideal) m g)
    exact ⟨(h c).1.trans (value m hpre c), (h c).2⟩
  · refine (θ_run (Cert.ReferenceIdeal.defs (F := Ideal)) _ _).mono (fun r h c => ?_) (Cert.ReferenceIdeal.Value.run (F := Ideal) m' g')
    refine ⟨(h c).1.trans ((Cert.Band.ref_eq m' c).trans ?_), (h c).2⟩
    obtain ⟨e0, e1, e2, e3⟩ := hagree c
    rw [e0, e1, e2, e3]

/-- The feed-forward's two programs name the same body. -/
theorem bodies_eq : Cert.Kernel2.defs₀ (F := Bits) = Cert.Kernel2Ideal.defs₀ (F := Bits) := by
  unfold Cert.Kernel2.defs₀ Cert.Kernel2Ideal.defs₀
  refine congrArg Defs.onTc (funext fun f => funext fun a => ?_)
  match f, a with
  | 0, (t, s) => rfl
  | ⟨n + 1, h⟩, _ => exact absurd h (Nat.not_lt.2 (Nat.le_add_left _ _))

theorem defs_eq : Cert.Kernel2.defs (F := Bits) = Cert.Kernel2Ideal.defs (F := Bits) :=
  congrArg (Pipeline.defs (Cert.Kernel2Ideal.pcfgs (F := Bits))) bodies_eq

/-- The feed-forward's frame, from the run over any float values. -/
theorem frame_kernel2 : Cert.quiescent_Kernel2 := fun m g _ =>
  (congrArg (fun d => θ_run d _ _ _) defs_eq).mpr (Cert.Ffn.frame (F := Bits) m g)

theorem frame_kernel2Ideal : Cert.quiescent_Kernel2Ideal := fun m g _ => Cert.Ffn.frame (F := Ideal) m g

/-- The feed-forward's reference runs and keeps its arguments; it declares no semaphore. -/
theorem frame_reference2 : Cert.quiescent_Reference2Ideal := fun m g _ =>
  (θ_run (Cert.Reference2Ideal.defs (F := Ideal)) _ _).mono
    (fun r h => ⟨fun c => (h c).2, sem_eq_zero_of_no_sems (by decide) r.2⟩) (Cert.Reference2Ideal.Value.run (F := Ideal) m g)

theorem algebraic2 : Cert.algebraic_Kernel2Ideal_Reference2Ideal := by
  intro m g m' g' _ hagree
  refine ⟨fun c => Cert.Ffn.refAll (Cert.Ffn.argX m c) (Cert.Ffn.argG m c) (Cert.Ffn.argI m c) (Cert.Ffn.argO m c), ?_, ?_⟩
  · refine (θ_run (Cert.Kernel2Ideal.defs (F := Ideal)) _ _).mono (fun r h c => ?_) (Cert.Ffn.run_value (F := Ideal) m g)
    exact ⟨(h c).1.trans (Cert.Ffn.value m c), (h c).2⟩
  · refine (θ_run (Cert.Reference2Ideal.defs (F := Ideal)) _ _).mono (fun r h c => ?_) (Cert.Reference2Ideal.Value.run (F := Ideal) m' g')
    refine ⟨(h c).1.trans ?_, (h c).2⟩
    obtain ⟨e0, e1, e2, e3⟩ := hagree c
    rw [e0, e1, e2, e3]
    rfl

/-- The memory projection: its reference runs and keeps its arguments; it declares no semaphore. -/
theorem frame_reference3 : Cert.quiescent_Reference3Ideal := fun m g _ =>
  (θ_run (Cert.Reference3Ideal.defs (F := Ideal)) _ _).mono
    (fun r h => ⟨fun c => (h c).2.2.2.2, sem_eq_zero_of_no_sems (by decide) r.2⟩) (Cert.Reference3Ideal.Value.run (F := Ideal) m g)

theorem algebraic3 : Cert.algebraic_Kernel3Ideal_Reference3Ideal := by
  intro m g m' g' _ hagree
  refine ⟨fun c => Cert.Mem.refKeys (Cert.Mem.argX m c) (Cert.Mem.argG m c) (Cert.Mem.argW m c) (Cert.Mem.argK m c), fun c => Cert.Mem.refKeys (Cert.Mem.argX m c) (Cert.Mem.argG m c) (Cert.Mem.argW m c) (Cert.Mem.argK m c), fun c => Cert.Mem.refVals (Cert.Mem.argX m c) (Cert.Mem.argG m c) (Cert.Mem.argW m c), fun c => Cert.Mem.refVals (Cert.Mem.argX m c) (Cert.Mem.argG m c) (Cert.Mem.argW m c), ?_, ?_⟩
  · refine (θ_run (Cert.Kernel3Ideal.defs (F := Ideal)) _ _).mono (fun r h c => ?_) (Cert.Kernel3Ideal.Value.run_blocks (F := Ideal) m g)
    exact ⟨((h c).1).trans ((Cert.Mem.array4 m c).trans (Cert.Mem.keys_eq m c)), ((h c).2.1).trans ((Cert.Mem.array5 m c).trans (Cert.Mem.keys_eq m c)), ((h c).2.2.1).trans ((Cert.Mem.array6 m c).trans (Cert.Mem.vals_eq m c)), ((h c).2.2.2.1).trans ((Cert.Mem.array7 m c).trans (Cert.Mem.vals_eq m c)), (h c).2.2.2.2⟩
  · refine (θ_run (Cert.Reference3Ideal.defs (F := Ideal)) _ _).mono (fun r h c => ?_) (Cert.Reference3Ideal.Value.run (F := Ideal) m' g')
    obtain ⟨e0, e1, e2, e3⟩ := hagree c
    refine ⟨((h c).1).trans ?_, ((h c).2.1).trans ?_, ((h c).2.2.1).trans ?_, ((h c).2.2.2.1).trans ?_, (h c).2.2.2.2⟩
    all_goals try rw [e0]
    all_goals try rw [e1]
    all_goals try rw [e2]
    all_goals try rw [e3]
    all_goals rfl

/-- The band layer's projection: its reference runs and keeps its arguments; it declares no semaphore. -/
theorem frame_reference5 : Cert.quiescent_Reference5Ideal := fun m g _ =>
  (θ_run (Cert.Reference5Ideal.defs (F := Ideal)) _ _).mono
    (fun r h => ⟨fun c => (h c).2.2.2.2.2.2, sem_eq_zero_of_no_sems (by decide) r.2⟩) (Cert.Reference5Ideal.Value.run (F := Ideal) m g)

theorem algebraic5 : Cert.algebraic_Kernel5Ideal_Reference5Ideal := by
  intro m g m' g' _ hagree
  refine ⟨fun c => Cert.BandProj.refQ (Cert.BandProj.argX m c) (Cert.BandProj.argG m c) (Cert.BandProj.argW m c) (Cert.BandProj.argQ m c), fun c => Cert.BandProj.refK (Cert.BandProj.argX m c) (Cert.BandProj.argG m c) (Cert.BandProj.argW m c) (Cert.BandProj.argK m c), fun c => Cert.BandProj.refKt (Cert.BandProj.argX m c) (Cert.BandProj.argG m c) (Cert.BandProj.argW m c) (Cert.BandProj.argK m c), fun c => Cert.BandProj.refV (Cert.BandProj.argX m c) (Cert.BandProj.argG m c) (Cert.BandProj.argW m c), fun c => Cert.BandProj.refVt (Cert.BandProj.argX m c) (Cert.BandProj.argG m c) (Cert.BandProj.argW m c), fun c => Cert.BandProj.refM (Cert.BandProj.argX m c) (Cert.BandProj.argG m c) (Cert.BandProj.argW m c) (Cert.BandProj.argM m c), ?_, ?_⟩
  · refine (θ_run (Cert.Kernel5Ideal.defs (F := Ideal)) _ _).mono (fun r h c => ?_) (Cert.Kernel5Ideal.Value.run_blocks (F := Ideal) m g)
    exact ⟨((h c).1).trans ((Cert.BandProj.array6 m c).trans (Cert.BandProj.refQ_all m c)), ((h c).2.1).trans ((Cert.BandProj.array7 m c).trans (Cert.BandProj.refK_all m c)), ((h c).2.2.1).trans ((Cert.BandProj.array8 m c).trans (Cert.BandProj.refKt_all m c)), ((h c).2.2.2.1).trans ((Cert.BandProj.array9 m c).trans (Cert.BandProj.refV_all m c)), ((h c).2.2.2.2.1).trans ((Cert.BandProj.array10 m c).trans (Cert.BandProj.refVt_all m c)), ((h c).2.2.2.2.2.1).trans ((Cert.BandProj.array11 m c).trans (Cert.BandProj.refM_all m c)), (h c).2.2.2.2.2.2⟩
  · refine (θ_run (Cert.Reference5Ideal.defs (F := Ideal)) _ _).mono (fun r h c => ?_) (Cert.Reference5Ideal.Value.run (F := Ideal) m' g')
    obtain ⟨e0, e1, e2, e3, e4, e5⟩ := hagree c
    refine ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩
    all_goals try rw [e0]
    all_goals try rw [e1]
    all_goals try rw [e2]
    all_goals try rw [e3]
    all_goals try rw [e4]
    all_goals try rw [e5]
    all_goals rfl

/-- The stick-breaking layer's projection: its reference runs and keeps its arguments; it declares no semaphore. -/
theorem frame_reference4 : Cert.quiescent_Reference4Ideal := fun m g _ =>
  (θ_run (Cert.Reference4Ideal.defs (F := Ideal)) _ _).mono
    (fun r h => ⟨fun c => (h c).2.2.2.2.2.2, sem_eq_zero_of_no_sems (by decide) r.2⟩) (Cert.Reference4Ideal.Value.run (F := Ideal) m g)

theorem algebraic4 : Cert.algebraic_Kernel4Ideal_Reference4Ideal := by
  intro m g m' g' _ hagree
  refine ⟨fun c => Cert.StickProj.refQ (Cert.StickProj.argX m c) (Cert.StickProj.argG m c) (Cert.StickProj.argW m c), fun c => Cert.StickProj.refK (Cert.StickProj.argX m c) (Cert.StickProj.argG m c) (Cert.StickProj.argW m c), fun c => Cert.StickProj.refKc (Cert.StickProj.argX m c) (Cert.StickProj.argG m c) (Cert.StickProj.argW m c) (Cert.StickProj.argK m c), fun c => Cert.StickProj.refV (Cert.StickProj.argX m c) (Cert.StickProj.argG m c) (Cert.StickProj.argW m c), fun c => Cert.StickProj.refVc (Cert.StickProj.argX m c) (Cert.StickProj.argG m c) (Cert.StickProj.argW m c) (Cert.StickProj.argV m c), fun c => Cert.StickProj.refM (Cert.StickProj.argX m c) (Cert.StickProj.argG m c) (Cert.StickProj.argW m c) (Cert.StickProj.argM m c), ?_, ?_⟩
  · refine (θ_run (Cert.Kernel4Ideal.defs (F := Ideal)) _ _).mono (fun r h c => ?_) (Cert.Kernel4Ideal.Value.run_blocks (F := Ideal) m g)
    exact ⟨((h c).1).trans ((Cert.StickProj.array4 m c).trans (Cert.StickProj.refQ_all m c)), ((h c).2.1).trans ((Cert.StickProj.array5 m c).trans (Cert.StickProj.refK_all m c)), ((h c).2.2.1).trans ((Cert.StickProj.array6 m c).trans (Cert.StickProj.refKc_all m c)), ((h c).2.2.2.1).trans ((Cert.StickProj.array7 m c).trans (Cert.StickProj.refV_all m c)), ((h c).2.2.2.2.1).trans ((Cert.StickProj.array8 m c).trans (Cert.StickProj.refVc_all m c)), ((h c).2.2.2.2.2.1).trans ((Cert.StickProj.array9 m c).trans (Cert.StickProj.refM_all m c)), (h c).2.2.2.2.2.2⟩
  · refine (θ_run (Cert.Reference4Ideal.defs (F := Ideal)) _ _).mono (fun r h c => ?_) (Cert.Reference4Ideal.Value.run (F := Ideal) m' g')
    obtain ⟨e0, e1, e2, e3, e4, e5⟩ := hagree c
    refine ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩
    all_goals try rw [e0]
    all_goals try rw [e1]
    all_goals try rw [e2]
    all_goals try rw [e3]
    all_goals try rw [e4]
    all_goals try rw [e5]
    all_goals rfl

/-- The merge: its reference runs and keeps its arguments; it declares no semaphore. -/
theorem frame_reference6 : Cert.quiescent_Reference6Ideal := fun m g _ =>
  (θ_run (Cert.Reference6Ideal.defs (F := Ideal)) _ _).mono
    (fun r h => ⟨fun c => (h c).2, sem_eq_zero_of_no_sems (by decide) r.2⟩) (Cert.Reference6Ideal.Value.run (F := Ideal) m g)

theorem algebraic6 : Cert.algebraic_Kernel6Ideal_Reference6Ideal_pre_finite_memory := by
  intro m g m' g' hpre hagree
  refine ⟨fun c => Cert.Merge.refAll (Cert.Merge.argX m c) (Cert.Merge.argT m c) (Cert.Merge.argQ m c) (Cert.Merge.argK m c) (Cert.Merge.argV m c) (Cert.Merge.argW m c), ?_, ?_⟩
  · refine (θ_run (Cert.Kernel6Ideal.defs (F := Ideal)) _ _).mono (fun r h c => ?_) (Cert.Kernel6Ideal.Value.run_blocks (F := Ideal) m g)
    exact ⟨((h c).1).trans ((Cert.Merge.array m c).trans (Cert.Merge.refAll_all m c (Cert.Merge.finite_of_pre _ _ _ _ _ _ (hpre c)).1 (Cert.Merge.finite_of_pre _ _ _ _ _ _ (hpre c)).2)), (h c).2⟩
  · refine (θ_run (Cert.Reference6Ideal.defs (F := Ideal)) _ _).mono (fun r h c => ?_) (Cert.Reference6Ideal.Value.run (F := Ideal) m' g')
    obtain ⟨e0, e1, e2, e3, e4, e5⟩ := hagree c
    refine ⟨((h c).1).trans ?_, (h c).2⟩
    all_goals try rw [e0]
    all_goals try rw [e1]
    all_goals try rw [e2]
    all_goals try rw [e3]
    all_goals try rw [e4]
    all_goals try rw [e5]
    all_goals rfl

/-- The stick-breaking layer's projection of the sample's rows: its reference runs and keeps its arguments; it declares no semaphore. -/
theorem frame_reference8 : Cert.quiescent_Reference8Ideal := fun m g _ =>
  (θ_run (Cert.Reference8Ideal.defs (F := Ideal)) _ _).mono
    (fun r h => ⟨fun c => (h c).2.2.2.2.2.2, sem_eq_zero_of_no_sems (by decide) r.2⟩) (Cert.Reference8Ideal.Value.run (F := Ideal) m g)

theorem algebraic8 : Cert.algebraic_Kernel8Ideal_Reference8Ideal := by
  intro m g m' g' _ hagree
  refine ⟨fun c => Cert.StickSample.refQ (Cert.StickSample.argX m c) (Cert.StickSample.argG m c) (Cert.StickSample.argW m c), fun c => Cert.StickSample.refK (Cert.StickSample.argX m c) (Cert.StickSample.argG m c) (Cert.StickSample.argW m c), fun c => Cert.StickSample.refKc (Cert.StickSample.argX m c) (Cert.StickSample.argG m c) (Cert.StickSample.argW m c) (Cert.StickSample.argK m c), fun c => Cert.StickSample.refV (Cert.StickSample.argX m c) (Cert.StickSample.argG m c) (Cert.StickSample.argW m c), fun c => Cert.StickSample.refVc (Cert.StickSample.argX m c) (Cert.StickSample.argG m c) (Cert.StickSample.argW m c) (Cert.StickSample.argV m c), fun c => Cert.StickSample.refM (Cert.StickSample.argX m c) (Cert.StickSample.argG m c) (Cert.StickSample.argW m c) (Cert.StickSample.argM m c), ?_, ?_⟩
  · refine (θ_run (Cert.Kernel8Ideal.defs (F := Ideal)) _ _).mono (fun r h c => ?_) (Cert.Kernel8Ideal.Value.run_blocks (F := Ideal) m g)
    exact ⟨((h c).1).trans ((Cert.StickSample.array4 m c).trans (Cert.StickSample.refQ_all m c)), ((h c).2.1).trans ((Cert.StickSample.array5 m c).trans (Cert.StickSample.refK_all m c)), ((h c).2.2.1).trans ((Cert.StickSample.array6 m c).trans (Cert.StickSample.refKc_all m c)), ((h c).2.2.2.1).trans ((Cert.StickSample.array7 m c).trans (Cert.StickSample.refV_all m c)), ((h c).2.2.2.2.1).trans ((Cert.StickSample.array8 m c).trans (Cert.StickSample.refVc_all m c)), ((h c).2.2.2.2.2.1).trans ((Cert.StickSample.array9 m c).trans (Cert.StickSample.refM_all m c)), (h c).2.2.2.2.2.2⟩
  · refine (θ_run (Cert.Reference8Ideal.defs (F := Ideal)) _ _).mono (fun r h c => ?_) (Cert.Reference8Ideal.Value.run (F := Ideal) m' g')
    obtain ⟨e0, e1, e2, e3, e4, e5⟩ := hagree c
    refine ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩
    all_goals try rw [e0]
    all_goals try rw [e1]
    all_goals try rw [e2]
    all_goals try rw [e3]
    all_goals try rw [e4]
    all_goals try rw [e5]
    all_goals rfl

/-- The band layer's projection of the sample's rows: its reference runs and keeps its arguments; it declares no semaphore. -/
theorem frame_reference9 : Cert.quiescent_Reference9Ideal := fun m g _ =>
  (θ_run (Cert.Reference9Ideal.defs (F := Ideal)) _ _).mono
    (fun r h => ⟨fun c => (h c).2.2.2.2.2.2, sem_eq_zero_of_no_sems (by decide) r.2⟩) (Cert.Reference9Ideal.Value.run (F := Ideal) m g)

theorem algebraic9 : Cert.algebraic_Kernel9Ideal_Reference9Ideal := by
  intro m g m' g' _ hagree
  refine ⟨fun c => Cert.BandSample.refQ (Cert.BandSample.argX m c) (Cert.BandSample.argG m c) (Cert.BandSample.argW m c) (Cert.BandSample.argQ m c), fun c => Cert.BandSample.refK (Cert.BandSample.argX m c) (Cert.BandSample.argG m c) (Cert.BandSample.argW m c) (Cert.BandSample.argH m c), fun c => Cert.BandSample.refKc (Cert.BandSample.argX m c) (Cert.BandSample.argG m c) (Cert.BandSample.argW m c) (Cert.BandSample.argH m c) (Cert.BandSample.argK m c), fun c => Cert.BandSample.refV (Cert.BandSample.argX m c) (Cert.BandSample.argG m c) (Cert.BandSample.argW m c), fun c => Cert.BandSample.refVc (Cert.BandSample.argX m c) (Cert.BandSample.argG m c) (Cert.BandSample.argW m c) (Cert.BandSample.argV m c), fun c => Cert.BandSample.refM (Cert.BandSample.argX m c) (Cert.BandSample.argG m c) (Cert.BandSample.argW m c) (Cert.BandSample.argM m c), ?_, ?_⟩
  · refine (θ_run (Cert.Kernel9Ideal.defs (F := Ideal)) _ _).mono (fun r h c => ?_) (Cert.Kernel9Ideal.Value.run_blocks (F := Ideal) m g)
    exact ⟨((h c).1).trans ((Cert.BandSample.array6 m c).trans (Cert.BandSample.refQ_all m c)), ((h c).2.1).trans ((Cert.BandSample.array7 m c).trans (Cert.BandSample.refK_all m c)), ((h c).2.2.1).trans ((Cert.BandSample.array8 m c).trans (Cert.BandSample.refKc_all m c)), ((h c).2.2.2.1).trans ((Cert.BandSample.array9 m c).trans (Cert.BandSample.refV_all m c)), ((h c).2.2.2.2.1).trans ((Cert.BandSample.array10 m c).trans (Cert.BandSample.refVc_all m c)), ((h c).2.2.2.2.2.1).trans ((Cert.BandSample.array11 m c).trans (Cert.BandSample.refM_all m c)), (h c).2.2.2.2.2.2⟩
  · refine (θ_run (Cert.Reference9Ideal.defs (F := Ideal)) _ _).mono (fun r h c => ?_) (Cert.Reference9Ideal.Value.run (F := Ideal) m' g')
    obtain ⟨e0, e1, e2, e3, e4, e5, e6, e7⟩ := hagree c
    refine ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩
    all_goals try unfold Cert.Reference9Ideal.Value.res_main_v77
    all_goals try rw [e0]
    all_goals try rw [e1]
    all_goals try rw [e2]
    all_goals try rw [e3]
    all_goals try rw [e4]
    all_goals try rw [e5]
    all_goals try rw [e6]
    all_goals try rw [e7]
    all_goals rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel5.Gen.facts, Cert.Kernel5Ideal.Gen.facts, Cert.Reference5Ideal.Gen.facts,
    Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Band.preFacts, Cert.Merge.preFacts,
    fun m g _ => Cert.Kernel.Gen.frame m g, fun m g _ => Cert.KernelIdeal.Gen.frame m g, fun m g _ => Cert.KernelIdeal.Gen.frame m g,
    fun m g _ => frame_reference m g, fun m g _ => frame_reference m g,
    frame_kernel2, frame_kernel2Ideal, frame_reference2,
    fun m g _ => Cert.Kernel3.Gen.frame m g, fun m g _ => Cert.Kernel3Ideal.Gen.frame m g, frame_reference3,
    fun m g _ => Cert.Kernel5.Gen.frame m g, fun m g _ => Cert.Kernel5Ideal.Gen.frame m g, frame_reference5,
    fun m g _ => Cert.Kernel4.Gen.frame m g, fun m g _ => Cert.Kernel4Ideal.Gen.frame m g, frame_reference4,
    fun m g _ => Cert.Kernel6.Gen.frame m g, fun m g _ => Cert.Kernel6Ideal.Gen.frame m g,
    fun m g _ => Cert.Kernel6Ideal.Gen.frame m g, fun m g _ => frame_reference6 m g trivial, fun m g _ => frame_reference6 m g trivial,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    trivial, algebraic, trivial, algebraic2, trivial, algebraic3, trivial, algebraic5, trivial, algebraic4, trivial, algebraic6, trivial, algebraic8, trivial, algebraic9⟩

end Cert.Proof

end
